-- ==== Defs.lean ====
def Pre_Kernel [hPre_in_range : Cert.Pre_in_range.Facts] (m : (ℓ : Loc Cert.Kernel.nD Cert.Kernel.τ Cert.Kernel.sig) → Buf (Elt Bits) ℓ) : Prop :=
  ∀ c : Dev Cert.Kernel.nD,
    (Cert.Pre_in_range.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_in_range : Cert.Pre_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_in_range : Cert.Pre_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def Pre_Combine [hPre_rows_in_range : Cert.Pre_rows_in_range.Facts] (m : (ℓ : Loc Cert.Combine.nD Cert.Combine.τ Cert.Combine.sig) → Buf (Elt Bits) ℓ) : Prop :=
  ∀ c : Dev Cert.Combine.nD,
    (Cert.Pre_rows_in_range.fn (F := Bits) (m ((c.tc : Thread Cert.Combine.nD Cert.Combine.τ).loc Cert.Combine.main_arg0)) (m ((c.tc : Thread Cert.Combine.nD Cert.Combine.τ).loc Cert.Combine.main_arg1)) (m ((c.tc : Thread Cert.Combine.nD Cert.Combine.τ).loc Cert.Combine.main_arg2)) (m ((c.tc : Thread Cert.Combine.nD Cert.Combine.τ).loc Cert.Combine.main_arg3)) (m ((c.tc : Thread Cert.Combine.nD Cert.Combine.τ).loc Cert.Combine.main_arg4)) (m ((c.tc : Thread Cert.Combine.nD Cert.Combine.τ).loc Cert.Combine.main_arg5))) = (fun _ => 1#1)

def Pre_CombineIdeal [hPre_rows_in_range : Cert.Pre_rows_in_range.Facts] (m : (ℓ : Loc Cert.CombineIdeal.nD Cert.CombineIdeal.τ Cert.CombineIdeal.sig) → Buf (Elt Ideal) ℓ) : Prop :=
  ∀ c : Dev Cert.CombineIdeal.nD,
    (Cert.Pre_rows_in_range.fn (F := Ideal) (m ((c.tc : Thread Cert.CombineIdeal.nD Cert.CombineIdeal.τ).loc Cert.CombineIdeal.main_arg0)) (m ((c.tc : Thread Cert.CombineIdeal.nD Cert.CombineIdeal.τ).loc Cert.CombineIdeal.main_arg1)) (m ((c.tc : Thread Cert.CombineIdeal.nD Cert.CombineIdeal.τ).loc Cert.CombineIdeal.main_arg2)) (m ((c.tc : Thread Cert.CombineIdeal.nD Cert.CombineIdeal.τ).loc Cert.CombineIdeal.main_arg3)) (m ((c.tc : Thread Cert.CombineIdeal.nD Cert.CombineIdeal.τ).loc Cert.CombineIdeal.main_arg4)) (m ((c.tc : Thread Cert.CombineIdeal.nD Cert.CombineIdeal.τ).loc Cert.CombineIdeal.main_arg5))) = (fun _ => 1#1)

def Pre_CombineRefIdeal [hPre_rows_in_range : Cert.Pre_rows_in_range.Facts] (m : (ℓ : Loc Cert.CombineRefIdeal.nD Cert.CombineRefIdeal.τ Cert.CombineRefIdeal.sig) → Buf (Elt Ideal) ℓ) : Prop :=
  ∀ c : Dev Cert.CombineRefIdeal.nD,
    (Cert.Pre_rows_in_range.fn (F := Ideal) (m ((c.tc : Thread Cert.CombineRefIdeal.nD Cert.CombineRefIdeal.τ).loc Cert.CombineRefIdeal.main_arg0)) (m ((c.tc : Thread Cert.CombineRefIdeal.nD Cert.CombineRefIdeal.τ).loc Cert.CombineRefIdeal.main_arg1)) (m ((c.tc : Thread Cert.CombineRefIdeal.nD Cert.CombineRefIdeal.τ).loc Cert.CombineRefIdeal.main_arg2)) (m ((c.tc : Thread Cert.CombineRefIdeal.nD Cert.CombineRefIdeal.τ).loc Cert.CombineRefIdeal.main_arg3)) (m ((c.tc : Thread Cert.CombineRefIdeal.nD Cert.CombineRefIdeal.τ).loc Cert.CombineRefIdeal.main_arg4)) (m ((c.tc : Thread Cert.CombineRefIdeal.nD Cert.CombineRefIdeal.τ).loc Cert.CombineRefIdeal.main_arg5))) = (fun _ => 1#1)

def Pre_InprojR (m : (ℓ : Loc Cert.InprojR.nD Cert.InprojR.τ Cert.InprojR.sig) → Buf (Elt Bits) ℓ) : Prop :=
  True

def Pre_InprojRIdeal (m : (ℓ : Loc Cert.InprojRIdeal.nD Cert.InprojRIdeal.τ Cert.InprojRIdeal.sig) → Buf (Elt Ideal) ℓ) : Prop :=
  True

def Pre_InprojRRefIdeal (m : (ℓ : Loc Cert.InprojRRefIdeal.nD Cert.InprojRRefIdeal.τ Cert.InprojRRefIdeal.sig) → Buf (Elt Ideal) ℓ) : Prop :=
  True

def Pre_InprojT (m : (ℓ : Loc Cert.InprojT.nD Cert.InprojT.τ Cert.InprojT.sig) → Buf (Elt Bits) ℓ) : Prop :=
  True

def Pre_InprojTIdeal (m : (ℓ : Loc Cert.InprojTIdeal.nD Cert.InprojTIdeal.τ Cert.InprojTIdeal.sig) → Buf (Elt Ideal) ℓ) : Prop :=
  True

def Pre_InprojTRefIdeal (m : (ℓ : Loc Cert.InprojTRefIdeal.nD Cert.InprojTRefIdeal.τ Cert.InprojTRefIdeal.sig) → Buf (Elt Ideal) ℓ) : Prop :=
  True

def Pre_Outproj (m : (ℓ : Loc Cert.Outproj.nD Cert.Outproj.τ Cert.Outproj.sig) → Buf (Elt Bits) ℓ) : Prop :=
  True

def Pre_OutprojIdeal (m : (ℓ : Loc Cert.OutprojIdeal.nD Cert.OutprojIdeal.τ Cert.OutprojIdeal.sig) → Buf (Elt Ideal) ℓ) : Prop :=
  True

def Pre_OutprojRefIdeal (m : (ℓ : Loc Cert.OutprojRefIdeal.nD Cert.OutprojRefIdeal.τ Cert.OutprojRefIdeal.sig) → Buf (Elt Ideal) ℓ) : Prop :=
  True

def Pre_Adaln (m : (ℓ : Loc Cert.Adaln.nD Cert.Adaln.τ Cert.Adaln.sig) → Buf (Elt Bits) ℓ) : Prop :=
  True

def Pre_AdalnIdeal (m : (ℓ : Loc Cert.AdalnIdeal.nD Cert.AdalnIdeal.τ Cert.AdalnIdeal.sig) → Buf (Elt Ideal) ℓ) : Prop :=
  True

def Pre_AdalnRefIdeal (m : (ℓ : Loc Cert.AdalnRefIdeal.nD Cert.AdalnRefIdeal.τ Cert.AdalnRefIdeal.sig) → Buf (Elt Ideal) ℓ) : Prop :=
  True

def Pre_Trig (m : (ℓ : Loc Cert.Trig.nD Cert.Trig.τ Cert.Trig.sig) → Buf (Elt Bits) ℓ) : Prop :=
  True

def Pre_TrigIdeal (m : (ℓ : Loc Cert.TrigIdeal.nD Cert.TrigIdeal.τ Cert.TrigIdeal.sig) → Buf (Elt Ideal) ℓ) : Prop :=
  True

def Pre_TrigRefIdeal (m : (ℓ : Loc Cert.TrigRefIdeal.nD Cert.TrigRefIdeal.τ Cert.TrigRefIdeal.sig) → Buf (Elt Ideal) ℓ) : Prop :=
  True

def quiescent_Kernel [hKernel : Cert.Kernel.Facts] [hPre_in_range : Cert.Pre_in_range.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] [hPre_in_range : Cert.Pre_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_Combine [hCombine : Cert.Combine.Facts] [hPre_rows_in_range : Cert.Pre_rows_in_range.Facts] : Prop :=
  ∀ (m : (ℓ : Loc Cert.Combine.nD Cert.Combine.τ Cert.Combine.sig) → Buf (Elt Bits) ℓ) (g : Dev Cert.Combine.nD → PrngReg), Pre_Combine m →
    θ_run (Cert.Combine.defs (F := Bits)) (onTc (τ := Cert.Combine.τ) (Cert.Combine.main (F := Bits))) ⟨m, fun _ => 0, g⟩ (fun r => (∀ c : Dev Cert.Combine.nD,
      r.2.mem ((c.tc : Thread Cert.Combine.nD Cert.Combine.τ).loc Cert.Combine.main_arg0) = m ((c.tc : Thread Cert.Combine.nD Cert.Combine.τ).loc Cert.Combine.main_arg0)
      ∧ r.2.mem ((c.tc : Thread Cert.Combine.nD Cert.Combine.τ).loc Cert.Combine.main_arg1) = m ((c.tc : Thread Cert.Combine.nD Cert.Combine.τ).loc Cert.Combine.main_arg1)
      ∧ r.2.mem ((c.tc : Thread Cert.Combine.nD Cert.Combine.τ).loc Cert.Combine.main_arg2) = m ((c.tc : Thread Cert.Combine.nD Cert.Combine.τ).loc Cert.Combine.main_arg2)
      ∧ r.2.mem ((c.tc : Thread Cert.Combine.nD Cert.Combine.τ).loc Cert.Combine.main_arg3) = m ((c.tc : Thread Cert.Combine.nD Cert.Combine.τ).loc Cert.Combine.main_arg3)
      ∧ r.2.mem ((c.tc : Thread Cert.Combine.nD Cert.Combine.τ).loc Cert.Combine.main_arg4) = m ((c.tc : Thread Cert.Combine.nD Cert.Combine.τ).loc Cert.Combine.main_arg4)
      ∧ r.2.mem ((c.tc : Thread Cert.Combine.nD Cert.Combine.τ).loc Cert.Combine.main_arg5) = m ((c.tc : Thread Cert.Combine.nD Cert.Combine.τ).loc Cert.Combine.main_arg5))
      ∧ r.2.sem = fun _ => 0)

def quiescent_CombineIdeal [hCombineIdeal : Cert.CombineIdeal.Facts] [hPre_rows_in_range : Cert.Pre_rows_in_range.Facts] : Prop :=
  ∀ (m : (ℓ : Loc Cert.CombineIdeal.nD Cert.CombineIdeal.τ Cert.CombineIdeal.sig) → Buf (Elt Ideal) ℓ) (g : Dev Cert.CombineIdeal.nD → PrngReg), Pre_CombineIdeal m →
    θ_run (Cert.CombineIdeal.defs (F := Ideal)) (onTc (τ := Cert.CombineIdeal.τ) (Cert.CombineIdeal.main (F := Ideal))) ⟨m, fun _ => 0, g⟩ (fun r => (∀ c : Dev Cert.CombineIdeal.nD,
      r.2.mem ((c.tc : Thread Cert.CombineIdeal.nD Cert.CombineIdeal.τ).loc Cert.CombineIdeal.main_arg0) = m ((c.tc : Thread Cert.CombineIdeal.nD Cert.CombineIdeal.τ).loc Cert.CombineIdeal.main_arg0)
      ∧ r.2.mem ((c.tc : Thread Cert.CombineIdeal.nD Cert.CombineIdeal.τ).loc Cert.CombineIdeal.main_arg1) = m ((c.tc : Thread Cert.CombineIdeal.nD Cert.CombineIdeal.τ).loc Cert.CombineIdeal.main_arg1)
      ∧ r.2.mem ((c.tc : Thread Cert.CombineIdeal.nD Cert.CombineIdeal.τ).loc Cert.CombineIdeal.main_arg2) = m ((c.tc : Thread Cert.CombineIdeal.nD Cert.CombineIdeal.τ).loc Cert.CombineIdeal.main_arg2)
      ∧ r.2.mem ((c.tc : Thread Cert.CombineIdeal.nD Cert.CombineIdeal.τ).loc Cert.CombineIdeal.main_arg3) = m ((c.tc : Thread Cert.CombineIdeal.nD Cert.CombineIdeal.τ).loc Cert.CombineIdeal.main_arg3)
      ∧ r.2.mem ((c.tc : Thread Cert.CombineIdeal.nD Cert.CombineIdeal.τ).loc Cert.CombineIdeal.main_arg4) = m ((c.tc : Thread Cert.CombineIdeal.nD Cert.CombineIdeal.τ).loc Cert.CombineIdeal.main_arg4)
      ∧ r.2.mem ((c.tc : Thread Cert.CombineIdeal.nD Cert.CombineIdeal.τ).loc Cert.CombineIdeal.main_arg5) = m ((c.tc : Thread Cert.CombineIdeal.nD Cert.CombineIdeal.τ).loc Cert.CombineIdeal.main_arg5))
      ∧ r.2.sem = fun _ => 0)

def quiescent_CombineRefIdeal [hCombineRefIdeal : Cert.CombineRefIdeal.Facts] [hPre_rows_in_range : Cert.Pre_rows_in_range.Facts] : Prop :=
  ∀ (m : (ℓ : Loc Cert.CombineRefIdeal.nD Cert.CombineRefIdeal.τ Cert.CombineRefIdeal.sig) → Buf (Elt Ideal) ℓ) (g : Dev Cert.CombineRefIdeal.nD → PrngReg), Pre_CombineRefIdeal m →
    θ_run (Cert.CombineRefIdeal.defs (F := Ideal)) (onTc (τ := Cert.CombineRefIdeal.τ) (Cert.CombineRefIdeal.main (F := Ideal))) ⟨m, fun _ => 0, g⟩ (fun r => (∀ c : Dev Cert.CombineRefIdeal.nD,
      r.2.mem ((c.tc : Thread Cert.CombineRefIdeal.nD Cert.CombineRefIdeal.τ).loc Cert.CombineRefIdeal.main_arg0) = m ((c.tc : Thread Cert.CombineRefIdeal.nD Cert.CombineRefIdeal.τ).loc Cert.CombineRefIdeal.main_arg0)
      ∧ r.2.mem ((c.tc : Thread Cert.CombineRefIdeal.nD Cert.CombineRefIdeal.τ).loc Cert.CombineRefIdeal.main_arg1) = m ((c.tc : Thread Cert.CombineRefIdeal.nD Cert.CombineRefIdeal.τ).loc Cert.CombineRefIdeal.main_arg1)
      ∧ r.2.mem ((c.tc : Thread Cert.CombineRefIdeal.nD Cert.CombineRefIdeal.τ).loc Cert.CombineRefIdeal.main_arg2) = m ((c.tc : Thread Cert.CombineRefIdeal.nD Cert.CombineRefIdeal.τ).loc Cert.CombineRefIdeal.main_arg2)
      ∧ r.2.mem ((c.tc : Thread Cert.CombineRefIdeal.nD Cert.CombineRefIdeal.τ).loc Cert.CombineRefIdeal.main_arg3) = m ((c.tc : Thread Cert.CombineRefIdeal.nD Cert.CombineRefIdeal.τ).loc Cert.CombineRefIdeal.main_arg3)
      ∧ r.2.mem ((c.tc : Thread Cert.CombineRefIdeal.nD Cert.CombineRefIdeal.τ).loc Cert.CombineRefIdeal.main_arg4) = m ((c.tc : Thread Cert.CombineRefIdeal.nD Cert.CombineRefIdeal.τ).loc Cert.CombineRefIdeal.main_arg4)
      ∧ r.2.mem ((c.tc : Thread Cert.CombineRefIdeal.nD Cert.CombineRefIdeal.τ).loc Cert.CombineRefIdeal.main_arg5) = m ((c.tc : Thread Cert.CombineRefIdeal.nD Cert.CombineRefIdeal.τ).loc Cert.CombineRefIdeal.main_arg5))
      ∧ r.2.sem = fun _ => 0)

def quiescent_InprojR [hInprojR : Cert.InprojR.Facts] : Prop :=
  ∀ (m : (ℓ : Loc Cert.InprojR.nD Cert.InprojR.τ Cert.InprojR.sig) → Buf (Elt Bits) ℓ) (g : Dev Cert.InprojR.nD → PrngReg), Pre_InprojR m →
    θ_run (Cert.InprojR.defs (F := Bits)) (onTc (τ := Cert.InprojR.τ) (Cert.InprojR.main (F := Bits))) ⟨m, fun _ => 0, g⟩ (fun r => (∀ c : Dev Cert.InprojR.nD,
      r.2.mem ((c.tc : Thread Cert.InprojR.nD Cert.InprojR.τ).loc Cert.InprojR.main_arg0) = m ((c.tc : Thread Cert.InprojR.nD Cert.InprojR.τ).loc Cert.InprojR.main_arg0)
      ∧ r.2.mem ((c.tc : Thread Cert.InprojR.nD Cert.InprojR.τ).loc Cert.InprojR.main_arg1) = m ((c.tc : Thread Cert.InprojR.nD Cert.InprojR.τ).loc Cert.InprojR.main_arg1)
      ∧ r.2.mem ((c.tc : Thread Cert.InprojR.nD Cert.InprojR.τ).loc Cert.InprojR.main_arg2) = m ((c.tc : Thread Cert.InprojR.nD Cert.InprojR.τ).loc Cert.InprojR.main_arg2)
      ∧ r.2.mem ((c.tc : Thread Cert.InprojR.nD Cert.InprojR.τ).loc Cert.InprojR.main_arg3) = m ((c.tc : Thread Cert.InprojR.nD Cert.InprojR.τ).loc Cert.InprojR.main_arg3)
      ∧ r.2.mem ((c.tc : Thread Cert.InprojR.nD Cert.InprojR.τ).loc Cert.InprojR.main_arg4) = m ((c.tc : Thread Cert.InprojR.nD Cert.InprojR.τ).loc Cert.InprojR.main_arg4)
      ∧ r.2.mem ((c.tc : Thread Cert.InprojR.nD Cert.InprojR.τ).loc Cert.InprojR.main_arg5) = m ((c.tc : Thread Cert.InprojR.nD Cert.InprojR.τ).loc Cert.InprojR.main_arg5)
      ∧ r.2.mem ((c.tc : Thread Cert.InprojR.nD Cert.InprojR.τ).loc Cert.InprojR.main_arg6) = m ((c.tc : Thread Cert.InprojR.nD Cert.InprojR.τ).loc Cert.InprojR.main_arg6))
      ∧ r.2.sem = fun _ => 0)

def quiescent_InprojRIdeal [hInprojRIdeal : Cert.InprojRIdeal.Facts] : Prop :=
  ∀ (m : (ℓ : Loc Cert.InprojRIdeal.nD Cert.InprojRIdeal.τ Cert.InprojRIdeal.sig) → Buf (Elt Ideal) ℓ) (g : Dev Cert.InprojRIdeal.nD → PrngReg), Pre_InprojRIdeal m →
    θ_run (Cert.InprojRIdeal.defs (F := Ideal)) (onTc (τ := Cert.InprojRIdeal.τ) (Cert.InprojRIdeal.main (F := Ideal))) ⟨m, fun _ => 0, g⟩ (fun r => (∀ c : Dev Cert.InprojRIdeal.nD,
      r.2.mem ((c.tc : Thread Cert.InprojRIdeal.nD Cert.InprojRIdeal.τ).loc Cert.InprojRIdeal.main_arg0) = m ((c.tc : Thread Cert.InprojRIdeal.nD Cert.InprojRIdeal.τ).loc Cert.InprojRIdeal.main_arg0)
      ∧ r.2.mem ((c.tc : Thread Cert.InprojRIdeal.nD Cert.InprojRIdeal.τ).loc Cert.InprojRIdeal.main_arg1) = m ((c.tc : Thread Cert.InprojRIdeal.nD Cert.InprojRIdeal.τ).loc Cert.InprojRIdeal.main_arg1)
      ∧ r.2.mem ((c.tc : Thread Cert.InprojRIdeal.nD Cert.InprojRIdeal.τ).loc Cert.InprojRIdeal.main_arg2) = m ((c.tc : Thread Cert.InprojRIdeal.nD Cert.InprojRIdeal.τ).loc Cert.InprojRIdeal.main_arg2)
      ∧ r.2.mem ((c.tc : Thread Cert.InprojRIdeal.nD Cert.InprojRIdeal.τ).loc Cert.InprojRIdeal.main_arg3) = m ((c.tc : Thread Cert.InprojRIdeal.nD Cert.InprojRIdeal.τ).loc Cert.InprojRIdeal.main_arg3)
      ∧ r.2.mem ((c.tc : Thread Cert.InprojRIdeal.nD Cert.InprojRIdeal.τ).loc Cert.InprojRIdeal.main_arg4) = m ((c.tc : Thread Cert.InprojRIdeal.nD Cert.InprojRIdeal.τ).loc Cert.InprojRIdeal.main_arg4)
      ∧ r.2.mem ((c.tc : Thread Cert.InprojRIdeal.nD Cert.InprojRIdeal.τ).loc Cert.InprojRIdeal.main_arg5) = m ((c.tc : Thread Cert.InprojRIdeal.nD Cert.InprojRIdeal.τ).loc Cert.InprojRIdeal.main_arg5)
      ∧ r.2.mem ((c.tc : Thread Cert.InprojRIdeal.nD Cert.InprojRIdeal.τ).loc Cert.InprojRIdeal.main_arg6) = m ((c.tc : Thread Cert.InprojRIdeal.nD Cert.InprojRIdeal.τ).loc Cert.InprojRIdeal.main_arg6))
      ∧ r.2.sem = fun _ => 0)

def quiescent_InprojRRefIdeal [hInprojRRefIdeal : Cert.InprojRRefIdeal.Facts] : Prop :=
  ∀ (m : (ℓ : Loc Cert.InprojRRefIdeal.nD Cert.InprojRRefIdeal.τ Cert.InprojRRefIdeal.sig) → Buf (Elt Ideal) ℓ) (g : Dev Cert.InprojRRefIdeal.nD → PrngReg), Pre_InprojRRefIdeal m →
    θ_run (Cert.InprojRRefIdeal.defs (F := Ideal)) (onTc (τ := Cert.InprojRRefIdeal.τ) (Cert.InprojRRefIdeal.main (F := Ideal))) ⟨m, fun _ => 0, g⟩ (fun r => (∀ c : Dev Cert.InprojRRefIdeal.nD,
      r.2.mem ((c.tc : Thread Cert.InprojRRefIdeal.nD Cert.InprojRRefIdeal.τ).loc Cert.InprojRRefIdeal.main_arg0) = m ((c.tc : Thread Cert.InprojRRefIdeal.nD Cert.InprojRRefIdeal.τ).loc Cert.InprojRRefIdeal.main_arg0)
      ∧ r.2.mem ((c.tc : Thread Cert.InprojRRefIdeal.nD Cert.InprojRRefIdeal.τ).loc Cert.InprojRRefIdeal.main_arg1) = m ((c.tc : Thread Cert.InprojRRefIdeal.nD Cert.InprojRRefIdeal.τ).loc Cert.InprojRRefIdeal.main_arg1)
      ∧ r.2.mem ((c.tc : Thread Cert.InprojRRefIdeal.nD Cert.InprojRRefIdeal.τ).loc Cert.InprojRRefIdeal.main_arg2) = m ((c.tc : Thread Cert.InprojRRefIdeal.nD Cert.InprojRRefIdeal.τ).loc Cert.InprojRRefIdeal.main_arg2)
      ∧ r.2.mem ((c.tc : Thread Cert.InprojRRefIdeal.nD Cert.InprojRRefIdeal.τ).loc Cert.InprojRRefIdeal.main_arg3) = m ((c.tc : Thread Cert.InprojRRefIdeal.nD Cert.InprojRRefIdeal.τ).loc Cert.InprojRRefIdeal.main_arg3)
      ∧ r.2.mem ((c.tc : Thread Cert.InprojRRefIdeal.nD Cert.InprojRRefIdeal.τ).loc Cert.InprojRRefIdeal.main_arg4) = m ((c.tc : Thread Cert.InprojRRefIdeal.nD Cert.InprojRRefIdeal.τ).loc Cert.InprojRRefIdeal.main_arg4)
      ∧ r.2.mem ((c.tc : Thread Cert.InprojRRefIdeal.nD Cert.InprojRRefIdeal.τ).loc Cert.InprojRRefIdeal.main_arg5) = m ((c.tc : Thread Cert.InprojRRefIdeal.nD Cert.InprojRRefIdeal.τ).loc Cert.InprojRRefIdeal.main_arg5)
      ∧ r.2.mem ((c.tc : Thread Cert.InprojRRefIdeal.nD Cert.InprojRRefIdeal.τ).loc Cert.InprojRRefIdeal.main_arg6) = m ((c.tc : Thread Cert.InprojRRefIdeal.nD Cert.InprojRRefIdeal.τ).loc Cert.InprojRRefIdeal.main_arg6))
      ∧ r.2.sem = fun _ => 0)

def quiescent_InprojT [hInprojT : Cert.InprojT.Facts] : Prop :=
  ∀ (m : (ℓ : Loc Cert.InprojT.nD Cert.InprojT.τ Cert.InprojT.sig) → Buf (Elt Bits) ℓ) (g : Dev Cert.InprojT.nD → PrngReg), Pre_InprojT m →
    θ_run (Cert.InprojT.defs (F := Bits)) (onTc (τ := Cert.InprojT.τ) (Cert.InprojT.main (F := Bits))) ⟨m, fun _ => 0, g⟩ (fun r => (∀ c : Dev Cert.InprojT.nD,
      r.2.mem ((c.tc : Thread Cert.InprojT.nD Cert.InprojT.τ).loc Cert.InprojT.main_arg0) = m ((c.tc : Thread Cert.InprojT.nD Cert.InprojT.τ).loc Cert.InprojT.main_arg0)
      ∧ r.2.mem ((c.tc : Thread Cert.InprojT.nD Cert.InprojT.τ).loc Cert.InprojT.main_arg1) = m ((c.tc : Thread Cert.InprojT.nD Cert.InprojT.τ).loc Cert.InprojT.main_arg1)
      ∧ r.2.mem ((c.tc : Thread Cert.InprojT.nD Cert.InprojT.τ).loc Cert.InprojT.main_arg2) = m ((c.tc : Thread Cert.InprojT.nD Cert.InprojT.τ).loc Cert.InprojT.main_arg2)
      ∧ r.2.mem ((c.tc : Thread Cert.InprojT.nD Cert.InprojT.τ).loc Cert.InprojT.main_arg3) = m ((c.tc : Thread Cert.InprojT.nD Cert.InprojT.τ).loc Cert.InprojT.main_arg3)
      ∧ r.2.mem ((c.tc : Thread Cert.InprojT.nD Cert.InprojT.τ).loc Cert.InprojT.main_arg4) = m ((c.tc : Thread Cert.InprojT.nD Cert.InprojT.τ).loc Cert.InprojT.main_arg4)
      ∧ r.2.mem ((c.tc : Thread Cert.InprojT.nD Cert.InprojT.τ).loc Cert.InprojT.main_arg5) = m ((c.tc : Thread Cert.InprojT.nD Cert.InprojT.τ).loc Cert.InprojT.main_arg5)
      ∧ r.2.mem ((c.tc : Thread Cert.InprojT.nD Cert.InprojT.τ).loc Cert.InprojT.main_arg6) = m ((c.tc : Thread Cert.InprojT.nD Cert.InprojT.τ).loc Cert.InprojT.main_arg6))
      ∧ r.2.sem = fun _ => 0)

def quiescent_InprojTIdeal [hInprojTIdeal : Cert.InprojTIdeal.Facts] : Prop :=
  ∀ (m : (ℓ : Loc Cert.InprojTIdeal.nD Cert.InprojTIdeal.τ Cert.InprojTIdeal.sig) → Buf (Elt Ideal) ℓ) (g : Dev Cert.InprojTIdeal.nD → PrngReg), Pre_InprojTIdeal m →
    θ_run (Cert.InprojTIdeal.defs (F := Ideal)) (onTc (τ := Cert.InprojTIdeal.τ) (Cert.InprojTIdeal.main (F := Ideal))) ⟨m, fun _ => 0, g⟩ (fun r => (∀ c : Dev Cert.InprojTIdeal.nD,
      r.2.mem ((c.tc : Thread Cert.InprojTIdeal.nD Cert.InprojTIdeal.τ).loc Cert.InprojTIdeal.main_arg0) = m ((c.tc : Thread Cert.InprojTIdeal.nD Cert.InprojTIdeal.τ).loc Cert.InprojTIdeal.main_arg0)
      ∧ r.2.mem ((c.tc : Thread Cert.InprojTIdeal.nD Cert.InprojTIdeal.τ).loc Cert.InprojTIdeal.main_arg1) = m ((c.tc : Thread Cert.InprojTIdeal.nD Cert.InprojTIdeal.τ).loc Cert.InprojTIdeal.main_arg1)
      ∧ r.2.mem ((c.tc : Thread Cert.InprojTIdeal.nD Cert.InprojTIdeal.τ).loc Cert.InprojTIdeal.main_arg2) = m ((c.tc : Thread Cert.InprojTIdeal.nD Cert.InprojTIdeal.τ).loc Cert.InprojTIdeal.main_arg2)
      ∧ r.2.mem ((c.tc : Thread Cert.InprojTIdeal.nD Cert.InprojTIdeal.τ).loc Cert.InprojTIdeal.main_arg3) = m ((c.tc : Thread Cert.InprojTIdeal.nD Cert.InprojTIdeal.τ).loc Cert.InprojTIdeal.main_arg3)
      ∧ r.2.mem ((c.tc : Thread Cert.InprojTIdeal.nD Cert.InprojTIdeal.τ).loc Cert.InprojTIdeal.main_arg4) = m ((c.tc : Thread Cert.InprojTIdeal.nD Cert.InprojTIdeal.τ).loc Cert.InprojTIdeal.main_arg4)
      ∧ r.2.mem ((c.tc : Thread Cert.InprojTIdeal.nD Cert.InprojTIdeal.τ).loc Cert.InprojTIdeal.main_arg5) = m ((c.tc : Thread Cert.InprojTIdeal.nD Cert.InprojTIdeal.τ).loc Cert.InprojTIdeal.main_arg5)
      ∧ r.2.mem ((c.tc : Thread Cert.InprojTIdeal.nD Cert.InprojTIdeal.τ).loc Cert.InprojTIdeal.main_arg6) = m ((c.tc : Thread Cert.InprojTIdeal.nD Cert.InprojTIdeal.τ).loc Cert.InprojTIdeal.main_arg6))
      ∧ r.2.sem = fun _ => 0)

def quiescent_InprojTRefIdeal [hInprojTRefIdeal : Cert.InprojTRefIdeal.Facts] : Prop :=
  ∀ (m : (ℓ : Loc Cert.InprojTRefIdeal.nD Cert.InprojTRefIdeal.τ Cert.InprojTRefIdeal.sig) → Buf (Elt Ideal) ℓ) (g : Dev Cert.InprojTRefIdeal.nD → PrngReg), Pre_InprojTRefIdeal m →
    θ_run (Cert.InprojTRefIdeal.defs (F := Ideal)) (onTc (τ := Cert.InprojTRefIdeal.τ) (Cert.InprojTRefIdeal.main (F := Ideal))) ⟨m, fun _ => 0, g⟩ (fun r => (∀ c : Dev Cert.InprojTRefIdeal.nD,
      r.2.mem ((c.tc : Thread Cert.InprojTRefIdeal.nD Cert.InprojTRefIdeal.τ).loc Cert.InprojTRefIdeal.main_arg0) = m ((c.tc : Thread Cert.InprojTRefIdeal.nD Cert.InprojTRefIdeal.τ).loc Cert.InprojTRefIdeal.main_arg0)
      ∧ r.2.mem ((c.tc : Thread Cert.InprojTRefIdeal.nD Cert.InprojTRefIdeal.τ).loc Cert.InprojTRefIdeal.main_arg1) = m ((c.tc : Thread Cert.InprojTRefIdeal.nD Cert.InprojTRefIdeal.τ).loc Cert.InprojTRefIdeal.main_arg1)
      ∧ r.2.mem ((c.tc : Thread Cert.InprojTRefIdeal.nD Cert.InprojTRefIdeal.τ).loc Cert.InprojTRefIdeal.main_arg2) = m ((c.tc : Thread Cert.InprojTRefIdeal.nD Cert.InprojTRefIdeal.τ).loc Cert.InprojTRefIdeal.main_arg2)
      ∧ r.2.mem ((c.tc : Thread Cert.InprojTRefIdeal.nD Cert.InprojTRefIdeal.τ).loc Cert.InprojTRefIdeal.main_arg3) = m ((c.tc : Thread Cert.InprojTRefIdeal.nD Cert.InprojTRefIdeal.τ).loc Cert.InprojTRefIdeal.main_arg3)
      ∧ r.2.mem ((c.tc : Thread Cert.InprojTRefIdeal.nD Cert.InprojTRefIdeal.τ).loc Cert.InprojTRefIdeal.main_arg4) = m ((c.tc : Thread Cert.InprojTRefIdeal.nD Cert.InprojTRefIdeal.τ).loc Cert.InprojTRefIdeal.main_arg4)
      ∧ r.2.mem ((c.tc : Thread Cert.InprojTRefIdeal.nD Cert.InprojTRefIdeal.τ).loc Cert.InprojTRefIdeal.main_arg5) = m ((c.tc : Thread Cert.InprojTRefIdeal.nD Cert.InprojTRefIdeal.τ).loc Cert.InprojTRefIdeal.main_arg5)
      ∧ r.2.mem ((c.tc : Thread Cert.InprojTRefIdeal.nD Cert.InprojTRefIdeal.τ).loc Cert.InprojTRefIdeal.main_arg6) = m ((c.tc : Thread Cert.InprojTRefIdeal.nD Cert.InprojTRefIdeal.τ).loc Cert.InprojTRefIdeal.main_arg6))
      ∧ r.2.sem = fun _ => 0)

def quiescent_Outproj [hOutproj : Cert.Outproj.Facts] : Prop :=
  ∀ (m : (ℓ : Loc Cert.Outproj.nD Cert.Outproj.τ Cert.Outproj.sig) → Buf (Elt Bits) ℓ) (g : Dev Cert.Outproj.nD → PrngReg), Pre_Outproj m →
    θ_run (Cert.Outproj.defs (F := Bits)) (onTc (τ := Cert.Outproj.τ) (Cert.Outproj.main (F := Bits))) ⟨m, fun _ => 0, g⟩ (fun r => (∀ c : Dev Cert.Outproj.nD,
      r.2.mem ((c.tc : Thread Cert.Outproj.nD Cert.Outproj.τ).loc Cert.Outproj.main_arg0) = m ((c.tc : Thread Cert.Outproj.nD Cert.Outproj.τ).loc Cert.Outproj.main_arg0)
      ∧ r.2.mem ((c.tc : Thread Cert.Outproj.nD Cert.Outproj.τ).loc Cert.Outproj.main_arg1) = m ((c.tc : Thread Cert.Outproj.nD Cert.Outproj.τ).loc Cert.Outproj.main_arg1)
      ∧ r.2.mem ((c.tc : Thread Cert.Outproj.nD Cert.Outproj.τ).loc Cert.Outproj.main_arg2) = m ((c.tc : Thread Cert.Outproj.nD Cert.Outproj.τ).loc Cert.Outproj.main_arg2)
      ∧ r.2.mem ((c.tc : Thread Cert.Outproj.nD Cert.Outproj.τ).loc Cert.Outproj.main_arg3) = m ((c.tc : Thread Cert.Outproj.nD Cert.Outproj.τ).loc Cert.Outproj.main_arg3)
      ∧ r.2.mem ((c.tc : Thread Cert.Outproj.nD Cert.Outproj.τ).loc Cert.Outproj.main_arg4) = m ((c.tc : Thread Cert.Outproj.nD Cert.Outproj.τ).loc Cert.Outproj.main_arg4)
      ∧ r.2.mem ((c.tc : Thread Cert.Outproj.nD Cert.Outproj.τ).loc Cert.Outproj.main_arg5) = m ((c.tc : Thread Cert.Outproj.nD Cert.Outproj.τ).loc Cert.Outproj.main_arg5)
      ∧ r.2.mem ((c.tc : Thread Cert.Outproj.nD Cert.Outproj.τ).loc Cert.Outproj.main_arg6) = m ((c.tc : Thread Cert.Outproj.nD Cert.Outproj.τ).loc Cert.Outproj.main_arg6)
      ∧ r.2.mem ((c.tc : Thread Cert.Outproj.nD Cert.Outproj.τ).loc Cert.Outproj.main_arg7) = m ((c.tc : Thread Cert.Outproj.nD Cert.Outproj.τ).loc Cert.Outproj.main_arg7)
      ∧ r.2.mem ((c.tc : Thread Cert.Outproj.nD Cert.Outproj.τ).loc Cert.Outproj.main_arg8) = m ((c.tc : Thread Cert.Outproj.nD Cert.Outproj.τ).loc Cert.Outproj.main_arg8)
      ∧ r.2.mem ((c.tc : Thread Cert.Outproj.nD Cert.Outproj.τ).loc Cert.Outproj.main_arg9) = m ((c.tc : Thread Cert.Outproj.nD Cert.Outproj.τ).loc Cert.Outproj.main_arg9))
      ∧ r.2.sem = fun _ => 0)

def quiescent_OutprojIdeal [hOutprojIdeal : Cert.OutprojIdeal.Facts] : Prop :=
  ∀ (m : (ℓ : Loc Cert.OutprojIdeal.nD Cert.OutprojIdeal.τ Cert.OutprojIdeal.sig) → Buf (Elt Ideal) ℓ) (g : Dev Cert.OutprojIdeal.nD → PrngReg), Pre_OutprojIdeal m →
    θ_run (Cert.OutprojIdeal.defs (F := Ideal)) (onTc (τ := Cert.OutprojIdeal.τ) (Cert.OutprojIdeal.main (F := Ideal))) ⟨m, fun _ => 0, g⟩ (fun r => (∀ c : Dev Cert.OutprojIdeal.nD,
      r.2.mem ((c.tc : Thread Cert.OutprojIdeal.nD Cert.OutprojIdeal.τ).loc Cert.OutprojIdeal.main_arg0) = m ((c.tc : Thread Cert.OutprojIdeal.nD Cert.OutprojIdeal.τ).loc Cert.OutprojIdeal.main_arg0)
      ∧ r.2.mem ((c.tc : Thread Cert.OutprojIdeal.nD Cert.OutprojIdeal.τ).loc Cert.OutprojIdeal.main_arg1) = m ((c.tc : Thread Cert.OutprojIdeal.nD Cert.OutprojIdeal.τ).loc Cert.OutprojIdeal.main_arg1)
      ∧ r.2.mem ((c.tc : Thread Cert.OutprojIdeal.nD Cert.OutprojIdeal.τ).loc Cert.OutprojIdeal.main_arg2) = m ((c.tc : Thread Cert.OutprojIdeal.nD Cert.OutprojIdeal.τ).loc Cert.OutprojIdeal.main_arg2)
      ∧ r.2.mem ((c.tc : Thread Cert.OutprojIdeal.nD Cert.OutprojIdeal.τ).loc Cert.OutprojIdeal.main_arg3) = m ((c.tc : Thread Cert.OutprojIdeal.nD Cert.OutprojIdeal.τ).loc Cert.OutprojIdeal.main_arg3)
      ∧ r.2.mem ((c.tc : Thread Cert.OutprojIdeal.nD Cert.OutprojIdeal.τ).loc Cert.OutprojIdeal.main_arg4) = m ((c.tc : Thread Cert.OutprojIdeal.nD Cert.OutprojIdeal.τ).loc Cert.OutprojIdeal.main_arg4)
      ∧ r.2.mem ((c.tc : Thread Cert.OutprojIdeal.nD Cert.OutprojIdeal.τ).loc Cert.OutprojIdeal.main_arg5) = m ((c.tc : Thread Cert.OutprojIdeal.nD Cert.OutprojIdeal.τ).loc Cert.OutprojIdeal.main_arg5)
      ∧ r.2.mem ((c.tc : Thread Cert.OutprojIdeal.nD Cert.OutprojIdeal.τ).loc Cert.OutprojIdeal.main_arg6) = m ((c.tc : Thread Cert.OutprojIdeal.nD Cert.OutprojIdeal.τ).loc Cert.OutprojIdeal.main_arg6)
      ∧ r.2.mem ((c.tc : Thread Cert.OutprojIdeal.nD Cert.OutprojIdeal.τ).loc Cert.OutprojIdeal.main_arg7) = m ((c.tc : Thread Cert.OutprojIdeal.nD Cert.OutprojIdeal.τ).loc Cert.OutprojIdeal.main_arg7)
      ∧ r.2.mem ((c.tc : Thread Cert.OutprojIdeal.nD Cert.OutprojIdeal.τ).loc Cert.OutprojIdeal.main_arg8) = m ((c.tc : Thread Cert.OutprojIdeal.nD Cert.OutprojIdeal.τ).loc Cert.OutprojIdeal.main_arg8)
      ∧ r.2.mem ((c.tc : Thread Cert.OutprojIdeal.nD Cert.OutprojIdeal.τ).loc Cert.OutprojIdeal.main_arg9) = m ((c.tc : Thread Cert.OutprojIdeal.nD Cert.OutprojIdeal.τ).loc Cert.OutprojIdeal.main_arg9))
      ∧ r.2.sem = fun _ => 0)

def quiescent_OutprojRefIdeal [hOutprojRefIdeal : Cert.OutprojRefIdeal.Facts] : Prop :=
  ∀ (m : (ℓ : Loc Cert.OutprojRefIdeal.nD Cert.OutprojRefIdeal.τ Cert.OutprojRefIdeal.sig) → Buf (Elt Ideal) ℓ) (g : Dev Cert.OutprojRefIdeal.nD → PrngReg), Pre_OutprojRefIdeal m →
    θ_run (Cert.OutprojRefIdeal.defs (F := Ideal)) (onTc (τ := Cert.OutprojRefIdeal.τ) (Cert.OutprojRefIdeal.main (F := Ideal))) ⟨m, fun _ => 0, g⟩ (fun r => (∀ c : Dev Cert.OutprojRefIdeal.nD,
      r.2.mem ((c.tc : Thread Cert.OutprojRefIdeal.nD Cert.OutprojRefIdeal.τ).loc Cert.OutprojRefIdeal.main_arg0) = m ((c.tc : Thread Cert.OutprojRefIdeal.nD Cert.OutprojRefIdeal.τ).loc Cert.OutprojRefIdeal.main_arg0)
      ∧ r.2.mem ((c.tc : Thread Cert.OutprojRefIdeal.nD Cert.OutprojRefIdeal.τ).loc Cert.OutprojRefIdeal.main_arg1) = m ((c.tc : Thread Cert.OutprojRefIdeal.nD Cert.OutprojRefIdeal.τ).loc Cert.OutprojRefIdeal.main_arg1)
      ∧ r.2.mem ((c.tc : Thread Cert.OutprojRefIdeal.nD Cert.OutprojRefIdeal.τ).loc Cert.OutprojRefIdeal.main_arg2) = m ((c.tc : Thread Cert.OutprojRefIdeal.nD Cert.OutprojRefIdeal.τ).loc Cert.OutprojRefIdeal.main_arg2)
      ∧ r.2.mem ((c.tc : Thread Cert.OutprojRefIdeal.nD Cert.OutprojRefIdeal.τ).loc Cert.OutprojRefIdeal.main_arg3) = m ((c.tc : Thread Cert.OutprojRefIdeal.nD Cert.OutprojRefIdeal.τ).loc Cert.OutprojRefIdeal.main_arg3)
      ∧ r.2.mem ((c.tc : Thread Cert.OutprojRefIdeal.nD Cert.OutprojRefIdeal.τ).loc Cert.OutprojRefIdeal.main_arg4) = m ((c.tc : Thread Cert.OutprojRefIdeal.nD Cert.OutprojRefIdeal.τ).loc Cert.OutprojRefIdeal.main_arg4)
      ∧ r.2.mem ((c.tc : Thread Cert.OutprojRefIdeal.nD Cert.OutprojRefIdeal.τ).loc Cert.OutprojRefIdeal.main_arg5) = m ((c.tc : Thread Cert.OutprojRefIdeal.nD Cert.OutprojRefIdeal.τ).loc Cert.OutprojRefIdeal.main_arg5)
      ∧ r.2.mem ((c.tc : Thread Cert.OutprojRefIdeal.nD Cert.OutprojRefIdeal.τ).loc Cert.OutprojRefIdeal.main_arg6) = m ((c.tc : Thread Cert.OutprojRefIdeal.nD Cert.OutprojRefIdeal.τ).loc Cert.OutprojRefIdeal.main_arg6)
      ∧ r.2.mem ((c.tc : Thread Cert.OutprojRefIdeal.nD Cert.OutprojRefIdeal.τ).loc Cert.OutprojRefIdeal.main_arg7) = m ((c.tc : Thread Cert.OutprojRefIdeal.nD Cert.OutprojRefIdeal.τ).loc Cert.OutprojRefIdeal.main_arg7)
      ∧ r.2.mem ((c.tc : Thread Cert.OutprojRefIdeal.nD Cert.OutprojRefIdeal.τ).loc Cert.OutprojRefIdeal.main_arg8) = m ((c.tc : Thread Cert.OutprojRefIdeal.nD Cert.OutprojRefIdeal.τ).loc Cert.OutprojRefIdeal.main_arg8)
      ∧ r.2.mem ((c.tc : Thread Cert.OutprojRefIdeal.nD Cert.OutprojRefIdeal.τ).loc Cert.OutprojRefIdeal.main_arg9) = m ((c.tc : Thread Cert.OutprojRefIdeal.nD Cert.OutprojRefIdeal.τ).loc Cert.OutprojRefIdeal.main_arg9))
      ∧ r.2.sem = fun _ => 0)

def quiescent_Adaln [hAdaln : Cert.Adaln.Facts] : Prop :=
  ∀ (m : (ℓ : Loc Cert.Adaln.nD Cert.Adaln.τ Cert.Adaln.sig) → Buf (Elt Bits) ℓ) (g : Dev Cert.Adaln.nD → PrngReg), Pre_Adaln m →
    θ_run (Cert.Adaln.defs (F := Bits)) (onTc (τ := Cert.Adaln.τ) (Cert.Adaln.main (F := Bits))) ⟨m, fun _ => 0, g⟩ (fun r => (∀ c : Dev Cert.Adaln.nD,
      r.2.mem ((c.tc : Thread Cert.Adaln.nD Cert.Adaln.τ).loc Cert.Adaln.main_arg0) = m ((c.tc : Thread Cert.Adaln.nD Cert.Adaln.τ).loc Cert.Adaln.main_arg0)
      ∧ r.2.mem ((c.tc : Thread Cert.Adaln.nD Cert.Adaln.τ).loc Cert.Adaln.main_arg1) = m ((c.tc : Thread Cert.Adaln.nD Cert.Adaln.τ).loc Cert.Adaln.main_arg1)
      ∧ r.2.mem ((c.tc : Thread Cert.Adaln.nD Cert.Adaln.τ).loc Cert.Adaln.main_arg2) = m ((c.tc : Thread Cert.Adaln.nD Cert.Adaln.τ).loc Cert.Adaln.main_arg2))
      ∧ r.2.sem = fun _ => 0)

def quiescent_AdalnIdeal [hAdalnIdeal : Cert.AdalnIdeal.Facts] : Prop :=
  ∀ (m : (ℓ : Loc Cert.AdalnIdeal.nD Cert.AdalnIdeal.τ Cert.AdalnIdeal.sig) → Buf (Elt Ideal) ℓ) (g : Dev Cert.AdalnIdeal.nD → PrngReg), Pre_AdalnIdeal m →
    θ_run (Cert.AdalnIdeal.defs (F := Ideal)) (onTc (τ := Cert.AdalnIdeal.τ) (Cert.AdalnIdeal.main (F := Ideal))) ⟨m, fun _ => 0, g⟩ (fun r => (∀ c : Dev Cert.AdalnIdeal.nD,
      r.2.mem ((c.tc : Thread Cert.AdalnIdeal.nD Cert.AdalnIdeal.τ).loc Cert.AdalnIdeal.main_arg0) = m ((c.tc : Thread Cert.AdalnIdeal.nD Cert.AdalnIdeal.τ).loc Cert.AdalnIdeal.main_arg0)
      ∧ r.2.mem ((c.tc : Thread Cert.AdalnIdeal.nD Cert.AdalnIdeal.τ).loc Cert.AdalnIdeal.main_arg1) = m ((c.tc : Thread Cert.AdalnIdeal.nD Cert.AdalnIdeal.τ).loc Cert.AdalnIdeal.main_arg1)
      ∧ r.2.mem ((c.tc : Thread Cert.AdalnIdeal.nD Cert.AdalnIdeal.τ).loc Cert.AdalnIdeal.main_arg2) = m ((c.tc : Thread Cert.AdalnIdeal.nD Cert.AdalnIdeal.τ).loc Cert.AdalnIdeal.main_arg2))
      ∧ r.2.sem = fun _ => 0)

def quiescent_AdalnRefIdeal [hAdalnRefIdeal : Cert.AdalnRefIdeal.Facts] : Prop :=
  ∀ (m : (ℓ : Loc Cert.AdalnRefIdeal.nD Cert.AdalnRefIdeal.τ Cert.AdalnRefIdeal.sig) → Buf (Elt Ideal) ℓ) (g : Dev Cert.AdalnRefIdeal.nD → PrngReg), Pre_AdalnRefIdeal m →
    θ_run (Cert.AdalnRefIdeal.defs (F := Ideal)) (onTc (τ := Cert.AdalnRefIdeal.τ) (Cert.AdalnRefIdeal.main (F := Ideal))) ⟨m, fun _ => 0, g⟩ (fun r => (∀ c : Dev Cert.AdalnRefIdeal.nD,
      r.2.mem ((c.tc : Thread Cert.AdalnRefIdeal.nD Cert.AdalnRefIdeal.τ).loc Cert.AdalnRefIdeal.main_arg0) = m ((c.tc : Thread Cert.AdalnRefIdeal.nD Cert.AdalnRefIdeal.τ).loc Cert.AdalnRefIdeal.main_arg0)
      ∧ r.2.mem ((c.tc : Thread Cert.AdalnRefIdeal.nD Cert.AdalnRefIdeal.τ).loc Cert.AdalnRefIdeal.main_arg1) = m ((c.tc : Thread Cert.AdalnRefIdeal.nD Cert.AdalnRefIdeal.τ).loc Cert.AdalnRefIdeal.main_arg1)
      ∧ r.2.mem ((c.tc : Thread Cert.AdalnRefIdeal.nD Cert.AdalnRefIdeal.τ).loc Cert.AdalnRefIdeal.main_arg2) = m ((c.tc : Thread Cert.AdalnRefIdeal.nD Cert.AdalnRefIdeal.τ).loc Cert.AdalnRefIdeal.main_arg2))
      ∧ r.2.sem = fun _ => 0)

def quiescent_Trig [hTrig : Cert.Trig.Facts] : Prop :=
  ∀ (m : (ℓ : Loc Cert.Trig.nD Cert.Trig.τ Cert.Trig.sig) → Buf (Elt Bits) ℓ) (g : Dev Cert.Trig.nD → PrngReg), Pre_Trig m →
    θ_run (Cert.Trig.defs (F := Bits)) (onTc (τ := Cert.Trig.τ) (Cert.Trig.main (F := Bits))) ⟨m, fun _ => 0, g⟩ (fun r => (∀ c : Dev Cert.Trig.nD,
      r.2.mem ((c.tc : Thread Cert.Trig.nD Cert.Trig.τ).loc Cert.Trig.main_arg0) = m ((c.tc : Thread Cert.Trig.nD Cert.Trig.τ).loc Cert.Trig.main_arg0))
      ∧ r.2.sem = fun _ => 0)

def quiescent_TrigIdeal [hTrigIdeal : Cert.TrigIdeal.Facts] : Prop :=
  ∀ (m : (ℓ : Loc Cert.TrigIdeal.nD Cert.TrigIdeal.τ Cert.TrigIdeal.sig) → Buf (Elt Ideal) ℓ) (g : Dev Cert.TrigIdeal.nD → PrngReg), Pre_TrigIdeal m →
    θ_run (Cert.TrigIdeal.defs (F := Ideal)) (onTc (τ := Cert.TrigIdeal.τ) (Cert.TrigIdeal.main (F := Ideal))) ⟨m, fun _ => 0, g⟩ (fun r => (∀ c : Dev Cert.TrigIdeal.nD,
      r.2.mem ((c.tc : Thread Cert.TrigIdeal.nD Cert.TrigIdeal.τ).loc Cert.TrigIdeal.main_arg0) = m ((c.tc : Thread Cert.TrigIdeal.nD Cert.TrigIdeal.τ).loc Cert.TrigIdeal.main_arg0))
      ∧ r.2.sem = fun _ => 0)

def quiescent_TrigRefIdeal [hTrigRefIdeal : Cert.TrigRefIdeal.Facts] : Prop :=
  ∀ (m : (ℓ : Loc Cert.TrigRefIdeal.nD Cert.TrigRefIdeal.τ Cert.TrigRefIdeal.sig) → Buf (Elt Ideal) ℓ) (g : Dev Cert.TrigRefIdeal.nD → PrngReg), Pre_TrigRefIdeal m →
    θ_run (Cert.TrigRefIdeal.defs (F := Ideal)) (onTc (τ := Cert.TrigRefIdeal.τ) (Cert.TrigRefIdeal.main (F := Ideal))) ⟨m, fun _ => 0, g⟩ (fun r => (∀ c : Dev Cert.TrigRefIdeal.nD,
      r.2.mem ((c.tc : Thread Cert.TrigRefIdeal.nD Cert.TrigRefIdeal.τ).loc Cert.TrigRefIdeal.main_arg0) = m ((c.tc : Thread Cert.TrigRefIdeal.nD Cert.TrigRefIdeal.τ).loc Cert.TrigRefIdeal.main_arg0))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v58) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def preserves_Combine_CombineIdeal : Prop :=
  True

def algebraic_CombineIdeal_CombineRefIdeal [hCombineIdeal : Cert.CombineIdeal.Facts] [hCombineRefIdeal : Cert.CombineRefIdeal.Facts] [hPre_rows_in_range : Cert.Pre_rows_in_range.Facts] : Prop :=
  ∀ (m : (ℓ : Loc Cert.CombineIdeal.nD Cert.CombineIdeal.τ Cert.CombineIdeal.sig) → Buf (Elt Ideal) ℓ) (g : Dev Cert.CombineIdeal.nD → PrngReg)
    (m' : (ℓ : Loc Cert.CombineRefIdeal.nD Cert.CombineRefIdeal.τ Cert.CombineRefIdeal.sig) → Buf (Elt Ideal) ℓ) (g' : Dev Cert.CombineRefIdeal.nD → PrngReg), Pre_CombineIdeal m →
    (∀ c : Dev Cert.CombineIdeal.nD,
      m' ((c.tc : Thread Cert.CombineRefIdeal.nD Cert.CombineRefIdeal.τ).loc Cert.CombineRefIdeal.main_arg0) = m ((c.tc : Thread Cert.CombineIdeal.nD Cert.CombineIdeal.τ).loc Cert.CombineIdeal.main_arg0)
      ∧ m' ((c.tc : Thread Cert.CombineRefIdeal.nD Cert.CombineRefIdeal.τ).loc Cert.CombineRefIdeal.main_arg1) = m ((c.tc : Thread Cert.CombineIdeal.nD Cert.CombineIdeal.τ).loc Cert.CombineIdeal.main_arg1)
      ∧ m' ((c.tc : Thread Cert.CombineRefIdeal.nD Cert.CombineRefIdeal.τ).loc Cert.CombineRefIdeal.main_arg2) = m ((c.tc : Thread Cert.CombineIdeal.nD Cert.CombineIdeal.τ).loc Cert.CombineIdeal.main_arg2)
      ∧ m' ((c.tc : Thread Cert.CombineRefIdeal.nD Cert.CombineRefIdeal.τ).loc Cert.CombineRefIdeal.main_arg3) = m ((c.tc : Thread Cert.CombineIdeal.nD Cert.CombineIdeal.τ).loc Cert.CombineIdeal.main_arg3)
      ∧ m' ((c.tc : Thread Cert.CombineRefIdeal.nD Cert.CombineRefIdeal.τ).loc Cert.CombineRefIdeal.main_arg4) = m ((c.tc : Thread Cert.CombineIdeal.nD Cert.CombineIdeal.τ).loc Cert.CombineIdeal.main_arg4)
      ∧ m' ((c.tc : Thread Cert.CombineRefIdeal.nD Cert.CombineRefIdeal.τ).loc Cert.CombineRefIdeal.main_arg5) = m ((c.tc : Thread Cert.CombineIdeal.nD Cert.CombineIdeal.τ).loc Cert.CombineIdeal.main_arg5)) →
    ∃ (v0 : (c : Dev Cert.CombineIdeal.nD) → Buf (Elt Ideal) ((c.tc : Thread Cert.CombineIdeal.nD Cert.CombineIdeal.τ).loc Cert.CombineIdeal.main_v2)),
      θ_run (Cert.CombineIdeal.defs (F := Ideal)) (onTc (τ := Cert.CombineIdeal.τ) (Cert.CombineIdeal.main (F := Ideal))) ⟨m, fun _ => 0, g⟩ (fun r => ∀ c : Dev Cert.CombineIdeal.nD,
          r.2.mem ((c.tc : Thread Cert.CombineIdeal.nD Cert.CombineIdeal.τ).loc Cert.CombineIdeal.main_v2) = v0 c
          ∧ r.2.mem ((c.tc : Thread Cert.CombineIdeal.nD Cert.CombineIdeal.τ).loc Cert.CombineIdeal.main_arg0) = m ((c.tc : Thread Cert.CombineIdeal.nD Cert.CombineIdeal.τ).loc Cert.CombineIdeal.main_arg0)
          ∧ r.2.mem ((c.tc : Thread Cert.CombineIdeal.nD Cert.CombineIdeal.τ).loc Cert.CombineIdeal.main_arg1) = m ((c.tc : Thread Cert.CombineIdeal.nD Cert.CombineIdeal.τ).loc Cert.CombineIdeal.main_arg1)
          ∧ r.2.mem ((c.tc : Thread Cert.CombineIdeal.nD Cert.CombineIdeal.τ).loc Cert.CombineIdeal.main_arg2) = m ((c.tc : Thread Cert.CombineIdeal.nD Cert.CombineIdeal.τ).loc Cert.CombineIdeal.main_arg2)
          ∧ r.2.mem ((c.tc : Thread Cert.CombineIdeal.nD Cert.CombineIdeal.τ).loc Cert.CombineIdeal.main_arg3) = m ((c.tc : Thread Cert.CombineIdeal.nD Cert.CombineIdeal.τ).loc Cert.CombineIdeal.main_arg3)
          ∧ r.2.mem ((c.tc : Thread Cert.CombineIdeal.nD Cert.CombineIdeal.τ).loc Cert.CombineIdeal.main_arg4) = m ((c.tc : Thread Cert.CombineIdeal.nD Cert.CombineIdeal.τ).loc Cert.CombineIdeal.main_arg4)
          ∧ r.2.mem ((c.tc : Thread Cert.CombineIdeal.nD Cert.CombineIdeal.τ).loc Cert.CombineIdeal.main_arg5) = m ((c.tc : Thread Cert.CombineIdeal.nD Cert.CombineIdeal.τ).loc Cert.CombineIdeal.main_arg5))
      ∧ θ_run (Cert.CombineRefIdeal.defs (F := Ideal)) (onTc (τ := Cert.CombineRefIdeal.τ) (Cert.CombineRefIdeal.main (F := Ideal))) ⟨m', fun _ => 0, g'⟩ (fun r => ∀ c : Dev Cert.CombineRefIdeal.nD,
          r.2.mem ((c.tc : Thread Cert.CombineRefIdeal.nD Cert.CombineRefIdeal.τ).loc Cert.CombineRefIdeal.main_v29) = v0 c
          ∧ r.2.mem ((c.tc : Thread Cert.CombineRefIdeal.nD Cert.CombineRefIdeal.τ).loc Cert.CombineRefIdeal.main_arg0) = m' ((c.tc : Thread Cert.CombineRefIdeal.nD Cert.CombineRefIdeal.τ).loc Cert.CombineRefIdeal.main_arg0)
          ∧ r.2.mem ((c.tc : Thread Cert.CombineRefIdeal.nD Cert.CombineRefIdeal.τ).loc Cert.CombineRefIdeal.main_arg1) = m' ((c.tc : Thread Cert.CombineRefIdeal.nD Cert.CombineRefIdeal.τ).loc Cert.CombineRefIdeal.main_arg1)
          ∧ r.2.mem ((c.tc : Thread Cert.CombineRefIdeal.nD Cert.CombineRefIdeal.τ).loc Cert.CombineRefIdeal.main_arg2) = m' ((c.tc : Thread Cert.CombineRefIdeal.nD Cert.CombineRefIdeal.τ).loc Cert.CombineRefIdeal.main_arg2)
          ∧ r.2.mem ((c.tc : Thread Cert.CombineRefIdeal.nD Cert.CombineRefIdeal.τ).loc Cert.CombineRefIdeal.main_arg3) = m' ((c.tc : Thread Cert.CombineRefIdeal.nD Cert.CombineRefIdeal.τ).loc Cert.CombineRefIdeal.main_arg3)
          ∧ r.2.mem ((c.tc : Thread Cert.CombineRefIdeal.nD Cert.CombineRefIdeal.τ).loc Cert.CombineRefIdeal.main_arg4) = m' ((c.tc : Thread Cert.CombineRefIdeal.nD Cert.CombineRefIdeal.τ).loc Cert.CombineRefIdeal.main_arg4)
          ∧ r.2.mem ((c.tc : Thread Cert.CombineRefIdeal.nD Cert.CombineRefIdeal.τ).loc Cert.CombineRefIdeal.main_arg5) = m' ((c.tc : Thread Cert.CombineRefIdeal.nD Cert.CombineRefIdeal.τ).loc Cert.CombineRefIdeal.main_arg5))

def preserves_InprojR_InprojRIdeal : Prop :=
  True

def algebraic_InprojRIdeal_InprojRRefIdeal [hInprojRIdeal : Cert.InprojRIdeal.Facts] [hInprojRRefIdeal : Cert.InprojRRefIdeal.Facts] : Prop :=
  ∀ (m : (ℓ : Loc Cert.InprojRIdeal.nD Cert.InprojRIdeal.τ Cert.InprojRIdeal.sig) → Buf (Elt Ideal) ℓ) (g : Dev Cert.InprojRIdeal.nD → PrngReg)
    (m' : (ℓ : Loc Cert.InprojRRefIdeal.nD Cert.InprojRRefIdeal.τ Cert.InprojRRefIdeal.sig) → Buf (Elt Ideal) ℓ) (g' : Dev Cert.InprojRRefIdeal.nD → PrngReg), Pre_InprojRIdeal m →
    (∀ c : Dev Cert.InprojRIdeal.nD,
      m' ((c.tc : Thread Cert.InprojRRefIdeal.nD Cert.InprojRRefIdeal.τ).loc Cert.InprojRRefIdeal.main_arg0) = m ((c.tc : Thread Cert.InprojRIdeal.nD Cert.InprojRIdeal.τ).loc Cert.InprojRIdeal.main_arg0)
      ∧ m' ((c.tc : Thread Cert.InprojRRefIdeal.nD Cert.InprojRRefIdeal.τ).loc Cert.InprojRRefIdeal.main_arg1) = m ((c.tc : Thread Cert.InprojRIdeal.nD Cert.InprojRIdeal.τ).loc Cert.InprojRIdeal.main_arg1)
      ∧ m' ((c.tc : Thread Cert.InprojRRefIdeal.nD Cert.InprojRRefIdeal.τ).loc Cert.InprojRRefIdeal.main_arg2) = m ((c.tc : Thread Cert.InprojRIdeal.nD Cert.InprojRIdeal.τ).loc Cert.InprojRIdeal.main_arg2)
      ∧ m' ((c.tc : Thread Cert.InprojRRefIdeal.nD Cert.InprojRRefIdeal.τ).loc Cert.InprojRRefIdeal.main_arg3) = m ((c.tc : Thread Cert.InprojRIdeal.nD Cert.InprojRIdeal.τ).loc Cert.InprojRIdeal.main_arg3)
      ∧ m' ((c.tc : Thread Cert.InprojRRefIdeal.nD Cert.InprojRRefIdeal.τ).loc Cert.InprojRRefIdeal.main_arg4) = m ((c.tc : Thread Cert.InprojRIdeal.nD Cert.InprojRIdeal.τ).loc Cert.InprojRIdeal.main_arg4)
      ∧ m' ((c.tc : Thread Cert.InprojRRefIdeal.nD Cert.InprojRRefIdeal.τ).loc Cert.InprojRRefIdeal.main_arg5) = m ((c.tc : Thread Cert.InprojRIdeal.nD Cert.InprojRIdeal.τ).loc Cert.InprojRIdeal.main_arg5)
      ∧ m' ((c.tc : Thread Cert.InprojRRefIdeal.nD Cert.InprojRRefIdeal.τ).loc Cert.InprojRRefIdeal.main_arg6) = m ((c.tc : Thread Cert.InprojRIdeal.nD Cert.InprojRIdeal.τ).loc Cert.InprojRIdeal.main_arg6)) →
    ∃ (v0 : (c : Dev Cert.InprojRIdeal.nD) → Buf (Elt Ideal) ((c.tc : Thread Cert.InprojRIdeal.nD Cert.InprojRIdeal.τ).loc Cert.InprojRIdeal.main_v29_0)) (v1 : (c : Dev Cert.InprojRIdeal.nD) → Buf (Elt Ideal) ((c.tc : Thread Cert.InprojRIdeal.nD Cert.InprojRIdeal.τ).loc Cert.InprojRIdeal.main_v29_1)) (v2 : (c : Dev Cert.InprojRIdeal.nD) → Buf (Elt Ideal) ((c.tc : Thread Cert.InprojRIdeal.nD Cert.InprojRIdeal.τ).loc Cert.InprojRIdeal.main_v29_2)) (v3 : (c : Dev Cert.InprojRIdeal.nD) → Buf (Elt Ideal) ((c.tc : Thread Cert.InprojRIdeal.nD Cert.InprojRIdeal.τ).loc Cert.InprojRIdeal.main_v29_3)) (v4 : (c : Dev Cert.InprojRIdeal.nD) → Buf (Elt Ideal) ((c.tc : Thread Cert.InprojRIdeal.nD Cert.InprojRIdeal.τ).loc Cert.InprojRIdeal.main_v29_4)) (v5 : (c : Dev Cert.InprojRIdeal.nD) → Buf (Elt Ideal) ((c.tc : Thread Cert.InprojRIdeal.nD Cert.InprojRIdeal.τ).loc Cert.InprojRIdeal.main_v29_5)),
      θ_run (Cert.InprojRIdeal.defs (F := Ideal)) (onTc (τ := Cert.InprojRIdeal.τ) (Cert.InprojRIdeal.main (F := Ideal))) ⟨m, fun _ => 0, g⟩ (fun r => ∀ c : Dev Cert.InprojRIdeal.nD,
          r.2.mem ((c.tc : Thread Cert.InprojRIdeal.nD Cert.InprojRIdeal.τ).loc Cert.InprojRIdeal.main_v29_0) = v0 c
          ∧ r.2.mem ((c.tc : Thread Cert.InprojRIdeal.nD Cert.InprojRIdeal.τ).loc Cert.InprojRIdeal.main_v29_1) = v1 c
          ∧ r.2.mem ((c.tc : Thread Cert.InprojRIdeal.nD Cert.InprojRIdeal.τ).loc Cert.InprojRIdeal.main_v29_2) = v2 c
          ∧ r.2.mem ((c.tc : Thread Cert.InprojRIdeal.nD Cert.InprojRIdeal.τ).loc Cert.InprojRIdeal.main_v29_3) = v3 c
          ∧ r.2.mem ((c.tc : Thread Cert.InprojRIdeal.nD Cert.InprojRIdeal.τ).loc Cert.InprojRIdeal.main_v29_4) = v4 c
          ∧ r.2.mem ((c.tc : Thread Cert.InprojRIdeal.nD Cert.InprojRIdeal.τ).loc Cert.InprojRIdeal.main_v29_5) = v5 c
          ∧ r.2.mem ((c.tc : Thread Cert.InprojRIdeal.nD Cert.InprojRIdeal.τ).loc Cert.InprojRIdeal.main_arg0) = m ((c.tc : Thread Cert.InprojRIdeal.nD Cert.InprojRIdeal.τ).loc Cert.InprojRIdeal.main_arg0)
          ∧ r.2.mem ((c.tc : Thread Cert.InprojRIdeal.nD Cert.InprojRIdeal.τ).loc Cert.InprojRIdeal.main_arg1) = m ((c.tc : Thread Cert.InprojRIdeal.nD Cert.InprojRIdeal.τ).loc Cert.InprojRIdeal.main_arg1)
          ∧ r.2.mem ((c.tc : Thread Cert.InprojRIdeal.nD Cert.InprojRIdeal.τ).loc Cert.InprojRIdeal.main_arg2) = m ((c.tc : Thread Cert.InprojRIdeal.nD Cert.InprojRIdeal.τ).loc Cert.InprojRIdeal.main_arg2)
          ∧ r.2.mem ((c.tc : Thread Cert.InprojRIdeal.nD Cert.InprojRIdeal.τ).loc Cert.InprojRIdeal.main_arg3) = m ((c.tc : Thread Cert.InprojRIdeal.nD Cert.InprojRIdeal.τ).loc Cert.InprojRIdeal.main_arg3)
          ∧ r.2.mem ((c.tc : Thread Cert.InprojRIdeal.nD Cert.InprojRIdeal.τ).loc Cert.InprojRIdeal.main_arg4) = m ((c.tc : Thread Cert.InprojRIdeal.nD Cert.InprojRIdeal.τ).loc Cert.InprojRIdeal.main_arg4)
          ∧ r.2.mem ((c.tc : Thread Cert.InprojRIdeal.nD Cert.InprojRIdeal.τ).loc Cert.InprojRIdeal.main_arg5) = m ((c.tc : Thread Cert.InprojRIdeal.nD Cert.InprojRIdeal.τ).loc Cert.InprojRIdeal.main_arg5)
          ∧ r.2.mem ((c.tc : Thread Cert.InprojRIdeal.nD Cert.InprojRIdeal.τ).loc Cert.InprojRIdeal.main_arg6) = m ((c.tc : Thread Cert.InprojRIdeal.nD Cert.InprojRIdeal.τ).loc Cert.InprojRIdeal.main_arg6))
      ∧ θ_run (Cert.InprojRRefIdeal.defs (F := Ideal)) (onTc (τ := Cert.InprojRRefIdeal.τ) (Cert.InprojRRefIdeal.main (F := Ideal))) ⟨m', fun _ => 0, g'⟩ (fun r => ∀ c : Dev Cert.InprojRRefIdeal.nD,
          r.2.mem ((c.tc : Thread Cert.InprojRRefIdeal.nD Cert.InprojRRefIdeal.τ).loc Cert.InprojRRefIdeal.main_v63) = v0 c
          ∧ r.2.mem ((c.tc : Thread Cert.InprojRRefIdeal.nD Cert.InprojRRefIdeal.τ).loc Cert.InprojRRefIdeal.main_v66) = v1 c
          ∧ r.2.mem ((c.tc : Thread Cert.InprojRRefIdeal.nD Cert.InprojRRefIdeal.τ).loc Cert.InprojRRefIdeal.main_v67) = v2 c
          ∧ r.2.mem ((c.tc : Thread Cert.InprojRRefIdeal.nD Cert.InprojRRefIdeal.τ).loc Cert.InprojRRefIdeal.main_v68) = v3 c
          ∧ r.2.mem ((c.tc : Thread Cert.InprojRRefIdeal.nD Cert.InprojRRefIdeal.τ).loc Cert.InprojRRefIdeal.main_v69) = v4 c
          ∧ r.2.mem ((c.tc : Thread Cert.InprojRRefIdeal.nD Cert.InprojRRefIdeal.τ).loc Cert.InprojRRefIdeal.main_v70) = v5 c
          ∧ r.2.mem ((c.tc : Thread Cert.InprojRRefIdeal.nD Cert.InprojRRefIdeal.τ).loc Cert.InprojRRefIdeal.main_arg0) = m' ((c.tc : Thread Cert.InprojRRefIdeal.nD Cert.InprojRRefIdeal.τ).loc Cert.InprojRRefIdeal.main_arg0)
          ∧ r.2.mem ((c.tc : Thread Cert.InprojRRefIdeal.nD Cert.InprojRRefIdeal.τ).loc Cert.InprojRRefIdeal.main_arg1) = m' ((c.tc : Thread Cert.InprojRRefIdeal.nD Cert.InprojRRefIdeal.τ).loc Cert.InprojRRefIdeal.main_arg1)
          ∧ r.2.mem ((c.tc : Thread Cert.InprojRRefIdeal.nD Cert.InprojRRefIdeal.τ).loc Cert.InprojRRefIdeal.main_arg2) = m' ((c.tc : Thread Cert.InprojRRefIdeal.nD Cert.InprojRRefIdeal.τ).loc Cert.InprojRRefIdeal.main_arg2)
          ∧ r.2.mem ((c.tc : Thread Cert.InprojRRefIdeal.nD Cert.InprojRRefIdeal.τ).loc Cert.InprojRRefIdeal.main_arg3) = m' ((c.tc : Thread Cert.InprojRRefIdeal.nD Cert.InprojRRefIdeal.τ).loc Cert.InprojRRefIdeal.main_arg3)
          ∧ r.2.mem ((c.tc : Thread Cert.InprojRRefIdeal.nD Cert.InprojRRefIdeal.τ).loc Cert.InprojRRefIdeal.main_arg4) = m' ((c.tc : Thread Cert.InprojRRefIdeal.nD Cert.InprojRRefIdeal.τ).loc Cert.InprojRRefIdeal.main_arg4)
          ∧ r.2.mem ((c.tc : Thread Cert.InprojRRefIdeal.nD Cert.InprojRRefIdeal.τ).loc Cert.InprojRRefIdeal.main_arg5) = m' ((c.tc : Thread Cert.InprojRRefIdeal.nD Cert.InprojRRefIdeal.τ).loc Cert.InprojRRefIdeal.main_arg5)
          ∧ r.2.mem ((c.tc : Thread Cert.InprojRRefIdeal.nD Cert.InprojRRefIdeal.τ).loc Cert.InprojRRefIdeal.main_arg6) = m' ((c.tc : Thread Cert.InprojRRefIdeal.nD Cert.InprojRRefIdeal.τ).loc Cert.InprojRRefIdeal.main_arg6))

def preserves_InprojT_InprojTIdeal : Prop :=
  True

def algebraic_InprojTIdeal_InprojTRefIdeal [hInprojTIdeal : Cert.InprojTIdeal.Facts] [hInprojTRefIdeal : Cert.InprojTRefIdeal.Facts] : Prop :=
  ∀ (m : (ℓ : Loc Cert.InprojTIdeal.nD Cert.InprojTIdeal.τ Cert.InprojTIdeal.sig) → Buf (Elt Ideal) ℓ) (g : Dev Cert.InprojTIdeal.nD → PrngReg)
    (m' : (ℓ : Loc Cert.InprojTRefIdeal.nD Cert.InprojTRefIdeal.τ Cert.InprojTRefIdeal.sig) → Buf (Elt Ideal) ℓ) (g' : Dev Cert.InprojTRefIdeal.nD → PrngReg), Pre_InprojTIdeal m →
    (∀ c : Dev Cert.InprojTIdeal.nD,
      m' ((c.tc : Thread Cert.InprojTRefIdeal.nD Cert.InprojTRefIdeal.τ).loc Cert.InprojTRefIdeal.main_arg0) = m ((c.tc : Thread Cert.InprojTIdeal.nD Cert.InprojTIdeal.τ).loc Cert.InprojTIdeal.main_arg0)
      ∧ m' ((c.tc : Thread Cert.InprojTRefIdeal.nD Cert.InprojTRefIdeal.τ).loc Cert.InprojTRefIdeal.main_arg1) = m ((c.tc : Thread Cert.InprojTIdeal.nD Cert.InprojTIdeal.τ).loc Cert.InprojTIdeal.main_arg1)
      ∧ m' ((c.tc : Thread Cert.InprojTRefIdeal.nD Cert.InprojTRefIdeal.τ).loc Cert.InprojTRefIdeal.main_arg2) = m ((c.tc : Thread Cert.InprojTIdeal.nD Cert.InprojTIdeal.τ).loc Cert.InprojTIdeal.main_arg2)
      ∧ m' ((c.tc : Thread Cert.InprojTRefIdeal.nD Cert.InprojTRefIdeal.τ).loc Cert.InprojTRefIdeal.main_arg3) = m ((c.tc : Thread Cert.InprojTIdeal.nD Cert.InprojTIdeal.τ).loc Cert.InprojTIdeal.main_arg3)
      ∧ m' ((c.tc : Thread Cert.InprojTRefIdeal.nD Cert.InprojTRefIdeal.τ).loc Cert.InprojTRefIdeal.main_arg4) = m ((c.tc : Thread Cert.InprojTIdeal.nD Cert.InprojTIdeal.τ).loc Cert.InprojTIdeal.main_arg4)
      ∧ m' ((c.tc : Thread Cert.InprojTRefIdeal.nD Cert.InprojTRefIdeal.τ).loc Cert.InprojTRefIdeal.main_arg5) = m ((c.tc : Thread Cert.InprojTIdeal.nD Cert.InprojTIdeal.τ).loc Cert.InprojTIdeal.main_arg5)
      ∧ m' ((c.tc : Thread Cert.InprojTRefIdeal.nD Cert.InprojTRefIdeal.τ).loc Cert.InprojTRefIdeal.main_arg6) = m ((c.tc : Thread Cert.InprojTIdeal.nD Cert.InprojTIdeal.τ).loc Cert.InprojTIdeal.main_arg6)) →
    ∃ (v0 : (c : Dev Cert.InprojTIdeal.nD) → Buf (Elt Ideal) ((c.tc : Thread Cert.InprojTIdeal.nD Cert.InprojTIdeal.τ).loc Cert.InprojTIdeal.main_v19_0)) (v1 : (c : Dev Cert.InprojTIdeal.nD) → Buf (Elt Ideal) ((c.tc : Thread Cert.InprojTIdeal.nD Cert.InprojTIdeal.τ).loc Cert.InprojTIdeal.main_v19_1)) (v2 : (c : Dev Cert.InprojTIdeal.nD) → Buf (Elt Ideal) ((c.tc : Thread Cert.InprojTIdeal.nD Cert.InprojTIdeal.τ).loc Cert.InprojTIdeal.main_v19_2)) (v3 : (c : Dev Cert.InprojTIdeal.nD) → Buf (Elt Ideal) ((c.tc : Thread Cert.InprojTIdeal.nD Cert.InprojTIdeal.τ).loc Cert.InprojTIdeal.main_v19_3)),
      θ_run (Cert.InprojTIdeal.defs (F := Ideal)) (onTc (τ := Cert.InprojTIdeal.τ) (Cert.InprojTIdeal.main (F := Ideal))) ⟨m, fun _ => 0, g⟩ (fun r => ∀ c : Dev Cert.InprojTIdeal.nD,
          r.2.mem ((c.tc : Thread Cert.InprojTIdeal.nD Cert.InprojTIdeal.τ).loc Cert.InprojTIdeal.main_v19_0) = v0 c
          ∧ r.2.mem ((c.tc : Thread Cert.InprojTIdeal.nD Cert.InprojTIdeal.τ).loc Cert.InprojTIdeal.main_v19_1) = v1 c
          ∧ r.2.mem ((c.tc : Thread Cert.InprojTIdeal.nD Cert.InprojTIdeal.τ).loc Cert.InprojTIdeal.main_v19_2) = v2 c
          ∧ r.2.mem ((c.tc : Thread Cert.InprojTIdeal.nD Cert.InprojTIdeal.τ).loc Cert.InprojTIdeal.main_v19_3) = v3 c
          ∧ r.2.mem ((c.tc : Thread Cert.InprojTIdeal.nD Cert.InprojTIdeal.τ).loc Cert.InprojTIdeal.main_arg0) = m ((c.tc : Thread Cert.InprojTIdeal.nD Cert.InprojTIdeal.τ).loc Cert.InprojTIdeal.main_arg0)
          ∧ r.2.mem ((c.tc : Thread Cert.InprojTIdeal.nD Cert.InprojTIdeal.τ).loc Cert.InprojTIdeal.main_arg1) = m ((c.tc : Thread Cert.InprojTIdeal.nD Cert.InprojTIdeal.τ).loc Cert.InprojTIdeal.main_arg1)
          ∧ r.2.mem ((c.tc : Thread Cert.InprojTIdeal.nD Cert.InprojTIdeal.τ).loc Cert.InprojTIdeal.main_arg2) = m ((c.tc : Thread Cert.InprojTIdeal.nD Cert.InprojTIdeal.τ).loc Cert.InprojTIdeal.main_arg2)
          ∧ r.2.mem ((c.tc : Thread Cert.InprojTIdeal.nD Cert.InprojTIdeal.τ).loc Cert.InprojTIdeal.main_arg3) = m ((c.tc : Thread Cert.InprojTIdeal.nD Cert.InprojTIdeal.τ).loc Cert.InprojTIdeal.main_arg3)
          ∧ r.2.mem ((c.tc : Thread Cert.InprojTIdeal.nD Cert.InprojTIdeal.τ).loc Cert.InprojTIdeal.main_arg4) = m ((c.tc : Thread Cert.InprojTIdeal.nD Cert.InprojTIdeal.τ).loc Cert.InprojTIdeal.main_arg4)
          ∧ r.2.mem ((c.tc : Thread Cert.InprojTIdeal.nD Cert.InprojTIdeal.τ).loc Cert.InprojTIdeal.main_arg5) = m ((c.tc : Thread Cert.InprojTIdeal.nD Cert.InprojTIdeal.τ).loc Cert.InprojTIdeal.main_arg5)
          ∧ r.2.mem ((c.tc : Thread Cert.InprojTIdeal.nD Cert.InprojTIdeal.τ).loc Cert.InprojTIdeal.main_arg6) = m ((c.tc : Thread Cert.InprojTIdeal.nD Cert.InprojTIdeal.τ).loc Cert.InprojTIdeal.main_arg6))
      ∧ θ_run (Cert.InprojTRefIdeal.defs (F := Ideal)) (onTc (τ := Cert.InprojTRefIdeal.τ) (Cert.InprojTRefIdeal.main (F := Ideal))) ⟨m', fun _ => 0, g'⟩ (fun r => ∀ c : Dev Cert.InprojTRefIdeal.nD,
          r.2.mem ((c.tc : Thread Cert.InprojTRefIdeal.nD Cert.InprojTRefIdeal.τ).loc Cert.InprojTRefIdeal.main_v74) = v0 c
          ∧ r.2.mem ((c.tc : Thread Cert.InprojTRefIdeal.nD Cert.InprojTRefIdeal.τ).loc Cert.InprojTRefIdeal.main_v77) = v1 c
          ∧ r.2.mem ((c.tc : Thread Cert.InprojTRefIdeal.nD Cert.InprojTRefIdeal.τ).loc Cert.InprojTRefIdeal.main_v79) = v2 c
          ∧ r.2.mem ((c.tc : Thread Cert.InprojTRefIdeal.nD Cert.InprojTRefIdeal.τ).loc Cert.InprojTRefIdeal.main_v83) = v3 c
          ∧ r.2.mem ((c.tc : Thread Cert.InprojTRefIdeal.nD Cert.InprojTRefIdeal.τ).loc Cert.InprojTRefIdeal.main_arg0) = m' ((c.tc : Thread Cert.InprojTRefIdeal.nD Cert.InprojTRefIdeal.τ).loc Cert.InprojTRefIdeal.main_arg0)
          ∧ r.2.mem ((c.tc : Thread Cert.InprojTRefIdeal.nD Cert.InprojTRefIdeal.τ).loc Cert.InprojTRefIdeal.main_arg1) = m' ((c.tc : Thread Cert.InprojTRefIdeal.nD Cert.InprojTRefIdeal.τ).loc Cert.InprojTRefIdeal.main_arg1)
          ∧ r.2.mem ((c.tc : Thread Cert.InprojTRefIdeal.nD Cert.InprojTRefIdeal.τ).loc Cert.InprojTRefIdeal.main_arg2) = m' ((c.tc : Thread Cert.InprojTRefIdeal.nD Cert.InprojTRefIdeal.τ).loc Cert.InprojTRefIdeal.main_arg2)
          ∧ r.2.mem ((c.tc : Thread Cert.InprojTRefIdeal.nD Cert.InprojTRefIdeal.τ).loc Cert.InprojTRefIdeal.main_arg3) = m' ((c.tc : Thread Cert.InprojTRefIdeal.nD Cert.InprojTRefIdeal.τ).loc Cert.InprojTRefIdeal.main_arg3)
          ∧ r.2.mem ((c.tc : Thread Cert.InprojTRefIdeal.nD Cert.InprojTRefIdeal.τ).loc Cert.InprojTRefIdeal.main_arg4) = m' ((c.tc : Thread Cert.InprojTRefIdeal.nD Cert.InprojTRefIdeal.τ).loc Cert.InprojTRefIdeal.main_arg4)
          ∧ r.2.mem ((c.tc : Thread Cert.InprojTRefIdeal.nD Cert.InprojTRefIdeal.τ).loc Cert.InprojTRefIdeal.main_arg5) = m' ((c.tc : Thread Cert.InprojTRefIdeal.nD Cert.InprojTRefIdeal.τ).loc Cert.InprojTRefIdeal.main_arg5)
          ∧ r.2.mem ((c.tc : Thread Cert.InprojTRefIdeal.nD Cert.InprojTRefIdeal.τ).loc Cert.InprojTRefIdeal.main_arg6) = m' ((c.tc : Thread Cert.InprojTRefIdeal.nD Cert.InprojTRefIdeal.τ).loc Cert.InprojTRefIdeal.main_arg6))

def preserves_Outproj_OutprojIdeal : Prop :=
  True

def algebraic_OutprojIdeal_OutprojRefIdeal [hOutprojIdeal : Cert.OutprojIdeal.Facts] [hOutprojRefIdeal : Cert.OutprojRefIdeal.Facts] : Prop :=
  ∀ (m : (ℓ : Loc Cert.OutprojIdeal.nD Cert.OutprojIdeal.τ Cert.OutprojIdeal.sig) → Buf (Elt Ideal) ℓ) (g : Dev Cert.OutprojIdeal.nD → PrngReg)
    (m' : (ℓ : Loc Cert.OutprojRefIdeal.nD Cert.OutprojRefIdeal.τ Cert.OutprojRefIdeal.sig) → Buf (Elt Ideal) ℓ) (g' : Dev Cert.OutprojRefIdeal.nD → PrngReg), Pre_OutprojIdeal m →
    (∀ c : Dev Cert.OutprojIdeal.nD,
      m' ((c.tc : Thread Cert.OutprojRefIdeal.nD Cert.OutprojRefIdeal.τ).loc Cert.OutprojRefIdeal.main_arg0) = m ((c.tc : Thread Cert.OutprojIdeal.nD Cert.OutprojIdeal.τ).loc Cert.OutprojIdeal.main_arg0)
      ∧ m' ((c.tc : Thread Cert.OutprojRefIdeal.nD Cert.OutprojRefIdeal.τ).loc Cert.OutprojRefIdeal.main_arg1) = m ((c.tc : Thread Cert.OutprojIdeal.nD Cert.OutprojIdeal.τ).loc Cert.OutprojIdeal.main_arg1)
      ∧ m' ((c.tc : Thread Cert.OutprojRefIdeal.nD Cert.OutprojRefIdeal.τ).loc Cert.OutprojRefIdeal.main_arg2) = m ((c.tc : Thread Cert.OutprojIdeal.nD Cert.OutprojIdeal.τ).loc Cert.OutprojIdeal.main_arg2)
      ∧ m' ((c.tc : Thread Cert.OutprojRefIdeal.nD Cert.OutprojRefIdeal.τ).loc Cert.OutprojRefIdeal.main_arg3) = m ((c.tc : Thread Cert.OutprojIdeal.nD Cert.OutprojIdeal.τ).loc Cert.OutprojIdeal.main_arg3)
      ∧ m' ((c.tc : Thread Cert.OutprojRefIdeal.nD Cert.OutprojRefIdeal.τ).loc Cert.OutprojRefIdeal.main_arg4) = m ((c.tc : Thread Cert.OutprojIdeal.nD Cert.OutprojIdeal.τ).loc Cert.OutprojIdeal.main_arg4)
      ∧ m' ((c.tc : Thread Cert.OutprojRefIdeal.nD Cert.OutprojRefIdeal.τ).loc Cert.OutprojRefIdeal.main_arg5) = m ((c.tc : Thread Cert.OutprojIdeal.nD Cert.OutprojIdeal.τ).loc Cert.OutprojIdeal.main_arg5)
      ∧ m' ((c.tc : Thread Cert.OutprojRefIdeal.nD Cert.OutprojRefIdeal.τ).loc Cert.OutprojRefIdeal.main_arg6) = m ((c.tc : Thread Cert.OutprojIdeal.nD Cert.OutprojIdeal.τ).loc Cert.OutprojIdeal.main_arg6)
      ∧ m' ((c.tc : Thread Cert.OutprojRefIdeal.nD Cert.OutprojRefIdeal.τ).loc Cert.OutprojRefIdeal.main_arg7) = m ((c.tc : Thread Cert.OutprojIdeal.nD Cert.OutprojIdeal.τ).loc Cert.OutprojIdeal.main_arg7)
      ∧ m' ((c.tc : Thread Cert.OutprojRefIdeal.nD Cert.OutprojRefIdeal.τ).loc Cert.OutprojRefIdeal.main_arg8) = m ((c.tc : Thread Cert.OutprojIdeal.nD Cert.OutprojIdeal.τ).loc Cert.OutprojIdeal.main_arg8)
      ∧ m' ((c.tc : Thread Cert.OutprojRefIdeal.nD Cert.OutprojRefIdeal.τ).loc Cert.OutprojRefIdeal.main_arg9) = m ((c.tc : Thread Cert.OutprojIdeal.nD Cert.OutprojIdeal.τ).loc Cert.OutprojIdeal.main_arg9)) →
    ∃ (v0 : (c : Dev Cert.OutprojIdeal.nD) → Buf (Elt Ideal) ((c.tc : Thread Cert.OutprojIdeal.nD Cert.OutprojIdeal.τ).loc Cert.OutprojIdeal.main_v13_0)) (v1 : (c : Dev Cert.OutprojIdeal.nD) → Buf (Elt Ideal) ((c.tc : Thread Cert.OutprojIdeal.nD Cert.OutprojIdeal.τ).loc Cert.OutprojIdeal.main_v13_1)),
      θ_run (Cert.OutprojIdeal.defs (F := Ideal)) (onTc (τ := Cert.OutprojIdeal.τ) (Cert.OutprojIdeal.main (F := Ideal))) ⟨m, fun _ => 0, g⟩ (fun r => ∀ c : Dev Cert.OutprojIdeal.nD,
          r.2.mem ((c.tc : Thread Cert.OutprojIdeal.nD Cert.OutprojIdeal.τ).loc Cert.OutprojIdeal.main_v13_0) = v0 c
          ∧ r.2.mem ((c.tc : Thread Cert.OutprojIdeal.nD Cert.OutprojIdeal.τ).loc Cert.OutprojIdeal.main_v13_1) = v1 c
          ∧ r.2.mem ((c.tc : Thread Cert.OutprojIdeal.nD Cert.OutprojIdeal.τ).loc Cert.OutprojIdeal.main_arg0) = m ((c.tc : Thread Cert.OutprojIdeal.nD Cert.OutprojIdeal.τ).loc Cert.OutprojIdeal.main_arg0)
          ∧ r.2.mem ((c.tc : Thread Cert.OutprojIdeal.nD Cert.OutprojIdeal.τ).loc Cert.OutprojIdeal.main_arg1) = m ((c.tc : Thread Cert.OutprojIdeal.nD Cert.OutprojIdeal.τ).loc Cert.OutprojIdeal.main_arg1)
          ∧ r.2.mem ((c.tc : Thread Cert.OutprojIdeal.nD Cert.OutprojIdeal.τ).loc Cert.OutprojIdeal.main_arg2) = m ((c.tc : Thread Cert.OutprojIdeal.nD Cert.OutprojIdeal.τ).loc Cert.OutprojIdeal.main_arg2)
          ∧ r.2.mem ((c.tc : Thread Cert.OutprojIdeal.nD Cert.OutprojIdeal.τ).loc Cert.OutprojIdeal.main_arg3) = m ((c.tc : Thread Cert.OutprojIdeal.nD Cert.OutprojIdeal.τ).loc Cert.OutprojIdeal.main_arg3)
          ∧ r.2.mem ((c.tc : Thread Cert.OutprojIdeal.nD Cert.OutprojIdeal.τ).loc Cert.OutprojIdeal.main_arg4) = m ((c.tc : Thread Cert.OutprojIdeal.nD Cert.OutprojIdeal.τ).loc Cert.OutprojIdeal.main_arg4)
          ∧ r.2.mem ((c.tc : Thread Cert.OutprojIdeal.nD Cert.OutprojIdeal.τ).loc Cert.OutprojIdeal.main_arg5) = m ((c.tc : Thread Cert.OutprojIdeal.nD Cert.OutprojIdeal.τ).loc Cert.OutprojIdeal.main_arg5)
          ∧ r.2.mem ((c.tc : Thread Cert.OutprojIdeal.nD Cert.OutprojIdeal.τ).loc Cert.OutprojIdeal.main_arg6) = m ((c.tc : Thread Cert.OutprojIdeal.nD Cert.OutprojIdeal.τ).loc Cert.OutprojIdeal.main_arg6)
          ∧ r.2.mem ((c.tc : Thread Cert.OutprojIdeal.nD Cert.OutprojIdeal.τ).loc Cert.OutprojIdeal.main_arg7) = m ((c.tc : Thread Cert.OutprojIdeal.nD Cert.OutprojIdeal.τ).loc Cert.OutprojIdeal.main_arg7)
          ∧ r.2.mem ((c.tc : Thread Cert.OutprojIdeal.nD Cert.OutprojIdeal.τ).loc Cert.OutprojIdeal.main_arg8) = m ((c.tc : Thread Cert.OutprojIdeal.nD Cert.OutprojIdeal.τ).loc Cert.OutprojIdeal.main_arg8)
          ∧ r.2.mem ((c.tc : Thread Cert.OutprojIdeal.nD Cert.OutprojIdeal.τ).loc Cert.OutprojIdeal.main_arg9) = m ((c.tc : Thread Cert.OutprojIdeal.nD Cert.OutprojIdeal.τ).loc Cert.OutprojIdeal.main_arg9))
      ∧ θ_run (Cert.OutprojRefIdeal.defs (F := Ideal)) (onTc (τ := Cert.OutprojRefIdeal.τ) (Cert.OutprojRefIdeal.main (F := Ideal))) ⟨m', fun _ => 0, g'⟩ (fun r => ∀ c : Dev Cert.OutprojRefIdeal.nD,
          r.2.mem ((c.tc : Thread Cert.OutprojRefIdeal.nD Cert.OutprojRefIdeal.τ).loc Cert.OutprojRefIdeal.main_v29) = v0 c
          ∧ r.2.mem ((c.tc : Thread Cert.OutprojRefIdeal.nD Cert.OutprojRefIdeal.τ).loc Cert.OutprojRefIdeal.main_v30) = v1 c
          ∧ r.2.mem ((c.tc : Thread Cert.OutprojRefIdeal.nD Cert.OutprojRefIdeal.τ).loc Cert.OutprojRefIdeal.main_arg0) = m' ((c.tc : Thread Cert.OutprojRefIdeal.nD Cert.OutprojRefIdeal.τ).loc Cert.OutprojRefIdeal.main_arg0)
          ∧ r.2.mem ((c.tc : Thread Cert.OutprojRefIdeal.nD Cert.OutprojRefIdeal.τ).loc Cert.OutprojRefIdeal.main_arg1) = m' ((c.tc : Thread Cert.OutprojRefIdeal.nD Cert.OutprojRefIdeal.τ).loc Cert.OutprojRefIdeal.main_arg1)
          ∧ r.2.mem ((c.tc : Thread Cert.OutprojRefIdeal.nD Cert.OutprojRefIdeal.τ).loc Cert.OutprojRefIdeal.main_arg2) = m' ((c.tc : Thread Cert.OutprojRefIdeal.nD Cert.OutprojRefIdeal.τ).loc Cert.OutprojRefIdeal.main_arg2)
          ∧ r.2.mem ((c.tc : Thread Cert.OutprojRefIdeal.nD Cert.OutprojRefIdeal.τ).loc Cert.OutprojRefIdeal.main_arg3) = m' ((c.tc : Thread Cert.OutprojRefIdeal.nD Cert.OutprojRefIdeal.τ).loc Cert.OutprojRefIdeal.main_arg3)
          ∧ r.2.mem ((c.tc : Thread Cert.OutprojRefIdeal.nD Cert.OutprojRefIdeal.τ).loc Cert.OutprojRefIdeal.main_arg4) = m' ((c.tc : Thread Cert.OutprojRefIdeal.nD Cert.OutprojRefIdeal.τ).loc Cert.OutprojRefIdeal.main_arg4)
          ∧ r.2.mem ((c.tc : Thread Cert.OutprojRefIdeal.nD Cert.OutprojRefIdeal.τ).loc Cert.OutprojRefIdeal.main_arg5) = m' ((c.tc : Thread Cert.OutprojRefIdeal.nD Cert.OutprojRefIdeal.τ).loc Cert.OutprojRefIdeal.main_arg5)
          ∧ r.2.mem ((c.tc : Thread Cert.OutprojRefIdeal.nD Cert.OutprojRefIdeal.τ).loc Cert.OutprojRefIdeal.main_arg6) = m' ((c.tc : Thread Cert.OutprojRefIdeal.nD Cert.OutprojRefIdeal.τ).loc Cert.OutprojRefIdeal.main_arg6)
          ∧ r.2.mem ((c.tc : Thread Cert.OutprojRefIdeal.nD Cert.OutprojRefIdeal.τ).loc Cert.OutprojRefIdeal.main_arg7) = m' ((c.tc : Thread Cert.OutprojRefIdeal.nD Cert.OutprojRefIdeal.τ).loc Cert.OutprojRefIdeal.main_arg7)
          ∧ r.2.mem ((c.tc : Thread Cert.OutprojRefIdeal.nD Cert.OutprojRefIdeal.τ).loc Cert.OutprojRefIdeal.main_arg8) = m' ((c.tc : Thread Cert.OutprojRefIdeal.nD Cert.OutprojRefIdeal.τ).loc Cert.OutprojRefIdeal.main_arg8)
          ∧ r.2.mem ((c.tc : Thread Cert.OutprojRefIdeal.nD Cert.OutprojRefIdeal.τ).loc Cert.OutprojRefIdeal.main_arg9) = m' ((c.tc : Thread Cert.OutprojRefIdeal.nD Cert.OutprojRefIdeal.τ).loc Cert.OutprojRefIdeal.main_arg9))

def preserves_Adaln_AdalnIdeal : Prop :=
  True

def algebraic_AdalnIdeal_AdalnRefIdeal [hAdalnIdeal : Cert.AdalnIdeal.Facts] [hAdalnRefIdeal : Cert.AdalnRefIdeal.Facts] : Prop :=
  ∀ (m : (ℓ : Loc Cert.AdalnIdeal.nD Cert.AdalnIdeal.τ Cert.AdalnIdeal.sig) → Buf (Elt Ideal) ℓ) (g : Dev Cert.AdalnIdeal.nD → PrngReg)
    (m' : (ℓ : Loc Cert.AdalnRefIdeal.nD Cert.AdalnRefIdeal.τ Cert.AdalnRefIdeal.sig) → Buf (Elt Ideal) ℓ) (g' : Dev Cert.AdalnRefIdeal.nD → PrngReg), Pre_AdalnIdeal m →
    (∀ c : Dev Cert.AdalnIdeal.nD,
      m' ((c.tc : Thread Cert.AdalnRefIdeal.nD Cert.AdalnRefIdeal.τ).loc Cert.AdalnRefIdeal.main_arg0) = m ((c.tc : Thread Cert.AdalnIdeal.nD Cert.AdalnIdeal.τ).loc Cert.AdalnIdeal.main_arg0)
      ∧ m' ((c.tc : Thread Cert.AdalnRefIdeal.nD Cert.AdalnRefIdeal.τ).loc Cert.AdalnRefIdeal.main_arg1) = m ((c.tc : Thread Cert.AdalnIdeal.nD Cert.AdalnIdeal.τ).loc Cert.AdalnIdeal.main_arg1)
      ∧ m' ((c.tc : Thread Cert.AdalnRefIdeal.nD Cert.AdalnRefIdeal.τ).loc Cert.AdalnRefIdeal.main_arg2) = m ((c.tc : Thread Cert.AdalnIdeal.nD Cert.AdalnIdeal.τ).loc Cert.AdalnIdeal.main_arg2)) →
    ∃ (v0 : (c : Dev Cert.AdalnIdeal.nD) → Buf (Elt Ideal) ((c.tc : Thread Cert.AdalnIdeal.nD Cert.AdalnIdeal.τ).loc Cert.AdalnIdeal.main_v4)),
      θ_run (Cert.AdalnIdeal.defs (F := Ideal)) (onTc (τ := Cert.AdalnIdeal.τ) (Cert.AdalnIdeal.main (F := Ideal))) ⟨m, fun _ => 0, g⟩ (fun r => ∀ c : Dev Cert.AdalnIdeal.nD,
          r.2.mem ((c.tc : Thread Cert.AdalnIdeal.nD Cert.AdalnIdeal.τ).loc Cert.AdalnIdeal.main_v4) = v0 c
          ∧ r.2.mem ((c.tc : Thread Cert.AdalnIdeal.nD Cert.AdalnIdeal.τ).loc Cert.AdalnIdeal.main_arg0) = m ((c.tc : Thread Cert.AdalnIdeal.nD Cert.AdalnIdeal.τ).loc Cert.AdalnIdeal.main_arg0)
          ∧ r.2.mem ((c.tc : Thread Cert.AdalnIdeal.nD Cert.AdalnIdeal.τ).loc Cert.AdalnIdeal.main_arg1) = m ((c.tc : Thread Cert.AdalnIdeal.nD Cert.AdalnIdeal.τ).loc Cert.AdalnIdeal.main_arg1)
          ∧ r.2.mem ((c.tc : Thread Cert.AdalnIdeal.nD Cert.AdalnIdeal.τ).loc Cert.AdalnIdeal.main_arg2) = m ((c.tc : Thread Cert.AdalnIdeal.nD Cert.AdalnIdeal.τ).loc Cert.AdalnIdeal.main_arg2))
      ∧ θ_run (Cert.AdalnRefIdeal.defs (F := Ideal)) (onTc (τ := Cert.AdalnRefIdeal.τ) (Cert.AdalnRefIdeal.main (F := Ideal))) ⟨m', fun _ => 0, g'⟩ (fun r => ∀ c : Dev Cert.AdalnRefIdeal.nD,
          r.2.mem ((c.tc : Thread Cert.AdalnRefIdeal.nD Cert.AdalnRefIdeal.τ).loc Cert.AdalnRefIdeal.main_v6) = v0 c
          ∧ r.2.mem ((c.tc : Thread Cert.AdalnRefIdeal.nD Cert.AdalnRefIdeal.τ).loc Cert.AdalnRefIdeal.main_arg0) = m' ((c.tc : Thread Cert.AdalnRefIdeal.nD Cert.AdalnRefIdeal.τ).loc Cert.AdalnRefIdeal.main_arg0)
          ∧ r.2.mem ((c.tc : Thread Cert.AdalnRefIdeal.nD Cert.AdalnRefIdeal.τ).loc Cert.AdalnRefIdeal.main_arg1) = m' ((c.tc : Thread Cert.AdalnRefIdeal.nD Cert.AdalnRefIdeal.τ).loc Cert.AdalnRefIdeal.main_arg1)
          ∧ r.2.mem ((c.tc : Thread Cert.AdalnRefIdeal.nD Cert.AdalnRefIdeal.τ).loc Cert.AdalnRefIdeal.main_arg2) = m' ((c.tc : Thread Cert.AdalnRefIdeal.nD Cert.AdalnRefIdeal.τ).loc Cert.AdalnRefIdeal.main_arg2))

def preserves_Trig_TrigIdeal : Prop :=
  True

def algebraic_TrigIdeal_TrigRefIdeal [hTrigIdeal : Cert.TrigIdeal.Facts] [hTrigRefIdeal : Cert.TrigRefIdeal.Facts] : Prop :=
  ∀ (m : (ℓ : Loc Cert.TrigIdeal.nD Cert.TrigIdeal.τ Cert.TrigIdeal.sig) → Buf (Elt Ideal) ℓ) (g : Dev Cert.TrigIdeal.nD → PrngReg)
    (m' : (ℓ : Loc Cert.TrigRefIdeal.nD Cert.TrigRefIdeal.τ Cert.TrigRefIdeal.sig) → Buf (Elt Ideal) ℓ) (g' : Dev Cert.TrigRefIdeal.nD → PrngReg), Pre_TrigIdeal m →
    (∀ c : Dev Cert.TrigIdeal.nD,
      m' ((c.tc : Thread Cert.TrigRefIdeal.nD Cert.TrigRefIdeal.τ).loc Cert.TrigRefIdeal.main_arg0) = m ((c.tc : Thread Cert.TrigIdeal.nD Cert.TrigIdeal.τ).loc Cert.TrigIdeal.main_arg0)) →
    ∃ (v0 : (c : Dev Cert.TrigIdeal.nD) → Buf (Elt Ideal) ((c.tc : Thread Cert.TrigIdeal.nD Cert.TrigIdeal.τ).loc Cert.TrigIdeal.main_v13_0)) (v1 : (c : Dev Cert.TrigIdeal.nD) → Buf (Elt Ideal) ((c.tc : Thread Cert.TrigIdeal.nD Cert.TrigIdeal.τ).loc Cert.TrigIdeal.main_v13_1)),
      θ_run (Cert.TrigIdeal.defs (F := Ideal)) (onTc (τ := Cert.TrigIdeal.τ) (Cert.TrigIdeal.main (F := Ideal))) ⟨m, fun _ => 0, g⟩ (fun r => ∀ c : Dev Cert.TrigIdeal.nD,
          r.2.mem ((c.tc : Thread Cert.TrigIdeal.nD Cert.TrigIdeal.τ).loc Cert.TrigIdeal.main_v13_0) = v0 c
          ∧ r.2.mem ((c.tc : Thread Cert.TrigIdeal.nD Cert.TrigIdeal.τ).loc Cert.TrigIdeal.main_v13_1) = v1 c
          ∧ r.2.mem ((c.tc : Thread Cert.TrigIdeal.nD Cert.TrigIdeal.τ).loc Cert.TrigIdeal.main_arg0) = m ((c.tc : Thread Cert.TrigIdeal.nD Cert.TrigIdeal.τ).loc Cert.TrigIdeal.main_arg0))
      ∧ θ_run (Cert.TrigRefIdeal.defs (F := Ideal)) (onTc (τ := Cert.TrigRefIdeal.τ) (Cert.TrigRefIdeal.main (F := Ideal))) ⟨m', fun _ => 0, g'⟩ (fun r => ∀ c : Dev Cert.TrigRefIdeal.nD,
          r.2.mem ((c.tc : Thread Cert.TrigRefIdeal.nD Cert.TrigRefIdeal.τ).loc Cert.TrigRefIdeal.main_v18) = v0 c
          ∧ r.2.mem ((c.tc : Thread Cert.TrigRefIdeal.nD Cert.TrigRefIdeal.τ).loc Cert.TrigRefIdeal.main_v21) = v1 c
          ∧ r.2.mem ((c.tc : Thread Cert.TrigRefIdeal.nD Cert.TrigRefIdeal.τ).loc Cert.TrigRefIdeal.main_arg0) = m' ((c.tc : Thread Cert.TrigRefIdeal.nD Cert.TrigRefIdeal.τ).loc Cert.TrigRefIdeal.main_arg0))

def Claim : Prop :=
  ∃ (hKernel : Cert.Kernel.Facts) (hKernelIdeal : Cert.KernelIdeal.Facts) (hReferenceIdeal : Cert.ReferenceIdeal.Facts) (hCombine : Cert.Combine.Facts) (hCombineIdeal : Cert.CombineIdeal.Facts) (hCombineRefIdeal : Cert.CombineRefIdeal.Facts) (hInprojR : Cert.InprojR.Facts) (hInprojRIdeal : Cert.InprojRIdeal.Facts) (hInprojRRefIdeal : Cert.InprojRRefIdeal.Facts) (hInprojT : Cert.InprojT.Facts) (hInprojTIdeal : Cert.InprojTIdeal.Facts) (hInprojTRefIdeal : Cert.InprojTRefIdeal.Facts) (hOutproj : Cert.Outproj.Facts) (hOutprojIdeal : Cert.OutprojIdeal.Facts) (hOutprojRefIdeal : Cert.OutprojRefIdeal.Facts) (hAdaln : Cert.Adaln.Facts) (hAdalnIdeal : Cert.AdalnIdeal.Facts) (hAdalnRefIdeal : Cert.AdalnRefIdeal.Facts) (hTrig : Cert.Trig.Facts) (hTrigIdeal : Cert.TrigIdeal.Facts) (hTrigRefIdeal : Cert.TrigRefIdeal.Facts) (hPre_in_range : Cert.Pre_in_range.Facts) (hPre_rows_in_range : Cert.Pre_rows_in_range.Facts),
    quiescent_Kernel (hKernel := hKernel) (hPre_in_range := hPre_in_range)
    ∧ quiescent_KernelIdeal (hKernelIdeal := hKernelIdeal) (hPre_in_range := hPre_in_range)
    ∧ quiescent_ReferenceIdeal (hReferenceIdeal := hReferenceIdeal) (hPre_in_range := hPre_in_range)
    ∧ quiescent_Combine (hCombine := hCombine) (hPre_rows_in_range := hPre_rows_in_range)
    ∧ quiescent_CombineIdeal (hCombineIdeal := hCombineIdeal) (hPre_rows_in_range := hPre_rows_in_range)
    ∧ quiescent_CombineRefIdeal (hCombineRefIdeal := hCombineRefIdeal) (hPre_rows_in_range := hPre_rows_in_range)
    ∧ quiescent_InprojR (hInprojR := hInprojR)
    ∧ quiescent_InprojRIdeal (hInprojRIdeal := hInprojRIdeal)
    ∧ quiescent_InprojRRefIdeal (hInprojRRefIdeal := hInprojRRefIdeal)
    ∧ quiescent_InprojT (hInprojT := hInprojT)
    ∧ quiescent_InprojTIdeal (hInprojTIdeal := hInprojTIdeal)
    ∧ quiescent_InprojTRefIdeal (hInprojTRefIdeal := hInprojTRefIdeal)
    ∧ quiescent_Outproj (hOutproj := hOutproj)
    ∧ quiescent_OutprojIdeal (hOutprojIdeal := hOutprojIdeal)
    ∧ quiescent_OutprojRefIdeal (hOutprojRefIdeal := hOutprojRefIdeal)
    ∧ quiescent_Adaln (hAdaln := hAdaln)
    ∧ quiescent_AdalnIdeal (hAdalnIdeal := hAdalnIdeal)
    ∧ quiescent_AdalnRefIdeal (hAdalnRefIdeal := hAdalnRefIdeal)
    ∧ quiescent_Trig (hTrig := hTrig)
    ∧ quiescent_TrigIdeal (hTrigIdeal := hTrigIdeal)
    ∧ quiescent_TrigRefIdeal (hTrigRefIdeal := hTrigRefIdeal)
    ∧ preserves_Kernel_KernelIdeal
    ∧ algebraic_KernelIdeal_ReferenceIdeal (hKernelIdeal := hKernelIdeal) (hReferenceIdeal := hReferenceIdeal) (hPre_in_range := hPre_in_range)
    ∧ preserves_Combine_CombineIdeal
    ∧ algebraic_CombineIdeal_CombineRefIdeal (hCombineIdeal := hCombineIdeal) (hCombineRefIdeal := hCombineRefIdeal) (hPre_rows_in_range := hPre_rows_in_range)
    ∧ preserves_InprojR_InprojRIdeal
    ∧ algebraic_InprojRIdeal_InprojRRefIdeal (hInprojRIdeal := hInprojRIdeal) (hInprojRRefIdeal := hInprojRRefIdeal)
    ∧ preserves_InprojT_InprojTIdeal
    ∧ algebraic_InprojTIdeal_InprojTRefIdeal (hInprojTIdeal := hInprojTIdeal) (hInprojTRefIdeal := hInprojTRefIdeal)
    ∧ preserves_Outproj_OutprojIdeal
    ∧ algebraic_OutprojIdeal_OutprojRefIdeal (hOutprojIdeal := hOutprojIdeal) (hOutprojRefIdeal := hOutprojRefIdeal)
    ∧ preserves_Adaln_AdalnIdeal
    ∧ algebraic_AdalnIdeal_AdalnRefIdeal (hAdalnIdeal := hAdalnIdeal) (hAdalnRefIdeal := hAdalnRefIdeal)
    ∧ preserves_Trig_TrigIdeal
    ∧ algebraic_TrigIdeal_TrigRefIdeal (hTrigIdeal := hTrigIdeal) (hTrigRefIdeal := hTrigRefIdeal)
-- ==== Pre_in_range.lean ====
abbrev S288 : Shape := ⟨1, ![288]⟩
abbrev S1 : Shape := ⟨1, ![1]⟩
abbrev S73728x1024 : Shape := ⟨2, ![73728, 1024]⟩
abbrev S32x1024x2048 : Shape := ⟨3, ![32, 1024, 2048]⟩
abbrev S32x1x2048 : Shape := ⟨3, ![32, 1, 2048]⟩
abbrev S32x1024x1024 : Shape := ⟨3, ![32, 1024, 1024]⟩
abbrev S32x1x1024 : Shape := ⟨3, ![32, 1, 1024]⟩
abbrev S_ : Shape := ⟨0, ![]⟩

class Facts : Prop where
  bcast_S_S288 : S_.BroadcastsInDim S288 (![] : Fin 0 → Fin S288.rank)
  reducesTo_S288_S_d0 : S288.ReducesTo [0] S_
  h_S_ : 0 < S_.numel

variable [Facts]

def fn {F : FTy → Type} [FloatOps F] (main_arg0 : IVec S288 32) (main_arg1 : IVec S1 32) (main_arg2 : FVec F S73728x1024 .f32) (main_arg3 : FVec F S32x1024x2048 .f32) (main_arg4 : FVec F S32x1x2048 .f32) (main_arg5 : FVec F S32x1024x1024 .f32) (main_arg6 : FVec F S32x1x1024 .f32) : IVec S_ 1 :=
  let main_c : IVec S_ 32 := constantI S_ 32 0#32
  let main_v0 : IVec S288 32 := broadcastInDim S288 ![] bcast_S_S288 main_c
  let main_v1 : IVec S288 1 := cmpi .sge main_arg0 main_v0
  let main_c_0 : IVec S_ 32 := constantI S_ 32 32#32
  let main_v2 : IVec S288 32 := broadcastInDim S288 ![] bcast_S_S288 main_c_0
  let main_v3 : IVec S288 1 := cmpi .slt main_arg0 main_v2
  let main_v4 : IVec S288 1 := andi main_v1 main_v3
  let main_c_1 : IVec S_ 1 := constantI S_ 1 1#1
  let main_v5 : IVec S_ 1 := (fun x v => Host.reduce IntOp.andi x v reducesTo_S288_S_d0 h_S_) main_v4 main_c_1
  main_v5
-- ==== Pre_rows_in_range.lean ====
abbrev S65536 : Shape := ⟨1, ![65536]⟩
abbrev S73728x1024 : Shape := ⟨2, ![73728, 1024]⟩
abbrev S16384x128 : Shape := ⟨2, ![16384, 128]⟩
abbrev S16384x1024 : Shape := ⟨2, ![16384, 1024]⟩
abbrev S4x1024 : Shape := ⟨2, ![4, 1024]⟩
abbrev S1024 : Shape := ⟨1, ![1024]⟩
abbrev S_ : Shape := ⟨0, ![]⟩

class Facts : Prop where
  bcast_S_S65536 : S_.BroadcastsInDim S65536 (![] : Fin 0 → Fin S65536.rank)
  reducesTo_S65536_S_d0 : S65536.ReducesTo [0] S_
  h_S_ : 0 < S_.numel

variable [Facts]

def fn {F : FTy → Type} [FloatOps F] (main_arg0 : IVec S65536 32) (main_arg1 : FVec F S73728x1024 .f32) (main_arg2 : FVec F S16384x128 .f32) (main_arg3 : FVec F S16384x1024 .f32) (main_arg4 : FVec F S4x1024 .f32) (main_arg5 : FVec F S1024 .f32) : IVec S_ 1 :=
  let main_c : IVec S_ 32 := constantI S_ 32 0#32
  let main_v0 : IVec S65536 32 := broadcastInDim S65536 ![] bcast_S_S65536 main_c
  let main_v1 : IVec S65536 1 := cmpi .sge main_arg0 main_v0
  let main_c_0 : IVec S_ 32 := constantI S_ 32 73728#32
  let main_v2 : IVec S65536 32 := broadcastInDim S65536 ![] bcast_S_S65536 main_c_0
  let main_v3 : IVec S65536 1 := cmpi .slt main_arg0 main_v2
  let main_v4 : IVec S65536 1 := andi main_v1 main_v3
  let main_c_1 : IVec S_ 1 := constantI S_ 1 1#1
  let main_v5 : IVec S_ 1 := (fun x v => Host.reduce IntOp.andi x v reducesTo_S65536_S_d0 h_S_) main_v4 main_c_1
  main_v5
-- ==== Kernel.lean ====
abbrev S288 : Shape := ⟨1, ![288]⟩
abbrev S1 : Shape := ⟨1, ![1]⟩
abbrev S73728x1024 : Shape := ⟨2, ![73728, 1024]⟩
abbrev S32x1024x2048 : Shape := ⟨3, ![32, 1024, 2048]⟩
abbrev S32x1x2048 : Shape := ⟨3, ![32, 1, 2048]⟩
abbrev S32x1024x1024 : Shape := ⟨3, ![32, 1024, 1024]⟩
abbrev S32x1x1024 : Shape := ⟨3, ![32, 1, 1024]⟩
abbrev S256x1024 : Shape := ⟨2, ![256, 1024]⟩
abbrev S1x1024x2048 : Shape := ⟨3, ![1, 1024, 2048]⟩
abbrev S1x1x2048 : Shape := ⟨3, ![1, 1, 2048]⟩
abbrev S1x1024x1024 : Shape := ⟨3, ![1, 1024, 1024]⟩
abbrev S1x1x1024 : Shape := ⟨3, ![1, 1, 1024]⟩
abbrev S1024x2048 : Shape := ⟨2, ![1024, 2048]⟩
abbrev S1024x1024 : Shape := ⟨2, ![1024, 1024]⟩
abbrev S256x2048 : Shape := ⟨2, ![256, 2048]⟩
abbrev S1x2048 : Shape := ⟨2, ![1, 2048]⟩
abbrev S1x1024 : Shape := ⟨2, ![1, 1024]⟩

abbrev nBuf : Space → Nat
  | .hbm => 6
  | .vmem => 14
  | .smem => 2
  | _ => 0

abbrev bufTy : (tb : Table) → Fin (tcTables nBuf tb) → BufTy
  | .hbm, ⟨0, _⟩ => ⟨S73728x1024, .f32⟩
  | .hbm, ⟨1, _⟩ => ⟨S32x1024x2048, .f32⟩
  | .hbm, ⟨2, _⟩ => ⟨S32x1x2048, .f32⟩
  | .hbm, ⟨3, _⟩ => ⟨S32x1024x1024, .f32⟩
  | .hbm, ⟨4, _⟩ => ⟨S32x1x1024, .f32⟩
  | .hbm, ⟨5, _⟩ => ⟨S73728x1024, .f32⟩
  | .local _ .vmem, ⟨0, _⟩ => ⟨S256x1024, .f32⟩
  | .local _ .vmem, ⟨1, _⟩ => ⟨S256x1024, .f32⟩
  | .local _ .vmem, ⟨2, _⟩ => ⟨S1x1024x2048, .f32⟩
  | .local _ .vmem, ⟨3, _⟩ => ⟨S1x1024x2048, .f32⟩
  | .local _ .vmem, ⟨4, _⟩ => ⟨S1x1x2048, .f32⟩
  | .local _ .vmem, ⟨5, _⟩ => ⟨S1x1x2048, .f32⟩
  | .local _ .vmem, ⟨6, _⟩ => ⟨S1x1024x1024, .f32⟩
  | .local _ .vmem, ⟨7, _⟩ => ⟨S1x1024x1024, .f32⟩
  | .local _ .vmem, ⟨8, _⟩ => ⟨S1x1x1024, .f32⟩
  | .local _ .vmem, ⟨9, _⟩ => ⟨S1x1x1024, .f32⟩
  | .local _ .vmem, ⟨10, _⟩ => ⟨S256x1024, .f32⟩
  | .local _ .vmem, ⟨11, _⟩ => ⟨S256x1024, .f32⟩
  | .local _ .vmem, ⟨12, _⟩ => ⟨S1024x2048, .bf16⟩
  | .local _ .vmem, ⟨13, _⟩ => ⟨S1024x1024, .bf16⟩
  | .local _ .smem, ⟨0, _⟩ => ⟨S288, .i32⟩
  | .local _ .smem, ⟨1, _⟩ => ⟨S1, .i32⟩
  | _, _ => ⟨S73728x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg2 : Ref sig .tc := ⟨.hbm, 0, rfl⟩
abbrev main_arg3 : Ref sig .tc := ⟨.hbm, 1, rfl⟩
abbrev main_arg4 : Ref sig .tc := ⟨.hbm, 2, rfl⟩
abbrev main_arg5 : Ref sig .tc := ⟨.hbm, 3, rfl⟩
abbrev main_arg6 : Ref sig .tc := ⟨.hbm, 4, rfl⟩
abbrev main_v0 : Ref sig .tc := ⟨.hbm, 5, rfl⟩
abbrev main_arg0 : Ref sig .tc := ⟨.smem, 0, rfl⟩
abbrev main_arg1 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_scratch1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨1, ![288], ![false]⟩

abbrev pre0 : Pipeline.Prefetch sig := ⟨2, ![main_arg0.idx, main_arg1.idx], fun | 0 => main_arg0.names | 1 => main_arg1.names | ⟨_ + 2, h⟩ => absurd h (Nat.not_lt.2 (Nat.le_add_left _ _)), fun | 0 => rfl | 1 => rfl | ⟨_ + 2, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def k0_off2 (i : grid0.Coords) : Fin 1 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let v2 : Index := Scalar.indexCast v1
  ![v2.toNat]
def k0_cond2 (i : grid0.Coords) (v9 : BitVec 32) : BitVec 1 :=
  let arg0 : BitVec 32 := BitVec.ofNat 32 (i 0).val
  let v10 : BitVec 1 := Scalar.cmpi .slt arg0 v9
  let v14 : BitVec 32 := Scalar.extui v10
  let c0_i32_2 : BitVec 32 := 0#32
  let v15 : BitVec 1 := Scalar.cmpi .ne v14 c0_i32_2
  v15

def k0_cond3 (i : grid0.Coords) (v9 : BitVec 32) : BitVec 1 :=
  let arg0 : BitVec 32 := BitVec.ofNat 32 (i 0).val
  let v10 : BitVec 1 := Scalar.cmpi .slt arg0 v9
  let v_true : BitVec 1 := 1#1
  let v16 : BitVec 1 := Scalar.xori v10 v_true
  let v17 : BitVec 32 := Scalar.extui v16
  let c0_i32_3 : BitVec 32 := 0#32
  let v18 : BitVec 1 := Scalar.cmpi .ne v17 c0_i32_3
  v18

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (k0_off1_inb : ∀ i : grid0.Coords, ∀ a, (k0_off1 i) a + S1.size a ≤ S288.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S288) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_2 (k0_off1_inb : ∀ i : grid0.Coords, ∀ a, (k0_off1 i) a + S1.size a ≤ S288.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S288) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_3 (k0_off1_inb : ∀ i : grid0.Coords, ∀ a, (k0_off1 i) a + S1.size a ≤ S288.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S288) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_4 (k0_off1_inb : ∀ i : grid0.Coords, ∀ a, (k0_off1 i) a + S1.size a ≤ S288.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S288) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1024x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x1x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== ReferenceIdeal.lean ====
abbrev S288 : Shape := ⟨1, ![288]⟩
abbrev S1 : Shape := ⟨1, ![1]⟩
abbrev S73728x1024 : Shape := ⟨2, ![73728, 1024]⟩
abbrev S32x1024x2048 : Shape := ⟨3, ![32, 1024, 2048]⟩
abbrev S32x1x2048 : Shape := ⟨3, ![32, 1, 2048]⟩
abbrev S32x1024x1024 : Shape := ⟨3, ![32, 1024, 1024]⟩
abbrev S32x1x1024 : Shape := ⟨3, ![32, 1, 1024]⟩
abbrev S288x256x1024 : Shape := ⟨3, ![288, 256, 1024]⟩
abbrev S_ : Shape := ⟨0, ![]⟩
abbrev S288x1 : Shape := ⟨2, ![288, 1]⟩
abbrev S288x1024x2048 : Shape := ⟨3, ![288, 1024, 2048]⟩
abbrev S288x256x2048 : Shape := ⟨3, ![288, 256, 2048]⟩
abbrev S288x1x2048 : Shape := ⟨3, ![288, 1, 2048]⟩
abbrev S288x1024x1024 : Shape := ⟨3, ![288, 1024, 1024]⟩
abbrev S288x1x1024 : Shape := ⟨3, ![288, 1, 1024]⟩
abbrev S288x1x1 : Shape := ⟨3, ![288, 1, 1]⟩

abbrev nBuf : Space → Nat
  | .hbm => 90
  | .vmem => 0
  | .smem => 0
  | _ => 0

abbrev bufTy : (tb : Table) → Fin (tcTables nBuf tb) → BufTy
  | .hbm, ⟨0, _⟩ => ⟨S288, .i32⟩
  | .hbm, ⟨1, _⟩ => ⟨S1, .i32⟩
  | .hbm, ⟨2, _⟩ => ⟨S73728x1024, .f32⟩
  | .hbm, ⟨3, _⟩ => ⟨S32x1024x2048, .f32⟩
  | .hbm, ⟨4, _⟩ => ⟨S32x1x2048, .f32⟩
  | .hbm, ⟨5, _⟩ => ⟨S32x1024x1024, .f32⟩
  | .hbm, ⟨6, _⟩ => ⟨S32x1x1024, .f32⟩
  | .hbm, ⟨7, _⟩ => ⟨S288x256x1024, .f32⟩
  | .hbm, ⟨8, _⟩ => ⟨S_, .i32⟩
  | .hbm, ⟨9, _⟩ => ⟨S288, .i32⟩
  | .hbm, ⟨10, _⟩ => ⟨S288, .i1⟩
  | .hbm, ⟨11, _⟩ => ⟨S_, .i32⟩
  | .hbm, ⟨12, _⟩ => ⟨S288, .i32⟩
  | .hbm, ⟨13, _⟩ => ⟨S288, .i32⟩
  | .hbm, ⟨14, _⟩ => ⟨S288, .i32⟩
  | .hbm, ⟨15, _⟩ => ⟨S288x1, .i32⟩
  | .hbm, ⟨16, _⟩ => ⟨S288x1024x2048, .f32⟩
  | .hbm, ⟨17, _⟩ => ⟨S288x256x2048, .f32⟩
  | .hbm, ⟨18, _⟩ => ⟨S_, .i32⟩
  | .hbm, ⟨19, _⟩ => ⟨S288, .i32⟩
  | .hbm, ⟨20, _⟩ => ⟨S288, .i1⟩
  | .hbm, ⟨21, _⟩ => ⟨S_, .i32⟩
  | .hbm, ⟨22, _⟩ => ⟨S288, .i32⟩
  | .hbm, ⟨23, _⟩ => ⟨S288, .i32⟩
  | .hbm, ⟨24, _⟩ => ⟨S288, .i32⟩
  | .hbm, ⟨25, _⟩ => ⟨S288x1, .i32⟩
  | .hbm, ⟨26, _⟩ => ⟨S288x1x2048, .f32⟩
  | .hbm, ⟨27, _⟩ => ⟨S288x256x2048, .f32⟩
  | .hbm, ⟨28, _⟩ => ⟨S288x256x2048, .f32⟩
  | .hbm, ⟨29, _⟩ => ⟨S288x256x1024, .f32⟩
  | .hbm, ⟨30, _⟩ => ⟨S288x256x1024, .f32⟩
  | .hbm, ⟨31, _⟩ => ⟨S_, .f32⟩
  | .hbm, ⟨32, _⟩ => ⟨S288x256x1024, .f32⟩
  | .hbm, ⟨33, _⟩ => ⟨S288x256x1024, .f32⟩
  | .hbm, ⟨34, _⟩ => ⟨S_, .f32⟩
  | .hbm, ⟨35, _⟩ => ⟨S_, .f32⟩
  | .hbm, ⟨36, _⟩ => ⟨S_, .f32⟩
  | .hbm, ⟨37, _⟩ => ⟨S288x256x1024, .f32⟩
  | .hbm, ⟨38, _⟩ => ⟨S288x256x1024, .f32⟩
  | .hbm, ⟨39, _⟩ => ⟨S_, .f32⟩
  | .hbm, ⟨40, _⟩ => ⟨S288x256x1024, .f32⟩
  | .hbm, ⟨41, _⟩ => ⟨S288x256x1024, .f32⟩
  | .hbm, ⟨42, _⟩ => ⟨S_, .f32⟩
  | .hbm, ⟨43, _⟩ => ⟨S288x256x1024, .f32⟩
  | .hbm, ⟨44, _⟩ => ⟨S288x256x1024, .f32⟩
  | .hbm, ⟨45, _⟩ => ⟨S288x256x1024, .f32⟩
  | .hbm, ⟨46, _⟩ => ⟨S288x256x1024, .f32⟩
  | .hbm, ⟨47, _⟩ => ⟨S_, .f32⟩
  | .hbm, ⟨48, _⟩ => ⟨S288x256x1024, .f32⟩
  | .hbm, ⟨49, _⟩ => ⟨S288x256x1024, .f32⟩
  | .hbm, ⟨50, _⟩ => ⟨S_, .f32⟩
  | .hbm, ⟨51, _⟩ => ⟨S288x256x1024, .f32⟩
  | .hbm, ⟨52, _⟩ => ⟨S288x256x1024, .f32⟩
  | .hbm, ⟨53, _⟩ => ⟨S288x256x1024, .f32⟩
  | .hbm, ⟨54, _⟩ => ⟨S_, .f32⟩
  | .hbm, ⟨55, _⟩ => ⟨S288x256x1024, .f32⟩
  | .hbm, ⟨56, _⟩ => ⟨S288x256x1024, .f32⟩
  | .hbm, ⟨57, _⟩ => ⟨S288x256x1024, .f32⟩
  | .hbm, ⟨58, _⟩ => ⟨S_, .i32⟩
  | .hbm, ⟨59, _⟩ => ⟨S288, .i32⟩
  | .hbm, ⟨60, _⟩ => ⟨S288, .i1⟩
  | .hbm, ⟨61, _⟩ => ⟨S_, .i32⟩
  | .hbm, ⟨62, _⟩ => ⟨S288, .i32⟩
  | .hbm, ⟨63, _⟩ => ⟨S288, .i32⟩
  | .hbm, ⟨64, _⟩ => ⟨S288, .i32⟩
  | .hbm, ⟨65, _⟩ => ⟨S288x1, .i32⟩
  | .hbm, ⟨66, _⟩ => ⟨S288x1024x1024, .f32⟩
  | .hbm, ⟨67, _⟩ => ⟨S288x256x1024, .f32⟩
  | .hbm, ⟨68, _⟩ => ⟨S_, .i32⟩
  | .hbm, ⟨69, _⟩ => ⟨S288, .i32⟩
  | .hbm, ⟨70, _⟩ => ⟨S288, .i1⟩
  | .hbm, ⟨71, _⟩ => ⟨S_, .i32⟩
  | .hbm, ⟨72, _⟩ => ⟨S288, .i32⟩
  | .hbm, ⟨73, _⟩ => ⟨S288, .i32⟩
  | .hbm, ⟨74, _⟩ => ⟨S288, .i32⟩
  | .hbm, ⟨75, _⟩ => ⟨S288x1, .i32⟩
  | .hbm, ⟨76, _⟩ => ⟨S288x1x1024, .f32⟩
  | .hbm, ⟨77, _⟩ => ⟨S288x256x1024, .f32⟩
  | .hbm, ⟨78, _⟩ => ⟨S288x256x1024, .f32⟩
  | .hbm, ⟨79, _⟩ => ⟨S288, .i32⟩
  | .hbm, ⟨80, _⟩ => ⟨S_, .i32⟩
  | .hbm, ⟨81, _⟩ => ⟨S288, .i32⟩
  | .hbm, ⟨82, _⟩ => ⟨S288, .i1⟩
  | .hbm, ⟨83, _⟩ => ⟨S288x1x1, .i1⟩
  | .hbm, ⟨84, _⟩ => ⟨S_, .f32⟩
  | .hbm, ⟨85, _⟩ => ⟨S_, .f32⟩
  | .hbm, ⟨86, _⟩ => ⟨S288x256x1024, .i1⟩
  | .hbm, ⟨87, _⟩ => ⟨S288x256x1024, .f32⟩
  | .hbm, ⟨88, _⟩ => ⟨S288x256x1024, .f32⟩
  | .hbm, ⟨89, _⟩ => ⟨S73728x1024, .f32⟩
  | _, _ => ⟨S288, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_c : Ref sig .tc := ⟨.hbm, 8, rfl⟩
abbrev main_v1 : Ref sig .tc := ⟨.hbm, 9, rfl⟩
abbrev main_v2 : Ref sig .tc := ⟨.hbm, 10, rfl⟩
abbrev main_c_0 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_c_1 : Ref sig .tc := ⟨.hbm, 18, rfl⟩
abbrev main_v9 : Ref sig .tc := ⟨.hbm, 19, rfl⟩
abbrev main_v10 : Ref sig .tc := ⟨.hbm, 20, rfl⟩
abbrev main_c_2 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_cst : Ref sig .tc := ⟨.hbm, 31, rfl⟩
abbrev main_v20 : Ref sig .tc := ⟨.hbm, 32, rfl⟩
abbrev main_v21 : Ref sig .tc := ⟨.hbm, 33, rfl⟩
abbrev main_cst_3 : Ref sig .tc := ⟨.hbm, 34, rfl⟩
abbrev main_cst_4 : Ref sig .tc := ⟨.hbm, 35, rfl⟩
abbrev main_call0_v0 : Ref sig .tc := ⟨.hbm, 36, rfl⟩
abbrev main_call0_v1 : Ref sig .tc := ⟨.hbm, 37, rfl⟩
abbrev main_call0_v2 : Ref sig .tc := ⟨.hbm, 38, rfl⟩
abbrev main_call0_v3 : Ref sig .tc := ⟨.hbm, 39, rfl⟩
abbrev main_call0_v4 : Ref sig .tc := ⟨.hbm, 40, rfl⟩
abbrev main_v22 : Ref sig .tc := ⟨.hbm, 41, rfl⟩
abbrev main_cst_5 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_cst_6 : Ref sig .tc := ⟨.hbm, 47, rfl⟩
abbrev main_v27 : Ref sig .tc := ⟨.hbm, 48, rfl⟩
abbrev main_v28 : Ref sig .tc := ⟨.hbm, 49, rfl⟩
abbrev main_cst_7 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_cst_8 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_c_9 : Ref sig .tc := ⟨.hbm, 58, rfl⟩
abbrev main_v35 : Ref sig .tc := ⟨.hbm, 59, rfl⟩
abbrev main_v36 : Ref sig .tc := ⟨.hbm, 60, rfl⟩
abbrev main_c_10 : Ref sig .tc := ⟨.hbm, 61, rfl⟩
abbrev main_v37 : Ref sig .tc := ⟨.hbm, 62, rfl⟩
abbrev main_v38 : Ref sig .tc := ⟨.hbm, 63, rfl⟩
abbrev main_v39 : Ref sig .tc := ⟨.hbm, 64, rfl⟩
abbrev main_v40 : Ref sig .tc := ⟨.hbm, 65, rfl⟩
abbrev main_v41 : Ref sig .tc := ⟨.hbm, 66, rfl⟩
abbrev main_v42 : Ref sig .tc := ⟨.hbm, 67, rfl⟩
abbrev main_c_11 : Ref sig .tc := ⟨.hbm, 68, rfl⟩
abbrev main_v43 : Ref sig .tc := ⟨.hbm, 69, rfl⟩
abbrev main_v44 : Ref sig .tc := ⟨.hbm, 70, rfl⟩
abbrev main_c_12 : Ref sig .tc := ⟨.hbm, 71, rfl⟩
abbrev main_v45 : Ref sig .tc := ⟨.hbm, 72, rfl⟩
abbrev main_v46 : Ref sig .tc := ⟨.hbm, 73, rfl⟩
abbrev main_v47 : Ref sig .tc := ⟨.hbm, 74, rfl⟩
abbrev main_v48 : Ref sig .tc := ⟨.hbm, 75, rfl⟩
abbrev main_v49 : Ref sig .tc := ⟨.hbm, 76, rfl⟩
abbrev main_v50 : Ref sig .tc := ⟨.hbm, 77, rfl⟩
abbrev main_v51 : Ref sig .tc := ⟨.hbm, 78, rfl⟩
abbrev main_v52 : Ref sig .tc := ⟨.hbm, 79, rfl⟩
abbrev main_v53 : Ref sig .tc := ⟨.hbm, 80, rfl⟩
abbrev main_v54 : Ref sig .tc := ⟨.hbm, 81, rfl⟩
abbrev main_v55 : Ref sig .tc := ⟨.hbm, 82, rfl⟩
abbrev main_v56 : Ref sig .tc := ⟨.hbm, 83, rfl⟩
abbrev main_cst_13 : Ref sig .tc := ⟨.hbm, 84, rfl⟩
abbrev main_call1_v0 : Ref sig .tc := ⟨.hbm, 85, rfl⟩
abbrev main_call1_v1 : Ref sig .tc := ⟨.hbm, 86, rfl⟩
abbrev main_call1_v2 : Ref sig .tc := ⟨.hbm, 87, rfl⟩
abbrev main_v57 : Ref sig .tc := ⟨.hbm, 88, rfl⟩
abbrev main_v58 : Ref sig .tc := ⟨.hbm, 89, rfl⟩

abbrev nD : Nat := 1
abbrev τ : Topo := Topo.v7x

variable {F : FTy → Type} [FloatOps F]
-- ==== Combine.lean ====
abbrev S65536 : Shape := ⟨1, ![65536]⟩
abbrev S73728x1024 : Shape := ⟨2, ![73728, 1024]⟩
abbrev S16384x128 : Shape := ⟨2, ![16384, 128]⟩
abbrev S16384x1024 : Shape := ⟨2, ![16384, 1024]⟩
abbrev S4x1024 : Shape := ⟨2, ![4, 1024]⟩
abbrev S1024 : Shape := ⟨1, ![1024]⟩
abbrev S4x1x1024 : Shape := ⟨3, ![4, 1, 1024]⟩
abbrev S1x1024 : Shape := ⟨2, ![1, 1024]⟩
abbrev S256x128 : Shape := ⟨2, ![256, 128]⟩
abbrev S256x1024 : Shape := ⟨2, ![256, 1024]⟩
abbrev S1x1x1024 : Shape := ⟨3, ![1, 1, 1024]⟩
abbrev S4x256x1024 : Shape := ⟨3, ![4, 256, 1024]⟩
abbrev S_ : Shape := ⟨0, ![]⟩
abbrev S1 : Shape := ⟨1, ![1]⟩
abbrev S256x1 : Shape := ⟨2, ![256, 1]⟩
abbrev S1x256x1024 : Shape := ⟨3, ![1, 256, 1024]⟩
abbrev S256 : Shape := ⟨1, ![256]⟩

abbrev nBuf : Space → Nat
  | .hbm => 9
  | .vmem => 10
  | .smem => 2
  | _ => 0

abbrev bufTy : (tb : Table) → Fin (tcTables nBuf tb) → BufTy
  | .hbm, ⟨0, _⟩ => ⟨S65536, .i32⟩
  | .hbm, ⟨1, _⟩ => ⟨S73728x1024, .f32⟩
  | .hbm, ⟨2, _⟩ => ⟨S16384x128, .f32⟩
  | .hbm, ⟨3, _⟩ => ⟨S16384x1024, .f32⟩
  | .hbm, ⟨4, _⟩ => ⟨S4x1024, .f32⟩
  | .hbm, ⟨5, _⟩ => ⟨S1024, .f32⟩
  | .hbm, ⟨6, _⟩ => ⟨S4x1x1024, .f32⟩
  | .hbm, ⟨7, _⟩ => ⟨S1x1024, .f32⟩
  | .hbm, ⟨8, _⟩ => ⟨S16384x1024, .f32⟩
  | .local _ .vmem, ⟨0, _⟩ => ⟨S256x128, .f32⟩
  | .local _ .vmem, ⟨1, _⟩ => ⟨S256x128, .f32⟩
  | .local _ .vmem, ⟨2, _⟩ => ⟨S256x1024, .f32⟩
  | .local _ .vmem, ⟨3, _⟩ => ⟨S256x1024, .f32⟩
  | .local _ .vmem, ⟨4, _⟩ => ⟨S1x1x1024, .f32⟩
  | .local _ .vmem, ⟨5, _⟩ => ⟨S1x1x1024, .f32⟩
  | .local _ .vmem, ⟨6, _⟩ => ⟨S1x1024, .f32⟩
  | .local _ .vmem, ⟨7, _⟩ => ⟨S256x1024, .f32⟩
  | .local _ .vmem, ⟨8, _⟩ => ⟨S256x1024, .f32⟩
  | .local _ .vmem, ⟨9, _⟩ => ⟨S4x256x1024, .f32⟩
  | .local _ .smem, ⟨0, _⟩ => ⟨S1024, .i32⟩
  | .local _ .smem, ⟨1, _⟩ => ⟨S1024, .i32⟩
  | _, _ => ⟨S65536, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .smem, ⟨0, _⟩ => true
  | .smem, ⟨1, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_scratch0 : Ref sig .tc := ⟨.vmem, 9, rfl⟩
abbrev cc0_stg0_0 : Ref sig .tc := ⟨.smem, 0, rfl⟩
abbrev cc0_stg0_1 : Ref sig .tc := ⟨.smem, 1, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨1, ![64], ![false]⟩

@[reducible] def k0_t1_loop : Scf.Loop 32 :=
  let c0_i32 : BitVec 32 := 0#32
  let c1024_i32 : BitVec 32 := 1024#32
  let v0 : BitVec 32 := Scalar.addi c0_i32 c1024_i32
  let c1_i32 : BitVec 32 := 1#32
  ⟨c0_i32, v0, c1_i32⟩
def k0_off1 (k0_t1 : Fin k0_t1_loop.trips) : Fin 1 → Nat :=
  let c0_i32 : BitVec 32 := 0#32
  let c1_i32 : BitVec 32 := 1#32
  let arg10 : BitVec 32 := Scf.iv c0_i32 c1_i32 k0_t1
  let v47 : Index := Scalar.indexCast arg10
  ![v47.toNat]
def k0_off2 (k0_t1 : Fin k0_t1_loop.trips) : Fin 3 → Nat :=
  let c0_i32 : BitVec 32 := 0#32
  let c1_i32 : BitVec 32 := 1#32
  let arg10 : BitVec 32 := Scf.iv c0_i32 c1_i32 k0_t1
  let c4_i32 : BitVec 32 := 4#32
  let c0_i32_26 : BitVec 32 := 0#32
  let v49 : BitVec 1 := Scalar.cmpi .eq c4_i32 c0_i32_26
  let c1_i32_27 : BitVec 32 := 1#32
  let v50 : BitVec 32 := Scalar.select v49 c1_i32_27 c4_i32
  let v51 : BitVec 32 := Scalar.remsi arg10 v50
  let c0_i32_29 : BitVec 32 := 0#32
  let v53 : BitVec 1 := Scalar.cmpi .slt v51 c0_i32_29
  let c0_i32_30 : BitVec 32 := 0#32
  let v54 : BitVec 1 := Scalar.cmpi .slt v50 c0_i32_30
  let v55 : BitVec 1 := Scalar.xori v53 v54
  let c0_i32_28 : BitVec 32 := 0#32
  let v52 : BitVec 1 := Scalar.cmpi .ne v51 c0_i32_28
  let v56 : BitVec 1 := Scalar.andi v55 v52
  let v57 : BitVec 32 := Scalar.addi v51 v50
  let v58 : BitVec 32 := Scalar.select v56 v57 v51
  let c0_i32_32 : BitVec 32 := 0#32
  let v60 : BitVec 1 := Scalar.cmpi .sgt arg10 c0_i32_32
  let v61 : BitVec 32 := Scalar.extui v60
  let c0_i32_33 : BitVec 32 := 0#32
  let v62 : BitVec 1 := Scalar.cmpi .slt arg10 c0_i32_33
  let v63 : BitVec 32 := Scalar.extui v62
  let v64 : BitVec 32 := Scalar.subi v61 v63
  let c4_i32_31 : BitVec 32 := 4#32
  let c0_i32_34 : BitVec 32 := 0#32
  let v65 : BitVec 1 := Scalar.cmpi .sgt c4_i32_31 c0_i32_34
  let v66 : BitVec 32 := Scalar.extui v65
  let c0_i32_35 : BitVec 32 := 0#32
  let v67 : BitVec 1 := Scalar.cmpi .slt c4_i32_31 c0_i32_35
  let v68 : BitVec 32 := Scalar.extui v67
  let v69 : BitVec 32 := Scalar.subi v66 v68
  let v70 : BitVec 1 := Scalar.cmpi .ne v64 v69
  let v71 : BitVec 32 := Scalar.remsi arg10 c4_i32_31
  let c0_i32_36 : BitVec 32 := 0#32
  let v72 : BitVec 1 := Scalar.cmpi .ne v71 c0_i32_36
  let v73 : BitVec 1 := Scalar.andi v70 v72
  let v59 : BitVec 32 := Scalar.divsi arg10 c4_i32_31
  let c1_i32_37 : BitVec 32 := 1#32
  let v74 : BitVec 32 := Scalar.subi v59 c1_i32_37
  let v75 : BitVec 32 := Scalar.select v73 v74 v59
  let c0_i32_38 : BitVec 32 := 0#32
  ![v58.toNat, v75.toNat, 0]
def k0_off3 (v48 : BitVec 32) : Fin 2 → Nat :=
  let c0_i32_39 : BitVec 32 := 0#32
  ![v48.toNat, 0]

def k0_chk1 (v48 : BitVec 32) : Prop :=
  (∀ a, (k0_off3 v48) a + S1x1024.size a ≤ S73728x1024.size a)
theorem k0_off3_inb : ∀ (v48 : BitVec 32) (k0_hw1 : k0_chk1 v48), ∀ a, (k0_off3 v48) a + S1x1024.size a ≤ S73728x1024.size a := fun v48 k0_hw1 => k0_hw1

@[reducible] def k0_t2_loop : Scf.Loop 32 :=
  let c0_i32_1 : BitVec 32 := 0#32
  let c1024_i32_2 : BitVec 32 := 1024#32
  let v1 : BitVec 32 := Scalar.addi c0_i32_1 c1024_i32_2
  let c1_i32_3 : BitVec 32 := 1#32
  ⟨c0_i32_1, v1, c1_i32_3⟩
def k0_off4 (k0_t2 : Fin k0_t2_loop.trips) : Fin 3 → Nat :=
  let c0_i32_1 : BitVec 32 := 0#32
  let c1_i32_3 : BitVec 32 := 1#32
  let arg10 : BitVec 32 := Scf.iv c0_i32_1 c1_i32_3 k0_t2
  let c4_i32 : BitVec 32 := 4#32
  let c0_i32_26 : BitVec 32 := 0#32
  let v47 : BitVec 1 := Scalar.cmpi .eq c4_i32 c0_i32_26
  let c1_i32_27 : BitVec 32 := 1#32
  let v48 : BitVec 32 := Scalar.select v47 c1_i32_27 c4_i32
  let v49 : BitVec 32 := Scalar.remsi arg10 v48
  let c0_i32_29 : BitVec 32 := 0#32
  let v51 : BitVec 1 := Scalar.cmpi .slt v49 c0_i32_29
  let c0_i32_30 : BitVec 32 := 0#32
  let v52 : BitVec 1 := Scalar.cmpi .slt v48 c0_i32_30
  let v53 : BitVec 1 := Scalar.xori v51 v52
  let c0_i32_28 : BitVec 32 := 0#32
  let v50 : BitVec 1 := Scalar.cmpi .ne v49 c0_i32_28
  let v54 : BitVec 1 := Scalar.andi v53 v50
  let v55 : BitVec 32 := Scalar.addi v49 v48
  let v56 : BitVec 32 := Scalar.select v54 v55 v49
  let c0_i32_32 : BitVec 32 := 0#32
  let v58 : BitVec 1 := Scalar.cmpi .sgt arg10 c0_i32_32
  let v59 : BitVec 32 := Scalar.extui v58
  let c0_i32_33 : BitVec 32 := 0#32
  let v60 : BitVec 1 := Scalar.cmpi .slt arg10 c0_i32_33
  let v61 : BitVec 32 := Scalar.extui v60
  let v62 : BitVec 32 := Scalar.subi v59 v61
  let c4_i32_31 : BitVec 32 := 4#32
  let c0_i32_34 : BitVec 32 := 0#32
  let v63 : BitVec 1 := Scalar.cmpi .sgt c4_i32_31 c0_i32_34
  let v64 : BitVec 32 := Scalar.extui v63
  let c0_i32_35 : BitVec 32 := 0#32
  let v65 : BitVec 1 := Scalar.cmpi .slt c4_i32_31 c0_i32_35
  let v66 : BitVec 32 := Scalar.extui v65
  let v67 : BitVec 32 := Scalar.subi v64 v66
  let v68 : BitVec 1 := Scalar.cmpi .ne v62 v67
  let v69 : BitVec 32 := Scalar.remsi arg10 c4_i32_31
  let c0_i32_36 : BitVec 32 := 0#32
  let v70 : BitVec 1 := Scalar.cmpi .ne v69 c0_i32_36
  let v71 : BitVec 1 := Scalar.andi v68 v70
  let v57 : BitVec 32 := Scalar.divsi arg10 c4_i32_31
  let c1_i32_37 : BitVec 32 := 1#32
  let v72 : BitVec 32 := Scalar.subi v57 c1_i32_37
  let v73 : BitVec 32 := Scalar.select v71 v72 v57
  let c0_i32_38 : BitVec 32 := 0#32
  ![v56.toNat, v73.toNat, 0]
def cc0_transform_0 (i : grid0.Coords) : Fin 1 → Nat :=
  let arg0 : BitVec 32 := BitVec.ofNat 32 (i 0).val
  let c0_i32 : BitVec 32 := 0#32
  ![arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 3 → Nat :=
  let arg0 : BitVec 32 := BitVec.ofNat 32 (i 0).val
  let c16_i32 : BitVec 32 := 16#32
  let v0 : BitVec 32 := Scalar.divsi arg0 c16_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .smem S1024 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== CombineRefIdeal.lean ====
abbrev S65536 : Shape := ⟨1, ![65536]⟩
abbrev S73728x1024 : Shape := ⟨2, ![73728, 1024]⟩
abbrev S16384x128 : Shape := ⟨2, ![16384, 128]⟩
abbrev S16384x1024 : Shape := ⟨2, ![16384, 1024]⟩
abbrev S4x1024 : Shape := ⟨2, ![4, 1024]⟩
abbrev S1024 : Shape := ⟨1, ![1024]⟩
abbrev S_ : Shape := ⟨0, ![]⟩
abbrev S65536x1 : Shape := ⟨2, ![65536, 1]⟩
abbrev S65536x1024 : Shape := ⟨2, ![65536, 1024]⟩
abbrev S16384x4x1024 : Shape := ⟨3, ![16384, 4, 1024]⟩
abbrev S16384x4 : Shape := ⟨2, ![16384, 4]⟩
abbrev S4x4096x1024 : Shape := ⟨3, ![4, 4096, 1024]⟩
abbrev S4x1x1024 : Shape := ⟨3, ![4, 1, 1024]⟩
abbrev S4x4096 : Shape := ⟨2, ![4, 4096]⟩
abbrev S4x4096x1 : Shape := ⟨3, ![4, 4096, 1]⟩
abbrev S1x1x1024 : Shape := ⟨3, ![1, 1, 1024]⟩

abbrev nBuf : Space → Nat
  | .hbm => 41
  | .vmem => 0
  | .smem => 0
  | _ => 0

abbrev bufTy : (tb : Table) → Fin (tcTables nBuf tb) → BufTy
  | .hbm, ⟨0, _⟩ => ⟨S65536, .i32⟩
  | .hbm, ⟨1, _⟩ => ⟨S73728x1024, .f32⟩
  | .hbm, ⟨2, _⟩ => ⟨S16384x128, .f32⟩
  | .hbm, ⟨3, _⟩ => ⟨S16384x1024, .f32⟩
  | .hbm, ⟨4, _⟩ => ⟨S4x1024, .f32⟩
  | .hbm, ⟨5, _⟩ => ⟨S1024, .f32⟩
  | .hbm, ⟨6, _⟩ => ⟨S_, .i32⟩
  | .hbm, ⟨7, _⟩ => ⟨S65536, .i32⟩
  | .hbm, ⟨8, _⟩ => ⟨S65536, .i1⟩
  | .hbm, ⟨9, _⟩ => ⟨S_, .i32⟩
  | .hbm, ⟨10, _⟩ => ⟨S65536, .i32⟩
  | .hbm, ⟨11, _⟩ => ⟨S65536, .i32⟩
  | .hbm, ⟨12, _⟩ => ⟨S65536, .i32⟩
  | .hbm, ⟨13, _⟩ => ⟨S65536x1, .i32⟩
  | .hbm, ⟨14, _⟩ => ⟨S65536x1024, .f32⟩
  | .hbm, ⟨15, _⟩ => ⟨S16384x4x1024, .f32⟩
  | .hbm, ⟨16, _⟩ => ⟨S16384x4, .f32⟩
  | .hbm, ⟨17, _⟩ => ⟨S16384x1024, .f32⟩
  | .hbm, ⟨18, _⟩ => ⟨S4x4096x1024, .f32⟩
  | .hbm, ⟨19, _⟩ => ⟨S4x1x1024, .f32⟩
  | .hbm, ⟨20, _⟩ => ⟨S4x4096x1024, .f32⟩
  | .hbm, ⟨21, _⟩ => ⟨S4x4096x1024, .f32⟩
  | .hbm, ⟨22, _⟩ => ⟨S4x4096x1024, .f32⟩
  | .hbm, ⟨23, _⟩ => ⟨S4x4096x1024, .f32⟩
  | .hbm, ⟨24, _⟩ => ⟨S4x4096x1024, .f32⟩
  | .hbm, ⟨25, _⟩ => ⟨S_, .f32⟩
  | .hbm, ⟨26, _⟩ => ⟨S4x4096, .f32⟩
  | .hbm, ⟨27, _⟩ => ⟨S4x4096x1, .f32⟩
  | .hbm, ⟨28, _⟩ => ⟨S_, .f32⟩
  | .hbm, ⟨29, _⟩ => ⟨S4x4096x1, .f32⟩
  | .hbm, ⟨30, _⟩ => ⟨S4x4096x1, .f32⟩
  | .hbm, ⟨31, _⟩ => ⟨S_, .f32⟩
  | .hbm, ⟨32, _⟩ => ⟨S4x4096x1, .f32⟩
  | .hbm, ⟨33, _⟩ => ⟨S4x4096x1, .f32⟩
  | .hbm, ⟨34, _⟩ => ⟨S4x4096x1, .f32⟩
  | .hbm, ⟨35, _⟩ => ⟨S4x4096x1024, .f32⟩
  | .hbm, ⟨36, _⟩ => ⟨S4x4096x1024, .f32⟩
  | .hbm, ⟨37, _⟩ => ⟨S1x1x1024, .f32⟩
  | .hbm, ⟨38, _⟩ => ⟨S4x4096x1024, .f32⟩
  | .hbm, ⟨39, _⟩ => ⟨S4x4096x1024, .f32⟩
  | .hbm, ⟨40, _⟩ => ⟨S16384x1024, .f32⟩
  | _, _ => ⟨S65536, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_c : Ref sig .tc := ⟨.hbm, 6, rfl⟩
abbrev main_v0 : Ref sig .tc := ⟨.hbm, 7, rfl⟩
abbrev main_v1 : Ref sig .tc := ⟨.hbm, 8, rfl⟩
abbrev main_c_0 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_cst : Ref sig .tc := ⟨.hbm, 25, rfl⟩
abbrev main_v17 : Ref sig .tc := ⟨.hbm, 26, rfl⟩
abbrev main_v18 : Ref sig .tc := ⟨.hbm, 27, rfl⟩
abbrev main_cst_1 : Ref sig .tc := ⟨.hbm, 28, rfl⟩
abbrev main_v19 : Ref sig .tc := ⟨.hbm, 29, rfl⟩
abbrev main_v20 : Ref sig .tc := ⟨.hbm, 30, rfl⟩
abbrev main_cst_2 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩

abbrev nD : Nat := 1
abbrev τ : Topo := Topo.v7x

variable {F : FTy → Type} [FloatOps F]
-- ==== InprojR.lean ====
abbrev S4x4096x1024 : Shape := ⟨3, ![4, 4096, 1024]⟩
abbrev S1024 : Shape := ⟨1, ![1024]⟩
abbrev S4x1024 : Shape := ⟨2, ![4, 1024]⟩
abbrev S1024x3396 : Shape := ⟨2, ![1024, 3396]⟩
abbrev S8x16384 : Shape := ⟨2, ![8, 16384]⟩
abbrev S16384x1024 : Shape := ⟨2, ![16384, 1024]⟩
abbrev S_ : Shape := ⟨0, ![]⟩
abbrev S16384x48 : Shape := ⟨2, ![16384, 48]⟩
abbrev S16384x8 : Shape := ⟨2, ![16384, 8]⟩
abbrev S16384x64 : Shape := ⟨2, ![16384, 64]⟩
abbrev S16384x128 : Shape := ⟨2, ![16384, 128]⟩
abbrev S1024x512 : Shape := ⟨2, ![1024, 512]⟩
abbrev S1024x256 : Shape := ⟨2, ![1024, 256]⟩
abbrev S1024x64 : Shape := ⟨2, ![1024, 64]⟩
abbrev S1024x4 : Shape := ⟨2, ![1024, 4]⟩
abbrev S1024x2176 : Shape := ⟨2, ![1024, 2176]⟩
abbrev S1x1024 : Shape := ⟨2, ![1, 1024]⟩
abbrev S4x1x1024 : Shape := ⟨3, ![4, 1, 1024]⟩
abbrev S16384x512 : Shape := ⟨2, ![16384, 512]⟩
abbrev S16384x256 : Shape := ⟨2, ![16384, 256]⟩
abbrev S512x1024 : Shape := ⟨2, ![512, 1024]⟩
abbrev S1x1x1024 : Shape := ⟨3, ![1, 1, 1024]⟩
abbrev S512x128 : Shape := ⟨2, ![512, 128]⟩
abbrev S512x512 : Shape := ⟨2, ![512, 512]⟩
abbrev S512x256 : Shape := ⟨2, ![512, 256]⟩
abbrev S512 : Shape := ⟨1, ![512]⟩
abbrev S512x1 : Shape := ⟨2, ![512, 1]⟩
abbrev S1024x128 : Shape := ⟨2, ![1024, 128]⟩

abbrev nBuf : Space → Nat
  | .hbm => 45
  | .vmem => 24
  | .smem => 0
  | _ => 0

abbrev bufTy : (tb : Table) → Fin (tcTables nBuf tb) → BufTy
  | .hbm, ⟨0, _⟩ => ⟨S4x4096x1024, .f32⟩
  | .hbm, ⟨1, _⟩ => ⟨S1024, .f32⟩
  | .hbm, ⟨2, _⟩ => ⟨S4x1024, .f32⟩
  | .hbm, ⟨3, _⟩ => ⟨S4x1024, .f32⟩
  | .hbm, ⟨4, _⟩ => ⟨S1024x3396, .f32⟩
  | .hbm, ⟨5, _⟩ => ⟨S8x16384, .f32⟩
  | .hbm, ⟨6, _⟩ => ⟨S8x16384, .f32⟩
  | .hbm, ⟨7, _⟩ => ⟨S16384x1024, .f32⟩
  | .hbm, ⟨8, _⟩ => ⟨S_, .f32⟩
  | .hbm, ⟨9, _⟩ => ⟨S16384x48, .f32⟩
  | .hbm, ⟨10, _⟩ => ⟨S16384x8, .f32⟩
  | .hbm, ⟨11, _⟩ => ⟨S16384x8, .f32⟩
  | .hbm, ⟨12, _⟩ => ⟨S16384x64, .f32⟩
  | .hbm, ⟨13, _⟩ => ⟨S16384x8, .f32⟩
  | .hbm, ⟨14, _⟩ => ⟨S16384x8, .f32⟩
  | .hbm, ⟨15, _⟩ => ⟨S16384x8, .f32⟩
  | .hbm, ⟨16, _⟩ => ⟨S_, .f32⟩
  | .hbm, ⟨17, _⟩ => ⟨S16384x48, .f32⟩
  | .hbm, ⟨18, _⟩ => ⟨S16384x48, .f32⟩
  | .hbm, ⟨19, _⟩ => ⟨S16384x64, .f32⟩
  | .hbm, ⟨20, _⟩ => ⟨S16384x128, .f32⟩
  | .hbm, ⟨21, _⟩ => ⟨S16384x128, .f32⟩
  | .hbm, ⟨22, _⟩ => ⟨S1024x512, .f32⟩
  | .hbm, ⟨23, _⟩ => ⟨S1024x512, .f32⟩
  | .hbm, ⟨24, _⟩ => ⟨S1024x512, .f32⟩
  | .hbm, ⟨25, _⟩ => ⟨S1024x256, .f32⟩
  | .hbm, ⟨26, _⟩ => ⟨S1024x64, .f32⟩
  | .hbm, ⟨27, _⟩ => ⟨S1024x4, .f32⟩
  | .hbm, ⟨28, _⟩ => ⟨S1024x256, .f32⟩
  | .hbm, ⟨29, _⟩ => ⟨S1024x256, .f32⟩
  | .hbm, ⟨30, _⟩ => ⟨S1024x512, .f32⟩
  | .hbm, ⟨31, _⟩ => ⟨S1024x512, .f32⟩
  | .hbm, ⟨32, _⟩ => ⟨S_, .f32⟩
  | .hbm, ⟨33, _⟩ => ⟨S1024x64, .f32⟩
  | .hbm, ⟨34, _⟩ => ⟨S1024x2176, .f32⟩
  | .hbm, ⟨35, _⟩ => ⟨S1024x2176, .bf16⟩
  | .hbm, ⟨36, _⟩ => ⟨S1x1024, .f32⟩
  | .hbm, ⟨37, _⟩ => ⟨S4x1x1024, .f32⟩
  | .hbm, ⟨38, _⟩ => ⟨S4x1x1024, .f32⟩
  | .hbm, ⟨39, _⟩ => ⟨S16384x512, .bf16⟩
  | .hbm, ⟨40, _⟩ => ⟨S16384x128, .f32⟩
  | .hbm, ⟨41, _⟩ => ⟨S16384x256, .f32⟩
  | .hbm, ⟨42, _⟩ => ⟨S16384x256, .f32⟩
  | .hbm, ⟨43, _⟩ => ⟨S16384x512, .f32⟩
  | .hbm, ⟨44, _⟩ => ⟨S16384x512, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1x1x1024, .f32⟩
  | .local _ .vmem, ⟨4, _⟩ => ⟨S1x1x1024, .f32⟩
  | .local _ .vmem, ⟨5, _⟩ => ⟨S1x1x1024, .f32⟩
  | .local _ .vmem, ⟨6, _⟩ => ⟨S1x1x1024, .f32⟩
  | .local _ .vmem, ⟨7, _⟩ => ⟨S1024x2176, .bf16⟩
  | .local _ .vmem, ⟨8, _⟩ => ⟨S512x128, .f32⟩
  | .local _ .vmem, ⟨9, _⟩ => ⟨S512x128, .f32⟩
  | .local _ .vmem, ⟨10, _⟩ => ⟨S512x128, .f32⟩
  | .local _ .vmem, ⟨11, _⟩ => ⟨S512x128, .f32⟩
  | .local _ .vmem, ⟨12, _⟩ => ⟨S512x512, .bf16⟩
  | .local _ .vmem, ⟨13, _⟩ => ⟨S512x512, .bf16⟩
  | .local _ .vmem, ⟨14, _⟩ => ⟨S512x128, .f32⟩
  | .local _ .vmem, ⟨15, _⟩ => ⟨S512x128, .f32⟩
  | .local _ .vmem, ⟨16, _⟩ => ⟨S512x256, .f32⟩
  | .local _ .vmem, ⟨17, _⟩ => ⟨S512x256, .f32⟩
  | .local _ .vmem, ⟨18, _⟩ => ⟨S512x256, .f32⟩
  | .local _ .vmem, ⟨19, _⟩ => ⟨S512x256, .f32⟩
  | .local _ .vmem, ⟨20, _⟩ => ⟨S512x512, .f32⟩
  | .local _ .vmem, ⟨21, _⟩ => ⟨S512x512, .f32⟩
  | .local _ .vmem, ⟨22, _⟩ => ⟨S512x512, .f32⟩
  | .local _ .vmem, ⟨23, _⟩ => ⟨S512x512, .f32⟩
  | _, _ => ⟨S4x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_cst_0 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_cst_1 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29_0 : Ref sig .tc := ⟨.hbm, 39, rfl⟩
abbrev main_v29_1 : Ref sig .tc := ⟨.hbm, 40, rfl⟩
abbrev main_v29_2 : Ref sig .tc := ⟨.hbm, 41, rfl⟩
abbrev main_v29_3 : Ref sig .tc := ⟨.hbm, 42, rfl⟩
abbrev main_v29_4 : Ref sig .tc := ⟨.hbm, 43, rfl⟩
abbrev main_v29_5 : Ref sig .tc := ⟨.hbm, 44, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_stg10_1 : Ref sig .tc := ⟨.vmem, 19, rfl⟩
abbrev cc0_stg11_0 : Ref sig .tc := ⟨.vmem, 20, rfl⟩
abbrev cc0_stg11_1 : Ref sig .tc := ⟨.vmem, 21, rfl⟩
abbrev cc0_stg12_0 : Ref sig .tc := ⟨.vmem, 22, rfl⟩
abbrev cc0_stg12_1 : Ref sig .tc := ⟨.vmem, 23, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem9_1 : DmaSem sig := 17
abbrev cc0_sem10_0 : DmaSem sig := 18
abbrev cc0_sem10_1 : DmaSem sig := 19
abbrev cc0_sem11_0 : DmaSem sig := 20
abbrev cc0_sem11_1 : DmaSem sig := 21
abbrev cc0_sem12_0 : DmaSem sig := 22
abbrev cc0_sem12_1 : DmaSem sig := 23

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_3 (i : grid0.Coords) : Fin 3 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1024x2176 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x256 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x256 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x512 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S512x512 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]
-- ==== InprojRRefIdeal.lean ====
abbrev S4x4096x1024 : Shape := ⟨3, ![4, 4096, 1024]⟩
abbrev S1024 : Shape := ⟨1, ![1024]⟩
abbrev S4x1024 : Shape := ⟨2, ![4, 1024]⟩
abbrev S1024x3396 : Shape := ⟨2, ![1024, 3396]⟩
abbrev S8x16384 : Shape := ⟨2, ![8, 16384]⟩
abbrev S_ : Shape := ⟨0, ![]⟩
abbrev S4x4096 : Shape := ⟨2, ![4, 4096]⟩
abbrev S4x4096x1 : Shape := ⟨3, ![4, 4096, 1]⟩
abbrev S1x1x1024 : Shape := ⟨3, ![1, 1, 1024]⟩
abbrev S4x1x1024 : Shape := ⟨3, ![4, 1, 1024]⟩
abbrev S4x4096x3396 : Shape := ⟨3, ![4, 4096, 3396]⟩
abbrev S4x4096x512 : Shape := ⟨3, ![4, 4096, 512]⟩
abbrev S4x4096x256 : Shape := ⟨3, ![4, 4096, 256]⟩
abbrev S4x4096x64 : Shape := ⟨3, ![4, 4096, 64]⟩
abbrev S4x4096x4 : Shape := ⟨3, ![4, 4096, 4]⟩
abbrev S16384x8 : Shape := ⟨2, ![16384, 8]⟩
abbrev S4x4096x1x8 : Shape := ⟨4, ![4, 4096, 1, 8]⟩
abbrev S4x4096x8x64 : Shape := ⟨4, ![4, 4096, 8, 64]⟩
abbrev S4x4096x8x8 : Shape := ⟨4, ![4, 4096, 8, 8]⟩
abbrev S4x4096x8x48 : Shape := ⟨4, ![4, 4096, 8, 48]⟩
abbrev S4x4096x1x64 : Shape := ⟨4, ![4, 4096, 1, 64]⟩
abbrev S4x4096x1x48 : Shape := ⟨4, ![4, 4096, 1, 48]⟩
abbrev S16384x512 : Shape := ⟨2, ![16384, 512]⟩
abbrev S16384x64 : Shape := ⟨2, ![16384, 64]⟩
abbrev S16384x128 : Shape := ⟨2, ![16384, 128]⟩
abbrev S16384x256 : Shape := ⟨2, ![16384, 256]⟩

abbrev nBuf : Space → Nat
  | .hbm => 83
  | .vmem => 0
  | .smem => 0
  | _ => 0

abbrev bufTy : (tb : Table) → Fin (tcTables nBuf tb) → BufTy
  | .hbm, ⟨0, _⟩ => ⟨S4x4096x1024, .f32⟩
  | .hbm, ⟨1, _⟩ => ⟨S1024, .f32⟩
  | .hbm, ⟨2, _⟩ => ⟨S4x1024, .f32⟩
  | .hbm, ⟨3, _⟩ => ⟨S4x1024, .f32⟩
  | .hbm, ⟨4, _⟩ => ⟨S1024x3396, .f32⟩
  | .hbm, ⟨5, _⟩ => ⟨S8x16384, .f32⟩
  | .hbm, ⟨6, _⟩ => ⟨S8x16384, .f32⟩
  | .hbm, ⟨7, _⟩ => ⟨S4x4096x1024, .f32⟩
  | .hbm, ⟨8, _⟩ => ⟨S_, .f32⟩
  | .hbm, ⟨9, _⟩ => ⟨S4x4096, .f32⟩
  | .hbm, ⟨10, _⟩ => ⟨S4x4096x1, .f32⟩
  | .hbm, ⟨11, _⟩ => ⟨S_, .f32⟩
  | .hbm, ⟨12, _⟩ => ⟨S4x4096x1, .f32⟩
  | .hbm, ⟨13, _⟩ => ⟨S4x4096x1, .f32⟩
  | .hbm, ⟨14, _⟩ => ⟨S_, .f32⟩
  | .hbm, ⟨15, _⟩ => ⟨S4x4096x1, .f32⟩
  | .hbm, ⟨16, _⟩ => ⟨S4x4096x1, .f32⟩
  | .hbm, ⟨17, _⟩ => ⟨S4x4096x1, .f32⟩
  | .hbm, ⟨18, _⟩ => ⟨S4x4096x1024, .f32⟩
  | .hbm, ⟨19, _⟩ => ⟨S4x4096x1024, .f32⟩
  | .hbm, ⟨20, _⟩ => ⟨S1x1x1024, .f32⟩
  | .hbm, ⟨21, _⟩ => ⟨S4x4096x1024, .f32⟩
  | .hbm, ⟨22, _⟩ => ⟨S4x4096x1024, .f32⟩
  | .hbm, ⟨23, _⟩ => ⟨S4x1x1024, .f32⟩
  | .hbm, ⟨24, _⟩ => ⟨S_, .f32⟩
  | .hbm, ⟨25, _⟩ => ⟨S4x1x1024, .f32⟩
  | .hbm, ⟨26, _⟩ => ⟨S4x1x1024, .f32⟩
  | .hbm, ⟨27, _⟩ => ⟨S4x4096x1024, .f32⟩
  | .hbm, ⟨28, _⟩ => ⟨S4x4096x1024, .f32⟩
  | .hbm, ⟨29, _⟩ => ⟨S4x1x1024, .f32⟩
  | .hbm, ⟨30, _⟩ => ⟨S4x4096x1024, .f32⟩
  | .hbm, ⟨31, _⟩ => ⟨S4x4096x1024, .f32⟩
  | .hbm, ⟨32, _⟩ => ⟨S4x4096x3396, .f32⟩
  | .hbm, ⟨33, _⟩ => ⟨S4x4096x512, .f32⟩
  | .hbm, ⟨34, _⟩ => ⟨S4x4096x512, .f32⟩
  | .hbm, ⟨35, _⟩ => ⟨S4x4096x512, .f32⟩
  | .hbm, ⟨36, _⟩ => ⟨S4x4096x256, .f32⟩
  | .hbm, ⟨37, _⟩ => ⟨S4x4096x64, .f32⟩
  | .hbm, ⟨38, _⟩ => ⟨S4x4096x4, .f32⟩
  | .hbm, ⟨39, _⟩ => ⟨S4x4096x256, .f32⟩
  | .hbm, ⟨40, _⟩ => ⟨S4x4096x256, .f32⟩
  | .hbm, ⟨41, _⟩ => ⟨S4x4096x512, .f32⟩
  | .hbm, ⟨42, _⟩ => ⟨S4x4096x512, .f32⟩
  | .hbm, ⟨43, _⟩ => ⟨S16384x8, .f32⟩
  | .hbm, ⟨44, _⟩ => ⟨S4x4096x1x8, .f32⟩
  | .hbm, ⟨45, _⟩ => ⟨S16384x8, .f32⟩
  | .hbm, ⟨46, _⟩ => ⟨S4x4096x1x8, .f32⟩
  | .hbm, ⟨47, _⟩ => ⟨S4x4096x8x64, .f32⟩
  | .hbm, ⟨48, _⟩ => ⟨S4x4096x8x8, .f32⟩
  | .hbm, ⟨49, _⟩ => ⟨S4x4096x8x8, .f32⟩
  | .hbm, ⟨50, _⟩ => ⟨S4x4096x8x48, .f32⟩
  | .hbm, ⟨51, _⟩ => ⟨S4x4096x8x8, .f32⟩
  | .hbm, ⟨52, _⟩ => ⟨S4x4096x8x8, .f32⟩
  | .hbm, ⟨53, _⟩ => ⟨S4x4096x8x8, .f32⟩
  | .hbm, ⟨54, _⟩ => ⟨S4x4096x8x8, .f32⟩
  | .hbm, ⟨55, _⟩ => ⟨S4x4096x8x8, .f32⟩
  | .hbm, ⟨56, _⟩ => ⟨S4x4096x8x8, .f32⟩
  | .hbm, ⟨57, _⟩ => ⟨S4x4096x8x8, .f32⟩
  | .hbm, ⟨58, _⟩ => ⟨S4x4096x8x8, .f32⟩
  | .hbm, ⟨59, _⟩ => ⟨S4x4096x8x8, .f32⟩
  | .hbm, ⟨60, _⟩ => ⟨S4x4096x8x8, .f32⟩
  | .hbm, ⟨61, _⟩ => ⟨S4x4096x8x64, .f32⟩
  | .hbm, ⟨62, _⟩ => ⟨S4x4096x1x64, .f32⟩
  | .hbm, ⟨63, _⟩ => ⟨S4x4096x1x8, .f32⟩
  | .hbm, ⟨64, _⟩ => ⟨S4x4096x1x8, .f32⟩
  | .hbm, ⟨65, _⟩ => ⟨S4x4096x1x48, .f32⟩
  | .hbm, ⟨66, _⟩ => ⟨S4x4096x1x8, .f32⟩
  | .hbm, ⟨67, _⟩ => ⟨S4x4096x1x8, .f32⟩
  | .hbm, ⟨68, _⟩ => ⟨S4x4096x1x8, .f32⟩
  | .hbm, ⟨69, _⟩ => ⟨S4x4096x1x8, .f32⟩
  | .hbm, ⟨70, _⟩ => ⟨S4x4096x1x8, .f32⟩
  | .hbm, ⟨71, _⟩ => ⟨S4x4096x1x8, .f32⟩
  | .hbm, ⟨72, _⟩ => ⟨S4x4096x1x64, .f32⟩
  | .hbm, ⟨73, _⟩ => ⟨S16384x512, .f32⟩
  | .hbm, ⟨74, _⟩ => ⟨S16384x512, .bf16⟩
  | .hbm, ⟨75, _⟩ => ⟨S16384x64, .f32⟩
  | .hbm, ⟨76, _⟩ => ⟨S_, .f32⟩
  | .hbm, ⟨77, _⟩ => ⟨S16384x64, .f32⟩
  | .hbm, ⟨78, _⟩ => ⟨S16384x128, .f32⟩
  | .hbm, ⟨79, _⟩ => ⟨S16384x256, .f32⟩
  | .hbm, ⟨80, _⟩ => ⟨S16384x256, .f32⟩
  | .hbm, ⟨81, _⟩ => ⟨S16384x512, .f32⟩
  | .hbm, ⟨82, _⟩ => ⟨S16384x512, .f32⟩
  | _, _ => ⟨S4x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_cst_0 : Ref sig .tc := ⟨.hbm, 11, rfl⟩
abbrev main_v3 : Ref sig .tc := ⟨.hbm, 12, rfl⟩
abbrev main_v4 : Ref sig .tc := ⟨.hbm, 13, rfl⟩
abbrev main_cst_1 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_cst_2 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_v44 : Ref sig .tc := ⟨.hbm, 55, rfl⟩
abbrev main_v45 : Ref sig .tc := ⟨.hbm, 56, rfl⟩
abbrev main_v46 : Ref sig .tc := ⟨.hbm, 57, rfl⟩
abbrev main_v47 : Ref sig .tc := ⟨.hbm, 58, rfl⟩
abbrev main_v48 : Ref sig .tc := ⟨.hbm, 59, rfl⟩
abbrev main_v49 : Ref sig .tc := ⟨.hbm, 60, rfl⟩
abbrev main_v50 : Ref sig .tc := ⟨.hbm, 61, rfl⟩
abbrev main_v51 : Ref sig .tc := ⟨.hbm, 62, rfl⟩
abbrev main_v52 : Ref sig .tc := ⟨.hbm, 63, rfl⟩
abbrev main_v53 : Ref sig .tc := ⟨.hbm, 64, rfl⟩
abbrev main_v54 : Ref sig .tc := ⟨.hbm, 65, rfl⟩
abbrev main_v55 : Ref sig .tc := ⟨.hbm, 66, rfl⟩
abbrev main_v56 : Ref sig .tc := ⟨.hbm, 67, rfl⟩
abbrev main_v57 : Ref sig .tc := ⟨.hbm, 68, rfl⟩
abbrev main_v58 : Ref sig .tc := ⟨.hbm, 69, rfl⟩
abbrev main_v59 : Ref sig .tc := ⟨.hbm, 70, rfl⟩
abbrev main_v60 : Ref sig .tc := ⟨.hbm, 71, rfl⟩
abbrev main_v61 : Ref sig .tc := ⟨.hbm, 72, rfl⟩
abbrev main_v62 : Ref sig .tc := ⟨.hbm, 73, rfl⟩
abbrev main_v63 : Ref sig .tc := ⟨.hbm, 74, rfl⟩
abbrev main_v64 : Ref sig .tc := ⟨.hbm, 75, rfl⟩
abbrev main_cst_3 : Ref sig .tc := ⟨.hbm, 76, rfl⟩
abbrev main_v65 : Ref sig .tc := ⟨.hbm, 77, rfl⟩
abbrev main_v66 : Ref sig .tc := ⟨.hbm, 78, rfl⟩
abbrev main_v67 : Ref sig .tc := ⟨.hbm, 79, rfl⟩
abbrev main_v68 : Ref sig .tc := ⟨.hbm, 80, rfl⟩
abbrev main_v69 : Ref sig .tc := ⟨.hbm, 81, rfl⟩
abbrev main_v70 : Ref sig .tc := ⟨.hbm, 82, rfl⟩

abbrev nD : Nat := 1
abbrev τ : Topo := Topo.v7x

variable {F : FTy → Type} [FloatOps F]
-- ==== InprojT.lean ====
abbrev S4x4096x1024 : Shape := ⟨3, ![4, 4096, 1024]⟩
abbrev S1024 : Shape := ⟨1, ![1024]⟩
abbrev S4x1024 : Shape := ⟨2, ![4, 1024]⟩
abbrev S1024x3396 : Shape := ⟨2, ![1024, 3396]⟩
abbrev S8x16384 : Shape := ⟨2, ![8, 16384]⟩
abbrev S16384x1024 : Shape := ⟨2, ![16384, 1024]⟩
abbrev S1024x512 : Shape := ⟨2, ![1024, 512]⟩
abbrev S1024x256 : Shape := ⟨2, ![1024, 256]⟩
abbrev S1024x64 : Shape := ⟨2, ![1024, 64]⟩
abbrev S1024x4 : Shape := ⟨2, ![1024, 4]⟩
abbrev S_ : Shape := ⟨0, ![]⟩
abbrev S1024x1288 : Shape := ⟨2, ![1024, 1288]⟩
abbrev S1288x1024 : Shape := ⟨2, ![1288, 1024]⟩
abbrev S1024x16384 : Shape := ⟨2, ![1024, 16384]⟩
abbrev S1024x1 : Shape := ⟨2, ![1024, 1]⟩
abbrev S4x1024x1 : Shape := ⟨3, ![4, 1024, 1]⟩
abbrev S512x16384 : Shape := ⟨2, ![512, 16384]⟩
abbrev S64x512x256 : Shape := ⟨3, ![64, 512, 256]⟩
abbrev S256x16384 : Shape := ⟨2, ![256, 16384]⟩
abbrev S1x1024x1 : Shape := ⟨3, ![1, 1024, 1]⟩
abbrev S8x512 : Shape := ⟨2, ![8, 512]⟩
abbrev S512x512 : Shape := ⟨2, ![512, 512]⟩
abbrev S2x512x256 : Shape := ⟨3, ![2, 512, 256]⟩
abbrev S256x512 : Shape := ⟨2, ![256, 512]⟩
abbrev S512 : Shape := ⟨1, ![512]⟩
abbrev S1x512 : Shape := ⟨2, ![1, 512]⟩
abbrev S512x1024 : Shape := ⟨2, ![512, 1024]⟩
abbrev S64x512 : Shape := ⟨2, ![64, 512]⟩
abbrev S48x512 : Shape := ⟨2, ![48, 512]⟩
abbrev S512x256 : Shape := ⟨2, ![512, 256]⟩
abbrev S1x512x256 : Shape := ⟨3, ![1, 512, 256]⟩
abbrev S256x1024 : Shape := ⟨2, ![256, 1024]⟩
abbrev S8x1024 : Shape := ⟨2, ![8, 1024]⟩

abbrev nBuf : Space → Nat
  | .hbm => 31
  | .vmem => 20
  | .smem => 0
  | _ => 0

abbrev bufTy : (tb : Table) → Fin (tcTables nBuf tb) → BufTy
  | .hbm, ⟨0, _⟩ => ⟨S4x4096x1024, .f32⟩
  | .hbm, ⟨1, _⟩ => ⟨S1024, .f32⟩
  | .hbm, ⟨2, _⟩ => ⟨S4x1024, .f32⟩
  | .hbm, ⟨3, _⟩ => ⟨S4x1024, .f32⟩
  | .hbm, ⟨4, _⟩ => ⟨S1024x3396, .f32⟩
  | .hbm, ⟨5, _⟩ => ⟨S8x16384, .f32⟩
  | .hbm, ⟨6, _⟩ => ⟨S8x16384, .f32⟩
  | .hbm, ⟨7, _⟩ => ⟨S16384x1024, .f32⟩
  | .hbm, ⟨8, _⟩ => ⟨S1024x512, .f32⟩
  | .hbm, ⟨9, _⟩ => ⟨S1024x512, .f32⟩
  | .hbm, ⟨10, _⟩ => ⟨S1024x512, .f32⟩
  | .hbm, ⟨11, _⟩ => ⟨S1024x256, .f32⟩
  | .hbm, ⟨12, _⟩ => ⟨S1024x64, .f32⟩
  | .hbm, ⟨13, _⟩ => ⟨S1024x4, .f32⟩
  | .hbm, ⟨14, _⟩ => ⟨S1024x256, .f32⟩
  | .hbm, ⟨15, _⟩ => ⟨S1024x256, .f32⟩
  | .hbm, ⟨16, _⟩ => ⟨S1024x512, .f32⟩
  | .hbm, ⟨17, _⟩ => ⟨S1024x512, .f32⟩
  | .hbm, ⟨18, _⟩ => ⟨S_, .f32⟩
  | .hbm, ⟨19, _⟩ => ⟨S1024x4, .f32⟩
  | .hbm, ⟨20, _⟩ => ⟨S1024x1288, .f32⟩
  | .hbm, ⟨21, _⟩ => ⟨S1288x1024, .f32⟩
  | .hbm, ⟨22, _⟩ => ⟨S1288x1024, .bf16⟩
  | .hbm, ⟨23, _⟩ => ⟨S1024x16384, .f32⟩
  | .hbm, ⟨24, _⟩ => ⟨S1024x1, .f32⟩
  | .hbm, ⟨25, _⟩ => ⟨S4x1024x1, .f32⟩
  | .hbm, ⟨26, _⟩ => ⟨S4x1024x1, .f32⟩
  | .hbm, ⟨27, _⟩ => ⟨S512x16384, .bf16⟩
  | .hbm, ⟨28, _⟩ => ⟨S64x512x256, .bf16⟩
  | .hbm, ⟨29, _⟩ => ⟨S256x16384, .f32⟩
  | .hbm, ⟨30, _⟩ => ⟨S8x16384, .f32⟩
  | .local _ .vmem, ⟨0, _⟩ => ⟨S1024x512, .f32⟩
  | .local _ .vmem, ⟨1, _⟩ => ⟨S1024x512, .f32⟩
  | .local _ .vmem, ⟨2, _⟩ => ⟨S1024x1, .f32⟩
  | .local _ .vmem, ⟨3, _⟩ => ⟨S1x1024x1, .f32⟩
  | .local _ .vmem, ⟨4, _⟩ => ⟨S1x1024x1, .f32⟩
  | .local _ .vmem, ⟨5, _⟩ => ⟨S1x1024x1, .f32⟩
  | .local _ .vmem, ⟨6, _⟩ => ⟨S1x1024x1, .f32⟩
  | .local _ .vmem, ⟨7, _⟩ => ⟨S1288x1024, .bf16⟩
  | .local _ .vmem, ⟨8, _⟩ => ⟨S8x512, .f32⟩
  | .local _ .vmem, ⟨9, _⟩ => ⟨S8x512, .f32⟩
  | .local _ .vmem, ⟨10, _⟩ => ⟨S8x512, .f32⟩
  | .local _ .vmem, ⟨11, _⟩ => ⟨S8x512, .f32⟩
  | .local _ .vmem, ⟨12, _⟩ => ⟨S512x512, .bf16⟩
  | .local _ .vmem, ⟨13, _⟩ => ⟨S512x512, .bf16⟩
  | .local _ .vmem, ⟨14, _⟩ => ⟨S2x512x256, .bf16⟩
  | .local _ .vmem, ⟨15, _⟩ => ⟨S2x512x256, .bf16⟩
  | .local _ .vmem, ⟨16, _⟩ => ⟨S256x512, .f32⟩
  | .local _ .vmem, ⟨17, _⟩ => ⟨S256x512, .f32⟩
  | .local _ .vmem, ⟨18, _⟩ => ⟨S8x512, .f32⟩
  | .local _ .vmem, ⟨19, _⟩ => ⟨S8x512, .f32⟩
  | _, _ => ⟨S4x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_cst : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19_0 : Ref sig .tc := ⟨.hbm, 27, rfl⟩
abbrev main_v19_1 : Ref sig .tc := ⟨.hbm, 28, rfl⟩
abbrev main_v19_2 : Ref sig .tc := ⟨.hbm, 29, rfl⟩
abbrev main_v19_3 : Ref sig .tc := ⟨.hbm, 30, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_stg10_1 : Ref sig .tc := ⟨.vmem, 19, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem9_1 : DmaSem sig := 17
abbrev cc0_sem10_0 : DmaSem sig := 18
abbrev cc0_sem10_1 : DmaSem sig := 19

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_3 (i : grid0.Coords) : Fin 3 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S1024x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1x1024x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1024x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1288x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S8x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S8x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S2x512x256 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x512 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S8x512 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]
-- ==== InprojTRefIdeal.lean ====
abbrev S4x4096x1024 : Shape := ⟨3, ![4, 4096, 1024]⟩
abbrev S1024 : Shape := ⟨1, ![1024]⟩
abbrev S4x1024 : Shape := ⟨2, ![4, 1024]⟩
abbrev S1024x3396 : Shape := ⟨2, ![1024, 3396]⟩
abbrev S8x16384 : Shape := ⟨2, ![8, 16384]⟩
abbrev S_ : Shape := ⟨0, ![]⟩
abbrev S4x4096 : Shape := ⟨2, ![4, 4096]⟩
abbrev S4x4096x1 : Shape := ⟨3, ![4, 4096, 1]⟩
abbrev S1x1x1024 : Shape := ⟨3, ![1, 1, 1024]⟩
abbrev S4x1x1024 : Shape := ⟨3, ![4, 1, 1024]⟩
abbrev S4x4096x3396 : Shape := ⟨3, ![4, 4096, 3396]⟩
abbrev S4x4096x512 : Shape := ⟨3, ![4, 4096, 512]⟩
abbrev S4x4096x256 : Shape := ⟨3, ![4, 4096, 256]⟩
abbrev S4x4096x64 : Shape := ⟨3, ![4, 4096, 64]⟩
abbrev S4x4096x4 : Shape := ⟨3, ![4, 4096, 4]⟩
abbrev S16384x8 : Shape := ⟨2, ![16384, 8]⟩
abbrev S4x4096x1x8 : Shape := ⟨4, ![4, 4096, 1, 8]⟩
abbrev S4x4096x8x64 : Shape := ⟨4, ![4, 4096, 8, 64]⟩
abbrev S4x4096x8x8 : Shape := ⟨4, ![4, 4096, 8, 8]⟩
abbrev S4x4096x8x48 : Shape := ⟨4, ![4, 4096, 8, 48]⟩
abbrev S4x4096x4x64 : Shape := ⟨4, ![4, 4096, 4, 64]⟩
abbrev S4x4096x4x8 : Shape := ⟨4, ![4, 4096, 4, 8]⟩
abbrev S4x4096x4x48 : Shape := ⟨4, ![4, 4096, 4, 48]⟩
abbrev S16384x512 : Shape := ⟨2, ![16384, 512]⟩
abbrev S512x16384 : Shape := ⟨2, ![512, 16384]⟩
abbrev S64x256x512 : Shape := ⟨3, ![64, 256, 512]⟩
abbrev S64x512x256 : Shape := ⟨3, ![64, 512, 256]⟩
abbrev S16384x256 : Shape := ⟨2, ![16384, 256]⟩
abbrev S256x16384 : Shape := ⟨2, ![256, 16384]⟩
abbrev S16384x4 : Shape := ⟨2, ![16384, 4]⟩

abbrev nBuf : Space → Nat
  | .hbm => 99
  | .vmem => 0
  | .smem => 0
  | _ => 0

abbrev bufTy : (tb : Table) → Fin (tcTables nBuf tb) → BufTy
  | .hbm, ⟨0, _⟩ => ⟨S4x4096x1024, .f32⟩
  | .hbm, ⟨1, _⟩ => ⟨S1024, .f32⟩
  | .hbm, ⟨2, _⟩ => ⟨S4x1024, .f32⟩
  | .hbm, ⟨3, _⟩ => ⟨S4x1024, .f32⟩
  | .hbm, ⟨4, _⟩ => ⟨S1024x3396, .f32⟩
  | .hbm, ⟨5, _⟩ => ⟨S8x16384, .f32⟩
  | .hbm, ⟨6, _⟩ => ⟨S8x16384, .f32⟩
  | .hbm, ⟨7, _⟩ => ⟨S4x4096x1024, .f32⟩
  | .hbm, ⟨8, _⟩ => ⟨S_, .f32⟩
  | .hbm, ⟨9, _⟩ => ⟨S4x4096, .f32⟩
  | .hbm, ⟨10, _⟩ => ⟨S4x4096x1, .f32⟩
  | .hbm, ⟨11, _⟩ => ⟨S_, .f32⟩
  | .hbm, ⟨12, _⟩ => ⟨S4x4096x1, .f32⟩
  | .hbm, ⟨13, _⟩ => ⟨S4x4096x1, .f32⟩
  | .hbm, ⟨14, _⟩ => ⟨S_, .f32⟩
  | .hbm, ⟨15, _⟩ => ⟨S4x4096x1, .f32⟩
  | .hbm, ⟨16, _⟩ => ⟨S4x4096x1, .f32⟩
  | .hbm, ⟨17, _⟩ => ⟨S4x4096x1, .f32⟩
  | .hbm, ⟨18, _⟩ => ⟨S4x4096x1024, .f32⟩
  | .hbm, ⟨19, _⟩ => ⟨S4x4096x1024, .f32⟩
  | .hbm, ⟨20, _⟩ => ⟨S1x1x1024, .f32⟩
  | .hbm, ⟨21, _⟩ => ⟨S4x4096x1024, .f32⟩
  | .hbm, ⟨22, _⟩ => ⟨S4x4096x1024, .f32⟩
  | .hbm, ⟨23, _⟩ => ⟨S4x1x1024, .f32⟩
  | .hbm, ⟨24, _⟩ => ⟨S_, .f32⟩
  | .hbm, ⟨25, _⟩ => ⟨S4x1x1024, .f32⟩
  | .hbm, ⟨26, _⟩ => ⟨S4x1x1024, .f32⟩
  | .hbm, ⟨27, _⟩ => ⟨S4x4096x1024, .f32⟩
  | .hbm, ⟨28, _⟩ => ⟨S4x4096x1024, .f32⟩
  | .hbm, ⟨29, _⟩ => ⟨S4x1x1024, .f32⟩
  | .hbm, ⟨30, _⟩ => ⟨S4x4096x1024, .f32⟩
  | .hbm, ⟨31, _⟩ => ⟨S4x4096x1024, .f32⟩
  | .hbm, ⟨32, _⟩ => ⟨S4x4096x3396, .f32⟩
  | .hbm, ⟨33, _⟩ => ⟨S4x4096x512, .f32⟩
  | .hbm, ⟨34, _⟩ => ⟨S4x4096x512, .f32⟩
  | .hbm, ⟨35, _⟩ => ⟨S4x4096x512, .f32⟩
  | .hbm, ⟨36, _⟩ => ⟨S4x4096x256, .f32⟩
  | .hbm, ⟨37, _⟩ => ⟨S4x4096x64, .f32⟩
  | .hbm, ⟨38, _⟩ => ⟨S4x4096x4, .f32⟩
  | .hbm, ⟨39, _⟩ => ⟨S4x4096x256, .f32⟩
  | .hbm, ⟨40, _⟩ => ⟨S4x4096x256, .f32⟩
  | .hbm, ⟨41, _⟩ => ⟨S4x4096x512, .f32⟩
  | .hbm, ⟨42, _⟩ => ⟨S4x4096x512, .f32⟩
  | .hbm, ⟨43, _⟩ => ⟨S16384x8, .f32⟩
  | .hbm, ⟨44, _⟩ => ⟨S4x4096x1x8, .f32⟩
  | .hbm, ⟨45, _⟩ => ⟨S16384x8, .f32⟩
  | .hbm, ⟨46, _⟩ => ⟨S4x4096x1x8, .f32⟩
  | .hbm, ⟨47, _⟩ => ⟨S4x4096x8x64, .f32⟩
  | .hbm, ⟨48, _⟩ => ⟨S4x4096x8x8, .f32⟩
  | .hbm, ⟨49, _⟩ => ⟨S4x4096x8x8, .f32⟩
  | .hbm, ⟨50, _⟩ => ⟨S4x4096x8x48, .f32⟩
  | .hbm, ⟨51, _⟩ => ⟨S4x4096x8x8, .f32⟩
  | .hbm, ⟨52, _⟩ => ⟨S4x4096x8x8, .f32⟩
  | .hbm, ⟨53, _⟩ => ⟨S4x4096x8x8, .f32⟩
  | .hbm, ⟨54, _⟩ => ⟨S4x4096x8x8, .f32⟩
  | .hbm, ⟨55, _⟩ => ⟨S4x4096x8x8, .f32⟩
  | .hbm, ⟨56, _⟩ => ⟨S4x4096x8x8, .f32⟩
  | .hbm, ⟨57, _⟩ => ⟨S4x4096x8x8, .f32⟩
  | .hbm, ⟨58, _⟩ => ⟨S4x4096x8x8, .f32⟩
  | .hbm, ⟨59, _⟩ => ⟨S4x4096x8x8, .f32⟩
  | .hbm, ⟨60, _⟩ => ⟨S4x4096x8x8, .f32⟩
  | .hbm, ⟨61, _⟩ => ⟨S4x4096x8x64, .f32⟩
  | .hbm, ⟨62, _⟩ => ⟨S_, .f32⟩
  | .hbm, ⟨63, _⟩ => ⟨S4x4096x8x64, .f32⟩
  | .hbm, ⟨64, _⟩ => ⟨S4x4096x8x64, .f32⟩
  | .hbm, ⟨65, _⟩ => ⟨S4x4096x4x64, .f32⟩
  | .hbm, ⟨66, _⟩ => ⟨S4x4096x4x8, .f32⟩
  | .hbm, ⟨67, _⟩ => ⟨S4x4096x4x8, .f32⟩
  | .hbm, ⟨68, _⟩ => ⟨S4x4096x4x48, .f32⟩
  | .hbm, ⟨69, _⟩ => ⟨S4x4096x4x8, .f32⟩
  | .hbm, ⟨70, _⟩ => ⟨S4x4096x4x8, .f32⟩
  | .hbm, ⟨71, _⟩ => ⟨S4x4096x4x8, .f32⟩
  | .hbm, ⟨72, _⟩ => ⟨S4x4096x4x8, .f32⟩
  | .hbm, ⟨73, _⟩ => ⟨S4x4096x4x8, .f32⟩
  | .hbm, ⟨74, _⟩ => ⟨S4x4096x4x8, .f32⟩
  | .hbm, ⟨75, _⟩ => ⟨S4x4096x4x8, .f32⟩
  | .hbm, ⟨76, _⟩ => ⟨S4x4096x4x8, .f32⟩
  | .hbm, ⟨77, _⟩ => ⟨S4x4096x4x8, .f32⟩
  | .hbm, ⟨78, _⟩ => ⟨S4x4096x4x8, .f32⟩
  | .hbm, ⟨79, _⟩ => ⟨S4x4096x4x64, .f32⟩
  | .hbm, ⟨80, _⟩ => ⟨S_, .f32⟩
  | .hbm, ⟨81, _⟩ => ⟨S4x4096x4x64, .f32⟩
  | .hbm, ⟨82, _⟩ => ⟨S4x4096x4x64, .f32⟩
  | .hbm, ⟨83, _⟩ => ⟨S_, .f32⟩
  | .hbm, ⟨84, _⟩ => ⟨S4x4096x4, .f32⟩
  | .hbm, ⟨85, _⟩ => ⟨S4x4096x4, .f32⟩
  | .hbm, ⟨86, _⟩ => ⟨S16384x512, .f32⟩
  | .hbm, ⟨87, _⟩ => ⟨S512x16384, .f32⟩
  | .hbm, ⟨88, _⟩ => ⟨S512x16384, .bf16⟩
  | .hbm, ⟨89, _⟩ => ⟨S64x256x512, .f32⟩
  | .hbm, ⟨90, _⟩ => ⟨S64x512x256, .f32⟩
  | .hbm, ⟨91, _⟩ => ⟨S64x512x256, .bf16⟩
  | .hbm, ⟨92, _⟩ => ⟨S16384x256, .f32⟩
  | .hbm, ⟨93, _⟩ => ⟨S256x16384, .f32⟩
  | .hbm, ⟨94, _⟩ => ⟨S16384x4, .f32⟩
  | .hbm, ⟨95, _⟩ => ⟨S_, .f32⟩
  | .hbm, ⟨96, _⟩ => ⟨S16384x4, .f32⟩
  | .hbm, ⟨97, _⟩ => ⟨S16384x8, .f32⟩
  | .hbm, ⟨98, _⟩ => ⟨S8x16384, .f32⟩
  | _, _ => ⟨S4x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_cst_0 : Ref sig .tc := ⟨.hbm, 11, rfl⟩
abbrev main_v3 : Ref sig .tc := ⟨.hbm, 12, rfl⟩
abbrev main_v4 : Ref sig .tc := ⟨.hbm, 13, rfl⟩
abbrev main_cst_1 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_cst_2 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_v44 : Ref sig .tc := ⟨.hbm, 55, rfl⟩
abbrev main_v45 : Ref sig .tc := ⟨.hbm, 56, rfl⟩
abbrev main_v46 : Ref sig .tc := ⟨.hbm, 57, rfl⟩
abbrev main_v47 : Ref sig .tc := ⟨.hbm, 58, rfl⟩
abbrev main_v48 : Ref sig .tc := ⟨.hbm, 59, rfl⟩
abbrev main_v49 : Ref sig .tc := ⟨.hbm, 60, rfl⟩
abbrev main_v50 : Ref sig .tc := ⟨.hbm, 61, rfl⟩
abbrev main_cst_3 : Ref sig .tc := ⟨.hbm, 62, rfl⟩
abbrev main_v51 : Ref sig .tc := ⟨.hbm, 63, rfl⟩
abbrev main_v52 : Ref sig .tc := ⟨.hbm, 64, rfl⟩
abbrev main_v53 : Ref sig .tc := ⟨.hbm, 65, rfl⟩
abbrev main_v54 : Ref sig .tc := ⟨.hbm, 66, rfl⟩
abbrev main_v55 : Ref sig .tc := ⟨.hbm, 67, rfl⟩
abbrev main_v56 : Ref sig .tc := ⟨.hbm, 68, rfl⟩
abbrev main_v57 : Ref sig .tc := ⟨.hbm, 69, rfl⟩
abbrev main_v58 : Ref sig .tc := ⟨.hbm, 70, rfl⟩
abbrev main_v59 : Ref sig .tc := ⟨.hbm, 71, rfl⟩
abbrev main_v60 : Ref sig .tc := ⟨.hbm, 72, rfl⟩
abbrev main_v61 : Ref sig .tc := ⟨.hbm, 73, rfl⟩
abbrev main_v62 : Ref sig .tc := ⟨.hbm, 74, rfl⟩
abbrev main_v63 : Ref sig .tc := ⟨.hbm, 75, rfl⟩
abbrev main_v64 : Ref sig .tc := ⟨.hbm, 76, rfl⟩
abbrev main_v65 : Ref sig .tc := ⟨.hbm, 77, rfl⟩
abbrev main_v66 : Ref sig .tc := ⟨.hbm, 78, rfl⟩
abbrev main_v67 : Ref sig .tc := ⟨.hbm, 79, rfl⟩
abbrev main_cst_4 : Ref sig .tc := ⟨.hbm, 80, rfl⟩
abbrev main_v68 : Ref sig .tc := ⟨.hbm, 81, rfl⟩
abbrev main_v69 : Ref sig .tc := ⟨.hbm, 82, rfl⟩
abbrev main_cst_5 : Ref sig .tc := ⟨.hbm, 83, rfl⟩
abbrev main_v70 : Ref sig .tc := ⟨.hbm, 84, rfl⟩
abbrev main_v71 : Ref sig .tc := ⟨.hbm, 85, rfl⟩
abbrev main_v72 : Ref sig .tc := ⟨.hbm, 86, rfl⟩
abbrev main_v73 : Ref sig .tc := ⟨.hbm, 87, rfl⟩
abbrev main_v74 : Ref sig .tc := ⟨.hbm, 88, rfl⟩
abbrev main_v75 : Ref sig .tc := ⟨.hbm, 89, rfl⟩
abbrev main_v76 : Ref sig .tc := ⟨.hbm, 90, rfl⟩
abbrev main_v77 : Ref sig .tc := ⟨.hbm, 91, rfl⟩
abbrev main_v78 : Ref sig .tc := ⟨.hbm, 92, rfl⟩
abbrev main_v79 : Ref sig .tc := ⟨.hbm, 93, rfl⟩
abbrev main_v80 : Ref sig .tc := ⟨.hbm, 94, rfl⟩
abbrev main_cst_6 : Ref sig .tc := ⟨.hbm, 95, rfl⟩
abbrev main_v81 : Ref sig .tc := ⟨.hbm, 96, rfl⟩
abbrev main_v82 : Ref sig .tc := ⟨.hbm, 97, rfl⟩
abbrev main_v83 : Ref sig .tc := ⟨.hbm, 98, rfl⟩

abbrev nD : Nat := 1
abbrev τ : Topo := Topo.v7x

variable {F : FTy → Type} [FloatOps F]
-- ==== Outproj.lean ====
abbrev S16384x512 : Shape := ⟨2, ![16384, 512]⟩
abbrev S16384x1024 : Shape := ⟨2, ![16384, 1024]⟩
abbrev S4x1024 : Shape := ⟨2, ![4, 1024]⟩
abbrev S1024x1024 : Shape := ⟨2, ![1024, 1024]⟩
abbrev S1024 : Shape := ⟨1, ![1024]⟩
abbrev S1024x32 : Shape := ⟨2, ![1024, 32]⟩
abbrev S32 : Shape := ⟨1, ![32]⟩
abbrev S_ : Shape := ⟨0, ![]⟩
abbrev S1024x96 : Shape := ⟨2, ![1024, 96]⟩
abbrev S1024x128 : Shape := ⟨2, ![1024, 128]⟩
abbrev S96 : Shape := ⟨1, ![96]⟩
abbrev S128 : Shape := ⟨1, ![128]⟩
abbrev S1x128 : Shape := ⟨2, ![1, 128]⟩
abbrev S4x1x1024 : Shape := ⟨3, ![4, 1, 1024]⟩
abbrev S1x1024 : Shape := ⟨2, ![1, 1024]⟩
abbrev S512x512 : Shape := ⟨2, ![512, 512]⟩
abbrev S16384x128 : Shape := ⟨2, ![16384, 128]⟩
abbrev S512x1024 : Shape := ⟨2, ![512, 1024]⟩
abbrev S1x1x1024 : Shape := ⟨3, ![1, 1, 1024]⟩
abbrev S512x128 : Shape := ⟨2, ![512, 128]⟩
abbrev S512 : Shape := ⟨1, ![512]⟩
abbrev S512x1 : Shape := ⟨2, ![512, 1]⟩

abbrev nBuf : Space → Nat
  | .hbm => 40
  | .vmem => 29
  | .smem => 0
  | _ => 0

abbrev bufTy : (tb : Table) → Fin (tcTables nBuf tb) → BufTy
  | .hbm, ⟨0, _⟩ => ⟨S16384x512, .f32⟩
  | .hbm, ⟨1, _⟩ => ⟨S16384x512, .f32⟩
  | .hbm, ⟨2, _⟩ => ⟨S16384x1024, .f32⟩
  | .hbm, ⟨3, _⟩ => ⟨S4x1024, .f32⟩
  | .hbm, ⟨4, _⟩ => ⟨S1024x1024, .f32⟩
  | .hbm, ⟨5, _⟩ => ⟨S1024, .f32⟩
  | .hbm, ⟨6, _⟩ => ⟨S4x1024, .f32⟩
  | .hbm, ⟨7, _⟩ => ⟨S4x1024, .f32⟩
  | .hbm, ⟨8, _⟩ => ⟨S1024x32, .f32⟩
  | .hbm, ⟨9, _⟩ => ⟨S32, .f32⟩
  | .hbm, ⟨10, _⟩ => ⟨S_, .f32⟩
  | .hbm, ⟨11, _⟩ => ⟨S1024x96, .f32⟩
  | .hbm, ⟨12, _⟩ => ⟨S1024x128, .f32⟩
  | .hbm, ⟨13, _⟩ => ⟨S_, .f32⟩
  | .hbm, ⟨14, _⟩ => ⟨S96, .f32⟩
  | .hbm, ⟨15, _⟩ => ⟨S128, .f32⟩
  | .hbm, ⟨16, _⟩ => ⟨S1x128, .f32⟩
  | .hbm, ⟨17, _⟩ => ⟨S4x1x1024, .f32⟩
  | .hbm, ⟨18, _⟩ => ⟨S1024x1024, .bf16⟩
  | .hbm, ⟨19, _⟩ => ⟨S1x1024, .f32⟩
  | .hbm, ⟨20, _⟩ => ⟨S4x1x1024, .f32⟩
  | .hbm, ⟨21, _⟩ => ⟨S4x1x1024, .f32⟩
  | .hbm, ⟨22, _⟩ => ⟨S_, .f32⟩
  | .hbm, ⟨23, _⟩ => ⟨S512x512, .f32⟩
  | .hbm, ⟨24, _⟩ => ⟨S512x512, .i32⟩
  | .hbm, ⟨25, _⟩ => ⟨S_, .i32⟩
  | .hbm, ⟨26, _⟩ => ⟨S512x512, .i32⟩
  | .hbm, ⟨27, _⟩ => ⟨S512x512, .i32⟩
  | .hbm, ⟨28, _⟩ => ⟨S512x512, .i32⟩
  | .hbm, ⟨29, _⟩ => ⟨S512x512, .i1⟩
  | .hbm, ⟨30, _⟩ => ⟨S_, .f32⟩
  | .hbm, ⟨31, _⟩ => ⟨S512x512, .f32⟩
  | .hbm, ⟨32, _⟩ => ⟨S512x512, .f32⟩
  | .hbm, ⟨33, _⟩ => ⟨S512x512, .bf16⟩
  | .hbm, ⟨34, _⟩ => ⟨S16384x1024, .f32⟩
  | .hbm, ⟨35, _⟩ => ⟨S16384x1024, .f32⟩
  | .hbm, ⟨36, _⟩ => ⟨S16384x128, .i32⟩
  | .hbm, ⟨37, _⟩ => ⟨S16384x128, .f32⟩
  | .hbm, ⟨38, _⟩ => ⟨S16384x128, .i32⟩
  | .hbm, ⟨39, _⟩ => ⟨S1x128, .i32⟩
  | .local _ .vmem, ⟨0, _⟩ => ⟨S512x512, .f32⟩
  | .local _ .vmem, ⟨1, _⟩ => ⟨S512x512, .f32⟩
  | .local _ .vmem, ⟨2, _⟩ => ⟨S512x512, .f32⟩
  | .local _ .vmem, ⟨3, _⟩ => ⟨S512x512, .f32⟩
  | .local _ .vmem, ⟨4, _⟩ => ⟨S512x1024, .f32⟩
  | .local _ .vmem, ⟨5, _⟩ => ⟨S512x1024, .f32⟩
  | .local _ .vmem, ⟨6, _⟩ => ⟨S1x1x1024, .f32⟩
  | .local _ .vmem, ⟨7, _⟩ => ⟨S1x1x1024, .f32⟩
  | .local _ .vmem, ⟨8, _⟩ => ⟨S1024x1024, .bf16⟩
  | .local _ .vmem, ⟨9, _⟩ => ⟨S1x1024, .f32⟩
  | .local _ .vmem, ⟨10, _⟩ => ⟨S1x1x1024, .f32⟩
  | .local _ .vmem, ⟨11, _⟩ => ⟨S1x1x1024, .f32⟩
  | .local _ .vmem, ⟨12, _⟩ => ⟨S1x1x1024, .f32⟩
  | .local _ .vmem, ⟨13, _⟩ => ⟨S1x1x1024, .f32⟩
  | .local _ .vmem, ⟨14, _⟩ => ⟨S1024x128, .f32⟩
  | .local _ .vmem, ⟨15, _⟩ => ⟨S1x128, .f32⟩
  | .local _ .vmem, ⟨16, _⟩ => ⟨S512x512, .bf16⟩
  | .local _ .vmem, ⟨17, _⟩ => ⟨S512x1024, .f32⟩
  | .local _ .vmem, ⟨18, _⟩ => ⟨S512x1024, .f32⟩
  | .local _ .vmem, ⟨19, _⟩ => ⟨S512x1024, .f32⟩
  | .local _ .vmem, ⟨20, _⟩ => ⟨S512x1024, .f32⟩
  | .local _ .vmem, ⟨21, _⟩ => ⟨S512x128, .i32⟩
  | .local _ .vmem, ⟨22, _⟩ => ⟨S512x128, .i32⟩
  | .local _ .vmem, ⟨23, _⟩ => ⟨S512x128, .f32⟩
  | .local _ .vmem, ⟨24, _⟩ => ⟨S512x128, .f32⟩
  | .local _ .vmem, ⟨25, _⟩ => ⟨S512x128, .i32⟩
  | .local _ .vmem, ⟨26, _⟩ => ⟨S512x128, .i32⟩
  | .local _ .vmem, ⟨27, _⟩ => ⟨S1x128, .i32⟩
  | .local _ .vmem, ⟨28, _⟩ => ⟨S1x128, .f32⟩
  | _, _ => ⟨S16384x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_cst : Ref sig .tc := ⟨.hbm, 10, rfl⟩
abbrev main_v0 : Ref sig .tc := ⟨.hbm, 11, rfl⟩
abbrev main_v1 : Ref sig .tc := ⟨.hbm, 12, rfl⟩
abbrev main_cst_0 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_cst_1 : Ref sig .tc := ⟨.hbm, 22, rfl⟩
abbrev main_v10 : Ref sig .tc := ⟨.hbm, 23, rfl⟩
abbrev main_call0_v0 : Ref sig .tc := ⟨.hbm, 24, rfl⟩
abbrev main_call0_c : Ref sig .tc := ⟨.hbm, 25, rfl⟩
abbrev main_call0_v1 : Ref sig .tc := ⟨.hbm, 26, rfl⟩
abbrev main_call0_v2 : Ref sig .tc := ⟨.hbm, 27, rfl⟩
abbrev main_call0_v3 : Ref sig .tc := ⟨.hbm, 28, rfl⟩
abbrev main_call0_v4 : Ref sig .tc := ⟨.hbm, 29, rfl⟩
abbrev main_call0_cst : Ref sig .tc := ⟨.hbm, 30, rfl⟩
abbrev main_call0_v5 : Ref sig .tc := ⟨.hbm, 31, rfl⟩
abbrev main_v11 : Ref sig .tc := ⟨.hbm, 32, rfl⟩
abbrev main_v12 : Ref sig .tc := ⟨.hbm, 33, rfl⟩
abbrev main_v13_0 : Ref sig .tc := ⟨.hbm, 34, rfl⟩
abbrev main_v13_1 : Ref sig .tc := ⟨.hbm, 35, rfl⟩
abbrev main_v13_2 : Ref sig .tc := ⟨.hbm, 36, rfl⟩
abbrev main_v13_3 : Ref sig .tc := ⟨.hbm, 37, rfl⟩
abbrev main_v13_4 : Ref sig .tc := ⟨.hbm, 38, rfl⟩
abbrev main_v13_5 : Ref sig .tc := ⟨.hbm, 39, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg9_0 : Ref sig .tc := ⟨.vmem, 15, rfl⟩
abbrev cc0_stg10_0 : Ref sig .tc := ⟨.vmem, 16, rfl⟩
abbrev cc0_stg11_0 : Ref sig .tc := ⟨.vmem, 17, rfl⟩
abbrev cc0_stg11_1 : Ref sig .tc := ⟨.vmem, 18, rfl⟩
abbrev cc0_stg12_0 : Ref sig .tc := ⟨.vmem, 19, rfl⟩
abbrev cc0_stg12_1 : Ref sig .tc := ⟨.vmem, 20, rfl⟩
abbrev cc0_stg13_0 : Ref sig .tc := ⟨.vmem, 21, rfl⟩
abbrev cc0_stg13_1 : Ref sig .tc := ⟨.vmem, 22, rfl⟩
abbrev cc0_stg14_0 : Ref sig .tc := ⟨.vmem, 23, rfl⟩
abbrev cc0_stg14_1 : Ref sig .tc := ⟨.vmem, 24, rfl⟩
abbrev cc0_stg15_0 : Ref sig .tc := ⟨.vmem, 25, rfl⟩
abbrev cc0_stg15_1 : Ref sig .tc := ⟨.vmem, 26, rfl⟩
abbrev cc0_stg16_0 : Ref sig .tc := ⟨.vmem, 27, rfl⟩
abbrev cc0_scratch0 : Ref sig .tc := ⟨.vmem, 28, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem9_0 : DmaSem sig := 15
abbrev cc0_sem10_0 : DmaSem sig := 16
abbrev cc0_sem11_0 : DmaSem sig := 17
abbrev cc0_sem11_1 : DmaSem sig := 18
abbrev cc0_sem12_0 : DmaSem sig := 19
abbrev cc0_sem12_1 : DmaSem sig := 20
abbrev cc0_sem13_0 : DmaSem sig := 21
abbrev cc0_sem13_1 : DmaSem sig := 22
abbrev cc0_sem14_0 : DmaSem sig := 23
abbrev cc0_sem14_1 : DmaSem sig := 24
abbrev cc0_sem15_0 : DmaSem sig := 25
abbrev cc0_sem15_1 : DmaSem sig := 26
abbrev cc0_sem16_0 : DmaSem sig := 27

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_7 (i : grid0.Coords) : Fin 3 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S1x1x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x1x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S1024x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S512x512 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S512x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S512x1024 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S512x128 .i32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S512x128 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S512x128 .i32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 1 → Memref sig .tc .vmem S1x128 .i32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]
-- ==== OutprojRefIdeal.lean ====
abbrev S16384x512 : Shape := ⟨2, ![16384, 512]⟩
abbrev S16384x1024 : Shape := ⟨2, ![16384, 1024]⟩
abbrev S4x1024 : Shape := ⟨2, ![4, 1024]⟩
abbrev S1024x1024 : Shape := ⟨2, ![1024, 1024]⟩
abbrev S1024 : Shape := ⟨1, ![1024]⟩
abbrev S1024x32 : Shape := ⟨2, ![1024, 32]⟩
abbrev S32 : Shape := ⟨1, ![32]⟩
abbrev S4x4096x1024 : Shape := ⟨3, ![4, 4096, 1024]⟩
abbrev S4x1x1024 : Shape := ⟨3, ![4, 1, 1024]⟩
abbrev S_ : Shape := ⟨0, ![]⟩
abbrev S4x4096 : Shape := ⟨2, ![4, 4096]⟩
abbrev S4x4096x1 : Shape := ⟨3, ![4, 4096, 1]⟩
abbrev S1x1x1024 : Shape := ⟨3, ![1, 1, 1024]⟩

abbrev nBuf : Space → Nat
  | .hbm => 45
  | .vmem => 0
  | .smem => 0
  | _ => 0

abbrev bufTy : (tb : Table) → Fin (tcTables nBuf tb) → BufTy
  | .hbm, ⟨0, _⟩ => ⟨S16384x512, .f32⟩
  | .hbm, ⟨1, _⟩ => ⟨S16384x512, .f32⟩
  | .hbm, ⟨2, _⟩ => ⟨S16384x1024, .f32⟩
  | .hbm, ⟨3, _⟩ => ⟨S4x1024, .f32⟩
  | .hbm, ⟨4, _⟩ => ⟨S1024x1024, .f32⟩
  | .hbm, ⟨5, _⟩ => ⟨S1024, .f32⟩
  | .hbm, ⟨6, _⟩ => ⟨S4x1024, .f32⟩
  | .hbm, ⟨7, _⟩ => ⟨S4x1024, .f32⟩
  | .hbm, ⟨8, _⟩ => ⟨S1024x32, .f32⟩
  | .hbm, ⟨9, _⟩ => ⟨S32, .f32⟩
  | .hbm, ⟨10, _⟩ => ⟨S16384x1024, .f32⟩
  | .hbm, ⟨11, _⟩ => ⟨S4x4096x1024, .f32⟩
  | .hbm, ⟨12, _⟩ => ⟨S4x4096x1024, .f32⟩
  | .hbm, ⟨13, _⟩ => ⟨S4x1x1024, .f32⟩
  | .hbm, ⟨14, _⟩ => ⟨S4x4096x1024, .f32⟩
  | .hbm, ⟨15, _⟩ => ⟨S4x4096x1024, .f32⟩
  | .hbm, ⟨16, _⟩ => ⟨S4x4096x1024, .f32⟩
  | .hbm, ⟨17, _⟩ => ⟨S4x4096x1024, .f32⟩
  | .hbm, ⟨18, _⟩ => ⟨S4x4096x1024, .f32⟩
  | .hbm, ⟨19, _⟩ => ⟨S_, .f32⟩
  | .hbm, ⟨20, _⟩ => ⟨S4x4096, .f32⟩
  | .hbm, ⟨21, _⟩ => ⟨S4x4096x1, .f32⟩
  | .hbm, ⟨22, _⟩ => ⟨S_, .f32⟩
  | .hbm, ⟨23, _⟩ => ⟨S4x4096x1, .f32⟩
  | .hbm, ⟨24, _⟩ => ⟨S4x4096x1, .f32⟩
  | .hbm, ⟨25, _⟩ => ⟨S_, .f32⟩
  | .hbm, ⟨26, _⟩ => ⟨S4x4096x1, .f32⟩
  | .hbm, ⟨27, _⟩ => ⟨S4x4096x1, .f32⟩
  | .hbm, ⟨28, _⟩ => ⟨S4x4096x1, .f32⟩
  | .hbm, ⟨29, _⟩ => ⟨S4x4096x1024, .f32⟩
  | .hbm, ⟨30, _⟩ => ⟨S4x4096x1024, .f32⟩
  | .hbm, ⟨31, _⟩ => ⟨S1x1x1024, .f32⟩
  | .hbm, ⟨32, _⟩ => ⟨S4x4096x1024, .f32⟩
  | .hbm, ⟨33, _⟩ => ⟨S4x4096x1024, .f32⟩
  | .hbm, ⟨34, _⟩ => ⟨S4x1x1024, .f32⟩
  | .hbm, ⟨35, _⟩ => ⟨S_, .f32⟩
  | .hbm, ⟨36, _⟩ => ⟨S4x1x1024, .f32⟩
  | .hbm, ⟨37, _⟩ => ⟨S4x1x1024, .f32⟩
  | .hbm, ⟨38, _⟩ => ⟨S4x4096x1024, .f32⟩
  | .hbm, ⟨39, _⟩ => ⟨S4x4096x1024, .f32⟩
  | .hbm, ⟨40, _⟩ => ⟨S4x1x1024, .f32⟩
  | .hbm, ⟨41, _⟩ => ⟨S4x4096x1024, .f32⟩
  | .hbm, ⟨42, _⟩ => ⟨S4x4096x1024, .f32⟩
  | .hbm, ⟨43, _⟩ => ⟨S16384x1024, .f32⟩
  | .hbm, ⟨44, _⟩ => ⟨S16384x1024, .f32⟩
  | _, _ => ⟨S16384x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_cst : Ref sig .tc := ⟨.hbm, 19, rfl⟩
abbrev main_v9 : Ref sig .tc := ⟨.hbm, 20, rfl⟩
abbrev main_v10 : Ref sig .tc := ⟨.hbm, 21, rfl⟩
abbrev main_cst_0 : Ref sig .tc := ⟨.hbm, 22, rfl⟩
abbrev main_v11 : Ref sig .tc := ⟨.hbm, 23, rfl⟩
abbrev main_v12 : Ref sig .tc := ⟨.hbm, 24, rfl⟩
abbrev main_cst_1 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_cst_2 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩

abbrev nD : Nat := 1
abbrev τ : Topo := Topo.v7x

variable {F : FTy → Type} [FloatOps F]
-- ==== Adaln.lean ====
abbrev S4x1024 : Shape := ⟨2, ![4, 1024]⟩
abbrev S1024x6144 : Shape := ⟨2, ![1024, 6144]⟩
abbrev S6144 : Shape := ⟨1, ![6144]⟩
abbrev S_ : Shape := ⟨0, ![]⟩
abbrev S8x1024 : Shape := ⟨2, ![8, 1024]⟩
abbrev S1 : Shape := ⟨1, ![1]⟩
abbrev S1x6144 : Shape := ⟨2, ![1, 6144]⟩
abbrev S8x6144 : Shape := ⟨2, ![8, 6144]⟩
abbrev S1024x1024 : Shape := ⟨2, ![1024, 1024]⟩
abbrev S1x1024 : Shape := ⟨2, ![1, 1024]⟩

abbrev nBuf : Space → Nat
  | .hbm => 10
  | .vmem => 7
  | .smem => 0
  | _ => 0

abbrev bufTy : (tb : Table) → Fin (tcTables nBuf tb) → BufTy
  | .hbm, ⟨0, _⟩ => ⟨S4x1024, .f32⟩
  | .hbm, ⟨1, _⟩ => ⟨S1024x6144, .f32⟩
  | .hbm, ⟨2, _⟩ => ⟨S6144, .f32⟩
  | .hbm, ⟨3, _⟩ => ⟨S_, .f32⟩
  | .hbm, ⟨4, _⟩ => ⟨S8x1024, .f32⟩
  | .hbm, ⟨5, _⟩ => ⟨S_, .i32⟩
  | .hbm, ⟨6, _⟩ => ⟨S1, .i32⟩
  | .hbm, ⟨7, _⟩ => ⟨S8x1024, .f32⟩
  | .hbm, ⟨8, _⟩ => ⟨S1x6144, .f32⟩
  | .hbm, ⟨9, _⟩ => ⟨S8x6144, .f32⟩
  | .local _ .vmem, ⟨0, _⟩ => ⟨S8x1024, .f32⟩
  | .local _ .vmem, ⟨1, _⟩ => ⟨S1024x1024, .f32⟩
  | .local _ .vmem, ⟨2, _⟩ => ⟨S1024x1024, .f32⟩
  | .local _ .vmem, ⟨3, _⟩ => ⟨S1x1024, .f32⟩
  | .local _ .vmem, ⟨4, _⟩ => ⟨S1x1024, .f32⟩
  | .local _ .vmem, ⟨5, _⟩ => ⟨S8x1024, .f32⟩
  | .local _ .vmem, ⟨6, _⟩ => ⟨S8x1024, .f32⟩
  | _, _ => ⟨S4x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_c : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![6], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S8x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S8x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== AdalnRefIdeal.lean ====
abbrev S4x1024 : Shape := ⟨2, ![4, 1024]⟩
abbrev S1024x6144 : Shape := ⟨2, ![1024, 6144]⟩
abbrev S6144 : Shape := ⟨1, ![6144]⟩
abbrev S_ : Shape := ⟨0, ![]⟩
abbrev S8x1024 : Shape := ⟨2, ![8, 1024]⟩
abbrev S8x6144 : Shape := ⟨2, ![8, 6144]⟩
abbrev S1x6144 : Shape := ⟨2, ![1, 6144]⟩

abbrev nBuf : Space → Nat
  | .hbm => 19
  | .vmem => 0
  | .smem => 0
  | _ => 0

abbrev bufTy : (tb : Table) → Fin (tcTables nBuf tb) → BufTy
  | .hbm, ⟨0, _⟩ => ⟨S4x1024, .f32⟩
  | .hbm, ⟨1, _⟩ => ⟨S1024x6144, .f32⟩
  | .hbm, ⟨2, _⟩ => ⟨S6144, .f32⟩
  | .hbm, ⟨3, _⟩ => ⟨S_, .f32⟩
  | .hbm, ⟨4, _⟩ => ⟨S4x1024, .f32⟩
  | .hbm, ⟨5, _⟩ => ⟨S8x1024, .f32⟩
  | .hbm, ⟨6, _⟩ => ⟨S8x1024, .f32⟩
  | .hbm, ⟨7, _⟩ => ⟨S8x1024, .f32⟩
  | .hbm, ⟨8, _⟩ => ⟨S_, .f32⟩
  | .hbm, ⟨9, _⟩ => ⟨S8x1024, .f32⟩
  | .hbm, ⟨10, _⟩ => ⟨S8x1024, .f32⟩
  | .hbm, ⟨11, _⟩ => ⟨S_, .f32⟩
  | .hbm, ⟨12, _⟩ => ⟨S8x1024, .f32⟩
  | .hbm, ⟨13, _⟩ => ⟨S8x1024, .f32⟩
  | .hbm, ⟨14, _⟩ => ⟨S8x1024, .f32⟩
  | .hbm, ⟨15, _⟩ => ⟨S8x6144, .f32⟩
  | .hbm, ⟨16, _⟩ => ⟨S1x6144, .f32⟩
  | .hbm, ⟨17, _⟩ => ⟨S8x6144, .f32⟩
  | .hbm, ⟨18, _⟩ => ⟨S8x6144, .f32⟩
  | _, _ => ⟨S4x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_call0_v0 : Ref sig .tc := ⟨.hbm, 6, rfl⟩
abbrev main_call0_v1 : Ref sig .tc := ⟨.hbm, 7, rfl⟩
abbrev main_call0_cst : Ref sig .tc := ⟨.hbm, 8, rfl⟩
abbrev main_call0_v2 : Ref sig .tc := ⟨.hbm, 9, rfl⟩
abbrev main_call0_v3 : Ref sig .tc := ⟨.hbm, 10, rfl⟩
abbrev main_call0_cst_0 : Ref sig .tc := ⟨.hbm, 11, rfl⟩
abbrev main_call0_v4 : Ref sig .tc := ⟨.hbm, 12, rfl⟩
abbrev main_call0_v5 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩

abbrev nD : Nat := 1
abbrev τ : Topo := Topo.v7x

variable {F : FTy → Type} [FloatOps F]
-- ==== Trig.lean ====
abbrev S4x4096 : Shape := ⟨2, ![4, 4096]⟩
abbrev S8 : Shape := ⟨1, ![8]⟩
abbrev S_ : Shape := ⟨0, ![]⟩
abbrev S1x16384 : Shape := ⟨2, ![1, 16384]⟩
abbrev S8x1 : Shape := ⟨2, ![8, 1]⟩
abbrev S8x16384 : Shape := ⟨2, ![8, 16384]⟩
abbrev S1x2048 : Shape := ⟨2, ![1, 2048]⟩
abbrev S8x2048 : Shape := ⟨2, ![8, 2048]⟩

abbrev nBuf : Space → Nat
  | .hbm => 20
  | .vmem => 7
  | .smem => 0
  | _ => 0

abbrev bufTy : (tb : Table) → Fin (tcTables nBuf tb) → BufTy
  | .hbm, ⟨0, _⟩ => ⟨S4x4096, .i32⟩
  | .hbm, ⟨1, _⟩ => ⟨S8, .f32⟩
  | .hbm, ⟨2, _⟩ => ⟨S_, .f32⟩
  | .hbm, ⟨3, _⟩ => ⟨S8, .f32⟩
  | .hbm, ⟨4, _⟩ => ⟨S8, .f32⟩
  | .hbm, ⟨5, _⟩ => ⟨S_, .f32⟩
  | .hbm, ⟨6, _⟩ => ⟨S8, .f32⟩
  | .hbm, ⟨7, _⟩ => ⟨S8, .f32⟩
  | .hbm, ⟨8, _⟩ => ⟨S_, .f32⟩
  | .hbm, ⟨9, _⟩ => ⟨S8, .f32⟩
  | .hbm, ⟨10, _⟩ => ⟨S8, .f32⟩
  | .hbm, ⟨11, _⟩ => ⟨S8, .f32⟩
  | .hbm, ⟨12, _⟩ => ⟨S_, .f32⟩
  | .hbm, ⟨13, _⟩ => ⟨S8, .f32⟩
  | .hbm, ⟨14, _⟩ => ⟨S8, .f32⟩
  | .hbm, ⟨15, _⟩ => ⟨S1x16384, .i32⟩
  | .hbm, ⟨16, _⟩ => ⟨S1x16384, .f32⟩
  | .hbm, ⟨17, _⟩ => ⟨S8x1, .f32⟩
  | .hbm, ⟨18, _⟩ => ⟨S8x16384, .f32⟩
  | .hbm, ⟨19, _⟩ => ⟨S8x16384, .f32⟩
  | .local _ .vmem, ⟨0, _⟩ => ⟨S1x2048, .f32⟩
  | .local _ .vmem, ⟨1, _⟩ => ⟨S1x2048, .f32⟩
  | .local _ .vmem, ⟨2, _⟩ => ⟨S8x1, .f32⟩
  | .local _ .vmem, ⟨3, _⟩ => ⟨S8x2048, .f32⟩
  | .local _ .vmem, ⟨4, _⟩ => ⟨S8x2048, .f32⟩
  | .local _ .vmem, ⟨5, _⟩ => ⟨S8x2048, .f32⟩
  | .local _ .vmem, ⟨6, _⟩ => ⟨S8x2048, .f32⟩
  | _, _ => ⟨S4x4096, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_cst : Ref sig .tc := ⟨.hbm, 2, rfl⟩
abbrev main_v1 : Ref sig .tc := ⟨.hbm, 3, rfl⟩
abbrev main_v2 : Ref sig .tc := ⟨.hbm, 4, rfl⟩
abbrev main_cst_0 : Ref sig .tc := ⟨.hbm, 5, rfl⟩
abbrev main_v3 : Ref sig .tc := ⟨.hbm, 6, rfl⟩
abbrev main_v4 : Ref sig .tc := ⟨.hbm, 7, rfl⟩
abbrev main_cst_1 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_cst_2 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13_0 : Ref sig .tc := ⟨.hbm, 18, rfl⟩
abbrev main_v13_1 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S1x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S8x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S8x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S8x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== TrigRefIdeal.lean ====
abbrev S4x4096 : Shape := ⟨2, ![4, 4096]⟩
abbrev S8 : Shape := ⟨1, ![8]⟩
abbrev S_ : Shape := ⟨0, ![]⟩
abbrev S4x4096x1 : Shape := ⟨3, ![4, 4096, 1]⟩
abbrev S1x1x8 : Shape := ⟨3, ![1, 1, 8]⟩
abbrev S4x4096x8 : Shape := ⟨3, ![4, 4096, 8]⟩
abbrev S16384x8 : Shape := ⟨2, ![16384, 8]⟩
abbrev S8x16384 : Shape := ⟨2, ![8, 16384]⟩

abbrev nBuf : Space → Nat
  | .hbm => 27
  | .vmem => 0
  | .smem => 0
  | _ => 0

abbrev bufTy : (tb : Table) → Fin (tcTables nBuf tb) → BufTy
  | .hbm, ⟨0, _⟩ => ⟨S4x4096, .i32⟩
  | .hbm, ⟨1, _⟩ => ⟨S8, .f32⟩
  | .hbm, ⟨2, _⟩ => ⟨S_, .f32⟩
  | .hbm, ⟨3, _⟩ => ⟨S8, .f32⟩
  | .hbm, ⟨4, _⟩ => ⟨S8, .f32⟩
  | .hbm, ⟨5, _⟩ => ⟨S_, .f32⟩
  | .hbm, ⟨6, _⟩ => ⟨S8, .f32⟩
  | .hbm, ⟨7, _⟩ => ⟨S8, .f32⟩
  | .hbm, ⟨8, _⟩ => ⟨S_, .f32⟩
  | .hbm, ⟨9, _⟩ => ⟨S8, .f32⟩
  | .hbm, ⟨10, _⟩ => ⟨S8, .f32⟩
  | .hbm, ⟨11, _⟩ => ⟨S8, .f32⟩
  | .hbm, ⟨12, _⟩ => ⟨S_, .f32⟩
  | .hbm, ⟨13, _⟩ => ⟨S8, .f32⟩
  | .hbm, ⟨14, _⟩ => ⟨S8, .f32⟩
  | .hbm, ⟨15, _⟩ => ⟨S4x4096, .f32⟩
  | .hbm, ⟨16, _⟩ => ⟨S4x4096x1, .f32⟩
  | .hbm, ⟨17, _⟩ => ⟨S1x1x8, .f32⟩
  | .hbm, ⟨18, _⟩ => ⟨S4x4096x8, .f32⟩
  | .hbm, ⟨19, _⟩ => ⟨S4x4096x8, .f32⟩
  | .hbm, ⟨20, _⟩ => ⟨S4x4096x8, .f32⟩
  | .hbm, ⟨21, _⟩ => ⟨S4x4096x8, .f32⟩
  | .hbm, ⟨22, _⟩ => ⟨S16384x8, .f32⟩
  | .hbm, ⟨23, _⟩ => ⟨S8x16384, .f32⟩
  | .hbm, ⟨24, _⟩ => ⟨S4x4096x8, .f32⟩
  | .hbm, ⟨25, _⟩ => ⟨S16384x8, .f32⟩
  | .hbm, ⟨26, _⟩ => ⟨S8x16384, .f32⟩
  | _, _ => ⟨S4x4096, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_cst : Ref sig .tc := ⟨.hbm, 2, rfl⟩
abbrev main_v1 : Ref sig .tc := ⟨.hbm, 3, rfl⟩
abbrev main_v2 : Ref sig .tc := ⟨.hbm, 4, rfl⟩
abbrev main_cst_0 : Ref sig .tc := ⟨.hbm, 5, rfl⟩
abbrev main_v3 : Ref sig .tc := ⟨.hbm, 6, rfl⟩
abbrev main_v4 : Ref sig .tc := ⟨.hbm, 7, rfl⟩
abbrev main_cst_1 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_cst_2 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩

abbrev nD : Nat := 1
abbrev τ : Topo := Topo.v7x

variable {F : FTy → Type} [FloatOps F]
-- ==== Proof.CombineSetup.lean ====
/- The launch of the combine kernel: the buffers at the region's entry, the rows it copies, and what each copy delivers. -/
module

public import proofs.«01_k».proof.Proof.Gen.CombineIdeal.Frame
public import Idealize.ShloMosaic.Lib.Pipeline.FrameBody
public import Idealize.ShloMosaic.Lib.Pipeline.Value
public import Idealize.ShloMosaic.Lib.Batch
public import Idealize.ShloMosaic.Lib.Ring
public import Idealize.ShloMosaic.Lib.Tactic
public import Idealize.ShloMosaic.Lib.WordCmp
public import Idealize.ShloMosaic.Lib.Claim

@[expose] public section

set_option maxRecDepth 16384

noncomputable section

namespace Cert.CombineIdeal.Own

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.CombineIdeal.Gen

variable {F : FTy → Type} [FloatOps F]

local notation "𝕄" => MT nD τ sig Unit (Elt F) ℕ (Pipeline.UD sig nD τ) ℕ

/-! ## The loops -/

/-- The loops' trips: the rows of one grid point. -/
abbrev T : ℕ := k0_t1_loop.trips
theorem T_eq : T = 1024 := by decide
theorem T2_eq : k0_t2_loop.trips = 1024 := by decide

/-- Trip `j` fills row `j / 4` of slot `j % 4`. -/
theorem off2_eq : ∀ j : Fin k0_t1_loop.trips, k0_off2 j = ![j.val % 4, j.val / 4, 0] := by decide +kernel
/-- Trip `j` reads word `j`. -/
theorem off1_eq : ∀ j : Fin k0_t1_loop.trips, k0_off1 j = ![j.val] := by decide +kernel

/-! ## The rows copied -/

/-- The table of the experts' rows, left where it lies, -/
abbrev yM : Memref sig .tc .hbm S73728x1024 .f32 := Memref.whole main_arg1
/-- and the slots the rows are gathered in. -/
abbrev scM : Memref sig .tc .vmem S4x256x1024 .f32 := Memref.whole cc0_scratch0

abbrev YBuf (c : Dev nD) : Type := Buf (Elt F) (yM.view.loc (c : Thread nD τ))
abbrev SBuf (c : Dev nD) : Type := Buf (Elt F) (scM.view.loc (c : Thread nD τ))

/-- The row of the table that trip `j` copies, chosen by the word `w j`, -/
def srcBlk (w : Fin T → BitVec 32) (hw : ∀ j, k0_chk1 (w j)) (j : Fin T) : Memref sig .tc .hbm S1x1024 .f32 :=
  (Memref.whole main_arg1 : Memref sig .tc .hbm S73728x1024 .f32).slice (Rect.unit (s := S73728x1024) (k0_off3 (w j)) S1x1024.size (k0_off3_inb (w j) (hw j))) (fun _ => rfl)
/-- and the row of the slots it fills. -/
def dstBlk (j : Fin T) : Memref sig .tc .vmem S1x1024 .f32 :=
  ((Memref.whole cc0_scratch0 : Memref sig .tc .vmem S4x256x1024 .f32).slice (Rect.unit (s := S4x256x1024) (k0_off2 j) S1x1x1024.size (k0_off2_inb j)) (fun _ => rfl)).squeeze S1x1024 squeezes_S1x1x1024_S1x1024

/-- A slot's row as it is left by its copy. -/
abbrev landed (c : Dev nD) (w : Fin T → BitVec 32) (hw : ∀ j, k0_chk1 (w j)) (fy : YBuf (F := F) c) (j : Fin T) : Buf (Elt F) ((dstBlk j).view.loc (c : Thread nD τ)) :=
  (dstBlk j).view.writes (Elt F) (dstBlk j).view.junk [⟨Rect.whole _, ReadAs.same.apply ((srcBlk w hw j).view.read (Elt F) fy)⟩]

/-- The row of trip `j` under the read token of its number. -/
abbrev srcTok (c : Dev nD) (w : Fin T → BitVec 32) (hw : ∀ j, k0_chk1 (w j)) (fy : YBuf (F := F) c) (j : Fin T) : sProp 𝕄 :=
  (srcBlk w hw j).view.loc (c : Thread nD τ) ↦[(srcBlk w hw j).view.set]{Transfers.shareTokN fullShare j.val} fy
/-- A slot's row at anything. -/
abbrev dstAny (c : Dev nD) (j : Fin T) : sProp 𝕄 :=
  iprop(∃ g, (dstBlk j).view.loc (c : Thread nD τ) ↦[(dstBlk j).view.set]{fullShare} g)

/-- One row's credit. -/
abbrev NN : ℕ := 128

/-- What copy `j` delivers: the slot's row filled, and the table's row back. -/
abbrev deliv (c : Dev nD) (w : Fin T → BitVec 32) (hw : ∀ j, k0_chk1 (w j)) (fy : YBuf (F := F) c) (j : Fin T) : sProp 𝕄 :=
  iprop(((dstBlk j).view.loc (c : Thread nD τ) ↦[(dstBlk j).view.set]{fullShare} landed c w hw fy j) ∗ srcTok c w hw fy j)

theorem two_storable {ℓ ℓ' : Loc nD τ sig} {I : Finset (Idx ℓ)} {I' : Finset (Idx ℓ')} {q q' : PosShare TreeShare} {f : Buf (Elt F) ℓ} {f' : Buf (Elt F) ℓ'} :
    BI.Storable (upEmb : UEmb _ 𝕄) iprop((ℓ ↦[I]{q} f) ∗ (ℓ' ↦[I']{q'} f')) := inferInstance

instance deliv_storable (c : Dev nD) (w : Fin T → BitVec 32) (hw : ∀ j, k0_chk1 (w j)) (fy : YBuf (F := F) c) (j : Fin T) :
    BI.Storable (upEmb : UEmb _ 𝕄) (deliv c w hw fy j) := by
  unfold deliv srcTok; exact two_storable

end Cert.CombineIdeal.Own

end
-- ==== Proof.CombineLoops.lean ====
/- The two loops of the combine kernel: one issues the copies of the rows, the other waits for them. -/
module

public import proofs.«01_k».proof.Proof.CombineSetup

@[expose] public section

set_option maxRecDepth 16384

noncomputable section

namespace Cert.CombineIdeal.Own

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.CombineIdeal.Gen

variable {F : FTy → Type} [FloatOps F]

local notation "𝕄" => MT nD τ sig Unit (Elt F) ℕ (Pipeline.UD sig nD τ) ℕ

/-! ## The loop that issues the copies -/

/-- The contents of a table of words, -/
abbrev WBuf (c : Dev nD) (arg1 : Memref sig .tc .smem S1024 .i32) : Type := Buf (Elt F) (arg1.view.loc (c : Thread nD τ))
/-- and word `j` of it, as the body reads it. -/
abbrev wordOf (c : Dev nD) (arg1 : Memref sig .tc .smem S1024 .i32) (g : WBuf (F := F) c arg1) (j : Fin T) : BitVec 32 :=
  arg1.view.readAt (Elt F) (Rect.unit (s := S1024) (k0_off1 j) S1.size (k0_off1_inb j)).toLoadRect g (Shape.Idx.first (numel1_S1.symm ▸ Nat.one_pos))

/-- The copies' batch, `j` issued and `u` units taken. -/
abbrev batch (c : Dev nD) (w : Fin T → BitVec 32) (hw : ∀ j, k0_chk1 (w j)) (fy : YBuf (F := F) c) (j u : ℕ) : sProp 𝕄 :=
  Transfers.Batch (countersEmb (U := Pipeline.UD sig nD τ)) (c : Thread nD τ) (.dma 11) () 128 (deliv c w hw fy) j u

/-- One trip of the loop that issues. -/
abbrev issueBody (arg1 : Memref sig .tc .smem S1024 .i32) (k0_t1 : Fin k0_t1_loop.trips) (_ : PUnit) : Prog (TpuEff nD τ sig (Elt F) Λ₀ .tc) PUnit := do
  let arg10 : BitVec 32 := Scf.iv 0#32 1#32 k0_t1
  let v47 : Index := Scalar.indexCast arg10
  let v48 : Elt F .i32 ← smemLoad arg1 (Rect.unit (s := S1024) (k0_off1 k0_t1) S1.size (k0_off1_inb k0_t1)) numel1_S1 rfl
  have k0_hw1 : k0_chk1 v48 := (← Prog.lift (TpuEff.assume (k0_chk1 v48) (k0_chk1.dec v48))).down
  let c4_i32 : BitVec 32 := 4#32
  let c0_i32_26 : BitVec 32 := 0#32
  let v49 : BitVec 1 := Scalar.cmpi .eq c4_i32 c0_i32_26
  let c1_i32_27 : BitVec 32 := 1#32
  let v50 : BitVec 32 := Scalar.select v49 c1_i32_27 c4_i32
  let v51 : BitVec 32 := Scalar.remsi arg10 v50
  let c0_i32_28 : BitVec 32 := 0#32
  let v52 : BitVec 1 := Scalar.cmpi .ne v51 c0_i32_28
  let c0_i32_29 : BitVec 32 := 0#32
  let v53 : BitVec 1 := Scalar.cmpi .slt v51 c0_i32_29
  let c0_i32_30 : BitVec 32 := 0#32
  let v54 : BitVec 1 := Scalar.cmpi .slt v50 c0_i32_30
  let v55 : BitVec 1 := Scalar.xori v53 v54
  let v56 : BitVec 1 := Scalar.andi v55 v52
  let v57 : BitVec 32 := Scalar.addi v51 v50
  let v58 : BitVec 32 := Scalar.select v56 v57 v51
  let c4_i32_31 : BitVec 32 := 4#32
  let v59 : BitVec 32 := Scalar.divsi arg10 c4_i32_31
  let c0_i32_32 : BitVec 32 := 0#32
  let v60 : BitVec 1 := Scalar.cmpi .sgt arg10 c0_i32_32
  let v61 : BitVec 32 := Scalar.extui v60
  let c0_i32_33 : BitVec 32 := 0#32
  let v62 : BitVec 1 := Scalar.cmpi .slt arg10 c0_i32_33
  let v63 : BitVec 32 := Scalar.extui v62
  let v64 : BitVec 32 := Scalar.subi v61 v63
  let c0_i32_34 : BitVec 32 := 0#32
  let v65 : BitVec 1 := Scalar.cmpi .sgt c4_i32_31 c0_i32_34
  let v66 : BitVec 32 := Scalar.extui v65
  let c0_i32_35 : BitVec 32 := 0#32
  let v67 : BitVec 1 := Scalar.cmpi .slt c4_i32_31 c0_i32_35
  let v68 : BitVec 32 := Scalar.extui v67
  let v69 : BitVec 32 := Scalar.subi v66 v68
  let v70 : BitVec 1 := Scalar.cmpi .ne v64 v69
  let v71 : BitVec 32 := Scalar.remsi arg10 c4_i32_31
  let c0_i32_36 : BitVec 32 := 0#32
  let v72 : BitVec 1 := Scalar.cmpi .ne v71 c0_i32_36
  let v73 : BitVec 1 := Scalar.andi v70 v72
  let c1_i32_37 : BitVec 32 := 1#32
  let v74 : BitVec 32 := Scalar.subi v59 c1_i32_37
  let v75 : BitVec 32 := Scalar.select v73 v74 v59
  let c0_i32_38 : BitVec 32 := 0#32
  let v76 : Memref sig .tc .vmem S1x1x1024 .f32 := scM.slice (Rect.unit (s := S4x256x1024) (k0_off2 k0_t1) S1x1x1024.size (k0_off2_inb k0_t1)) (fun _ => rfl)
  let v77 : Memref sig .tc .vmem S1x1024 .f32 := v76.squeeze S1x1024 squeezes_S1x1x1024_S1x1024
  let c0_i32_39 : BitVec 32 := 0#32
  let v78 : Memref sig .tc .hbm S1x1024 .f32 := yM.slice (Rect.unit (s := S73728x1024) (k0_off3 v48) S1x1024.size (k0_off3_inb v48 k0_hw1)) (fun _ => rfl)
  Prog.lift (.enqueueDma v78 (.here v77) (.dma cc0_scratch1.sem) (View.wordExact_bits rfl) ((View.wordExact_bits rfl).reshape _ _) ⟨Or.inl rfl, trivial⟩)
  pure ⟨⟩

/-- Before trip `k`: `k` copies issued; the rows and the tokens from `k` on in hand. -/
def issueInv (c : Dev nD) (arg1 : Memref sig .tc .smem S1024 .i32) (g : WBuf (F := F) c arg1) (hw : ∀ j, k0_chk1 (wordOf c arg1 g j)) (fy : YBuf (F := F) c) (k : ℕ) (_ : PUnit) : sProp 𝕄 :=
  iprop((arg1.view.loc (c : Thread nD τ) ↦[arg1.view.set]{fullShare} g) ∗ batch c (wordOf c arg1 g) hw fy k 0
    ∗ bigSep (Ring.rangeSet T k T) (dstAny (F := F) c) ∗ bigSep (Ring.rangeSet T k T) (srcTok c (wordOf c arg1 g) hw fy))

theorem issue_step (c : Dev nD) (arg1 : Memref sig .tc .smem S1024 .i32) (g : WBuf (F := F) c arg1) (hw : ∀ j, k0_chk1 (wordOf c arg1 g j)) (fy : YBuf (F := F) c) (k : Fin k0_t1_loop.trips) (acc : PUnit) :
    issueInv c arg1 g hw fy k acc ⊢ wp frame (wpE (defs₀ (F := F)) Variants.none (c : Thread nD τ) none) Set.univ (issueBody arg1 k acc) (issueInv c arg1 g hw fy (k.val + 1)) := by
  have hk := k.isLt
  have hc : k0_chk1 (wordOf c arg1 g k) := hw k
  unfold issueInv
  rw [Ring.bigSep_rangeSet_head (Φ := dstAny (F := F) c) (by omega) (by omega), Ring.bigSep_rangeSet_head (Φ := srcTok c (wordOf c arg1 g) hw fy) (by omega) (by omega)]
  unfold dstAny srcTok
  iintro ⟨H1, HB, ⟨⟨%gd, HD⟩, HDs⟩, ⟨HS, HSs⟩⟩
  dsimp only [issueBody]
  sl_exec (disch := first | sl_exact hc)
  sl_step
  isplitl [H1]; · iexact H1
  isplitl [HB]; · iexact HB
  isplitl [HDs]; · iexact HDs
  iexact HSs

/-! ## The loop that waits -/

/-- One trip of the loop that waits. -/
abbrev drainBody (k0_t2 : Fin k0_t2_loop.trips) (_ : PUnit) : Prog (TpuEff nD τ sig (Elt F) Λ₀ .tc) PUnit := do
  let arg10 : BitVec 32 := Scf.iv 0#32 1#32 k0_t2
  let c4_i32 : BitVec 32 := 4#32
  let c0_i32_26 : BitVec 32 := 0#32
  let v47 : BitVec 1 := Scalar.cmpi .eq c4_i32 c0_i32_26
  let c1_i32_27 : BitVec 32 := 1#32
  let v48 : BitVec 32 := Scalar.select v47 c1_i32_27 c4_i32
  let v49 : BitVec 32 := Scalar.remsi arg10 v48
  let c0_i32_28 : BitVec 32 := 0#32
  let v50 : BitVec 1 := Scalar.cmpi .ne v49 c0_i32_28
  let c0_i32_29 : BitVec 32 := 0#32
  let v51 : BitVec 1 := Scalar.cmpi .slt v49 c0_i32_29
  let c0_i32_30 : BitVec 32 := 0#32
  let v52 : BitVec 1 := Scalar.cmpi .slt v48 c0_i32_30
  let v53 : BitVec 1 := Scalar.xori v51 v52
  let v54 : BitVec 1 := Scalar.andi v53 v50
  let v55 : BitVec 32 := Scalar.addi v49 v48
  let v56 : BitVec 32 := Scalar.select v54 v55 v49
  let c4_i32_31 : BitVec 32 := 4#32
  let v57 : BitVec 32 := Scalar.divsi arg10 c4_i32_31
  let c0_i32_32 : BitVec 32 := 0#32
  let v58 : BitVec 1 := Scalar.cmpi .sgt arg10 c0_i32_32
  let v59 : BitVec 32 := Scalar.extui v58
  let c0_i32_33 : BitVec 32 := 0#32
  let v60 : BitVec 1 := Scalar.cmpi .slt arg10 c0_i32_33
  let v61 : BitVec 32 := Scalar.extui v60
  let v62 : BitVec 32 := Scalar.subi v59 v61
  let c0_i32_34 : BitVec 32 := 0#32
  let v63 : BitVec 1 := Scalar.cmpi .sgt c4_i32_31 c0_i32_34
  let v64 : BitVec 32 := Scalar.extui v63
  let c0_i32_35 : BitVec 32 := 0#32
  let v65 : BitVec 1 := Scalar.cmpi .slt c4_i32_31 c0_i32_35
  let v66 : BitVec 32 := Scalar.extui v65
  let v67 : BitVec 32 := Scalar.subi v64 v66
  let v68 : BitVec 1 := Scalar.cmpi .ne v62 v67
  let v69 : BitVec 32 := Scalar.remsi arg10 c4_i32_31
  let c0_i32_36 : BitVec 32 := 0#32
  let v70 : BitVec 1 := Scalar.cmpi .ne v69 c0_i32_36
  let v71 : BitVec 1 := Scalar.andi v68 v70
  let c1_i32_37 : BitVec 32 := 1#32
  let v72 : BitVec 32 := Scalar.subi v57 c1_i32_37
  let v73 : BitVec 32 := Scalar.select v71 v72 v57
  let c0_i32_38 : BitVec 32 := 0#32
  let v74 : Memref sig .tc .vmem S1x1x1024 .f32 := scM.slice (Rect.unit (s := S4x256x1024) (k0_off4 k0_t2) S1x1x1024.size (k0_off4_inb k0_t2)) (fun _ => rfl)
  let v75 : Memref sig .tc .vmem S1x1024 .f32 := v74.squeeze S1x1024 squeezes_S1x1x1024_S1x1024
  let c0_i32_39 : BitVec 32 := 0#32
  let c0_i32_40 : BitVec 32 := 0#32
  let v76 : Memref sig .tc .hbm S1x1024 .f32 := yM.slice (Rect.unit (s := S73728x1024) ![0, 0] S1x1024.size inb_S73728x1024_S1x1024_0_0) (fun _ => rfl)
  Prog.lift (.waitDma2 cc0_scratch1.sem v76 v75 (View.wordExact_bits rfl) ((View.wordExact_bits rfl).reshape _ _))
  pure ⟨⟩

/-- Before trip `k`: the batch with `k` copies' units taken; after the last, the cell at zero and every delivery. -/
def drainInv (c : Dev nD) (w : Fin T → BitVec 32) (hw : ∀ j, k0_chk1 (w j)) (fy : YBuf (F := F) c) (k : ℕ) (_ : PUnit) : sProp 𝕄 :=
  iprop(⌜k ≤ T⌝ ∗ (∃ W, owes (c : Thread nD τ) 0 W)
    ∗ (if k < T then batch c w hw fy T (k * 128)
       else iprop(semVal ((c : Thread nD τ), SemLoc.dma 11) 0 ∗ bigSep Finset.univ (deliv c w hw fy))))

theorem drain_step (c : Dev nD) (w : Fin T → BitVec 32) (hw : ∀ j, k0_chk1 (w j)) (fy : YBuf (F := F) c) (k : Fin k0_t2_loop.trips) (acc : PUnit) :
    drainInv c w hw fy k acc ⊢ wp frame (wpE (defs₀ (F := F)) Variants.none (c : Thread nD τ) none) Set.univ (drainBody k acc) (drainInv c w hw fy (k.val + 1)) := by
  have hk : k.val < T := k.isLt
  unfold drainInv
  simp only [if_pos hk]
  rcases Nat.lt_or_ge (k.val + 1) T with h1 | h1
  · simp only [if_pos h1]
    iintro ⟨-, ⟨%W, HO⟩, HB⟩
    dsimp only [drainBody]
    sl_exec
    sl_step
    isplitr; · ipureintro; omega
    isplitl [HO]; · iexists _; iexact HO
    rw [show (k.val + 1) * 128 = k.val * 128 + 128 by omega]
    iexact HB
  · simp only [if_neg (Nat.not_lt.mpr h1)]
    iintro ⟨-, ⟨%W, HO⟩, HB⟩
    dsimp only [drainBody]
    sl_exec
    sl_step
    isplitr; · ipureintro; omega
    isplitl [HO]; · iexists _; iexact HO
    isplitl [HB]; · iexact HB
    iexact HB_all

end Cert.CombineIdeal.Own

end
-- ==== Proof.CombineRun.lean ====
/- The body of the combine kernel at one grid point: the rows gathered, and what it leaves in the output block. -/
module

public import proofs.«01_k».proof.Proof.CombineLoops
public import Idealize.ShloMosaic.Lib.Pipeline.ValueKit

@[expose] public section

set_option maxRecDepth 16384

noncomputable section

namespace Cert.CombineIdeal.Own

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.CombineIdeal.Gen

variable {F : FTy → Type} [FloatOps F]

local notation "𝕄" => MT nD τ sig Unit (Elt F) ℕ (Pipeline.UD sig nD τ) ℕ

/-! ## The rows gathered -/

theorem hz2 : (![0, 0] : Fin 2 → Nat) = fun _ => 0 := funext fun a => by fin_cases a <;> rfl
theorem hz3 : (![0, 0, 0] : Fin 3 → Nat) = fun _ => 0 := funext fun a => by fin_cases a <;> rfl

/-- After one store over the whole of a buffer it reads the stored value. -/
theorem read_whole_store {sp : Space} {S : Shape} {e : EltTy} (v : View sig .tc sp S e) (f : v.ty.Contents (Elt F)) {off : Fin S.rank → Nat} (h : off = fun _ => 0)
    (inb : ∀ a, off a + S.size a ≤ S.size a) (w : S.Idx → Elt F e) :
    v.read (Elt F) (v.writes (Elt F) f [(⟨Rect.unit off S.size inb, w⟩ : View.Piece (Elt F) S e)]) = w := by
  rw [View.read_writes_eq_canon _ _ _ fun y => ⟨_, List.mem_singleton_self _, View.mem_set_unit_zero h inb y⟩, View.canon_unit_zero h]

/-- The elements of the row that trip `j` fills, -/
abbrev bset (j : Fin T) : Finset S4x256x1024.Idx := (Rect.unit (s := S4x256x1024) (k0_off2 j) S1x1x1024.size (k0_off2_inb j)).set

theorem mem_bset (j : Fin T) (y : S4x256x1024.Idx) : y ∈ bset j ↔ (y 0).val = j.val % 4 ∧ (y 1).val = j.val / 4 := by
  rw [Rect.mem_set_unit, off2_eq]
  have h2 : (y 2).val < 1024 := (y 2).isLt
  constructor
  · intro H
    have a0 : j.val % 4 ≤ (y 0).val ∧ (y 0).val < j.val % 4 + 1 := H 0
    have a1 : j.val / 4 ≤ (y 1).val ∧ (y 1).val < j.val / 4 + 1 := H 1
    omega
  · intro H a; fin_cases a
    · show j.val % 4 ≤ (y 0).val ∧ (y 0).val < j.val % 4 + 1; omega
    · show j.val / 4 ≤ (y 1).val ∧ (y 1).val < j.val / 4 + 1; omega
    · show 0 ≤ (y 2).val ∧ (y 2).val < 0 + 1024; omega

/-- the trip that fills an element, -/
def tripOf (y : S4x256x1024.Idx) : Fin T := ⟨4 * (y 1).val + (y 0).val, by
  have h0 : (y 0).val < 4 := (y 0).isLt
  have h1 : (y 1).val < 256 := (y 1).isLt
  have := T_eq; omega⟩

theorem mem_tripOf (j : Fin T) (y : S4x256x1024.Idx) : y ∈ bset j ↔ tripOf y = j := by
  rw [mem_bset]
  have h0 : (y 0).val < 4 := (y 0).isLt
  unfold tripOf
  rw [Fin.ext_iff]; dsimp only; omega

theorem bset_disjoint : ∀ b b' : Fin T, b ≠ b' → Disjoint (bset b) (bset b') := fun b b' hne => by
  rw [Finset.disjoint_left]; intro y hy hy'; rw [mem_tripOf] at hy hy'; exact hne (hy.symm.trans hy')
theorem bset_cover : Finset.univ.biUnion bset = Finset.univ := by
  ext y; simp only [Finset.mem_biUnion, Finset.mem_univ, true_and, iff_true]; exact ⟨tripOf y, (mem_tripOf _ _).mpr rfl⟩

theorem dst_set (j : Fin T) : (dstBlk j).view.set = bset j := by
  unfold dstBlk; exact (View.set_reshape _ _).trans (View.set_slice_whole _ _)

/-- and the slots once every row is in place. -/
def gathered (c : Dev nD) (w : Fin T → BitVec 32) (hw : ∀ j, k0_chk1 (w j)) (fy : YBuf (F := F) c) : SBuf (F := F) c :=
  fun y => landed c w hw fy (tripOf y) y

/-- The slots at anything are their rows at anything, -/
theorem slots_split (c : Dev nD) (f : SBuf (F := F) c) : (scM.view.loc (c : Thread nD τ) ↦{fullShare} f : sProp 𝕄) ⊢ bigSep Finset.univ (dstAny (F := F) c) := by
  refine (Entails.of_eq (Ring.pointsTo_blocks (ℓ := scM.view.loc (c : Thread nD τ)) (q := fullShare) bset bset_disjoint bset_cover f)).trans (BI.bigSep_mono fun b _ => ?_)
  show (scM.view.loc (c : Thread nD τ) ↦[bset b]{fullShare} f : sProp 𝕄) ⊢ dstAny (F := F) c b
  unfold dstAny; rw [dst_set]; iintro H; iexists f; iexact H

/-- and the rows filled are the slots gathered. -/
theorem slots_join (c : Dev nD) (w : Fin T → BitVec 32) (hw : ∀ j, k0_chk1 (w j)) (fy : YBuf (F := F) c) :
    (bigSep Finset.univ (fun j => ((dstBlk j).view.loc (c : Thread nD τ) ↦[(dstBlk j).view.set]{fullShare} landed c w hw fy j : sProp 𝕄)))
      ⊢ (scM.view.loc (c : Thread nD τ) ↦{fullShare} gathered c w hw fy : sProp 𝕄) := by
  refine (BI.bigSep_mono fun b _ => ?_).trans
    (Entails.of_eq (Ring.pointsTo_blocks (ℓ := scM.view.loc (c : Thread nD τ)) (q := fullShare) bset bset_disjoint bset_cover (gathered c w hw fy)).symm)
  show _ ⊢ (scM.view.loc (c : Thread nD τ) ↦[bset b]{fullShare} gathered c w hw fy : sProp 𝕄)
  rw [dst_set]
  exact Entails.of_eq (pointsTo_congr fun y hy => by
    unfold gathered; rw [(mem_tripOf b y).mp hy])

/-- What a row's token keeps while the row is lent. -/
abbrev srcRest (c : Dev nD) (w : Fin T → BitVec 32) (hw : ∀ j, k0_chk1 (w j)) (fy : YBuf (F := F) c) (j : Fin T) : sProp 𝕄 :=
  yM.view.loc (c : Thread nD τ) ↦[Finset.univ \ (srcBlk w hw j).view.set]{Transfers.shareTokN fullShare j.val} fy

/-- The table is its rows under the copies' tokens, and the rest. -/
theorem table_split (c : Dev nD) (w : Fin T → BitVec 32) (hw : ∀ j, k0_chk1 (w j)) (fy : YBuf (F := F) c) :
    (yM.view.loc (c : Thread nD τ) ↦{fullShare} fy : sProp 𝕄)
      ⊣⊢ iprop((yM.view.loc (c : Thread nD τ) ↦{Transfers.shareDrop fullShare T} fy) ∗ bigSep Finset.univ (srcTok c w hw fy) ∗ bigSep Finset.univ (srcRest c w hw fy)) := by
  have e : (bigSep (Finset.range T) (fun i => (yM.view.loc (c : Thread nD τ) ↦{Transfers.shareTokN fullShare i} fy : sProp 𝕄)))
      = iprop(bigSep Finset.univ (srcTok c w hw fy) ∗ bigSep Finset.univ (srcRest c w hw fy)) := by
    refine (Ring.bigSep_fin_eq_range T (fun j => (yM.view.loc (c : Thread nD τ) ↦{Transfers.shareTokN fullShare j.val} fy : sProp 𝕄)) _ (fun _ _ => rfl)).symm.trans ?_
    refine Eq.trans ?_ (BI.bigSep_sep _ _ _)
    refine BI.bigSep_congr fun j _ => ?_
    exact BI.Entails.antisymm (pointsTo_split_subset (Finset.subset_univ _)).1 (pointsTo_split_subset (Finset.subset_univ _)).2
  rw [← e]
  exact Transfers.pointsTo_toks_range fullShare T

/-! ## What the body computes -/

/-- One slot of those gathered. -/
abbrev slotAt {c : Dev nD} (G : SBuf (F := F) c) (off : Fin 3 → Nat) (h : ∀ a, off a + S1x256x1024.size a ≤ S4x256x1024.size a) : Vec F S1x256x1024 .f32 :=
  scM.view.readAt (Elt F) (Rect.unit (s := S4x256x1024) off S1x256x1024.size h).toLoadRect G

/-- The block the body writes: the residual, its gate times the weighted rows, normalised. -/
def pay {c : Dev nD} (x3 : Vec F S256x128 .f32) (G : SBuf (F := F) c) (x4 : Vec F S256x1024 .f32) (x5 : Vec F S1x1x1024 .f32) (x6 : Vec F S1x1024 .f32) : FVec F S256x1024 .f32 :=
  have v2 : Vec F S256x128 .f32 := x3
  have v3 : FVec F S256x1 .f32 := extractStridedSlice S256x1 ![0, 0] v2 slices_S256x128_o0_0_S256x1
  have v4 : Vec F S1x256x1024 .f32 := slotAt G ![0, 0, 0] inb_S4x256x1024_S1x256x1024_0_0_0
  have v5 : FVec F S256x1024 .f32 := shapeCast S256x1024 v4 shapeCasts_S1x256x1024_S256x1024
  have v6 : FVec F S256x1024 .f32 := broadcastTo S256x1024 v3 broadcasts_S256x1_S256x1024
  have v7 : FVec F S256x1024 .f32 := mulf v6 v5
  have v8 : FVec F S256x1 .f32 := extractStridedSlice S256x1 ![0, 1] v2 slices_S256x128_o0_1_S256x1
  have v9 : Vec F S1x256x1024 .f32 := slotAt G ![1, 0, 0] inb_S4x256x1024_S1x256x1024_1_0_0
  have v10 : FVec F S256x1024 .f32 := shapeCast S256x1024 v9 shapeCasts_S1x256x1024_S256x1024
  have v11 : FVec F S256x1024 .f32 := broadcastTo S256x1024 v8 broadcasts_S256x1_S256x1024
  have v12 : FVec F S256x1024 .f32 := mulf v11 v10
  have v13 : FVec F S256x1024 .f32 := addf v7 v12
  have v14 : FVec F S256x1 .f32 := extractStridedSlice S256x1 ![0, 2] v2 slices_S256x128_o0_2_S256x1
  have v15 : Vec F S1x256x1024 .f32 := slotAt G ![2, 0, 0] inb_S4x256x1024_S1x256x1024_2_0_0
  have v16 : FVec F S256x1024 .f32 := shapeCast S256x1024 v15 shapeCasts_S1x256x1024_S256x1024
  have v17 : FVec F S256x1024 .f32 := broadcastTo S256x1024 v14 broadcasts_S256x1_S256x1024
  have v18 : FVec F S256x1024 .f32 := mulf v17 v16
  have v19 : FVec F S256x1024 .f32 := addf v13 v18
  have v20 : FVec F S256x1 .f32 := extractStridedSlice S256x1 ![0, 3] v2 slices_S256x128_o0_3_S256x1
  have v21 : Vec F S1x256x1024 .f32 := slotAt G ![3, 0, 0] inb_S4x256x1024_S1x256x1024_3_0_0
  have v22 : FVec F S256x1024 .f32 := shapeCast S256x1024 v21 shapeCasts_S1x256x1024_S256x1024
  have v23 : FVec F S256x1024 .f32 := broadcastTo S256x1024 v20 broadcasts_S256x1_S256x1024
  have v24 : FVec F S256x1024 .f32 := mulf v23 v22
  have v25 : FVec F S256x1024 .f32 := addf v19 v24
  have v26 : Vec F S256x1024 .f32 := x4
  have v27 : Vec F S1x1x1024 .f32 := x5
  have v28 : FVec F S1x1024 .f32 := shapeCast S1x1024 v27 shapeCasts_S1x1x1024_S1x1024
  have v29 : FVec F S256x1024 .f32 := broadcastTo S256x1024 v28 broadcasts_S1x1024_S256x1024
  have v30 : FVec F S256x1024 .f32 := mulf v29 v25
  have v31 : FVec F S256x1024 .f32 := addf v26 v30
  have v32 : FVec F S256x1024 .f32 := mulf v31 v31
  have cst : FVec F S256 .f32 := constant S256 .f32 0x00000000#32
  have v33 : FVec F S256 .f32 := multiReduction .add [1] S256 v32 0x00000000#32 reduces_S256x1024_S256 (.inl rfl) rfl
  have v34 : FVec F S256x1 .f32 := shapeCast S256x1 v33 shapeCasts_S256_S256x1
  have cst_20 : F .f32 := Scalar.ofBits .f32 0x44800000#32
  have v35 : FVec F S256x1 .f32 := broadcast S256x1 cst_20
  have v36 : FVec F S256x1 .f32 := divf v34 v35
  have cst_21 : F .f32 := Scalar.ofBits .f32 0x358637BD#32
  have v37 : FVec F S256x1 .f32 := broadcast S256x1 cst_21
  have v38 : FVec F S256x1 .f32 := addf v36 v37
  have v39 : FVec F S256x1 .f32 := rsqrt v38
  have v40 : FVec F S256x1024 .f32 := broadcastTo S256x1024 v39 broadcasts_S256x1_S256x1024
  have v41 : FVec F S256x1024 .f32 := mulf v31 v40
  have v42 : Vec F S1x1024 .f32 := x6
  have v43 : FVec F S1x1024 .f32 := shapeCast S1x1024 v42 shapeCasts_S1x1024_S1x1024
  have v44 : FVec F S256x1024 .f32 := broadcastTo S256x1024 v43 broadcasts_S1x1024_S256x1024
  have v45 : FVec F S256x1024 .f32 := mulf v41 v44
  v45

/-- Word `j` of a table. -/
def wd (x1 : Vec F S1024 .i32) (j : Fin T) : BitVec 32 := x1 (ix1 ⟨j.val, T_eq ▸ j.isLt⟩)

theorem wordOf_eq (c : Dev nD) (arg1 : Memref sig .tc .smem S1024 .i32) (harg1 : arg1.IsWhole) (x1 : Vec F S1024 .i32) :
    wordOf c arg1 (harg1.unread x1) = wd x1 := by
  funext j
  unfold wd wordOf
  simp only [View.readAt_eq_ld, Memref.IsWhole.read_unread]
  refine congrArg x1 (funext fun a => Fin.ext ?_)
  match a with
  | ⟨0, _⟩ => exact congrFun (off1_eq j) 0

set_option maxHeartbeats 1000000 in
/-- The body at one grid point. -/
theorem run (c : Dev nD) (i : grid0.Coords) (arg1 : Memref sig .tc .smem S1024 .i32) (harg1 : arg1.IsWhole) (arg3 : Memref sig .tc .vmem S256x128 .f32) (harg3 : arg3.IsWhole) (arg4 : Memref sig .tc .vmem S256x1024 .f32) (harg4 : arg4.IsWhole) (arg5 : Memref sig .tc .vmem S1x1x1024 .f32) (harg5 : arg5.IsWhole) (arg6 : Memref sig .tc .vmem S1x1024 .f32) (harg6 : arg6.IsWhole) (arg7 : Memref sig .tc .vmem S256x1024 .f32) (harg7 : arg7.IsWhole)
    (x1 : Vec F S1024 .i32) (x3 : Vec F S256x128 .f32) (x4 : Vec F S256x1024 .f32) (x5 : Vec F S1x1x1024 .f32) (x6 : Vec F S1x1024 .f32) (fy : YBuf (F := F) c)
    (hw : ∀ j, k0_chk1 (wd x1 j)) (W : Waits sig Unit) (K : PUnit → sProp 𝕄) :
      iprop(owns (c : Thread nD τ) arg1 fullShare x1 ∗ owns (c : Thread nD τ) arg3 fullShare x3 ∗ owns (c : Thread nD τ) arg4 fullShare x4 ∗ owns (c : Thread nD τ) arg5 fullShare x5 ∗ owns (c : Thread nD τ) arg6 fullShare x6 ∗ (∃ d, owns (c : Thread nD τ) arg7 fullShare d)
         ∗ (∃ f, scM.view.loc (c : Thread nD τ) ↦{fullShare} f) ∗ (yM.view.loc (c : Thread nD τ) ↦{fullShare} fy)
         ∗ semVal ((c : Thread nD τ), SemLoc.dma 11) 0 ∗ owes (c : Thread nD τ) 0 W
         ∗ (iprop(owns (c : Thread nD τ) arg1 fullShare x1 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare (pay x3 (gathered c (wd x1) hw fy) x4 x5 x6)
         ∗ (∃ f, scM.view.loc (c : Thread nD τ) ↦{fullShare} f) ∗ (yM.view.loc (c : Thread nD τ) ↦{fullShare} fy)
         ∗ semVal ((c : Thread nD τ), SemLoc.dma 11) 0 ∗ ∃ W', owes (c : Thread nD τ) 0 W') -∗ K ⟨⟩))
        ⊢ wp frame (wpE (defs₀ (F := F)) Variants.none c none) Set.univ (cc0_combine i arg1 harg1 yM (Memref.isWhole_whole _) arg3 harg3 arg4 harg4 arg5 harg5 arg6 harg6 arg7 harg7 scM (Memref.isWhole_whole _) cc0_scratch1) K := by
  have hwd := (wordOf_eq c arg1 harg1 x1).symm
  have hw' : ∀ j, k0_chk1 (wordOf c arg1 (harg1.unread x1) j) := fun j => by rw [← hwd]; exact hw j
  have hG : gathered c (wd x1) hw fy = gathered c (wordOf c arg1 (harg1.unread x1)) hw' fy := by
    congr 1
  rw [hG]
  sl_unfold [cc0_combine, k0_part1]
  unfold owns
  iintro ⟨⟨%f1, %hf1, H1⟩, ⟨%f3, %hf3, H3⟩, ⟨%f4, %hf4, H4⟩, ⟨%f5, %hf5, H5⟩, ⟨%f6, %hf6, H6⟩, ⟨%d7, %f7, -, H7⟩, ⟨%fs, HD⟩, HY, Hc, HW, Hk⟩
  obtain rfl := harg1.eq_unread hf1; obtain rfl := harg3.eq_unread hf3; obtain rfl := harg4.eq_unread hf4; obtain rfl := harg5.eq_unread hf5; obtain rfl := harg6.eq_unread hf6
  ihave HY' := (table_split c (wordOf c arg1 (harg1.unread x1)) hw' fy).1 $$ HY
  icases HY' with ⟨HYd, HYt, HYr⟩
  ihave HD' := ((slots_split c fs).trans (Entails.of_eq (by rw [← Ring.rangeSet_univ]) : _ ⊢ bigSep (Ring.rangeSet T 0 T) (dstAny (F := F) c))) $$ HD
  ihave HS' := (Entails.of_eq (by rw [← Ring.rangeSet_univ]) : bigSep Finset.univ (srcTok c (wordOf c arg1 (harg1.unread x1)) hw' fy) ⊢ bigSep (Ring.rangeSet T 0 T) (srcTok c (wordOf c arg1 (harg1.unread x1)) hw' fy)) $$ HYt
  haveI := fun t => deliv_storable c (wordOf c arg1 (harg1.unread x1)) hw' fy t
  imod (Transfers.batch_alloc' (Lvl := ℕ) (countersEmb (U := Pipeline.UD sig nD τ)) (c : Thread nD τ) () 128 (deliv c (wordOf c arg1 (harg1.unread x1)) hw' fy) (sm := .dma 11) (E := Set.univ)) $$ Hc with HB
  rw [bind_assoc]
  sl_for (issueInv c arg1 (harg1.unread x1) hw' fy) $$ [H1 HB HD' HS']
  · intro k acc; exact issue_step c arg1 (harg1.unread x1) hw' fy k acc
  · unfold issueInv
    isplitl [H1]; · iexact H1
    isplitl [HB]; · iexact HB
    isplitl [HD']; · iexact HD'
    iexact HS'
  iintro %acc HL
  unfold issueInv
  icases HL with ⟨H1, HB, -, -⟩
  sl_respell []
  rw [bind_assoc]
  sl_for (drainInv c (wordOf c arg1 (harg1.unread x1)) hw' fy) $$ [HB HW]
  · intro k acc; exact drain_step c (wordOf c arg1 (harg1.unread x1)) hw' fy k acc
  · unfold drainInv
    rw [if_pos (show 0 < T by rw [T_eq]; omega)]
    isplitr; · ipureintro; omega
    isplitl [HW]; · iexists _; iexact HW
    iexact HB
  iintro %acc' HL
  ihave HL' := (show drainInv c (wordOf c arg1 (harg1.unread x1)) hw' fy k0_t2_loop.trips acc' ⊢ iprop((∃ W, owes (c : Thread nD τ) 0 W) ∗ semVal ((c : Thread nD τ), SemLoc.dma 11) 0 ∗ bigSep Finset.univ (deliv c (wordOf c arg1 (harg1.unread x1)) hw' fy)) from by
      unfold drainInv; rw [if_neg (by rw [T_eq, T2_eq]; omega)]; iintro ⟨-, HO, Hc, Hall⟩
      isplitl [HO]; · iexact HO
      isplitl [Hc] <;> iassumption) $$ HL
  icases HL' with ⟨⟨%W', HO⟩, Hc, Hall⟩
  ihave Hd := (Entails.of_eq (BI.bigSep_sep _ _ _) : bigSep Finset.univ (deliv c (wordOf c arg1 (harg1.unread x1)) hw' fy) ⊢ iprop((bigSep Finset.univ (fun j => ((dstBlk j).view.loc (c : Thread nD τ) ↦[(dstBlk j).view.set]{fullShare} landed c (wordOf c arg1 (harg1.unread x1)) hw' fy j : sProp 𝕄))) ∗ bigSep Finset.univ (srcTok c (wordOf c arg1 (harg1.unread x1)) hw' fy))) $$ Hall
  icases Hd with ⟨HD, HYt⟩
  ihave HG := (slots_join c (wordOf c arg1 (harg1.unread x1)) hw' fy) $$ HD
  ihave HY := (table_split c (wordOf c arg1 (harg1.unread x1)) hw' fy).2 $$ [HYd HYt HYr]
  · isplitl [HYd]; · iexact HYd
    isplitl [HYt]; · iexact HYt
    iexact HYr
  sl_exec
  sl_step
  iapply Hk
  isplitl [H1]
  · iexists _; isplitr; · ipureintro; exact harg1.read_unread _
    iexact H1
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr; · ipureintro; exact harg6.read_unread _
    iexact H6
  isplitl [H7]
  · iexists _; isplitr; swap; · iexact H7
    ipureintro
    sl_unfold_words
    refine (read_whole_store _ _ hz2 _ _).trans ?_
    unfold pay
    simp only [View.readAt_eq_ld, Memref.IsWhole.read_unread, View.ld_unit_zero (S := S256x128) hz2, View.ld_unit_zero (S := S256x1024) hz2, View.ld_unit_zero (S := S1x1024) hz2, View.ld_unit_zero (S := S1x1x1024) hz3]
  isplitl [HG]; · iexists _; iexact HG
  isplitl [HY]; · iexact HY
  isplitl [Hc]; · iexact Hc
  iexists _; iexact HO

end Cert.CombineIdeal.Own

end
-- ==== Proof.CombineFrame.lean ====
/- The run of the combine kernel: the body at every grid point on the words of its block, and what the whole run leaves. -/
module

public import proofs.«01_k».proof.Proof.CombineRun
public import proofs.«01_k».proof.Proof.Gen.Pre_rows_in_range
public import Idealize.ShloMosaic.Lib.ReduceAll

@[expose] public section

set_option maxRecDepth 16384

noncomputable section

namespace Cert.CombineIdeal.Own

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.CombineIdeal.Gen

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-! ## The words are rows of the table -/

/-- Every word of the rows' table is a row of the experts' output. -/
def InB : Prop := ∀ (c : Dev nD) (i : S65536.Idx), (m ((c : Thread nD τ).loc main_arg0) i : BitVec 32).toNat < 73728

/-- The precondition decoded: every word of the first argument is in the range 0 ≤ · < 73728. -/
theorem words_lt (a0 : IVec S65536 32) (a1 : FVec F S73728x1024 .f32) (a2 : FVec F S16384x128 .f32) (a3 : FVec F S16384x1024 .f32)
    (a4 : FVec F S4x1024 .f32) (a5 : FVec F S1024 .f32)
    (h : Cert.Pre_rows_in_range.fn a0 a1 a2 a3 a4 a5 = fun _ => 1#1) (i : S65536.Idx) : (a0 i).toNat < 73728 := by
  have both (p q : Bool) : IntOp.andi (BitVec.ofBool p) (BitVec.ofBool q) = BitVec.ofBool (p && q) := by
    cases p <;> cases q <;> decide
  have one (p : Bool) : (BitVec.ofBool p = 1#1) ↔ p = true := by cases p <;> decide
  haveI : Subsingleton Cert.Pre_rows_in_range.S_.Idx := ⟨fun x y => funext fun a => a.elim0⟩
  have e := congrFun h (fun a => a.elim0)
  dsimp only [Cert.Pre_rows_in_range.fn] at e
  have e' := Host.reduce_andi_all _ _ _ _ _ e i
  simp only [andi, cmpi, broadcastInDim, constantI, IntOp.cmpi, both, one, Bool.and_eq_true] at e'
  obtain ⟨hge, hlt⟩ := e'
  simp only [BitVec.sle, BitVec.slt, decide_eq_true_eq, BitVec.toInt, BitVec.toNat_ofNat] at hge hlt
  omega

/-- The precondition gives it. -/
theorem inB_of_pre (h : ∀ c : Dev nD, Cert.Pre_rows_in_range.fn (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) = fun _ => 1#1) : InB m :=
  fun c i => words_lt _ _ _ _ _ _ (h c) i

theorem chk_of_lt (v : BitVec 32) (h : v.toNat < 73728) : k0_chk1 v := by
  intro a
  match a with
  | ⟨0, _⟩ => show v.toNat + 1 ≤ 73728; omega
  | ⟨1, _⟩ => show 0 + 1024 ≤ 1024; omega

/-- The block of words at a point. -/
def bw (c : Dev nD) (t : Fin cfg0.N) : Vec F S1024 .i32 := iblk m c 0 t

theorem bw_lt (hI : InB m) (c : Dev nD) (t : Fin cfg0.N) (x : S1024.Idx) : (bw m c t x : BitVec 32).toNat < 73728 := by
  show (V m c main_arg0 (((cfg0.win 0).blk t).view.emb x) : BitVec 32).toNat < 73728
  rw [V_main_arg0]
  exact hI c _

theorem bw_chk (hI : InB m) (c : Dev nD) (t : Fin cfg0.N) (j : Fin T) : k0_chk1 (wd (bw m c t) j) := chk_of_lt _ (bw_lt m hI c t _)

/-! ## What the launch hands over -/

theorem hmain (𝒱₀ : Variants) : Pipeline.HMain (Ix := Unit) (Name := ℕ) (U := Pipeline.UD sig nD τ) (Lvl := ℕ) cfgs 0 defs₀ 𝒱₀ m (main (F := F)) (V m) :=
  Pipeline.hmain_prefix cfgs 0 defs₀ 𝒱₀ m main hostOps0 hostOps0_sub hostOps0_fresh main_chain

/-- The kernel's own semaphore. -/
abbrev osem0 : Fin 1 → SemLoc sig := fun _ => SemLoc.dma 11
theorem ownSemFacts0 : Pipeline.OwnSemFacts spec0 osem0 := by decide
theorem ownSems00_eq (c : Dev nD) :
    (Pipeline.ownSems0 (Ix := Unit) (Name := ℕ) (U := Pipeline.UD sig nD τ) (Lvl := ℕ) (Val := Elt F) (τ := τ) osem0 c : sProp 𝕄)
      = iprop(semVal ((c : Thread nD τ), SemLoc.dma 11) 0) := by
  rw [Pipeline.ownSems0_eq_of_list c osem0 [0] (by decide) (by decide)]; rfl

/-- The operand the copies read: the experts' rows. -/
def H0 : Finset (Ref sig .tc) := {main_arg1}
theorem H0_sub : H0 ⊆ Pipeline.restRefs sig spec0 := by decide
theorem hbmPts0_eq (c : Dev nD) :
    (bigSep H0 (fun b => ((c : Thread nD τ).loc b) ↦{fullShare} V m c b) : sProp 𝕄)
      = iprop(yM.view.loc (c : Thread nD τ) ↦{fullShare} (V m c main_arg1 : YBuf (F := F) c)) := by
  rw [BI.bigSep_eq_bigSepL_of_eq [main_arg1] (by decide) (by decide)]; rfl

theorem PhiD0_eq (c : Dev nD) :
    (Pipeline.ΦD osem0 spec0 H0 (V m) c : sProp 𝕄)
      = iprop((∃ f, scM.view.loc (c : Thread nD τ) ↦{fullShare} f) ∗ (∃ r, prngReg c r)
          ∗ semVal ((c : Thread nD τ), SemLoc.dma 11) 0 ∗ (yM.view.loc (c : Thread nD τ) ↦{fullShare} (V m c main_arg1 : YBuf (F := F) c))) := by
  rw [Pipeline.ΦD_eq, scopedRest0_eq, ownSems00_eq, hbmPts0_eq]

/-! ## The proof data -/

/-- The slots after the copies at point `t`. -/
def slotsAt (hI : InB m) (c : Dev nD) (t : Fin cfg0.N) : SBuf (F := F) c :=
  gathered c (wd (bw m c t)) (bw_chk m hI c t) (V m c main_arg1)

/-- What the body leaves in the output at point `t`. -/
def out (hI : InB m) (c : Dev nD) (t : Fin cfg0.N) : Vec F S256x1024 .f32 :=
  pay (c := c) (iblk m c 1 t) (slotsAt m hI c t) (iblk m c 2 t) (iblk m c 3 t) (iblk m c 4 t)

def dats (hI : InB m) (_ : Fin 1) (c : Dev nD) : Dat τ (Elt F) Unit ℕ (Pipeline.UD sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => out m hI c t
  Φ _ := Pipeline.ΦD osem0 spec0 H0 (V m) c
  q _ := fullShare
  owed _ := 0

theorem A_eq (hI : InB m) (c : Dev nD) (w : Fin cfg0.W) : (dats m hI 0 c).A w = V m c (Pipeline.arrRef spec0 w) := by
  dsimp only [dats]

theorem after_0 (hI : InB m) (c : Dev nD) (t : Fin cfg0.N) : (dats m hI 0 c).after 0 t = iblk m c 0 t := by dsimp only [dats]; try rfl
theorem after_1 (hI : InB m) (c : Dev nD) (t : Fin cfg0.N) : (dats m hI 0 c).after 1 t = iblk m c 1 t := by dsimp only [dats]; try rfl
theorem after_2 (hI : InB m) (c : Dev nD) (t : Fin cfg0.N) : (dats m hI 0 c).after 2 t = iblk m c 2 t := by dsimp only [dats]; try rfl
theorem after_3 (hI : InB m) (c : Dev nD) (t : Fin cfg0.N) : (dats m hI 0 c).after 3 t = iblk m c 3 t := by dsimp only [dats]; try rfl
theorem after_4 (hI : InB m) (c : Dev nD) (t : Fin cfg0.N) : (dats m hI 0 c).after 4 t = iblk m c 4 t := by dsimp only [dats]; try rfl
theorem after_5 (hI : InB m) (c : Dev nD) (t : Fin cfg0.N) : (dats m hI 0 c).after 5 t = out m hI c t := by dsimp only [dats]; try rfl

theorem before_0 (hI : InB m) (c : Dev nD) (t : Fin cfg0.N) (d) : (dats m hI 0 c).before 0 t d = iblk m c 0 t :=
  ((dats m hI 0 c).before_in_eq_fetched 0 rfl (fun _ => rfl) (fun _ _ _ => rfl) (fun t => by rw [after_0]; unfold Dat.blockOf iblk; rw [A_eq]; try rfl) t d).trans
    (by unfold Dat.fetched Dat.blockOf iblk; rw [A_eq]; try rfl)
theorem before_1 (hI : InB m) (c : Dev nD) (t : Fin cfg0.N) (d) : (dats m hI 0 c).before 1 t d = iblk m c 1 t :=
  ((dats m hI 0 c).before_in_eq_fetched 1 rfl (fun _ => rfl) (fun _ _ _ => rfl) (fun t => by rw [after_1]; unfold Dat.blockOf iblk; rw [A_eq]; try rfl) t d).trans
    (by unfold Dat.fetched Dat.blockOf iblk; rw [A_eq]; try rfl)
theorem before_2 (hI : InB m) (c : Dev nD) (t : Fin cfg0.N) (d) : (dats m hI 0 c).before 2 t d = iblk m c 2 t :=
  ((dats m hI 0 c).before_in_eq_fetched 2 rfl (fun _ => rfl) (fun _ _ _ => rfl) (fun t => by rw [after_2]; unfold Dat.blockOf iblk; rw [A_eq]; try rfl) t d).trans
    (by unfold Dat.fetched Dat.blockOf iblk; rw [A_eq]; try rfl)
theorem before_3 (hI : InB m) (c : Dev nD) (t : Fin cfg0.N) (d) : (dats m hI 0 c).before 3 t d = iblk m c 3 t :=
  ((dats m hI 0 c).before_in_eq_fetched 3 rfl (fun _ => rfl) (fun _ _ _ => rfl) (fun t => by rw [after_3]; unfold Dat.blockOf iblk; rw [A_eq]; try rfl) t d).trans
    (by unfold Dat.fetched Dat.blockOf iblk; rw [A_eq]; try rfl)
theorem before_4 (hI : InB m) (c : Dev nD) (t : Fin cfg0.N) (d) : (dats m hI 0 c).before 4 t d = iblk m c 4 t :=
  ((dats m hI 0 c).before_in_eq_fetched 4 rfl (fun _ => rfl) (fun _ _ _ => rfl) (fun t => by rw [after_4]; unfold Dat.blockOf iblk; rw [A_eq]; try rfl) t d).trans
    (by unfold Dat.fetched Dat.blockOf iblk; rw [A_eq]; try rfl)

/-! ## The body at every point -/

/-- What the body is called with, -/
def bodyPre (hI : InB m) (c : Dev nD) (t : Fin cfg0.N) : sProp 𝕄 :=
  iprop((dats m hI 0 c).Φ t.castSucc ∗ (dats m hI 0 c).owesAt () t.castSucc
    ∗ (∃ d, owns (c : Thread nD τ) (st0_0 t) fullShare ((dats m hI 0 c).before 0 t d)) ∗ (∃ d, owns (c : Thread nD τ) (st0_1 t) fullShare ((dats m hI 0 c).before 1 t d)) ∗ (∃ d, owns (c : Thread nD τ) (st0_2 t) fullShare ((dats m hI 0 c).before 2 t d)) ∗ (∃ d, owns (c : Thread nD τ) (st0_3 t) fullShare ((dats m hI 0 c).before 3 t d)) ∗ (∃ d, owns (c : Thread nD τ) (st0_4 t) fullShare ((dats m hI 0 c).before 4 t d)) ∗ (∃ d, owns (c : Thread nD τ) (st0_5 t) fullShare ((dats m hI 0 c).before 5 t d)))
/-- and what it returns. -/
def bodyPost (hI : InB m) (c : Dev nD) (t : Fin cfg0.N) : sProp 𝕄 :=
  iprop((dats m hI 0 c).Φ t.succ ∗ (dats m hI 0 c).owesAt () t.succ
    ∗ owns (c : Thread nD τ) (st0_0 t) fullShare ((dats m hI 0 c).after 0 t) ∗ owns (c : Thread nD τ) (st0_1 t) fullShare ((dats m hI 0 c).after 1 t) ∗ owns (c : Thread nD τ) (st0_2 t) fullShare ((dats m hI 0 c).after 2 t) ∗ owns (c : Thread nD τ) (st0_3 t) fullShare ((dats m hI 0 c).after 3 t) ∗ owns (c : Thread nD τ) (st0_4 t) fullShare ((dats m hI 0 c).after 4 t) ∗ owns (c : Thread nD τ) (st0_5 t) fullShare ((dats m hI 0 c).after 5 t))

set_option maxHeartbeats 1600000 in
theorem sound_body (hI : InB m) (c : Dev nD) (t : Fin cfg0.N) :
    bodyPre m hI c t ⊢ wp frame (wpE (defs₀ (F := F)) Variants.none c none) Set.univ (bodyAt0 t) (fun _ => bodyPost m hI c t) := by
  unfold bodyPre bodyPost
  simp only [before_0, before_1, before_2, before_3, before_4]
  rw [show (dats m hI 0 c).Φ t.succ = (dats m hI 0 c).Φ t.castSucc from rfl, after_0, after_1, after_2, after_3, after_4, after_5]
  rw [show (dats m hI 0 c).Φ t.castSucc = Pipeline.ΦD osem0 spec0 H0 (V m) c from rfl, PhiD0_eq]
  unfold Dat.owesAt Pipeline.owesWithin
  rw [show (dats m hI 0 c).owed t.castSucc = 0 from rfl, show (dats m hI 0 c).owed t.succ = 0 from rfl]
  iintro ⟨⟨HS, Hg, Hq, HY⟩, ⟨%W, -, HW⟩, ⟨%d0, H0⟩, ⟨%d1, H1⟩, ⟨%d2, H2⟩, ⟨%d3, H3⟩, ⟨%d4, H4⟩, ⟨%d5, H5⟩⟩
  iapply (run c (grid0.coords t) _ _ _ _ _ _ _ _ _ _ _ _ (bw m c t) (iblk m c 1 t) (iblk m c 2 t) (iblk m c 3 t) (iblk m c 4 t) (V m c main_arg1) (bw_chk m hI c t) W _)
  isplitl [H0]; · iexact H0
  isplitl [H1]; · iexact H1
  isplitl [H2]; · iexact H2
  isplitl [H3]; · iexact H3
  isplitl [H4]; · iexact H4
  isplitl [H5]; · iexists _; iexact H5
  isplitl [HS]; · iexact HS
  isplitl [HY]; · iexact HY
  isplitl [Hq]; · iexact Hq
  isplitl [HW]; · iexact HW
  iintro ⟨H0, H1, H2, H3, H4, H5, HS, HY, Hq, ⟨%W', HW'⟩⟩
  isplitl [HS Hg HY Hq]
  · isplitl [HS]; · iexact HS
    isplitl [Hg]; · iexact Hg
    isplitl [Hq]; · iexact Hq
    iexact HY
  isplitl [HW']
  · iexists W'; isplitr; · ipureintro; exact fun _ _ => Or.inl trivial
    iexact HW'
  isplitl [H0]; · iexact H0
  isplitl [H1]; · iexact H1
  isplitl [H2]; · iexact H2
  isplitl [H3]; · iexact H3
  isplitl [H4]; · iexact H4
  iexact H5

theorem defs₀_row (t : Fin cfg0.N) :
    defs₀ (F := F) .tc cfg0.body (cfg0.bodyArgs t (cfg0.slots t)) = bodyAt0 t := by
  unfold defs₀; rw [Defs.onTc_tc]

theorem body_obligation (hI : InB m) (c : Dev nD) : BodyObligation (dats (F := F) m hI 0 c) (defs₀ (F := F)) Variants.none () Set.univ := fun t => by
  rw [bigSep_W0, bigSep_W0, defs₀_row]
  exact triple_restated (sound_body m hI c t) rfl .rfl fun _ => .rfl

/-! ## The run and the frame -/

-- the launch theorem's implicit arguments are found by unification through plain definitions
set_option backward.isDefEq.respectTransparency.types false in
/-- The run: every array of the pipeline ends at what its proof data say, every other buffer as launched, every counter at zero. -/
theorem run_main (hI : InB m) : θ_run defs (onTc (τ := τ) (main (F := F))) (s₀ m ρ) (fun r => Pipeline.FramePost cfgs (dats m hI) 0 (V m) r ∧ r.2.sem = fun _ => 0) :=
  Pipeline.θ_run_frame_dma (Q' := _) cfgs (dats m hI) (0 : Fin 1) launch0 osem0 defs₀ Variants.none ownSemFacts0 H0 H0_sub m ρ main
    (hbody := fun c => (body_obligation m hI c).loose) (hshare := fun c => (dats m hI 0 c).share_full fun _ => rfl)
    (howed := fun _ _ => rfl) (V := V m) (hmain := hmain m Variants.none) (hA := A_eq m hI)
    (hin := fun _ => .rfl) (hout := fun _ => .rfl)

/-- The frame: the arguments end as launched, every counter at zero. -/
theorem frame (hI : InB m) : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  (θ_run defs _ _).mono (fun _ h => ⟨fun c => ⟨((h.1 c).1 0).trans (((dats m hI 0 c).arrAt_in 0 rfl _).trans ((A_eq m hI c 0).trans (V_main_arg0 m c))),
      ((h.1 c).2 main_arg1 (Pipeline.mem_restRefs_of main_arg1 (by decide) (by decide))).trans (V_main_arg1 m c),
      ((h.1 c).1 1).trans (((dats m hI 0 c).arrAt_in 1 rfl _).trans ((A_eq m hI c 1).trans (V_main_arg2 m c))),
      ((h.1 c).1 2).trans (((dats m hI 0 c).arrAt_in 2 rfl _).trans ((A_eq m hI c 2).trans (V_main_arg3 m c))),
      ((h.1 c).2 main_arg4 (Pipeline.mem_restRefs_of main_arg4 (by decide) (by decide))).trans (V_main_arg4 m c),
      ((h.1 c).2 main_arg5 (Pipeline.mem_restRefs_of main_arg5 (by decide) (by decide))).trans (V_main_arg5 m c)⟩, h.2⟩) (run_main m ρ hI)

end Cert.CombineIdeal.Own

end
-- ==== Proof.CombineMath.lean ====
/- One token of the last step, over the extended reals: its experts' rows weighted by the gates, added to the residual and normalised. -/
module

public import Idealize.ShloMosaic.Lib.Pointwise

@[expose] public section

noncomputable section

namespace Cert.Comb

open Idealize.ShloMosaic Idealize.ShloMosaic.TcCoe

/-- The four experts' rows `y`, weighted by the gates `g`. -/
def mix (g : Fin 4 → EReal) (y : Fin 4 → Fin 1024 → EReal) (d : Fin 1024) : EReal := ∑ k, g k * y k d

/-- The row `x` with the weighted rows added, each column by its factor `s`. -/
def resid (x s : Fin 1024 → EReal) (y : Fin 1024 → EReal) (d : Fin 1024) : EReal := x d + s d * y d

/-- The row `r`, normalised by its mean square and weighted by `f`. -/
def norm (r f : Fin 1024 → EReal) (d : Fin 1024) : EReal :=
  r d * Ideal.rsqrt (Ideal.div (∑ i, r i * r i) (Ideal.ofBits FTy.f32 0x44800000#32) + Ideal.ofBits FTy.f32 0x358637BD#32) * f d

/-- The token's result. -/
def out (g : Fin 4 → EReal) (y : Fin 4 → Fin 1024 → EReal) (x s f : Fin 1024 → EReal) (d : Fin 1024) : EReal := norm (resid x s (mix g y)) f d

theorem out_congr {g g' : Fin 4 → EReal} {y y' : Fin 4 → Fin 1024 → EReal} {x x' s s' f f' : Fin 1024 → EReal}
    (h0 : g = g') (h1 : y = y') (h2 : x = x') (h3 : s = s') (h4 : f = f') (d : Fin 1024) : out g y x s f d = out g' y' x' s' f' d := by
  rw [h0, h1, h2, h3, h4]

/-- The batch of a token, -/
def bat (t : Fin 16384) : Fin 4 := ⟨t.val / 4096, by omega⟩
/-- and its position there. -/
def pos (t : Fin 16384) : Fin 4096 := ⟨t.val % 4096, Nat.mod_lt _ (by decide)⟩

end Cert.Comb

end
-- ==== Proof.CombineValue.lean ====
/- The combine kernel's result, entry by entry, over the extended reals. -/
module

public import proofs.«01_k».proof.Proof.CombineFrame
public import proofs.«01_k».proof.Proof.CombineMath
public import Idealize.ShloMosaic.Lib.Pointwise
public import Idealize.ShloMosaic.Lib.Pipeline.ValueKit
public import Idealize.ShloMosaic.Lib.Pipeline.Covers

@[expose] public section

set_option maxRecDepth 16384

noncomputable section

namespace Cert.CombineIdeal.Own

open Idealize.ShloMosaic Idealize.ShloMosaic.TcCoe Idealize.ShloMosaic.Tactic
open Idealize.SL.Sem
open Idealize.ShloMosaic.Pipeline (Dat Cfg Window)
open Cert.CombineIdeal.Gen

/-! ## The rows gathered -/

/-- What a copy leaves reads as what it read. -/
theorem landed_read (c : Dev nD) (w : Fin T → BitVec 32) (hw : ∀ j, k0_chk1 (w j)) (fy : YBuf (F := Ideal) c) (j : Fin T) :
    (dstBlk j).view.read (Elt Ideal) (landed c w hw fy j) = (srcBlk w hw j).view.read (Elt Ideal) fy := by
  unfold landed
  rw [View.read_writes_whole]

/-- An element of the row that a trip fills is the same element of the row it copies. -/
theorem landed_emb (c : Dev nD) (w : Fin T → BitVec 32) (hw : ∀ j, k0_chk1 (w j)) (fy : YBuf (F := Ideal) c) (j : Fin T) (z : S1x1024.Idx)
    (y : S4x256x1024.Idx) (x : S73728x1024.Idx) (hy : (dstBlk j).view.emb z = y) (hx : (srcBlk w hw j).view.emb z = x) :
    (landed c w hw fy j : FVec Ideal S4x256x1024 .f32) y = (fy : FVec Ideal S73728x1024 .f32) x := by
  subst hy hx
  have h := congrFun (landed_read c w hw fy j) z
  generalize landed c w hw fy j = g at h ⊢
  unfold View.read at h
  exact eq_of_heq ((cast_heq _ _).symm.trans ((heq_of_eq h).trans (cast_heq _ _)))

theorem src_emb (w : Fin T → BitVec 32) (hw : ∀ j, k0_chk1 (w j)) (j : Fin T) (d : Fin 1024) (b : Fin 73728) (hb : (w j).toNat = b.val) :
    (srcBlk w hw j).view.emb (ix2 (0 : Fin 1) d) = (ix2 b d : S73728x1024.Idx) := by
  refine funext fun a => Fin.ext ?_
  match a with
  | ⟨0, _⟩ => show (w j).toNat + 1 * 0 = b.val; omega
  | ⟨1, _⟩ => show 0 + 1 * d.val = d.val; omega

theorem dst_emb (j : Fin T) (d : Fin 1024) (k : Fin 4) (r : Fin 256) (hj : j.val = 4 * r.val + k.val) :
    (dstBlk j).view.emb (ix2 (0 : Fin 1) d) = (ix3 k r d : S4x256x1024.Idx) := by
  have e : Shape.reshapeEquiv squeezes_S1x1x1024_S1x1024.numel_eq (ix2 (0 : Fin 1) d) = (ix3 (0 : Fin 1) (0 : Fin 1) d : S1x1x1024.Idx) :=
    (Shape.reshapeEquiv_cons_one (n := 2) (d := ![1, 1024]) _ _).trans (funext fun a => by fin_cases a <;> rfl)
  have o := off2_eq j
  show (Rect.unit (s := S4x256x1024) (k0_off2 j) S1x1x1024.size (k0_off2_inb j)).emb (Shape.reshapeEquiv squeezes_S1x1x1024_S1x1024.numel_eq (ix2 (0 : Fin 1) d)) = _
  rw [e]
  refine funext fun a => Fin.ext ?_
  rw [Rect.emb_apply]
  match a with
  | ⟨0, _⟩ => have o0 : k0_off2 j 0 = j.val % 4 := congrFun o 0
              show k0_off2 j 0 + 1 * 0 = k.val; omega
  | ⟨1, _⟩ => have o1 : k0_off2 j 1 = j.val / 4 := congrFun o 1
              show k0_off2 j 1 + 1 * 0 = r.val; omega
  | ⟨2, _⟩ => have o2 : k0_off2 j 2 = 0 := congrFun o 2
              show k0_off2 j 2 + 1 * d.val = d.val; omega

/-- The slots gathered: in slot `k`, row `r` is the row of the table that trip `4 r + k` copies. -/
theorem gathered_apply (c : Dev nD) (w : Fin T → BitVec 32) (hw : ∀ j, k0_chk1 (w j)) (fy : YBuf (F := Ideal) c) (k : Fin 4) (r : Fin 256) (d : Fin 1024)
    (j : Fin T) (hj : j.val = 4 * r.val + k.val) (b : Fin 73728) (hb : (w j).toNat = b.val) :
    gathered c w hw fy (ix3 k r d : S4x256x1024.Idx) = fy (ix2 b d : S73728x1024.Idx) := by
  have ht : tripOf (ix3 k r d) = j := Fin.ext (by show 4 * r.val + k.val = j.val; omega)
  unfold gathered
  rw [ht]
  exact landed_emb c w hw fy j (ix2 (0 : Fin 1) d) _ _ (dst_emb j d k r hj) (src_emb w hw j d b hb)

theorem slotAt_apply {c : Dev nD} (G : SBuf (F := Ideal) c) (k : Fin 4) (off : Fin 3 → Nat) (h : ∀ a, off a + S1x256x1024.size a ≤ S4x256x1024.size a) (ho : off = ![k.val, 0, 0]) (r : Fin 256) (d : Fin 1024) :
    slotAt G off h (ix3 (0 : Fin 1) r d) = (G : FVec Ideal S4x256x1024 .f32) (ix3 k r d) := by
  subst ho
  refine congrArg (G : FVec Ideal S4x256x1024 .f32) (funext fun a => Fin.ext ?_)
  match a with
  | ⟨0, _⟩ => show k.val + 1 * 0 = k.val; omega
  | ⟨1, _⟩ => show 0 + 1 * r.val = r.val; omega
  | ⟨2, _⟩ => show 0 + 1 * d.val = d.val; omega

/-! ## The arithmetic -/

theorem pay_apply {c : Dev nD} (x3 : Vec Ideal S256x128 .f32) (G : SBuf (F := Ideal) c) (x4 : Vec Ideal S256x1024 .f32) (x5 : Vec Ideal S1x1x1024 .f32) (x6 : Vec Ideal S1x1024 .f32) (r : Fin 256) (d : Fin 1024) :
    pay (c := c) x3 G x4 x5 x6 (ix2 r d)
      = Comb.out (fun k => x3 (ix2 r ⟨k.val, by omega⟩)) (fun k d => (G : FVec Ideal S4x256x1024 .f32) (ix3 k r d)) (fun i => x4 (ix2 r i)) (fun i => x5 (ix3 (0 : Fin 1) (0 : Fin 1) i)) (fun i => x6 (ix2 (0 : Fin 1) i)) d := by
  unfold Comb.out Comb.norm Comb.resid Comb.mix
  simp only [Fin.sum_univ_four]
  have s0 := fun d => slotAt_apply (c := c) G 0 ![0, 0, 0] inb_S4x256x1024_S1x256x1024_0_0_0 rfl r d
  have s1 := fun d => slotAt_apply (c := c) G 1 ![1, 0, 0] inb_S4x256x1024_S1x256x1024_1_0_0 rfl r d
  have s2 := fun d => slotAt_apply (c := c) G 2 ![2, 0, 0] inb_S4x256x1024_S1x256x1024_2_0_0 rfl r d
  have s3 := fun d => slotAt_apply (c := c) G 3 ![3, 0, 0] inb_S4x256x1024_S1x256x1024_3_0_0 rfl r d
  simp only [← s0, ← s1, ← s2, ← s3]
  unfold pay
  generalize slotAt G ![0, 0, 0] inb_S4x256x1024_S1x256x1024_0_0_0 = y0
  generalize slotAt G ![1, 0, 0] inb_S4x256x1024_S1x256x1024_1_0_0 = y1
  generalize slotAt G ![2, 0, 0] inb_S4x256x1024_S1x256x1024_2_0_0 = y2
  generalize slotAt G ![3, 0, 0] inb_S4x256x1024_S1x256x1024_3_0_0 = y3
  clear s0 s1 s2 s3
  pointwise

/-! ## The blocks -/

variable (m : (ℓ : Loc nD τ sig) → Buf (Elt Ideal) ℓ)

theorem v0 (c : Dev nD) : V m c main_v0 = broadcastInDim S4x1x1024 ![0, 2] bcast_S4x1024_S4x1x1024_0_2 (m ((c.tc : Thread nD τ).loc main_arg4)) := by
  unfold V
  after_results_simp <;> (try dsimp only [Matrix.cons_val]) <;> (try after_results_simp) <;> rfl
theorem v1 (c : Dev nD) : V m c main_v1 = broadcastInDim S1x1024 ![1] bcast_S1024_S1x1024_1 (m ((c.tc : Thread nD τ).loc main_arg5)) := by
  unfold V
  after_results_simp <;> (try dsimp only [Matrix.cons_val]) <;> (try after_results_simp) <;> rfl

theorem ind_0 : ∀ t : Fin cfg0.N, win0_0.index t = ![t.val] := (by decide +kernel : ∀ t : Fin grid0.N, win0_0.index t = ![t.val])
theorem ind_1 : ∀ t : Fin cfg0.N, win0_1.index t = ![t.val, 0] := (by decide +kernel : ∀ t : Fin grid0.N, win0_1.index t = ![t.val, 0])
theorem ind_2 : ∀ t : Fin cfg0.N, win0_2.index t = ![t.val, 0] := (by decide +kernel : ∀ t : Fin grid0.N, win0_2.index t = ![t.val, 0])
theorem ind_3 : ∀ t : Fin cfg0.N, win0_3.index t = ![t.val / 16, 0, 0] := (by decide +kernel : ∀ t : Fin grid0.N, win0_3.index t = ![t.val / 16, 0, 0])
theorem ind_4 : ∀ t : Fin cfg0.N, win0_4.index t = ![0, 0] := (by decide +kernel : ∀ t : Fin grid0.N, win0_4.index t = ![0, 0])
theorem ind_5 : ∀ t : Fin cfg0.N, win0_5.index t = ![t.val, 0] := (by decide +kernel : ∀ t : Fin grid0.N, win0_5.index t = ![t.val, 0])

/-- The point at which token `t` is worked on. -/
def point (t : Fin 16384) : Fin cfg0.N := ⟨t.val / 256, lt_of_lt_of_eq (by omega) N_0.symm⟩
/-- Its row in the point's block. -/
def row (t : Fin 16384) : Fin 256 := ⟨t.val % 256, by omega⟩

theorem at_point (t : Fin 16384) : (point t).val * 256 + (row t).val = t.val := by
  show t.val / 256 * 256 + t.val % 256 = t.val
  omega
theorem batch_point (t : Fin 16384) : (point t).val / 16 = (Comb.bat t).val := by
  show t.val / 256 / 16 = t.val / 4096
  omega

theorem one_apply (x : FVec Ideal S1024 .f32) (k : Fin 1024) :
    (broadcastInDim S1x1024 ![1] bcast_S1024_S1x1024_1 x : FVec Ideal S1x1024 .f32) (ix2 (0 : Fin 1) k) = x (ix1 k) := by
  pointwise
theorem batch_apply (x : FVec Ideal S4x1024 .f32) (b : Fin 4) (k : Fin 1024) :
    (broadcastInDim S4x1x1024 ![0, 2] bcast_S4x1024_S4x1x1024_0_2 x : FVec Ideal S4x1x1024 .f32) (ix3 b (0 : Fin 1) k) = x (ix2 b k) := by
  pointwise

theorem b0 (c : Dev nD) (t : Fin 16384) (k : Fin 4) (l : Fin 1024) (hl : l.val = 4 * (row t).val + k.val) :
    iblk m c 0 (point t) (ix1 l) = (m ((c.tc : Thread nD τ).loc main_arg0) : IVec S65536 32) (ix1 ⟨t.val * 4 + k.val, by omega⟩) := by
  have e := ind_0 (point t)
  have p := at_point t
  have q : (point t).val * 1024 + l.val = t.val * 4 + k.val := by omega
  have h : iblk m c 0 (point t) (ix1 l) = (V m c main_arg0 : IVec S65536 32) (ix1 ⟨t.val * 4 + k.val, by omega⟩) := by
    blk_ext [iblk, e]
  exact h.trans (congrFun (V_main_arg0 m c) _)
theorem b1 (c : Dev nD) (t : Fin 16384) (k : Fin 128) :
    iblk m c 1 (point t) (ix2 (row t) k) = (m ((c.tc : Thread nD τ).loc main_arg2) : FVec Ideal S16384x128 .f32) (ix2 t k) := by
  have e := ind_1 (point t)
  have p := at_point t
  have h : iblk m c 1 (point t) (ix2 (row t) k) = (V m c main_arg2 : FVec Ideal S16384x128 .f32) (ix2 t k) := by
    blk_ext [iblk, e]
  exact h.trans (congrFun (V_main_arg2 m c) _)
theorem b2 (c : Dev nD) (t : Fin 16384) (k : Fin 1024) :
    iblk m c 2 (point t) (ix2 (row t) k) = (m ((c.tc : Thread nD τ).loc main_arg3) : FVec Ideal S16384x1024 .f32) (ix2 t k) := by
  have e := ind_2 (point t)
  have p := at_point t
  have h : iblk m c 2 (point t) (ix2 (row t) k) = (V m c main_arg3 : FVec Ideal S16384x1024 .f32) (ix2 t k) := by
    blk_ext [iblk, e]
  exact h.trans (congrFun (V_main_arg3 m c) _)
theorem b3 (c : Dev nD) (t : Fin 16384) (k : Fin 1024) :
    iblk m c 3 (point t) (ix3 (0 : Fin 1) (0 : Fin 1) k) = (m ((c.tc : Thread nD τ).loc main_arg4) : FVec Ideal S4x1024 .f32) (ix2 (Comb.bat t) k) := by
  have e := ind_3 (point t)
  have p := batch_point t
  have h : iblk m c 3 (point t) (ix3 (0 : Fin 1) (0 : Fin 1) k) = (V m c main_v0 : FVec Ideal S4x1x1024 .f32) (ix3 (Comb.bat t) (0 : Fin 1) k) := by
    blk_ext [iblk, e]
  exact h.trans ((congrFun (v0 m c) _).trans (batch_apply _ _ k))
theorem b4 (c : Dev nD) (t : Fin 16384) (k : Fin 1024) :
    iblk m c 4 (point t) (ix2 (0 : Fin 1) k) = (m ((c.tc : Thread nD τ).loc main_arg5) : FVec Ideal S1024 .f32) (ix1 k) := by
  have e := ind_4 (point t)
  have h : iblk m c 4 (point t) (ix2 (0 : Fin 1) k) = (V m c main_v1 : FVec Ideal S1x1024 .f32) (ix2 (0 : Fin 1) k) := by
    blk_ext [iblk, e]
  exact h.trans ((congrFun (v1 m c) _).trans (one_apply _ k))

/-! ## The result -/

/-- The result's blocks cover it. -/
theorem covers_5 : (cfg0.win 5).Covers := by
  refine Window.covers_of_index_surj _ rfl (show ∀ a : Fin 2, 0 < S256x1024.size a by decide) fun β => ?_
  have n0 : (cfg0.win 5).nblk (0 : Fin 2) = 64 := by show (16384 + 256 - 1) / 256 = 64; norm_num
  have n1 : (cfg0.win 5).nblk (1 : Fin 2) = 1 := by show (1024 + 1024 - 1) / 1024 = 1; norm_num
  have h0 : (β (0 : Fin 2)).val < 64 := by have := (β (0 : Fin 2)).isLt; omega
  have h1 : (β (1 : Fin 2)).val = 0 := by have := (β (1 : Fin 2)).isLt; omega
  refine ⟨⟨(β (0 : Fin 2)).val, lt_of_lt_of_eq h0 N_0.symm⟩, fun a => ?_⟩
  have e := ind_5 ⟨(β (0 : Fin 2)).val, lt_of_lt_of_eq h0 N_0.symm⟩
  refine (congrFun e a).trans ?_
  match a with
  | ⟨0, _⟩ => rfl
  | ⟨1, _⟩ => exact h1.symm

/-- What the body leaves, as a function of the entry's place in the array. -/
def placed (hI : InB m) (c : Dev nD) (i : S16384x1024.Idx) : Ideal .f32 :=
  out m hI c (point (i (0 : Fin 2))) (ix2 (row (i (0 : Fin 2))) (i (1 : Fin 2)))

theorem placed_eq (hI : InB m) (c : Dev nD) (i : S16384x1024.Idx) (t : Fin cfg0.N) (y : S256x1024.Idx)
    (h0 : (i (0 : Fin 2)).val = t.val * 256 + (y (0 : Fin 2)).val) (h1 : (i (1 : Fin 2)).val = (y (1 : Fin 2)).val) : placed m hI c i = out m hI c t y := by
  have hy : (y (0 : Fin 2)).val < 256 := (y (0 : Fin 2)).isLt
  have hp : point (i (0 : Fin 2)) = t := Fin.ext (by show (i (0 : Fin 2)).val / 256 = t.val; omega)
  have hi : ix2 (n0 := 256) (n1 := 1024) (row (i (0 : Fin 2))) (i (1 : Fin 2)) = y := by
    rw [eq_ix2 y]
    congr 1
    · exact Fin.ext (by show (i (0 : Fin 2)).val % 256 = (y (0 : Fin 2)).val; omega)
    · exact Fin.ext h1
  unfold placed
  rw [hp, hi]

/-- The kernel's result. -/
def result (hI : InB m) (c : Dev nD) : Buf (Elt Ideal) ((c.tc : Thread nD τ).loc main_v2) := (dats m hI 0 c).arrAt 5 cfg0.N

/-- The result, entry by entry. -/
theorem result_eq (hI : InB m) (c : Dev nD) : result m hI c = placed m hI c := by
  refine (dats m hI 0 c).arrAt_eq_of_covers 5 _ covers_5 fun t hf y => ?_
  have e := ind_5 t
  have k0 : (((cfg0.win 5).blk t).view.emb y (0 : Fin 2)).val = t.val * 256 + (y (0 : Fin 2)).val := by
    blk_simp [e]
  have k1 : (((cfg0.win 5).blk t).view.emb y (1 : Fin 2)).val = (y (1 : Fin 2)).val := by
    blk_simp [e]
    try exact Nat.zero_add _
  blk_simp
  rw [after_5]
  exact (placed_eq m hI c _ t y k0 k1).symm

/-- The result at a token: its four rows weighted, added and normalised. -/
theorem result_apply (hI : InB m) (c : Dev nD) (t : Fin 16384) (d : Fin 1024)
    (h : ∀ i : Fin 65536, ((m ((c.tc : Thread nD τ).loc main_arg0) : IVec S65536 32) (ix1 i)).toNat < 73728) :
    (result m hI c : FVec Ideal S16384x1024 .f32) (ix2 t d)
      = Comb.out (fun k => (m ((c.tc : Thread nD τ).loc main_arg2) : FVec Ideal S16384x128 .f32) (ix2 t ⟨k.val, by omega⟩))
        (fun k d => (m ((c.tc : Thread nD τ).loc main_arg1) : FVec Ideal S73728x1024 .f32) (ix2 ⟨((m ((c.tc : Thread nD τ).loc main_arg0) : IVec S65536 32) (ix1 ⟨t.val * 4 + k.val, by omega⟩)).toNat, h _⟩ d))
        (fun i => (m ((c.tc : Thread nD τ).loc main_arg3) : FVec Ideal S16384x1024 .f32) (ix2 t i)) (fun i => (m ((c.tc : Thread nD τ).loc main_arg4) : FVec Ideal S4x1024 .f32) (ix2 (Comb.bat t) i))
        (fun i => (m ((c.tc : Thread nD τ).loc main_arg5) : FVec Ideal S1024 .f32) (ix1 i)) d := by
  rw [result_eq, placed_eq m hI c _ (point t) (ix2 (row t) d) (at_point t).symm rfl]
  unfold out
  rw [pay_apply]
  refine Comb.out_congr (funext fun k => b1 m c t _) (funext fun k => funext fun d => ?_) (funext fun i => b2 m c t i) (funext fun i => b3 m c t i) (funext fun i => b4 m c t i) d
  have hr : (row t).val < 256 := (row t).isLt
  refine (gathered_apply c _ _ _ k (row t) d ⟨4 * (row t).val + k.val, by have := T_eq; omega⟩ rfl ⟨_, h ⟨t.val * 4 + k.val, by omega⟩⟩ ?_).trans (congrFun (V_main_arg1 m c) _)
  exact congrArg BitVec.toNat (b0 m c t k ⟨4 * (row t).val + k.val, by omega⟩ rfl)

end Cert.CombineIdeal.Own

end
-- ==== Proof.CombineRef.lean ====
/- The last step's reference: the rows named by the table, weighted, added and normalised, read at an index. -/
module

public import proofs.«01_k».proof.Proof.Gen.CombineRefIdeal.Run
public import proofs.«01_k».proof.Proof.CombineMath
public import Idealize.ShloMosaic.Lib.Pointwise

@[expose] public section

set_option maxRecDepth 16384

noncomputable section

namespace Cert.CombineRefIdeal.Own

open Cert.CombineRefIdeal Cert.CombineRefIdeal.Gen Idealize.ShloMosaic Idealize.ShloMosaic.TcCoe Idealize.SL.Sem Idealize.ShloMosaic.StableHlo
open Cert.CombineRefIdeal.Gen Cert.CombineRefIdeal.Value

/-- The row numbers, one to an assignment, a negative number counted from the end. -/
def rowNos (a0 : IVec S65536 32) : IVec S65536x1 32 :=
  broadcastInDim S65536x1 ![0] bcast_S65536_S65536x1_0 (select (cmpi .slt a0 (broadcastInDim S65536 ![] bcast_S_S65536 (constantI S_ 32 0#32))) (addi a0 (broadcastInDim S65536 ![] bcast_S_S65536 (constantI S_ 32 73728#32))) a0)

/-- The rows named, four to a token. -/
def named (P : IVec S65536x1 32) (y : FVec Ideal S73728x1024 .f32) : FVec Ideal S16384x4x1024 .f32 :=
  shapeCast S16384x4x1024 (Host.gather gather_S73728x1024_S65536x1_S65536x1024_1_0_n_n_0_1_11024 y P) shapeCasts_S65536x1024_S16384x4x1024

/-- The rows weighted by the gates. -/
def mixed (g : FVec Ideal S16384x128 .f32) (y : FVec Ideal S16384x4x1024 .f32) : FVec Ideal S16384x1024 .f32 :=
  Host.dotGeneral dot_S16384x4_S16384x4x1024_S16384x1024_1_1_n_2_0_0 none (extractStridedSlice S16384x4 ![0, 0] g slices_S16384x128_S16384x4_0_0) y

/-- The residual stream. -/
def added (x : FVec Ideal S16384x1024 .f32) (s : FVec Ideal S4x1024 .f32) (o : FVec Ideal S16384x1024 .f32) : FVec Ideal S4x4096x1024 .f32 :=
  addf (shapeCast _ x shapeCasts_S16384x1024_S4x4096x1024) (mulf (broadcastInDim S4x4096x1024 ![0, 1, 2] bcast_S4x1x1024_S4x4096x1024_0_1_2 (broadcastInDim S4x1x1024 ![0, 2] bcast_S4x1024_S4x1x1024_0_2 s)) (shapeCast _ o shapeCasts_S16384x1024_S4x4096x1024))

/-- The residual stream normalised. -/
def normed (r : FVec Ideal S4x4096x1024 .f32) (f : FVec Ideal S1024 .f32) : FVec Ideal S16384x1024 .f32 :=
  shapeCast S16384x1024 (mulf (mulf r (broadcastInDim S4x4096x1024 ![0, 1, 2] bcast_S4x4096x1_S4x4096x1024_0_1_2 (Host.rsqrt (addf (Host.divf (broadcastInDim S4x4096x1 ![0, 1] bcast_S4x4096_S4x4096x1_0_1 (Host.reduceAdd (mulf r r) (constant S_ .f32 0x00000000#32) reducesTo_S4x4096x1024_S4x4096_d2 h_S_)) (broadcastInDim S4x4096x1 ![] bcast_S_S4x4096x1 (constant S_ .f32 0x44800000#32))) (broadcastInDim S4x4096x1 ![] bcast_S_S4x4096x1 (constant S_ .f32 0x358637BD#32))))))
    (broadcastInDim S4x4096x1024 ![0, 1, 2] bcast_S1x1x1024_S4x4096x1024_0_1_2 (broadcastInDim S1x1x1024 ![2] bcast_S1024_S1x1x1024_2 f))) shapeCasts_S4x4096x1024_S16384x1024

/-- The reference's result. -/
def total (a0 : IVec S65536 32) (a1 : FVec Ideal S73728x1024 .f32) (a2 : FVec Ideal S16384x128 .f32) (a3 : FVec Ideal S16384x1024 .f32) (a4 : FVec Ideal S4x1024 .f32) (a5 : FVec Ideal S1024 .f32) : FVec Ideal S16384x1024 .f32 :=
  normed (added a3 a4 (mixed a2 (named (rowNos a0) a1))) a5

/-- The reference's run, with its result in these terms. -/
theorem run_total (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v29) = total (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  Cert.CombineRefIdeal.Value.run (F := Ideal) m ρ

/-! ## Read at an index -/

/-- A gather of whole rows: where row `b` is named, its element is row `b`'s element. -/
theorem row_apply {α : Type} {N A n : ℕ} (d : GatherDims ⟨2, ![N, A]⟩ ⟨2, ![n, 1]⟩ ⟨2, ![n, A]⟩) (hoff : d.offsetDims = [1])
    (hcoll : d.collapsedSliceDims = [0]) (hob : d.operandBatchingDims = []) (hsim : d.startIndexMap = [0]) (hivd : d.indexVectorDim = 1)
    (x : (⟨2, ![N, A]⟩ : Shape).Idx → α) (idx : IVec ⟨2, ![n, 1]⟩ 32) (t : Fin n) (y : Fin A) (b : Fin N)
    (hb : (idx (ix2 t (0 : Fin 1))).toInt = b.val) : Host.gather d x idx (ix2 t y) = x (ix2 b y) := by
  obtain ⟨off, coll, ob, sb, sim, ivd, sz, wf⟩ := d
  dsimp only at hoff hcoll hob hsim hivd
  subst hoff hcoll hob hsim hivd
  have hsz : sz 0 = 1 := GatherDims.slice_collapsed (⟨_, _, _, sb, _, _, sz, wf⟩ : GatherDims _ _ _) 0 (List.mem_singleton.2 rfl)
  have key (q : (⟨2, ![n, 1]⟩ : Shape).Idx) (hq : q = ix2 t (0 : Fin 1)) : min (idx q).toInt.toNat (N - sz 0) = b.val := by
    rw [hq, hb, hsz]
    have := b.isLt
    omega
  unfold Host.gather
  refine congrArg x (funext fun a => Fin.ext ?_)
  match a with
  | ⟨0, _⟩ =>
    refine Eq.trans (show _ = min (idx (GatherDims.siIdx (⟨[1], [0], [], sb, [0], 1, sz, wf⟩ : GatherDims ⟨2, ![N, A]⟩ ⟨2, ![n, 1]⟩ ⟨2, ![n, A]⟩) (ix2 t y) ⟨0, Nat.one_pos⟩)).toInt.toNat (N - sz 0) from rfl) (key _ ?_)
    funext e; match e with | ⟨0, _⟩ => rfl | ⟨1, _⟩ => rfl
  | ⟨1, _⟩ => show 0 + 0 + y.val = y.val; omega

/-- An assignment's row number, a word below 73728. -/
theorem rowNos_apply (a0 : IVec S65536 32) (i : Fin 65536) (h : (a0 (ix1 i)).toNat < 73728) : (rowNos a0 (ix2 i (0 : Fin 1))).toInt = (⟨(a0 (ix1 i)).toNat, h⟩ : Fin 73728).val := by
  have e : rowNos a0 (ix2 i (0 : Fin 1)) = Scalar.select (IntOp.cmpi .slt (a0 (ix1 i)) 0#32) (a0 (ix1 i) + 73728#32) (a0 (ix1 i)) := by
    pointwise [rowNos]
    try rfl
  rw [e]
  generalize a0 (ix1 i) = w at h
  have hs : w.slt 0#32 = false := by
    simp only [BitVec.slt, decide_eq_false_iff_not, BitVec.toInt, BitVec.toNat_ofNat]; omega
  simp only [IntOp.cmpi, hs]
  show w.toInt = _
  simp only [BitVec.toInt]; omega

theorem named_apply (a0 : IVec S65536 32) (y : FVec Ideal S73728x1024 .f32) (t : Fin 16384) (k : Fin 4) (d : Fin 1024)
    (h : (a0 (ix1 ⟨t.val * 4 + k.val, by omega⟩)).toNat < 73728) :
    named (rowNos a0) y (ix3 t k d) = y (ix2 ⟨_, h⟩ d) := by
  pointwise [named]
  exact row_apply _ rfl rfl rfl rfl rfl y _ _ d _ (rowNos_apply a0 _ h)

theorem mixed_apply (g : FVec Ideal S16384x128 .f32) (y : FVec Ideal S16384x4x1024 .f32) (t : Fin 16384) (d : Fin 1024) :
    mixed g y (ix2 t d) = Comb.mix (fun k => g (ix2 t ⟨k.val, by omega⟩)) (fun k d => y (ix3 t k d)) d := by
  unfold Comb.mix
  pointwise [mixed]

theorem added_apply (x : FVec Ideal S16384x1024 .f32) (s : FVec Ideal S4x1024 .f32) (o : FVec Ideal S16384x1024 .f32) (t : Fin 16384) (d : Fin 1024) :
    added x s o (ix3 (Comb.bat t) (Comb.pos t) d) = Comb.resid (fun i => x (ix2 t i)) (fun i => s (ix2 (Comb.bat t) i)) (fun i => o (ix2 t i)) d := by
  have e : (⟨(Comb.bat t).val * 4096 + (Comb.pos t).val, by have := (Comb.bat t).isLt; have := (Comb.pos t).isLt; omega⟩ : Fin 16384) = t :=
    Fin.ext (by show t.val / 4096 * 4096 + t.val % 4096 = t.val; omega)
  unfold Comb.resid
  pointwise [added]
  simp only [e]

theorem normed_apply (r : FVec Ideal S4x4096x1024 .f32) (f : FVec Ideal S1024 .f32) (t : Fin 16384) (d : Fin 1024) :
    normed r f (ix2 t d) = Comb.norm (fun i => r (ix3 (Comb.bat t) (Comb.pos t) i)) (fun i => f (ix1 i)) d := by
  unfold Comb.norm Comb.bat Comb.pos
  pointwise [normed]

theorem total_apply (a0 : IVec S65536 32) (a1 : FVec Ideal S73728x1024 .f32) (a2 : FVec Ideal S16384x128 .f32) (a3 : FVec Ideal S16384x1024 .f32) (a4 : FVec Ideal S4x1024 .f32) (a5 : FVec Ideal S1024 .f32)
    (t : Fin 16384) (d : Fin 1024) (h : ∀ i : Fin 65536, (a0 (ix1 i)).toNat < 73728) :
    total a0 a1 a2 a3 a4 a5 (ix2 t d) = Comb.out (fun k => a2 (ix2 t ⟨k.val, by omega⟩)) (fun k d => a1 (ix2 ⟨(a0 (ix1 ⟨t.val * 4 + k.val, by omega⟩)).toNat, h _⟩ d))
      (fun i => a3 (ix2 t i)) (fun i => a4 (ix2 (Comb.bat t) i)) (fun i => a5 (ix1 i)) d := by
  unfold total Comb.out
  rw [normed_apply]
  simp only [added_apply, mixed_apply]
  simp only [named_apply a0 a1 t _ _ (h _)]

end Cert.CombineRefIdeal.Own

end
-- ==== Proof.CombineClaim.lean ====
/- The last step's claims: the two programs run to their ends, and the kernel's result is the reference's over the extended reals. -/
module

public import proofs.«01_k».proof.Defs
public import proofs.«01_k».proof.Proof.Gen.Combine
public import proofs.«01_k».proof.Proof.Gen.CombineIdeal
public import proofs.«01_k».proof.Proof.Gen.CombineRefIdeal
public import proofs.«01_k».proof.Proof.Gen.Pre_rows_in_range
public import proofs.«01_k».proof.Proof.BitsCombineFrame
public import proofs.«01_k».proof.Proof.CombineValue
public import proofs.«01_k».proof.Proof.CombineRef
public import Idealize.ShloMosaic.Adequacy
public import Idealize.ShloMosaic.Init

@[expose] public section

noncomputable section

namespace Cert.Proof.Combine

open Idealize.ShloMosaic Idealize.ShloMosaic.TcCoe Idealize.SL.Sem

/-- The kernel runs to its end from every memory in which the rows' numbers are below 73728; the arguments and the counters are left as they were. -/
theorem kernel_frame : Cert.quiescent_Combine := fun m ρ h =>
  Cert.Combine.Own.frame (F := Bits) m ρ (Cert.Combine.Own.inB_of_pre m h)

/-- The same of the kernel read over the extended reals. -/
theorem ideal_frame : Cert.quiescent_CombineIdeal := fun m ρ h =>
  Cert.CombineIdeal.Own.frame (F := Ideal) m ρ (Cert.CombineIdeal.Own.inB_of_pre m h)

/-- The reference runs to its end; it has no semaphores. -/
theorem reference_frame : Cert.quiescent_CombineRefIdeal := fun m ρ h =>
  (θ_run Cert.CombineRefIdeal.defs _ _).mono (fun r h' => ⟨fun c => (h' c).2, sem_eq_zero_of_no_sems (by decide) r.2⟩) (Cert.CombineRefIdeal.Value.run (F := Ideal) m ρ)

/-- The kernel's run, with its result and the arguments. -/
theorem run_result (m : (ℓ : Loc Cert.CombineIdeal.nD Cert.CombineIdeal.τ Cert.CombineIdeal.sig) → Buf (Elt Ideal) ℓ) (ρ : Dev Cert.CombineIdeal.nD → PrngReg)
    (hI : Cert.CombineIdeal.Own.InB m) :
    θ_run (Cert.CombineIdeal.defs (F := Ideal)) (onTc (τ := Cert.CombineIdeal.τ) (Cert.CombineIdeal.main (F := Ideal))) ⟨m, fun _ => 0, ρ⟩ (fun r => ∀ c : Dev Cert.CombineIdeal.nD,
      r.2.mem ((c.tc : Thread Cert.CombineIdeal.nD Cert.CombineIdeal.τ).loc Cert.CombineIdeal.main_v2) = Cert.CombineIdeal.Own.result m hI c
      ∧ r.2.mem ((c.tc : Thread Cert.CombineIdeal.nD Cert.CombineIdeal.τ).loc Cert.CombineIdeal.main_arg0) = m ((c.tc : Thread Cert.CombineIdeal.nD Cert.CombineIdeal.τ).loc Cert.CombineIdeal.main_arg0)
      ∧ r.2.mem ((c.tc : Thread Cert.CombineIdeal.nD Cert.CombineIdeal.τ).loc Cert.CombineIdeal.main_arg1) = m ((c.tc : Thread Cert.CombineIdeal.nD Cert.CombineIdeal.τ).loc Cert.CombineIdeal.main_arg1)
      ∧ r.2.mem ((c.tc : Thread Cert.CombineIdeal.nD Cert.CombineIdeal.τ).loc Cert.CombineIdeal.main_arg2) = m ((c.tc : Thread Cert.CombineIdeal.nD Cert.CombineIdeal.τ).loc Cert.CombineIdeal.main_arg2)
      ∧ r.2.mem ((c.tc : Thread Cert.CombineIdeal.nD Cert.CombineIdeal.τ).loc Cert.CombineIdeal.main_arg3) = m ((c.tc : Thread Cert.CombineIdeal.nD Cert.CombineIdeal.τ).loc Cert.CombineIdeal.main_arg3)
      ∧ r.2.mem ((c.tc : Thread Cert.CombineIdeal.nD Cert.CombineIdeal.τ).loc Cert.CombineIdeal.main_arg4) = m ((c.tc : Thread Cert.CombineIdeal.nD Cert.CombineIdeal.τ).loc Cert.CombineIdeal.main_arg4)
      ∧ r.2.mem ((c.tc : Thread Cert.CombineIdeal.nD Cert.CombineIdeal.τ).loc Cert.CombineIdeal.main_arg5) = m ((c.tc : Thread Cert.CombineIdeal.nD Cert.CombineIdeal.τ).loc Cert.CombineIdeal.main_arg5)) :=
  (θ_run Cert.CombineIdeal.defs _ _).mono (fun _ h c => ⟨(h.1 c).1 5,
      ((h.1 c).1 0).trans (((Cert.CombineIdeal.Own.dats m hI 0 c).arrAt_in 0 rfl _).trans ((Cert.CombineIdeal.Own.A_eq m hI c 0).trans (Cert.CombineIdeal.Gen.V_main_arg0 m c))),
      ((h.1 c).2 Cert.CombineIdeal.main_arg1 (Pipeline.mem_restRefs_of Cert.CombineIdeal.main_arg1 (by decide) (by decide))).trans (Cert.CombineIdeal.Gen.V_main_arg1 m c),
      ((h.1 c).1 1).trans (((Cert.CombineIdeal.Own.dats m hI 0 c).arrAt_in 1 rfl _).trans ((Cert.CombineIdeal.Own.A_eq m hI c 1).trans (Cert.CombineIdeal.Gen.V_main_arg2 m c))),
      ((h.1 c).1 2).trans (((Cert.CombineIdeal.Own.dats m hI 0 c).arrAt_in 2 rfl _).trans ((Cert.CombineIdeal.Own.A_eq m hI c 2).trans (Cert.CombineIdeal.Gen.V_main_arg3 m c))),
      ((h.1 c).2 Cert.CombineIdeal.main_arg4 (Pipeline.mem_restRefs_of Cert.CombineIdeal.main_arg4 (by decide) (by decide))).trans (Cert.CombineIdeal.Gen.V_main_arg4 m c),
      ((h.1 c).2 Cert.CombineIdeal.main_arg5 (Pipeline.mem_restRefs_of Cert.CombineIdeal.main_arg5 (by decide) (by decide))).trans (Cert.CombineIdeal.Gen.V_main_arg5 m c)⟩) (Cert.CombineIdeal.Own.run_main m ρ hI)

/-- The reference's result at the kernel's arguments is the kernel's. -/
theorem total_eq (m : (ℓ : Loc Cert.CombineIdeal.nD Cert.CombineIdeal.τ Cert.CombineIdeal.sig) → Buf (Elt Ideal) ℓ) (hI : Cert.CombineIdeal.Own.InB m) (c : Dev Cert.CombineIdeal.nD) :
    Cert.CombineRefIdeal.Own.total (m ((c.tc : Thread Cert.CombineIdeal.nD Cert.CombineIdeal.τ).loc Cert.CombineIdeal.main_arg0)) (m ((c.tc : Thread Cert.CombineIdeal.nD Cert.CombineIdeal.τ).loc Cert.CombineIdeal.main_arg1))
      (m ((c.tc : Thread Cert.CombineIdeal.nD Cert.CombineIdeal.τ).loc Cert.CombineIdeal.main_arg2)) (m ((c.tc : Thread Cert.CombineIdeal.nD Cert.CombineIdeal.τ).loc Cert.CombineIdeal.main_arg3))
      (m ((c.tc : Thread Cert.CombineIdeal.nD Cert.CombineIdeal.τ).loc Cert.CombineIdeal.main_arg4)) (m ((c.tc : Thread Cert.CombineIdeal.nD Cert.CombineIdeal.τ).loc Cert.CombineIdeal.main_arg5))
      = Cert.CombineIdeal.Own.result m hI c := by
  refine funext fun i => ?_
  obtain ⟨t, d, rfl⟩ : ∃ (t : Fin 16384) (d : Fin 1024), i = ix2 t d := ⟨i (0 : Fin 2), i (1 : Fin 2), eq_ix2 i⟩
  have h := fun i : Fin 65536 => hI c (ix1 i)
  exact (Cert.CombineRefIdeal.Own.total_apply _ _ _ _ _ _ t d h).trans (Cert.CombineIdeal.Own.result_apply m hI c t d h).symm

/-- The kernel's result and the reference's are equal over the extended reals. -/
theorem values_eq (m : (ℓ : Loc Cert.CombineIdeal.nD Cert.CombineIdeal.τ Cert.CombineIdeal.sig) → Buf (Elt Ideal) ℓ)
    (m' : (ℓ : Loc Cert.CombineRefIdeal.nD Cert.CombineRefIdeal.τ Cert.CombineRefIdeal.sig) → Buf (Elt Ideal) ℓ) (hI : Cert.CombineIdeal.Own.InB m)
    (c : Dev Cert.CombineIdeal.nD)
    (h0 : m' ((c.tc : Thread Cert.CombineRefIdeal.nD Cert.CombineRefIdeal.τ).loc Cert.CombineRefIdeal.main_arg0) = m ((c.tc : Thread Cert.CombineIdeal.nD Cert.CombineIdeal.τ).loc Cert.CombineIdeal.main_arg0))
    (h1 : m' ((c.tc : Thread Cert.CombineRefIdeal.nD Cert.CombineRefIdeal.τ).loc Cert.CombineRefIdeal.main_arg1) = m ((c.tc : Thread Cert.CombineIdeal.nD Cert.CombineIdeal.τ).loc Cert.CombineIdeal.main_arg1))
    (h2 : m' ((c.tc : Thread Cert.CombineRefIdeal.nD Cert.CombineRefIdeal.τ).loc Cert.CombineRefIdeal.main_arg2) = m ((c.tc : Thread Cert.CombineIdeal.nD Cert.CombineIdeal.τ).loc Cert.CombineIdeal.main_arg2))
    (h3 : m' ((c.tc : Thread Cert.CombineRefIdeal.nD Cert.CombineRefIdeal.τ).loc Cert.CombineRefIdeal.main_arg3) = m ((c.tc : Thread Cert.CombineIdeal.nD Cert.CombineIdeal.τ).loc Cert.CombineIdeal.main_arg3))
    (h4 : m' ((c.tc : Thread Cert.CombineRefIdeal.nD Cert.CombineRefIdeal.τ).loc Cert.CombineRefIdeal.main_arg4) = m ((c.tc : Thread Cert.CombineIdeal.nD Cert.CombineIdeal.τ).loc Cert.CombineIdeal.main_arg4))
    (h5 : m' ((c.tc : Thread Cert.CombineRefIdeal.nD Cert.CombineRefIdeal.τ).loc Cert.CombineRefIdeal.main_arg5) = m ((c.tc : Thread Cert.CombineIdeal.nD Cert.CombineIdeal.τ).loc Cert.CombineIdeal.main_arg5)) :
    Cert.CombineRefIdeal.Own.total (m' ((c.tc : Thread Cert.CombineRefIdeal.nD Cert.CombineRefIdeal.τ).loc Cert.CombineRefIdeal.main_arg0)) (m' ((c.tc : Thread Cert.CombineRefIdeal.nD Cert.CombineRefIdeal.τ).loc Cert.CombineRefIdeal.main_arg1))
      (m' ((c.tc : Thread Cert.CombineRefIdeal.nD Cert.CombineRefIdeal.τ).loc Cert.CombineRefIdeal.main_arg2)) (m' ((c.tc : Thread Cert.CombineRefIdeal.nD Cert.CombineRefIdeal.τ).loc Cert.CombineRefIdeal.main_arg3))
      (m' ((c.tc : Thread Cert.CombineRefIdeal.nD Cert.CombineRefIdeal.τ).loc Cert.CombineRefIdeal.main_arg4)) (m' ((c.tc : Thread Cert.CombineRefIdeal.nD Cert.CombineRefIdeal.τ).loc Cert.CombineRefIdeal.main_arg5))
      = Cert.CombineIdeal.Own.result m hI c := by
  rw [h0, h1, h2, h3, h4, h5]
  exact total_eq m hI c

/-- From memories that agree on the arguments the two programs end with equal results. -/
theorem equal_results : Cert.algebraic_CombineIdeal_CombineRefIdeal := fun m ρ m' ρ' hP ha =>
  ⟨fun c => Cert.CombineIdeal.Own.result m (Cert.CombineIdeal.Own.inB_of_pre m hP) c,
    run_result m ρ (Cert.CombineIdeal.Own.inB_of_pre m hP),
    (θ_run Cert.CombineRefIdeal.defs _ _).mono (fun _ h' c => ⟨(h' c).1.trans (values_eq m m' (Cert.CombineIdeal.Own.inB_of_pre m hP) c (ha c).1 (ha c).2.1 (ha c).2.2.1 (ha c).2.2.2.1 (ha c).2.2.2.2.1 (ha c).2.2.2.2.2), (h' c).2⟩)
      (Cert.CombineRefIdeal.Own.run_total m' ρ')⟩

end Cert.Proof.Combine

end
-- ==== Proof.ExpertsSetup.lean ====
/- The launch of the experts kernel: the buffers at the region's entry, the prefetched tables, and the words the body reads. -/
module

public import proofs.«01_k».proof.Proof.Gen.KernelIdeal.Launch
public import proofs.«01_k».proof.Proof.Gen.KernelIdeal.Skeleton
public import Idealize.ShloMosaic.Lib.Pipeline.FrameBody
public import Idealize.ShloMosaic.Lib.Pipeline.Value
public import Idealize.ShloMosaic.Lib.Ring
public import Idealize.ShloMosaic.Lib.Tactic
public import Idealize.ShloMosaic.Lib.WordCmp
public import Idealize.ShloMosaic.Lib.Claim

@[expose] public section

set_option maxRecDepth 16384

noncomputable section

namespace Cert.KernelIdeal.Own

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The launch: the buffers at the region's entry, the tables, the pipeline at the tables -/

/-- A core's buffers when the region is entered: as launched, the program being the region alone. -/
abbrev V (c : Dev nD) (b : Ref sig .tc) : Buf (Elt F) ((c : Thread nD τ).loc b) := m ((c : Thread nD τ).loc b)

/-- The program up to the region is empty. -/
theorem hmain (𝒱₀ : Variants) : Pipeline.HMainP (Ix := Unit) (Name := ℕ) (U := UR sig nD τ) (Lvl := ℕ) pcfgs 0 defs₀ 𝒱₀ m (main (F := F)) (V m) :=
  Pipeline.hmainP_region pcfgs 0 defs₀ 𝒱₀ m main fun c => (main_chain c).trans rfl

/-- The two prefetched tables (the expert of each block, the number of blocks in use) at the region's entry. -/
def tbl : pre0.Contents (Elt F) := fun j => V m (0 : Dev nD) (pre0.ref j)

/-- There is one device, so every core's tables hold those contents. -/
theorem V_pre (c : Dev nD) (j : Fin 2) : V m c (pre0.ref j) = tbl m j := by
  obtain rfl : c = 0 := Subsingleton.elim _ _; rfl

/-- Every window chosen by the expert table lies inside its array. -/
abbrev Ok : Prop := ok0 (F := F) (tbl m)
/-- The tables as admissible contents, -/
abbrev adm (hO : Ok m) : (pcfg0 (F := F)).Adm := ⟨tbl m, hO⟩
/-- and the pipeline at them. -/
abbrev cfgM (hO : Ok m) : Pipeline.Cfg sig Λ₀ := cfg0 (adm m hO)

/-- The expert table as the body is handed it, -/
abbrev teM : Memref sig .tc .smem S288 .i32 := Memref.whole main_arg0
abbrev hteM : teM.IsWhole := Memref.isWhole_whole _
/-- and the table of one word, the number of blocks in use. -/
abbrev tnM : Memref sig .tc .smem S1 .i32 := Memref.whole main_arg1
abbrev htnM : tnM.IsWhole := Memref.isWhole_whole _

/-- A table's contents on a core, -/
abbrev TbBuf (c : Dev nD) {S : Shape} {e : EltTy} (M : Memref sig .tc .smem S e) : Type := Buf (Elt F) (M.view.loc (c : Thread nD τ))
/-- and the half of it that the body holds (the pipeline keeps the other half). -/
abbrev tbPt (c : Dev nD) {S : Shape} {e : EltTy} (M : Memref sig .tc .smem S e) (f : TbBuf (F := F) c M) : sProp 𝕄 :=
  M.view.loc (c : Thread nD τ) ↦{fullShare.right} f

/-- The two tables' halves, one by one. -/
theorem tables_eq (c : Dev nD) : (Pipeline.ΦT pre0 (tbl m) c : sProp 𝕄) = iprop(tbPt c teM (tbl m 0) ∗ tbPt c tnM (tbl m 1)) := by
  unfold Pipeline.ΦT Pipeline.prefHeld
  rw [show (Finset.univ : Finset (Fin 2)) = insert (0 : Fin 2) {(1 : Fin 2)} from by decide,
    bigSep_insert (by decide), bigSep_singleton]
  rfl

/-- The weights kept between grid points: the first layer's, -/
abbrev sc1 : Memref sig .tc .vmem S1024x2048 .bf16 := Memref.whole cc0_scratch0
/-- and the second layer's. -/
abbrev sc2 : Memref sig .tc .vmem S1024x1024 .bf16 := Memref.whole cc0_scratch1

/-- The region's own buffers at the entry: the two scratches at anything, and the generator register. -/
theorem scratch_eq (c : Dev nD) :
    (Pipeline.ΦA spec0 c : sProp 𝕄)
      = iprop(iprop((∃ d, owns (c : Thread nD τ) sc1 fullShare d) ∗ (∃ d, owns (c : Thread nD τ) sc2 fullShare d)) ∗ (∃ r, prngReg c r)) := by
  unfold Pipeline.ΦA; rw [scopedRest0_eq]; simp only [sc1, sc2, owns_whole]; try rfl

/-! ## A store over a whole buffer, a load of one -/

theorem hz2 : (![0, 0] : Fin 2 → Nat) = fun _ => 0 := funext fun a => by fin_cases a <;> rfl
theorem hz3 : (![0, 0, 0] : Fin 3 → Nat) = fun _ => 0 := funext fun a => by fin_cases a <;> rfl

/-- After one store over the whole of a buffer it reads the stored value. -/
theorem read_whole_store {sp : Space} {S : Shape} {e : EltTy} (v : View sig .tc sp S e) (f : v.ty.Contents (Elt F)) {off : Fin S.rank → Nat} (h : off = fun _ => 0)
    (inb : ∀ a, off a + S.size a ≤ S.size a) (w : S.Idx → Elt F e) :
    v.read (Elt F) (v.writes (Elt F) f [(⟨Rect.unit off S.size inb, w⟩ : View.Piece (Elt F) S e)]) = w := by
  rw [View.read_writes_eq_canon _ _ _ fun y => ⟨_, List.mem_singleton_self _, View.mem_set_unit_zero h inb y⟩, View.canon_unit_zero h]

/-! ## The words the body reads, and its conditions over them -/

/-- The expert of the block before (of block 0, itself), as the body reads it off the table, -/
abbrev rdPrev {c : Dev nD} (i : grid0.Coords) (xe : TbBuf (F := F) c teM) : BitVec 32 :=
  teM.view.readAt (Elt F) (Rect.unit (s := S288) (k0_off2 i) S1.size (k0_off2_inb i)).toLoadRect xe (Shape.Idx.first (numel1_S1.symm ▸ Nat.one_pos))
/-- the expert of this block, -/
abbrev rdCur {c : Dev nD} (i : grid0.Coords) (xe : TbBuf (F := F) c teM) : BitVec 32 :=
  teM.view.readAt (Elt F) (Rect.unit (s := S288) (k0_off1 i) S1.size (k0_off1_inb i)).toLoadRect xe (Shape.Idx.first (numel1_S1.symm ▸ Nat.one_pos))
/-- and the number of blocks in use. -/
abbrev rdUsed {c : Dev nD} (xn : TbBuf (F := F) c tnM) : BitVec 32 :=
  tnM.view.readAt (Elt F) (Rect.unit (s := S1) ![0] S1.size inb_S1_S1_0).toLoadRect xn (Shape.Idx.first (numel1_S1.symm ▸ Nat.one_pos))

/-- The body loads the weights: this block is in use, and its expert is another than the block before's or it is the first. -/
abbrev loads (i : grid0.Coords) (v3 : BitVec 32) (v6 : BitVec 32) (v9 : BitVec 32) : Prop := (Scalar.cmpi .ne (Scalar.extui (Scalar.andi (Scalar.ori (Scalar.cmpi .eq (BitVec.ofNat 32 (i 0).val) 0#32) (Scalar.cmpi .ne v6 v3)) (Scalar.cmpi .slt (BitVec.ofNat 32 (i 0).val) v9))) 0#32) = 1#1

end Cert.KernelIdeal.Own

end
-- ==== Proof.ExpertsRun.lean ====
/- The body of the experts kernel, case by case: what it leaves in the output block and in the two scratches. -/
module

public import proofs.«01_k».proof.Proof.ExpertsSetup

@[expose] public section

set_option maxRecDepth 16384

noncomputable section

namespace Cert.KernelIdeal.Own

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

set_option maxHeartbeats 1000000 in
/-- The body where the block is in use and its weights are not yet held: it leaves the weights, rounded, in the scratches and the expert's rows in the output. -/
theorem run_load (c : Dev nD) (i : grid0.Coords) (arg3 : Memref sig .tc .vmem S256x1024 .f32) (harg3 : arg3.IsWhole) (arg4 : Memref sig .tc .vmem S1x1024x2048 .f32) (harg4 : arg4.IsWhole) (arg5 : Memref sig .tc .vmem S1x1x2048 .f32) (harg5 : arg5.IsWhole) (arg6 : Memref sig .tc .vmem S1x1024x1024 .f32) (harg6 : arg6.IsWhole) (arg7 : Memref sig .tc .vmem S1x1x1024 .f32) (harg7 : arg7.IsWhole) (arg8 : Memref sig .tc .vmem S256x1024 .f32) (harg8 : arg8.IsWhole) (arg9 : Memref sig .tc .vmem S1024x2048 .bf16) (harg9 : arg9.IsWhole) (arg10 : Memref sig .tc .vmem S1024x1024 .bf16) (harg10 : arg10.IsWhole)
    (x0 : Vec F S256x1024 .f32) (x1 : Vec F S1x1024x2048 .f32) (x2 : Vec F S1x1x2048 .f32) (x3 : Vec F S1x1024x1024 .f32) (x4 : Vec F S1x1x1024 .f32) (s1 : Vec F S1024x2048 .bf16) (s2 : Vec F S1024x1024 .bf16) (xe : TbBuf (F := F) c teM) (xn : TbBuf (F := F) c tnM)
    (hc0 : loads i (rdPrev i xe) (rdCur i xe) (rdUsed xn)) (hc2 : k0_cond2 i (rdUsed xn) = 1#1) (hc3 : ¬k0_cond3 i (rdUsed xn) = 1#1) :
    ∀ (E : Set ℕ) (K : PUnit → sProp 𝕄),
      iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ (∃ d, owns (c : Thread nD τ) arg8 fullShare d) ∗ owns (c : Thread nD τ) arg9 fullShare s1 ∗ owns (c : Thread nD τ) arg10 fullShare s2 ∗ tbPt c teM xe ∗ tbPt c tnM xn
          ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare (k0_pay4 x0 (k0_pay1 x1) x2 (k0_pay2 x3) x4) ∗ owns (c : Thread nD τ) arg9 fullShare (k0_pay1 x1) ∗ owns (c : Thread nD τ) arg10 fullShare (k0_pay2 x3) ∗ tbPt c teM xe ∗ tbPt c tnM xn) -∗ K ⟨⟩))
        ⊢ wp frame (wpE (defs₀ (F := F)) Variants.none c none) E (cc0_experts i teM hteM tnM htnM arg3 harg3 arg4 harg4 arg5 harg5 arg6 harg6 arg7 harg7 arg8 harg8 arg9 harg9 arg10 harg10) K := by
  intro E K
  simp only [cc0_experts_eq_skeleton]; unfold cc0_experts_skel
  simp only [k0_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%g1, %hg1, HS1⟩, ⟨%g2, %hg2, HS2⟩, HT0, HT1, Hk⟩
  obtain rfl := harg3.eq_unread hf0; obtain rfl := harg4.eq_unread hf1; obtain rfl := harg5.eq_unread hf2; obtain rfl := harg6.eq_unread hf3; obtain rfl := harg7.eq_unread hf4
  obtain rfl := harg9.eq_unread hg1; obtain rfl := harg10.eq_unread hg2
  sl_exec (disch := first | sl_exact hc0 | sl_exact hc2 | sl_exact hc3)
  sl_step
  iapply Hk
  isplitl [H0]
  · iexists _; isplitr; · ipureintro; exact harg3.read_unread _
    iexact H0
  isplitl [H1]
  · iexists _; isplitr; · ipureintro; exact harg4.read_unread _
    iexact H1
  isplitl [H2]
  · iexists _; isplitr; · ipureintro; exact harg5.read_unread _
    iexact H2
  isplitl [H3]
  · iexists _; isplitr; · ipureintro; exact harg6.read_unread _
    iexact H3
  isplitl [H4]
  · iexists _; isplitr; · ipureintro; exact harg7.read_unread _
    iexact H4
  isplitl [H5]
  · iexists _; isplitr; swap; · iexact H5
    ipureintro
    sl_unfold_words
    refine (read_whole_store _ _ (by first | exact hz2 | exact hz3) _ _).trans ?_
    try simp only [View.readAt_eq_ld, Memref.IsWhole.read_unread, View.ld_unit_zero (S := S256x1024) hz2, View.ld_unit_zero (S := S1024x2048) hz2, View.ld_unit_zero (S := S1024x1024) hz2, View.ld_unit_zero (S := S1x1024x2048) hz3, View.ld_unit_zero (S := S1x1x2048) hz3, View.ld_unit_zero (S := S1x1024x1024) hz3, View.ld_unit_zero (S := S1x1x1024) hz3, View.readCov_unit_zero (S := S1024x2048) _ hz2, View.readCov_unit_zero (S := S1024x1024) _ hz2]
  isplitl [HS1]
  · iexists _; isplitr; swap; · iexact HS1
    ipureintro
    sl_unfold_words
    refine (read_whole_store _ _ (by first | exact hz2 | exact hz3) _ _).trans ?_
    try simp only [View.readAt_eq_ld, Memref.IsWhole.read_unread, View.ld_unit_zero (S := S256x1024) hz2, View.ld_unit_zero (S := S1024x2048) hz2, View.ld_unit_zero (S := S1024x1024) hz2, View.ld_unit_zero (S := S1x1024x2048) hz3, View.ld_unit_zero (S := S1x1x2048) hz3, View.ld_unit_zero (S := S1x1024x1024) hz3, View.ld_unit_zero (S := S1x1x1024) hz3, View.readCov_unit_zero (S := S1024x2048) _ hz2, View.readCov_unit_zero (S := S1024x1024) _ hz2]
  isplitl [HS2]
  · iexists _; isplitr; swap; · iexact HS2
    ipureintro
    sl_unfold_words
    refine (read_whole_store _ _ (by first | exact hz2 | exact hz3) _ _).trans ?_
    try simp only [View.readAt_eq_ld, Memref.IsWhole.read_unread, View.ld_unit_zero (S := S256x1024) hz2, View.ld_unit_zero (S := S1024x2048) hz2, View.ld_unit_zero (S := S1024x1024) hz2, View.ld_unit_zero (S := S1x1024x2048) hz3, View.ld_unit_zero (S := S1x1x2048) hz3, View.ld_unit_zero (S := S1x1024x1024) hz3, View.ld_unit_zero (S := S1x1x1024) hz3, View.readCov_unit_zero (S := S1024x2048) _ hz2, View.readCov_unit_zero (S := S1024x1024) _ hz2]
  isplitl [HT0]; · iexact HT0
  iexact HT1

set_option maxHeartbeats 1000000 in
/-- The body where the block is in use and the scratches already hold its weights: it reads them there. -/
theorem run_keep (c : Dev nD) (i : grid0.Coords) (arg3 : Memref sig .tc .vmem S256x1024 .f32) (harg3 : arg3.IsWhole) (arg4 : Memref sig .tc .vmem S1x1024x2048 .f32) (harg4 : arg4.IsWhole) (arg5 : Memref sig .tc .vmem S1x1x2048 .f32) (harg5 : arg5.IsWhole) (arg6 : Memref sig .tc .vmem S1x1024x1024 .f32) (harg6 : arg6.IsWhole) (arg7 : Memref sig .tc .vmem S1x1x1024 .f32) (harg7 : arg7.IsWhole) (arg8 : Memref sig .tc .vmem S256x1024 .f32) (harg8 : arg8.IsWhole) (arg9 : Memref sig .tc .vmem S1024x2048 .bf16) (harg9 : arg9.IsWhole) (arg10 : Memref sig .tc .vmem S1024x1024 .bf16) (harg10 : arg10.IsWhole)
    (x0 : Vec F S256x1024 .f32) (x1 : Vec F S1x1024x2048 .f32) (x2 : Vec F S1x1x2048 .f32) (x3 : Vec F S1x1024x1024 .f32) (x4 : Vec F S1x1x1024 .f32) (s1 : Vec F S1024x2048 .bf16) (s2 : Vec F S1024x1024 .bf16) (xe : TbBuf (F := F) c teM) (xn : TbBuf (F := F) c tnM)
    (hc0 : ¬loads i (rdPrev i xe) (rdCur i xe) (rdUsed xn)) (hc2 : k0_cond2 i (rdUsed xn) = 1#1) (hc3 : ¬k0_cond3 i (rdUsed xn) = 1#1) :
    ∀ (E : Set ℕ) (K : PUnit → sProp 𝕄),
      iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ (∃ d, owns (c : Thread nD τ) arg8 fullShare d) ∗ owns (c : Thread nD τ) arg9 fullShare s1 ∗ owns (c : Thread nD τ) arg10 fullShare s2 ∗ tbPt c teM xe ∗ tbPt c tnM xn
          ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare (k0_pay4 x0 s1 x2 s2 x4) ∗ owns (c : Thread nD τ) arg9 fullShare s1 ∗ owns (c : Thread nD τ) arg10 fullShare s2 ∗ tbPt c teM xe ∗ tbPt c tnM xn) -∗ K ⟨⟩))
        ⊢ wp frame (wpE (defs₀ (F := F)) Variants.none c none) E (cc0_experts i teM hteM tnM htnM arg3 harg3 arg4 harg4 arg5 harg5 arg6 harg6 arg7 harg7 arg8 harg8 arg9 harg9 arg10 harg10) K := by
  intro E K
  simp only [cc0_experts_eq_skeleton]; unfold cc0_experts_skel
  simp only [k0_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%g1, %hg1, HS1⟩, ⟨%g2, %hg2, HS2⟩, HT0, HT1, Hk⟩
  obtain rfl := harg3.eq_unread hf0; obtain rfl := harg4.eq_unread hf1; obtain rfl := harg5.eq_unread hf2; obtain rfl := harg6.eq_unread hf3; obtain rfl := harg7.eq_unread hf4
  obtain rfl := harg9.eq_unread hg1; obtain rfl := harg10.eq_unread hg2
  sl_exec (disch := first | sl_exact hc0 | sl_exact hc2 | sl_exact hc3)
  sl_step
  iapply Hk
  isplitl [H0]
  · iexists _; isplitr; · ipureintro; exact harg3.read_unread _
    iexact H0
  isplitl [H1]
  · iexists _; isplitr; · ipureintro; exact harg4.read_unread _
    iexact H1
  isplitl [H2]
  · iexists _; isplitr; · ipureintro; exact harg5.read_unread _
    iexact H2
  isplitl [H3]
  · iexists _; isplitr; · ipureintro; exact harg6.read_unread _
    iexact H3
  isplitl [H4]
  · iexists _; isplitr; · ipureintro; exact harg7.read_unread _
    iexact H4
  isplitl [H5]
  · iexists _; isplitr; swap; · iexact H5
    ipureintro
    sl_unfold_words
    refine (read_whole_store _ _ (by first | exact hz2 | exact hz3) _ _).trans ?_
    try simp only [View.readAt_eq_ld, Memref.IsWhole.read_unread, View.ld_unit_zero (S := S256x1024) hz2, View.ld_unit_zero (S := S1024x2048) hz2, View.ld_unit_zero (S := S1024x1024) hz2, View.ld_unit_zero (S := S1x1024x2048) hz3, View.ld_unit_zero (S := S1x1x2048) hz3, View.ld_unit_zero (S := S1x1024x1024) hz3, View.ld_unit_zero (S := S1x1x1024) hz3, View.readCov_unit_zero (S := S1024x2048) _ hz2, View.readCov_unit_zero (S := S1024x1024) _ hz2]
  isplitl [HS1]
  · iexists _; isplitr; · ipureintro; exact harg9.read_unread _
    iexact HS1
  isplitl [HS2]
  · iexists _; isplitr; · ipureintro; exact harg10.read_unread _
    iexact HS2
  isplitl [HT0]; · iexact HT0
  iexact HT1

set_option maxHeartbeats 1000000 in
/-- The body where the block is not in use: it stores zeros and touches no scratch. -/
theorem run_skip (c : Dev nD) (i : grid0.Coords) (arg3 : Memref sig .tc .vmem S256x1024 .f32) (harg3 : arg3.IsWhole) (arg4 : Memref sig .tc .vmem S1x1024x2048 .f32) (harg4 : arg4.IsWhole) (arg5 : Memref sig .tc .vmem S1x1x2048 .f32) (harg5 : arg5.IsWhole) (arg6 : Memref sig .tc .vmem S1x1024x1024 .f32) (harg6 : arg6.IsWhole) (arg7 : Memref sig .tc .vmem S1x1x1024 .f32) (harg7 : arg7.IsWhole) (arg8 : Memref sig .tc .vmem S256x1024 .f32) (harg8 : arg8.IsWhole) (arg9 : Memref sig .tc .vmem S1024x2048 .bf16) (harg9 : arg9.IsWhole) (arg10 : Memref sig .tc .vmem S1024x1024 .bf16) (harg10 : arg10.IsWhole)
    (x0 : Vec F S256x1024 .f32) (x1 : Vec F S1x1024x2048 .f32) (x2 : Vec F S1x1x2048 .f32) (x3 : Vec F S1x1024x1024 .f32) (x4 : Vec F S1x1x1024 .f32) (s1 : Vec F S1024x2048 .bf16) (s2 : Vec F S1024x1024 .bf16) (xe : TbBuf (F := F) c teM) (xn : TbBuf (F := F) c tnM)
    (hc0 : ¬loads i (rdPrev i xe) (rdCur i xe) (rdUsed xn)) (hc2 : ¬k0_cond2 i (rdUsed xn) = 1#1) (hc3 : k0_cond3 i (rdUsed xn) = 1#1) :
    ∀ (E : Set ℕ) (K : PUnit → sProp 𝕄),
      iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ (∃ d, owns (c : Thread nD τ) arg8 fullShare d) ∗ owns (c : Thread nD τ) arg9 fullShare s1 ∗ owns (c : Thread nD τ) arg10 fullShare s2 ∗ tbPt c teM xe ∗ tbPt c tnM xn
          ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare k0_pay3 ∗ owns (c : Thread nD τ) arg9 fullShare s1 ∗ owns (c : Thread nD τ) arg10 fullShare s2 ∗ tbPt c teM xe ∗ tbPt c tnM xn) -∗ K ⟨⟩))
        ⊢ wp frame (wpE (defs₀ (F := F)) Variants.none c none) E (cc0_experts i teM hteM tnM htnM arg3 harg3 arg4 harg4 arg5 harg5 arg6 harg6 arg7 harg7 arg8 harg8 arg9 harg9 arg10 harg10) K := by
  intro E K
  simp only [cc0_experts_eq_skeleton]; unfold cc0_experts_skel
  simp only [k0_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%g1, %hg1, HS1⟩, ⟨%g2, %hg2, HS2⟩, HT0, HT1, Hk⟩
  obtain rfl := harg3.eq_unread hf0; obtain rfl := harg4.eq_unread hf1; obtain rfl := harg5.eq_unread hf2; obtain rfl := harg6.eq_unread hf3; obtain rfl := harg7.eq_unread hf4
  obtain rfl := harg9.eq_unread hg1; obtain rfl := harg10.eq_unread hg2
  sl_exec (disch := first | sl_exact hc0 | sl_exact hc2 | sl_exact hc3)
  sl_step
  iapply Hk
  isplitl [H0]
  · iexists _; isplitr; · ipureintro; exact harg3.read_unread _
    iexact H0
  isplitl [H1]
  · iexists _; isplitr; · ipureintro; exact harg4.read_unread _
    iexact H1
  isplitl [H2]
  · iexists _; isplitr; · ipureintro; exact harg5.read_unread _
    iexact H2
  isplitl [H3]
  · iexists _; isplitr; · ipureintro; exact harg6.read_unread _
    iexact H3
  isplitl [H4]
  · iexists _; isplitr; · ipureintro; exact harg7.read_unread _
    iexact H4
  isplitl [H5]
  · iexists _; isplitr; swap; · iexact H5
    ipureintro
    sl_unfold_words
    refine (read_whole_store _ _ (by first | exact hz2 | exact hz3) _ _).trans ?_
    try simp only [View.readAt_eq_ld, Memref.IsWhole.read_unread, View.ld_unit_zero (S := S256x1024) hz2, View.ld_unit_zero (S := S1024x2048) hz2, View.ld_unit_zero (S := S1024x1024) hz2, View.ld_unit_zero (S := S1x1024x2048) hz3, View.ld_unit_zero (S := S1x1x2048) hz3, View.ld_unit_zero (S := S1x1024x1024) hz3, View.ld_unit_zero (S := S1x1x1024) hz3, View.readCov_unit_zero (S := S1024x2048) _ hz2, View.readCov_unit_zero (S := S1024x1024) _ hz2]
  isplitl [HS1]
  · iexists _; isplitr; · ipureintro; exact harg9.read_unread _
    iexact HS1
  isplitl [HS2]
  · iexists _; isplitr; · ipureintro; exact harg10.read_unread _
    iexact HS2
  isplitl [HT0]; · iexact HT0
  iexact HT1

end Cert.KernelIdeal.Own

end
-- ==== Proof.ExpertsData.lean ====
/- The pipeline of the experts kernel: what every point finds and leaves, the weights the scratches hold from one point to the next, the body at every point, and the run. -/
module

public import proofs.«01_k».proof.Proof.ExpertsRun
public import Idealize.ShloMosaic.Lib.Pipeline.ValueKit

@[expose] public section

set_option maxRecDepth 16384

noncomputable section

namespace Cert.KernelIdeal.Own

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The words at a point -/

theorem coord_eq : ∀ t : Fin grid0.N, (grid0.coords t 0).val = t.val := by decide +kernel
theorem off1_eq : ∀ t : Fin grid0.N, k0_off1 (grid0.coords t) 0 = t.val := by decide +kernel
theorem off2_eq : ∀ t : Fin grid0.N, k0_off2 (grid0.coords t) 0 = t.val - 1 := by decide +kernel

/-- The expert of block `n`, -/
def be (n : ℕ) (h : n < 288) : BitVec 32 := tbl m 0 (ix1 ⟨n, h⟩)
/-- and the number of blocks in use. -/
def nu : BitVec 32 := tbl m 1 (ix1 ⟨0, Nat.one_pos⟩)

theorem lt288 (t : Fin grid0.N) : t.val < 288 := N_0 ▸ t.isLt

theorem rdCur_eq {c : Dev nD} (t : Fin grid0.N) : rdCur (c := c) (grid0.coords t) (tbl m 0) = be m t.val (lt288 t) := by
  unfold be
  refine congrArg (tbl m 0) (funext fun a => Fin.ext ?_)
  match a with
  | ⟨0, _⟩ => exact off1_eq t

theorem rdPrev_eq {c : Dev nD} (t : Fin grid0.N) : rdPrev (c := c) (grid0.coords t) (tbl m 0) = be m (t.val - 1) (Nat.lt_of_le_of_lt (Nat.sub_le _ _) (lt288 t)) := by
  unfold be
  refine congrArg (tbl m 0) (funext fun a => Fin.ext ?_)
  match a with
  | ⟨0, _⟩ => exact off2_eq t

theorem rdUsed_eq {c : Dev nD} : rdUsed (c := c) (tbl m 1) = nu m := by
  unfold nu
  refine congrArg (tbl m 1) (funext fun a => Fin.ext ?_)
  match a with
  | ⟨0, _⟩ => rfl

/-- Block `n` is in use. -/
def used (n : ℕ) : Prop := (BitVec.ofNat 32 n).slt (nu m) = true

instance (n : ℕ) : Decidable (used m n) := inferInstanceAs (Decidable (_ = _))

/-! Bits as propositions. -/
theorem bit_ne : ∀ b : BitVec 1, Scalar.cmpi .ne (Scalar.extui b) 0#32 = 1#1 ↔ b = 1#1 := by decide
theorem bit_and : ∀ a b : BitVec 1, Scalar.andi a b = 1#1 ↔ a = 1#1 ∧ b = 1#1 := by decide
theorem bit_or : ∀ a b : BitVec 1, Scalar.ori a b = 1#1 ↔ a = 1#1 ∨ b = 1#1 := by decide
theorem bit_not : ∀ a : BitVec 1, Scalar.xori a 1#1 = 1#1 ↔ ¬a = 1#1 := by decide
theorem bit_slt (x y : BitVec 32) : Scalar.cmpi .slt x y = 1#1 ↔ x.slt y = true := by
  unfold Scalar.cmpi IntOp.cmpi; cases x.slt y <;> simp
theorem bit_eq (x y : BitVec 32) : Scalar.cmpi .eq x y = 1#1 ↔ x = y := by
  unfold Scalar.cmpi IntOp.cmpi
  by_cases h : x = y
  · simp [h]
  · simp [h, beq_eq_false_iff_ne.mpr h]
theorem bit_neq (x y : BitVec 32) : Scalar.cmpi .ne x y = 1#1 ↔ x ≠ y := by
  unfold Scalar.cmpi IntOp.cmpi
  by_cases h : x = y
  · simp [h]
  · simp [h, bne, beq_eq_false_iff_ne.mpr h]

theorem cond2_iff (t : Fin grid0.N) : k0_cond2 (grid0.coords t) (nu m) = 1#1 ↔ used m t.val := by
  unfold k0_cond2 used
  rw [coord_eq t]
  simp only [bit_ne, bit_slt]

theorem cond3_iff (t : Fin grid0.N) : k0_cond3 (grid0.coords t) (nu m) = 1#1 ↔ ¬used m t.val := by
  unfold k0_cond3 used
  rw [coord_eq t]
  simp only [bit_ne, bit_not, bit_slt]

theorem loads_iff (t : Fin grid0.N) (v3 v6 : BitVec 32) : loads (grid0.coords t) v3 v6 (nu m) ↔ (t.val = 0 ∨ v6 ≠ v3) ∧ used m t.val := by
  have h0 : BitVec.ofNat 32 t.val = 0#32 ↔ t.val = 0 := by
    have := lt288 t
    constructor
    · intro h; have := congrArg BitVec.toNat h; simp at this; omega
    · intro h; rw [h]
  unfold loads used
  rw [coord_eq t]
  rw [bit_ne]
  simp only [bit_and, bit_or, bit_slt, bit_eq, bit_neq, h0]

/-- Where the block before is the same expert's, it is in use if this one is. -/
theorem used_pred {n : ℕ} (hn : n + 1 < 288) (h : used m (n + 1)) : used m n := by
  unfold used at *
  simp only [BitVec.slt, decide_eq_true_eq, BitVec.toInt, BitVec.toNat_ofNat] at *
  omega

/-! ## The windows' blocks -/

/-- Window `w`'s block at point `t`, read off its array. -/
def iblk (hO : Ok m) (c : Dev nD) (w : Fin (cfgM m hO).W) (t : Fin (cfgM m hO).N) : (((cfgM m hO).win w).xblock ((cfgM m hO).grid.coords t)).Idx → Elt F ((cfgM m hO).win w).elt :=
  (((cfgM m hO).win w).blk t).view.read (Elt F) (V m c (Pipeline.arrRef spec0 w))

/-- The rows of block `t`, and the weights and biases of its expert. -/
abbrev bx (hO : Ok m) (c : Dev nD) (t : Fin (cfgM m hO).N) : Vec F S256x1024 .f32 := iblk m hO c 0 t
abbrev bw1 (hO : Ok m) (c : Dev nD) (t : Fin (cfgM m hO).N) : Vec F S1x1024x2048 .f32 := iblk m hO c 1 t
abbrev bb1 (hO : Ok m) (c : Dev nD) (t : Fin (cfgM m hO).N) : Vec F S1x1x2048 .f32 := iblk m hO c 2 t
abbrev bw2 (hO : Ok m) (c : Dev nD) (t : Fin (cfgM m hO).N) : Vec F S1x1024x1024 .f32 := iblk m hO c 3 t
abbrev bb2 (hO : Ok m) (c : Dev nD) (t : Fin (cfgM m hO).N) : Vec F S1x1x1024 .f32 := iblk m hO c 4 t

/-- The windows' block indices: the point, or the expert of the point. -/
theorem index_0 (hO : Ok m) (t : Fin (cfgM m hO).N) : ((cfgM m hO).win 0).index t = ![t.val, 0] := by
  have h := coord_eq t
  show cc0_transform_0 (grid0.coords t) = _
  unfold cc0_transform_0
  dsimp only
  rw [h, BitVec.toNat_ofNat, Nat.mod_eq_of_lt (by have := lt288 t; omega)]
  rfl
theorem at_eq (t : Fin grid0.N) : (tbl m).at 0 (Rect.unit (s := S288) (k0_off1 (grid0.coords t)) S1.size (k0_off1_inb (grid0.coords t))) numel1_S1 = be m t.val (lt288 t) := by
  unfold be
  refine congrArg (tbl m 0) (funext fun a => Fin.ext ?_)
  match a with
  | ⟨0, _⟩ => exact off1_eq t
/-- An expert's number as a block index. -/
def at3 (b : BitVec 32) : Fin 3 → ℕ := ![b.toNat, 0, 0]
theorem index_1 (hO : Ok m) (t : Fin (cfgM m hO).N) : ((cfgM m hO).win 1).index t = ![(be m t.val (lt288 t)).toNat, 0, 0] := by
  exact congrArg at3 (at_eq m t)
theorem index_2 (hO : Ok m) (t : Fin (cfgM m hO).N) : ((cfgM m hO).win 2).index t = ![(be m t.val (lt288 t)).toNat, 0, 0] := by
  exact congrArg at3 (at_eq m t)
theorem index_3 (hO : Ok m) (t : Fin (cfgM m hO).N) : ((cfgM m hO).win 3).index t = ![(be m t.val (lt288 t)).toNat, 0, 0] := by
  exact congrArg at3 (at_eq m t)
theorem index_4 (hO : Ok m) (t : Fin (cfgM m hO).N) : ((cfgM m hO).win 4).index t = ![(be m t.val (lt288 t)).toNat, 0, 0] := by
  exact congrArg at3 (at_eq m t)
theorem index_5 (hO : Ok m) (t : Fin (cfgM m hO).N) : ((cfgM m hO).win 5).index t = ![t.val, 0] := by
  have h := coord_eq t
  show cc0_transform_5 (grid0.coords t) = _
  unfold cc0_transform_5
  dsimp only
  rw [h, BitVec.toNat_ofNat, Nat.mod_eq_of_lt (by have := lt288 t; omega)]
  rfl

/-- Every expert's number is below 32. -/
theorem be_lt (hO : Ok m) (t : Fin grid0.N) : (be m t.val (lt288 t)).toNat < 32 := by
  obtain ⟨h, -⟩ := hO.1 (grid0.coords t)
  have h0 := h (0 : Fin 3)
  have hi : (cc0_transform_1 k0_off1_inb numel1_S1 (tbl m) (grid0.coords t) : Fin 3 → ℕ) (0 : Fin 3) = (be m t.val (lt288 t)).toNat := congrFun (index_1 m hO t) (0 : Fin 3)
  rw [hi] at h0
  have h1 : ((be m t.val (lt288 t)).toNat + 1) * 1 ≤ 32 := h0
  omega

theorem row_lt (t : Fin grid0.N) (r : Fin 256) : t.val * 256 + r.val < 73728 := by have := lt288 t; omega

/-- Row `r` of block `t` is row `256 t + r`. -/
theorem bx_apply (hO : Ok m) (c : Dev nD) (t : Fin (cfgM m hO).N) (r : Fin 256) (k : Fin 1024) :
    bx m hO c t (ix2 r k) = m ((c : Thread nD τ).loc main_arg2) (ix2 ⟨t.val * 256 + r.val, row_lt t r⟩ k) := by
  have e := index_0 m hO t
  blk_ext [iblk, V, e]
theorem bw1_apply (hO : Ok m) (c : Dev nD) (t : Fin (cfgM m hO).N) (k : Fin 1024) (j : Fin 2048) :
    bw1 m hO c t (ix3 (0 : Fin 1) k j) = m ((c : Thread nD τ).loc main_arg3) (ix3 ⟨_, be_lt m hO t⟩ k j) := by
  have e := index_1 m hO t
  blk_ext [iblk, V, e]
theorem bb1_apply (hO : Ok m) (c : Dev nD) (t : Fin (cfgM m hO).N) (j : Fin 2048) :
    bb1 m hO c t (ix3 (0 : Fin 1) (0 : Fin 1) j) = m ((c : Thread nD τ).loc main_arg4) (ix3 ⟨_, be_lt m hO t⟩ (0 : Fin 1) j) := by
  have e := index_2 m hO t
  blk_ext [iblk, V, e]
theorem bw2_apply (hO : Ok m) (c : Dev nD) (t : Fin (cfgM m hO).N) (k : Fin 1024) (j : Fin 1024) :
    bw2 m hO c t (ix3 (0 : Fin 1) k j) = m ((c : Thread nD τ).loc main_arg5) (ix3 ⟨_, be_lt m hO t⟩ k j) := by
  have e := index_3 m hO t
  blk_ext [iblk, V, e]
theorem bb2_apply (hO : Ok m) (c : Dev nD) (t : Fin (cfgM m hO).N) (j : Fin 1024) :
    bb2 m hO c t (ix3 (0 : Fin 1) (0 : Fin 1) j) = m ((c : Thread nD τ).loc main_arg6) (ix3 ⟨_, be_lt m hO t⟩ (0 : Fin 1) j) := by
  have e := index_4 m hO t
  blk_ext [iblk, V, e]

end Cert.KernelIdeal.Own

end
-- ==== Proof.ExpertsOk.lean ====
/- What the precondition gives: every block's expert is below 32, so the weights' blocks lie inside their arrays. -/
module

public import proofs.«01_k».proof.Proof.ExpertsData
public import proofs.«01_k».proof.Proof.Gen.Pre_in_range
public import Idealize.ShloMosaic.Lib.ReduceAll

@[expose] public section

set_option maxRecDepth 16384

noncomputable section

namespace Cert.KernelIdeal.Own

open Idealize.ShloMosaic Idealize.ShloMosaic.TcCoe Idealize.ShloMosaic.ValueIdx
open Cert.KernelIdeal.Gen

variable {F : FTy → Type} [FloatOps F]

variable (m : (ℓ : Loc nD τ sig) → Buf (Elt F) ℓ)

/-- The precondition decoded: every word of the first argument is in the range 0 ≤ · < 32. -/
theorem words_lt (a0 : IVec S288 32) (a1 : IVec S1 32) (a2 : FVec F S73728x1024 .f32) (a3 : FVec F S32x1024x2048 .f32)
    (a4 : FVec F S32x1x2048 .f32) (a5 : FVec F S32x1024x1024 .f32) (a6 : FVec F S32x1x1024 .f32)
    (h : Cert.Pre_in_range.fn a0 a1 a2 a3 a4 a5 a6 = fun _ => 1#1) (i : S288.Idx) : (a0 i).toNat < 32 := by
  have both (p q : Bool) : IntOp.andi (BitVec.ofBool p) (BitVec.ofBool q) = BitVec.ofBool (p && q) := by
    cases p <;> cases q <;> decide
  have one (p : Bool) : (BitVec.ofBool p = 1#1) ↔ p = true := by cases p <;> decide
  haveI : Subsingleton Cert.Pre_in_range.S_.Idx := ⟨fun x y => funext fun a => a.elim0⟩
  have e := congrFun h (fun a => a.elim0)
  dsimp only [Cert.Pre_in_range.fn] at e
  have e' := Host.reduce_andi_all _ _ _ _ _ e i
  simp only [andi, cmpi, broadcastInDim, constantI, IntOp.cmpi, both, one, Bool.and_eq_true] at e'
  obtain ⟨hge, hlt⟩ := e'
  simp only [BitVec.sle, BitVec.slt, decide_eq_true_eq, BitVec.toInt, BitVec.toNat_ofNat] at hge hlt
  omega

/-- A block of one expert's page lies inside an array of 32 pages. -/
theorem page_inb (A B : ℕ) (b : BitVec 32) (hb : b.toNat < 32) (a : Fin 3) : (at3 b a + 1) * (![1, A, B] : Fin 3 → ℕ) a ≤ (![32, A, B] : Fin 3 → ℕ) a := by
  match a with
  | ⟨0, _⟩ => show (b.toNat + 1) * 1 ≤ 32; omega
  | ⟨1, _⟩ => show (0 + 1) * A ≤ A; omega
  | ⟨2, _⟩ => show (0 + 1) * B ≤ B; omega

/-- The condition on the prefetched tables holds where every word of the first is below 32. -/
theorem ok_of_lt (h : ∀ i, (tbl m 0 i : BitVec 32).toNat < 32) : Ok m := by
  unfold Ok ok0
  exact ⟨fun i => ⟨fun a => page_inb 1024 2048 _ (h _) a, Or.inl rfl⟩, fun i => ⟨fun a => page_inb 1 2048 _ (h _) a, Or.inl rfl⟩,
    fun i => ⟨fun a => page_inb 1024 1024 _ (h _) a, Or.inl rfl⟩, fun i => ⟨fun a => page_inb 1 1024 _ (h _) a, Or.inl rfl⟩⟩

/-- The precondition gives it. -/
theorem ok_of_pre (h : ∀ c : Dev nD, Cert.Pre_in_range.fn (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) = fun _ => 1#1) : Ok m :=
  ok_of_lt m fun i => words_lt _ _ _ _ _ _ _ (h 0) i

end Cert.KernelIdeal.Own

end
-- ==== Proof.ExpertsFrame.lean ====
/- The run of the experts kernel: the weights its scratches hold from one point to the next, the body at every point, and what the whole run leaves. -/
module

public import proofs.«01_k».proof.Proof.ExpertsData

@[expose] public section

set_option maxRecDepth 16384

noncomputable section

namespace Cert.KernelIdeal.Own

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What the scratches hold, what a point leaves -/

/-- A block of the weights read at its own indices. -/
theorem eta3 {a b d : ℕ} (y : (⟨3, ![a, b, d]⟩ : Shape).Idx) : y = ix3 (y 0 : Fin a) (y 1 : Fin b) (y 2 : Fin d) := funext fun x => by
  match x with
  | ⟨0, _⟩ => rfl
  | ⟨1, _⟩ => rfl
  | ⟨2, _⟩ => rfl

/-- Two blocks of one expert are handed the same weights, -/
theorem bw1_congr (hO : Ok m) (c : Dev nD) (t u : Fin (cfgM m hO).N) (h : be m t.val (lt288 t) = be m u.val (lt288 u)) : bw1 m hO c t = bw1 m hO c u := by
  funext y
  obtain ⟨k, j, rfl⟩ : ∃ (k : Fin 1024) (j : Fin 2048), y = ix3 (0 : Fin 1) k j := ⟨y 1, y 2, (eta3 (a := 1) (b := 1024) (d := 2048) y).trans (congrArg (fun z => ix3 z _ _) (Subsingleton.elim (α := Fin 1) _ _))⟩
  refine (bw1_apply m hO c t k j).trans (Eq.trans ?_ (bw1_apply m hO c u k j).symm)
  congr 2
  exact Fin.ext (congrArg BitVec.toNat h)
/-- those of the second layer too. -/
theorem bw2_congr (hO : Ok m) (c : Dev nD) (t u : Fin (cfgM m hO).N) (h : be m t.val (lt288 t) = be m u.val (lt288 u)) : bw2 m hO c t = bw2 m hO c u := by
  funext y
  obtain ⟨k, j, rfl⟩ : ∃ (k : Fin 1024) (j : Fin 1024), y = ix3 (0 : Fin 1) k j := ⟨y 1, y 2, (eta3 (a := 1) (b := 1024) (d := 1024) y).trans (congrArg (fun z => ix3 z _ _) (Subsingleton.elim (α := Fin 1) _ _))⟩
  refine (bw2_apply m hO c t k j).trans (Eq.trans ?_ (bw2_apply m hO c u k j).symm)
  congr 2
  exact Fin.ext (congrArg BitVec.toNat h)

/-- What the body leaves in the output at block `t`: the expert's rows where the block is in use, zeros elsewhere. -/
def out (hO : Ok m) (c : Dev nD) (t : Fin (cfgM m hO).N) : Vec F S256x1024 .f32 :=
  if used m t.val then k0_pay4 (bx m hO c t) (k0_pay1 (bw1 m hO c t)) (bb1 m hO c t) (k0_pay2 (bw2 m hO c t)) (bb2 m hO c t) else k0_pay3

/-- Before point `n` the scratches hold the rounded weights of block `n - 1`'s expert, if that block is in use. -/
def held (hO : Ok m) (c : Dev nD) (n : ℕ) (s1 : Vec F S1024x2048 .bf16) (s2 : Vec F S1024x1024 .bf16) : Prop :=
  ∀ u : Fin (cfgM m hO).N, u.val + 1 = n → used m u.val → s1 = k0_pay1 (bw1 m hO c u) ∧ s2 = k0_pay2 (bw2 m hO c u)

/-- What the region keeps between points. -/
def Inv (hO : Ok m) (c : Dev nD) (n : ℕ) : sProp 𝕄 :=
  iprop((∃ s1 s2, ⌜held m hO c n s1 s2⌝ ∗ owns (c : Thread nD τ) sc1 fullShare s1 ∗ owns (c : Thread nD τ) sc2 fullShare s2)
    ∗ (∃ r, prngReg c r) ∗ tbPt c teM (tbl m 0) ∗ tbPt c tnM (tbl m 1))

theorem held_load (hO : Ok m) (c : Dev nD) (t : Fin (cfgM m hO).N) : held m hO c (t.val + 1) (k0_pay1 (bw1 m hO c t)) (k0_pay2 (bw2 m hO c t)) := fun u hu _ => by
  obtain rfl : u = t := Fin.ext (by omega)
  exact ⟨rfl, rfl⟩

theorem held_skip (hO : Ok m) (c : Dev nD) (t : Fin (cfgM m hO).N) (h : ¬used m t.val) (s1) (s2) : held m hO c (t.val + 1) s1 s2 := fun u hu hu' => by
  obtain rfl : u = t := Fin.ext (by omega)
  exact absurd hu' h

/-- Where the weights are not loaded, block `t` is its predecessor's expert's: the scratches hold its weights. -/
theorem held_keep (hO : Ok m) (c : Dev nD) (t : Fin (cfgM m hO).N) (hu : used m t.val)
    (hl : ¬loads (grid0.coords t) (rdPrev (c := c) (grid0.coords t) (tbl m 0)) (rdCur (c := c) (grid0.coords t) (tbl m 0)) (rdUsed (c := c) (tbl m 1))) (s1) (s2)
    (hh : held m hO c t.val s1 s2) : s1 = k0_pay1 (bw1 m hO c t) ∧ s2 = k0_pay2 (bw2 m hO c t) := by
  rw [rdPrev_eq, rdCur_eq, rdUsed_eq, loads_iff] at hl
  have h0 : ¬t.val = 0 := fun h => hl ⟨.inl h, hu⟩
  have he : be m t.val (lt288 t) = be m (t.val - 1) (Nat.lt_of_le_of_lt (Nat.sub_le _ _) (lt288 t)) := by
    by_contra h
    exact hl ⟨.inr h, hu⟩
  obtain ⟨n, hn⟩ : ∃ n, t.val = n + 1 := ⟨t.val - 1, by omega⟩
  have hlt := lt288 t
  have hN : n < (cfgM m hO).N := by have := t.isLt; omega
  have hp : used m n := used_pred m (by omega) (hn ▸ hu)
  have hbe : be m t.val (lt288 t) = be m (⟨n, hN⟩ : Fin (cfgM m hO).N).val (lt288 ⟨n, hN⟩) := by
    rw [he]; congr 1; show t.val - 1 = n; omega
  obtain ⟨e1, e2⟩ := hh ⟨n, hN⟩ hn.symm hp
  exact ⟨e1.trans (congrArg _ (bw1_congr m hO c t _ hbe).symm), e2.trans (congrArg _ (bw2_congr m hO c t _ hbe).symm)⟩

/-! ## The proof data -/

/-- The arrays as the region finds them; after the body each input at its block and the output at `out`; the invariant `Inv`. -/
def dats (hO : Ok m) (_ : Fin 1) (c : Dev nD) : Dat τ (Elt F) Unit ℕ (UR sig nD τ) ℕ (cfgM m hO) c where
  A w := V m c (Pipeline.arrRef spec0 w)
  after w t := match w with
    | ⟨0, _⟩ => iblk m hO c 0 t
    | ⟨1, _⟩ => iblk m hO c 1 t
    | ⟨2, _⟩ => iblk m hO c 2 t
    | ⟨3, _⟩ => iblk m hO c 3 t
    | ⟨4, _⟩ => iblk m hO c 4 t
    | ⟨5, _⟩ => out m hO c t
  Φ t := Inv m hO c t.val
  q _ := fullShare
  owed _ := 0

theorem A_eq (hO : Ok m) (c : Dev nD) (w : Fin (cfgM m hO).W) : (dats m hO 0 c).A w = V m c (Pipeline.arrRef spec0 w) := by
  dsimp only [dats]

theorem after_0 (hO : Ok m) (c : Dev nD) (t : Fin (cfgM m hO).N) : (dats m hO 0 c).after 0 t = iblk m hO c 0 t := by dsimp only [dats]; try rfl
theorem after_1 (hO : Ok m) (c : Dev nD) (t : Fin (cfgM m hO).N) : (dats m hO 0 c).after 1 t = iblk m hO c 1 t := by dsimp only [dats]; try rfl
theorem after_2 (hO : Ok m) (c : Dev nD) (t : Fin (cfgM m hO).N) : (dats m hO 0 c).after 2 t = iblk m hO c 2 t := by dsimp only [dats]; try rfl
theorem after_3 (hO : Ok m) (c : Dev nD) (t : Fin (cfgM m hO).N) : (dats m hO 0 c).after 3 t = iblk m hO c 3 t := by dsimp only [dats]; try rfl
theorem after_4 (hO : Ok m) (c : Dev nD) (t : Fin (cfgM m hO).N) : (dats m hO 0 c).after 4 t = iblk m hO c 4 t := by dsimp only [dats]; try rfl
theorem after_5 (hO : Ok m) (c : Dev nD) (t : Fin (cfgM m hO).N) : (dats m hO 0 c).after 5 t = out m hO c t := by dsimp only [dats]; try rfl

theorem before_0 (hO : Ok m) (c : Dev nD) (t : Fin (cfgM m hO).N) (d) : (dats m hO 0 c).before 0 t d = iblk m hO c 0 t :=
  ((dats m hO 0 c).before_in_eq_fetched 0 rfl (fun _ => rfl) (fun _ _ _ => rfl) (fun t => by rw [after_0]; unfold Dat.blockOf iblk; rw [A_eq]; try rfl) t d).trans
    (by unfold Dat.fetched Dat.blockOf iblk; rw [A_eq]; try rfl)
theorem before_1 (hO : Ok m) (c : Dev nD) (t : Fin (cfgM m hO).N) (d) : (dats m hO 0 c).before 1 t d = iblk m hO c 1 t :=
  ((dats m hO 0 c).before_in_eq_fetched 1 rfl (fun _ => rfl) (fun _ _ _ => rfl) (fun t => by rw [after_1]; unfold Dat.blockOf iblk; rw [A_eq]; try rfl) t d).trans
    (by unfold Dat.fetched Dat.blockOf iblk; rw [A_eq]; try rfl)
theorem before_2 (hO : Ok m) (c : Dev nD) (t : Fin (cfgM m hO).N) (d) : (dats m hO 0 c).before 2 t d = iblk m hO c 2 t :=
  ((dats m hO 0 c).before_in_eq_fetched 2 rfl (fun _ => rfl) (fun _ _ _ => rfl) (fun t => by rw [after_2]; unfold Dat.blockOf iblk; rw [A_eq]; try rfl) t d).trans
    (by unfold Dat.fetched Dat.blockOf iblk; rw [A_eq]; try rfl)
theorem before_3 (hO : Ok m) (c : Dev nD) (t : Fin (cfgM m hO).N) (d) : (dats m hO 0 c).before 3 t d = iblk m hO c 3 t :=
  ((dats m hO 0 c).before_in_eq_fetched 3 rfl (fun _ => rfl) (fun _ _ _ => rfl) (fun t => by rw [after_3]; unfold Dat.blockOf iblk; rw [A_eq]; try rfl) t d).trans
    (by unfold Dat.fetched Dat.blockOf iblk; rw [A_eq]; try rfl)
theorem before_4 (hO : Ok m) (c : Dev nD) (t : Fin (cfgM m hO).N) (d) : (dats m hO 0 c).before 4 t d = iblk m hO c 4 t :=
  ((dats m hO 0 c).before_in_eq_fetched 4 rfl (fun _ => rfl) (fun _ _ _ => rfl) (fun t => by rw [after_4]; unfold Dat.blockOf iblk; rw [A_eq]; try rfl) t d).trans
    (by unfold Dat.fetched Dat.blockOf iblk; rw [A_eq]; try rfl)

/-! ## The body at every point -/

abbrev ms0 (hO : Ok m) (t : Fin (cfgM m hO).N) : Memref sig .tc .vmem S256x1024 .f32 := spec0_0.stage ((cfgM m hO).slots t 0)
abbrev hs0 (hO : Ok m) (t : Fin (cfgM m hO).N) : (ms0 m hO t).IsWhole := hstage0_0 (((cfgM m hO).slots t 0).cast nbuf0_0)
abbrev ms1 (hO : Ok m) (t : Fin (cfgM m hO).N) : Memref sig .tc .vmem S1x1024x2048 .f32 := spec0_1.stage ((cfgM m hO).slots t 1)
abbrev hs1 (hO : Ok m) (t : Fin (cfgM m hO).N) : (ms1 m hO t).IsWhole := hstage0_1 (((cfgM m hO).slots t 1).cast nbuf0_1)
abbrev ms2 (hO : Ok m) (t : Fin (cfgM m hO).N) : Memref sig .tc .vmem S1x1x2048 .f32 := spec0_2.stage ((cfgM m hO).slots t 2)
abbrev hs2 (hO : Ok m) (t : Fin (cfgM m hO).N) : (ms2 m hO t).IsWhole := hstage0_2 (((cfgM m hO).slots t 2).cast nbuf0_2)
abbrev ms3 (hO : Ok m) (t : Fin (cfgM m hO).N) : Memref sig .tc .vmem S1x1024x1024 .f32 := spec0_3.stage ((cfgM m hO).slots t 3)
abbrev hs3 (hO : Ok m) (t : Fin (cfgM m hO).N) : (ms3 m hO t).IsWhole := hstage0_3 (((cfgM m hO).slots t 3).cast nbuf0_3)
abbrev ms4 (hO : Ok m) (t : Fin (cfgM m hO).N) : Memref sig .tc .vmem S1x1x1024 .f32 := spec0_4.stage ((cfgM m hO).slots t 4)
abbrev hs4 (hO : Ok m) (t : Fin (cfgM m hO).N) : (ms4 m hO t).IsWhole := hstage0_4 (((cfgM m hO).slots t 4).cast nbuf0_4)
abbrev ms5 (hO : Ok m) (t : Fin (cfgM m hO).N) : Memref sig .tc .vmem S256x1024 .f32 := spec0_5.stage ((cfgM m hO).slots t 5)
abbrev hs5 (hO : Ok m) (t : Fin (cfgM m hO).N) : (ms5 m hO t).IsWhole := hstage0_5 (((cfgM m hO).slots t 5).cast nbuf0_5)

/-- The body at point `t` on what the pipeline calls it with. -/
abbrev bodyAt (hO : Ok m) (t : Fin (cfgM m hO).N) : Prog (TpuEff nD τ sig (Elt F) Λ₀ .tc) PUnit :=
  cc0_experts (grid0.coords t) teM hteM tnM htnM (ms0 m hO t) (hs0 m hO t) (ms1 m hO t) (hs1 m hO t) (ms2 m hO t) (hs2 m hO t) (ms3 m hO t) (hs3 m hO t) (ms4 m hO t) (hs4 m hO t) (ms5 m hO t) (hs5 m hO t) sc1 (Memref.isWhole_whole _) sc2 (Memref.isWhole_whole _)

/-- What the body is called with, -/
def bodyPre (hO : Ok m) (c : Dev nD) (t : Fin (cfgM m hO).N) : sProp 𝕄 :=
  iprop((dats m hO 0 c).Φ t.castSucc ∗ (dats m hO 0 c).owesAt () t.castSucc
    ∗ (∃ d, owns (c : Thread nD τ) (ms0 m hO t) fullShare ((dats m hO 0 c).before 0 t d)) ∗ (∃ d, owns (c : Thread nD τ) (ms1 m hO t) fullShare ((dats m hO 0 c).before 1 t d)) ∗ (∃ d, owns (c : Thread nD τ) (ms2 m hO t) fullShare ((dats m hO 0 c).before 2 t d)) ∗ (∃ d, owns (c : Thread nD τ) (ms3 m hO t) fullShare ((dats m hO 0 c).before 3 t d)) ∗ (∃ d, owns (c : Thread nD τ) (ms4 m hO t) fullShare ((dats m hO 0 c).before 4 t d)) ∗ (∃ d, owns (c : Thread nD τ) (ms5 m hO t) fullShare ((dats m hO 0 c).before 5 t d)))
/-- and what it returns. -/
def bodyPost (hO : Ok m) (c : Dev nD) (t : Fin (cfgM m hO).N) : sProp 𝕄 :=
  iprop((dats m hO 0 c).Φ t.succ ∗ (dats m hO 0 c).owesAt () t.succ
    ∗ owns (c : Thread nD τ) (ms0 m hO t) fullShare ((dats m hO 0 c).after 0 t) ∗ owns (c : Thread nD τ) (ms1 m hO t) fullShare ((dats m hO 0 c).after 1 t) ∗ owns (c : Thread nD τ) (ms2 m hO t) fullShare ((dats m hO 0 c).after 2 t) ∗ owns (c : Thread nD τ) (ms3 m hO t) fullShare ((dats m hO 0 c).after 3 t) ∗ owns (c : Thread nD τ) (ms4 m hO t) fullShare ((dats m hO 0 c).after 4 t) ∗ owns (c : Thread nD τ) (ms5 m hO t) fullShare ((dats m hO 0 c).after 5 t))

set_option maxHeartbeats 1600000 in
/-- The body at any point: by whether the block is in use, and whether the scratches hold its weights. -/
theorem sound_body (hO : Ok m) (c : Dev nD) (t : Fin (cfgM m hO).N) :
    bodyPre m hO c t ⊢ wp frame (wpE (defs₀ (F := F)) Variants.none c none) Set.univ (bodyAt m hO t) (fun _ => bodyPost m hO c t) := by
  unfold bodyPre bodyPost bodyAt
  simp only [before_0, before_1, before_2, before_3, before_4]
  rw [show (dats m hO 0 c).owesAt () t.succ = (dats m hO 0 c).owesAt () t.castSucc from rfl,
    after_0, after_1, after_2, after_3, after_4, after_5,
    show (dats m hO 0 c).Φ t.castSucc = Inv m hO c t.val from rfl, show (dats m hO 0 c).Φ t.succ = Inv m hO c (t.val + 1) from rfl]
  unfold Inv
  by_cases hu : used m t.val
  · have hc2 : k0_cond2 (grid0.coords t) (rdUsed (c := c) (tbl m 1)) = 1#1 := by rw [rdUsed_eq m (c := c)]; exact (cond2_iff m t).mpr hu
    have hc3 : ¬k0_cond3 (grid0.coords t) (rdUsed (c := c) (tbl m 1)) = 1#1 := by rw [rdUsed_eq m (c := c)]; exact fun h => (cond3_iff m t).mp h hu
    rw [show out m hO c t = k0_pay4 (bx m hO c t) (k0_pay1 (bw1 m hO c t)) (bb1 m hO c t) (k0_pay2 (bw2 m hO c t)) (bb2 m hO c t) from if_pos hu]
    by_cases hl : loads (grid0.coords t) (rdPrev (c := c) (grid0.coords t) (tbl m 0)) (rdCur (c := c) (grid0.coords t) (tbl m 0)) (rdUsed (c := c) (tbl m 1))
    · iintro ⟨⟨⟨%s1, %s2, %hh, HS1, HS2⟩, Hg, HT0, HT1⟩, Ho, ⟨%d0, H0⟩, ⟨%d1, H1⟩, ⟨%d2, H2⟩, ⟨%d3, H3⟩, ⟨%d4, H4⟩, ⟨%d5, H5⟩⟩
      iapply ((run_load c (grid0.coords t) _ _ _ _ _ _ _ _ _ _ _ _ _ _ _ _ (iblk m hO c 0 t) (iblk m hO c 1 t) (iblk m hO c 2 t) (iblk m hO c 3 t) (iblk m hO c 4 t) s1 s2 (tbl m 0) (tbl m 1) hl hc2 hc3) Set.univ _)
      isplitl [H0]; · iexact H0
      isplitl [H1]; · iexact H1
      isplitl [H2]; · iexact H2
      isplitl [H3]; · iexact H3
      isplitl [H4]; · iexact H4
      isplitl [H5]; · iexists _; iexact H5
      isplitl [HS1]; · iexact HS1
      isplitl [HS2]; · iexact HS2
      isplitl [HT0]; · iexact HT0
      isplitl [HT1]; · iexact HT1
      iintro ⟨H0, H1, H2, H3, H4, H5, HS1, HS2, HT0, HT1⟩
      isplitl [HS1 HS2 Hg HT0 HT1]
      · isplitl [HS1 HS2]
        · iexists _, _
          isplitr; · ipureintro; exact held_load m hO c t
          isplitl [HS1]; · iexact HS1
          iexact HS2
        isplitl [Hg]; · iexact Hg
        isplitl [HT0]; · iexact HT0
        iexact HT1
      isplitl [Ho]; · iexact Ho
      isplitl [H0]; · iexact H0
      isplitl [H1]; · iexact H1
      isplitl [H2]; · iexact H2
      isplitl [H3]; · iexact H3
      isplitl [H4]; · iexact H4
      iexact H5
    · iintro ⟨⟨⟨%s1, %s2, %hh, HS1, HS2⟩, Hg, HT0, HT1⟩, Ho, ⟨%d0, H0⟩, ⟨%d1, H1⟩, ⟨%d2, H2⟩, ⟨%d3, H3⟩, ⟨%d4, H4⟩, ⟨%d5, H5⟩⟩
      obtain ⟨rfl, rfl⟩ := held_keep m hO c t hu hl s1 s2 hh
      iapply ((run_keep c (grid0.coords t) _ _ _ _ _ _ _ _ _ _ _ _ _ _ _ _ (iblk m hO c 0 t) (iblk m hO c 1 t) (iblk m hO c 2 t) (iblk m hO c 3 t) (iblk m hO c 4 t) _ _ (tbl m 0) (tbl m 1) hl hc2 hc3) Set.univ _)
      isplitl [H0]; · iexact H0
      isplitl [H1]; · iexact H1
      isplitl [H2]; · iexact H2
      isplitl [H3]; · iexact H3
      isplitl [H4]; · iexact H4
      isplitl [H5]; · iexists _; iexact H5
      isplitl [HS1]; · iexact HS1
      isplitl [HS2]; · iexact HS2
      isplitl [HT0]; · iexact HT0
      isplitl [HT1]; · iexact HT1
      iintro ⟨H0, H1, H2, H3, H4, H5, HS1, HS2, HT0, HT1⟩
      isplitl [HS1 HS2 Hg HT0 HT1]
      · isplitl [HS1 HS2]
        · iexists _, _
          isplitr; · ipureintro; exact held_load m hO c t
          isplitl [HS1]; · iexact HS1
          iexact HS2
        isplitl [Hg]; · iexact Hg
        isplitl [HT0]; · iexact HT0
        iexact HT1
      isplitl [Ho]; · iexact Ho
      isplitl [H0]; · iexact H0
      isplitl [H1]; · iexact H1
      isplitl [H2]; · iexact H2
      isplitl [H3]; · iexact H3
      isplitl [H4]; · iexact H4
      iexact H5
  · have hc2 : ¬k0_cond2 (grid0.coords t) (rdUsed (c := c) (tbl m 1)) = 1#1 := by rw [rdUsed_eq m (c := c)]; exact fun h => hu ((cond2_iff m t).mp h)
    have hc3 : k0_cond3 (grid0.coords t) (rdUsed (c := c) (tbl m 1)) = 1#1 := by rw [rdUsed_eq m (c := c)]; exact (cond3_iff m t).mpr hu
    have hl : ¬loads (grid0.coords t) (rdPrev (c := c) (grid0.coords t) (tbl m 0)) (rdCur (c := c) (grid0.coords t) (tbl m 0)) (rdUsed (c := c) (tbl m 1)) := by
      rw [rdUsed_eq m (c := c), loads_iff m t]; exact fun h => hu h.2
    rw [show out m hO c t = k0_pay3 from if_neg hu]
    iintro ⟨⟨⟨%s1, %s2, %hh, HS1, HS2⟩, Hg, HT0, HT1⟩, Ho, ⟨%d0, H0⟩, ⟨%d1, H1⟩, ⟨%d2, H2⟩, ⟨%d3, H3⟩, ⟨%d4, H4⟩, ⟨%d5, H5⟩⟩
    iapply ((run_skip c (grid0.coords t) _ _ _ _ _ _ _ _ _ _ _ _ _ _ _ _ (iblk m hO c 0 t) (iblk m hO c 1 t) (iblk m hO c 2 t) (iblk m hO c 3 t) (iblk m hO c 4 t) s1 s2 (tbl m 0) (tbl m 1) hl hc2 hc3) Set.univ _)
    isplitl [H0]; · iexact H0
    isplitl [H1]; · iexact H1
    isplitl [H2]; · iexact H2
    isplitl [H3]; · iexact H3
    isplitl [H4]; · iexact H4
    isplitl [H5]; · iexists _; iexact H5
    isplitl [HS1]; · iexact HS1
    isplitl [HS2]; · iexact HS2
    isplitl [HT0]; · iexact HT0
    isplitl [HT1]; · iexact HT1
    iintro ⟨H0, H1, H2, H3, H4, H5, HS1, HS2, HT0, HT1⟩
    isplitl [HS1 HS2 Hg HT0 HT1]
    · isplitl [HS1 HS2]
      · iexists _, _
        isplitr; · ipureintro; exact held_skip m hO c t hu s1 s2
        isplitl [HS1]; · iexact HS1
        iexact HS2
      isplitl [Hg]; · iexact Hg
      isplitl [HT0]; · iexact HT0
      iexact HT1
    isplitl [Ho]; · iexact Ho
    isplitl [H0]; · iexact H0
    isplitl [H1]; · iexact H1
    isplitl [H2]; · iexact H2
    isplitl [H3]; · iexact H3
    isplitl [H4]; · iexact H4
    iexact H5

/-- The body table's row at point `t`'s slots is the body as `bodyAt` spells it. -/
theorem defs₀_row (hO : Ok m) (t : Fin (cfgM m hO).N) :
    defs₀ (F := F) .tc (cfgM m hO).body ((cfgM m hO).bodyArgs t ((cfgM m hO).slots t)) = bodyAt m hO t := by
  unfold defs₀; rw [Defs.onTc_tc]

/-- The output is written back at every point. -/
theorem flush_5 (hO : Ok m) : ∀ t : Fin (cfgM m hO).N, ((cfgM m hO).win 5).flush t = true :=
  (fun t => (Pipeline.Window.flushOf_reads cc0_transform_5 reads0_5 hreads0_5 0 (by decide) (by decide) (Pipeline.Window.sep_of_coord cc0_transform_5 0 0 (fun _ => rfl) (by decide)) (P := 1) (m := 0) (by decide) rfl t).mpr (Nat.mod_one _) : ∀ t : Fin grid0.N, Pipeline.Window.flushOf grid0 true cc0_transform_5 t = true)

/-- The library's obligation of the body, at every point. -/
theorem body_obligation (hO : Ok m) (c : Dev nD) : BodyObligation (dats (F := F) m hO 0 c) (defs₀ (F := F)) Variants.none () Set.univ := fun t => by
  rw [bigSep_W0, bigSep_W0, defs₀_row m hO]
  refine triple_restated (sound_body m hO c t) rfl .rfl fun _ => ?_
  dsimp only
  have hf : ((pcfg0 (F := F)).win (adm m hO) 5).flush t = true := flush_5 m hO t
  unfold bodyPost
  split
  · split
    · rename_i h; exact absurd (hf.symm.trans h) (by decide)
    · exact .rfl
  · exact .rfl

/-! ## The run -/

theorem hin (hO : Ok m) (c : Dev nD) : iprop(Pipeline.ΦA spec0 c ∗ Pipeline.ΦT pre0 (tbl m) c) ⊢ (dats m hO 0 c).Φ 0 := by
  rw [show (dats m hO 0 c).Φ 0 = Inv m hO c 0 from rfl, scratch_eq, tables_eq]
  unfold Inv
  iintro ⟨⟨⟨⟨%s1, HS1⟩, ⟨%s2, HS2⟩⟩, Hg⟩, HT0, HT1⟩
  isplitl [HS1 HS2]
  · iexists s1, s2
    isplitr; · ipureintro; exact fun u hu _ => absurd hu (Nat.succ_ne_zero _)
    isplitl [HS1]; · iexact HS1
    iexact HS2
  isplitl [Hg]; · iexact Hg
  isplitl [HT0]; · iexact HT0
  iexact HT1

theorem hout (hO : Ok m) (c : Dev nD) : (dats m hO 0 c).Φ (Fin.last (cfgM m hO).N) ⊢ Pipeline.ΦA spec0 c := by
  rw [show (dats m hO 0 c).Φ (Fin.last (cfgM m hO).N) = Inv m hO c (cfgM m hO).N from rfl, scratch_eq]
  unfold Inv
  iintro ⟨⟨%s1, %s2, -, HS1, HS2⟩, Hg, -, -⟩
  isplitl [HS1 HS2]
  · isplitl [HS1]
    · iexists s1; iexact HS1
    iexists s2; iexact HS2
  iexact Hg

-- the launch theorem's implicit arguments are found by unification through plain definitions
set_option backward.isDefEq.respectTransparency.types false in
/-- The run: every array of the pipeline ends at what its proof data say, every other buffer as launched, every counter at zero. -/
theorem run (hO : Ok m) : θ_run defs (onTc (τ := τ) (main (F := F))) (s₀ m ρ) (fun r => Pipeline.FramePost (Pipeline.pin pcfgs fun _ => adm m hO) (dats m hO) 0 (V m) r ∧ r.2.sem = fun _ => 0) :=
  Pipeline.θ_run_frameP_track (Q' := _) pcfgs (fun _ => adm m hO) (dats m hO) (0 : Fin 1) launch0 defs₀ Variants.none m ρ main
    (hbody := fun c => (body_obligation m hO c).loose) (hshare := fun c => (dats m hO 0 c).share_full fun _ => rfl)
    (howed := fun _ _ => rfl) (V := V m) (hmain := hmain m Variants.none) (hA := A_eq m hO) (hpf := V_pre m) (hin := hin m hO) (hout := hout m hO)

/-- What the run leaves in the result. -/
def result (hO : Ok m) (c : Dev nD) : Buf (Elt F) ((c : Thread nD τ).loc main_v0) := (dats m hO 0 c).arrAt 5 (cfgM m hO).N

/-- The run with its result named: the arguments end unchanged, the result is `result`, and every counter is at zero. -/
theorem run_result (hO : Ok m) : θ_run defs (onTc (τ := τ) (main (F := F))) ⟨m, fun _ => 0, ρ⟩ (fun r => (∀ c : Dev nD,
      r.2.mem ((c.tc : Thread nD τ).loc main_v0) = result m hO c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) :=
  (θ_run defs _ _).mono (fun r (h : _ ∧ _) => ⟨fun c => ⟨(h.1 c).1 5,
      (h.1 c).2 main_arg0 (by decide : main_arg0 ∈ Pipeline.restRefs sig spec0),
      (h.1 c).2 main_arg1 (by decide : main_arg1 ∈ Pipeline.restRefs sig spec0),
      ((h.1 c).1 0).trans ((dats m hO 0 c).arrAt_in 0 rfl _),
      ((h.1 c).1 1).trans ((dats m hO 0 c).arrAt_in 1 rfl _),
      ((h.1 c).1 2).trans ((dats m hO 0 c).arrAt_in 2 rfl _),
      ((h.1 c).1 3).trans ((dats m hO 0 c).arrAt_in 3 rfl _),
      ((h.1 c).1 4).trans ((dats m hO 0 c).arrAt_in 4 rfl _)⟩, h.2⟩) (run m ρ hO)

end Cert.KernelIdeal.Own

end
-- ==== Proof.ExpertRow.lean ====
/- One row of an expert's feed-forward over the extended reals, which both programs' rows are read as. -/
module

public import Idealize.ShloMosaic.Lib.Pointwise

@[expose] public section

noncomputable section

namespace Cert.Row

open Idealize.ShloMosaic

/-- One entry of the hidden layer. -/
def hid (x : Fin 1024 → EReal) (w : Fin 1024 → Fin 2048 → EReal) (b : Fin 2048 → EReal) (l : Fin 2048) : EReal :=
  ∑ k, x k * w k l + b l

/-- The activation of a gate `u` and a linear entry `v`. -/
def swiglu (u v : EReal) : EReal :=
  min u (Ideal.ofBits FTy.f32 0x40E00000#32)
      * Ideal.div 1 (1 + Ideal.exp (-(Ideal.ofBits FTy.f32 0x3FD9DB23#32 * min u (Ideal.ofBits FTy.f32 0x40E00000#32))))
    * (min (Ideal.ofBits FTy.f32 0x40E00000#32) (max (Ideal.ofBits FTy.f32 0xC0E00000#32) v) + 1)

/-- One entry of the row. -/
def out (x : Fin 1024 → EReal) (w1 : Fin 1024 → Fin 2048 → EReal) (b1 : Fin 2048 → EReal) (w2 : Fin 1024 → Fin 1024 → EReal)
    (b2 : Fin 1024 → EReal) (j : Fin 1024) : EReal :=
  ∑ l : Fin 1024, swiglu (hid x w1 b1 ⟨l.val, by omega⟩) (hid x w1 b1 ⟨1024 + l.val, by omega⟩) * w2 l j + b2 j

end Cert.Row

end
-- ==== Proof.ExpertsValue.lean ====
/- The experts kernel's result at an entry, over the extended reals: the row of the block's expert, or zero. -/
module

public import proofs.«01_k».proof.Proof.ExpertsFrame
public import proofs.«01_k».proof.Proof.ExpertRow
public import Idealize.ShloMosaic.Lib.Pipeline.Covers
public import Idealize.ShloMosaic.Lib.Pointwise.IndexBridge

@[expose] public section

set_option maxRecDepth 16384

noncomputable section

namespace Cert.KernelIdeal.Own

open Idealize.ShloMosaic Idealize.ShloMosaic.TcCoe Idealize.ShloMosaic.Tactic
open Idealize.ShloMosaic.Pipeline (Dat Cfg Window)
open Cert.KernelIdeal.Gen

/-- What the body stores for a block in use, at an entry. -/
theorem pay4_apply (x : Vec Ideal S256x1024 .f32) (w1 : Vec Ideal S1x1024x2048 .f32) (b1 : Vec Ideal S1x1x2048 .f32) (w2 : Vec Ideal S1x1024x1024 .f32)
    (b2 : Vec Ideal S1x1x1024 .f32) (r : Fin 256) (j : Fin 1024) :
    k0_pay4 x (k0_pay1 w1) b1 (k0_pay2 w2) b2 (ix2 r j)
      = Row.out (fun k => x (ix2 r k)) (fun k l => w1 (ix3 (0 : Fin 1) k l)) (fun l => b1 (ix3 (0 : Fin 1) (0 : Fin 1) l)) (fun k l => w2 (ix3 (0 : Fin 1) k l)) (fun l => b2 (ix3 (0 : Fin 1) (0 : Fin 1) l)) j := by
  unfold Row.out Row.swiglu Row.hid
  pointwise [k0_pay4, k0_pay1, k0_pay2]
  simp only [zero_sub]

variable (m : (ℓ : Loc nD τ sig) → Buf (Elt Ideal) ℓ)

/-- The result's blocks cover it. -/
theorem covers_5 (hO : Ok m) : ((cfgM m hO).win 5).Covers := by
  refine Window.covers_of_index_surj _ rfl (show ∀ a : Fin 2, 0 < S256x1024.size a by decide) fun β => ?_
  have n0 : ((cfgM m hO).win 5).nblk (0 : Fin 2) = 288 := by show (73728 + 256 - 1) / 256 = 288; norm_num
  have n1 : ((cfgM m hO).win 5).nblk (1 : Fin 2) = 1 := by show (1024 + 1024 - 1) / 1024 = 1; norm_num
  have h0 : (β (0 : Fin 2)).val < 288 := by have := (β (0 : Fin 2)).isLt; omega
  have h1 : (β (1 : Fin 2)).val = 0 := by have := (β (1 : Fin 2)).isLt; omega
  refine ⟨⟨(β (0 : Fin 2)).val, lt_of_lt_of_eq h0 N_0.symm⟩, fun a => ?_⟩
  rw [index_5]
  match a with
  | ⟨0, _⟩ => rfl
  | ⟨1, _⟩ => exact h1.symm

/-- The point at which a row is written. -/
def point (i : Fin 73728) : Fin grid0.N := ⟨i.val / 256, lt_of_lt_of_eq (by omega) N_0.symm⟩

/-- What the body leaves at a point, as a function of the entry's place in the array. -/
def placed (hO : Ok m) (c : Dev nD) (i : S73728x1024.Idx) : Ideal .f32 :=
  out m hO c (point (i (0 : Fin 2))) (ix2 ⟨(i (0 : Fin 2)).val % 256, Nat.mod_lt _ (by decide)⟩ (i (1 : Fin 2)))

theorem placed_eq (hO : Ok m) (c : Dev nD) (i : S73728x1024.Idx) (t : Fin grid0.N) (y : S256x1024.Idx)
    (h0 : (i (0 : Fin 2)).val = t.val * 256 + (y (0 : Fin 2)).val) (h1 : (i (1 : Fin 2)).val = (y (1 : Fin 2)).val) : placed m hO c i = out m hO c t y := by
  have hy : (y (0 : Fin 2)).val < 256 := (y (0 : Fin 2)).isLt
  have hp : point (i (0 : Fin 2)) = t := Fin.ext (by show (i (0 : Fin 2)).val / 256 = t.val; omega)
  have hi : ix2 (n0 := 256) (n1 := 1024) ⟨(i (0 : Fin 2)).val % 256, Nat.mod_lt _ (by decide)⟩ (i (1 : Fin 2)) = y := by
    rw [eq_ix2 y]
    congr 1
    · exact Fin.ext (by show (i (0 : Fin 2)).val % 256 = (y (0 : Fin 2)).val; omega)
    · exact Fin.ext h1
  unfold placed
  rw [hp, hi]

/-- The result, entry by entry. -/
theorem result_eq (hO : Ok m) (c : Dev nD) : result m hO c = placed m hO c := by
  refine (dats m hO 0 c).arrAt_eq_of_covers 5 _ (covers_5 m hO) fun t hf y => ?_
  have e := index_5 m hO t
  have k0 : ((((cfgM m hO).win 5).blk t).view.emb y (0 : Fin 2)).val = t.val * 256 + (y (0 : Fin 2)).val := by
    blk_simp [e]
  have k1 : ((((cfgM m hO).win 5).blk t).view.emb y (1 : Fin 2)).val = (y (1 : Fin 2)).val := by
    blk_simp [e]
    try exact Nat.zero_add _
  blk_simp
  rw [after_5]
  exact (placed_eq m hO c _ t y k0 k1).symm

/-- Rows of equal data are equal. -/
theorem congr_row {x x' : Fin 1024 → EReal} {w1 w1' : Fin 1024 → Fin 2048 → EReal} {b1 b1' : Fin 2048 → EReal} {w2 w2' : Fin 1024 → Fin 1024 → EReal}
    {b2 b2' : Fin 1024 → EReal} (h0 : x = x') (h1 : w1 = w1') (h2 : b1 = b1') (h3 : w2 = w2') (h4 : b2 = b2') (j : Fin 1024) :
    Row.out x w1 b1 w2 b2 j = Row.out x' w1' b1' w2' b2' j := by rw [h0, h1, h2, h3, h4]

/-- The result at row `r` of block `t`: the expert's row for a block in use, zero for any other. -/
theorem result_apply (hO : Ok m) (c : Dev nD) (t : Fin 288) (r : Fin 256) (j : Fin 1024)
    (a0 : IVec S288 32) (a1 : IVec S1 32) (a2 : FVec Ideal S73728x1024 .f32) (a3 : FVec Ideal S32x1024x2048 .f32)
    (a4 : FVec Ideal S32x1x2048 .f32) (a5 : FVec Ideal S32x1024x1024 .f32) (a6 : FVec Ideal S32x1x1024 .f32)
    (h0 : m ((c.tc : Thread nD τ).loc main_arg0) = a0) (h1 : m ((c.tc : Thread nD τ).loc main_arg1) = a1)
    (h2 : m ((c.tc : Thread nD τ).loc main_arg2) = a2) (h3 : m ((c.tc : Thread nD τ).loc main_arg3) = a3)
    (h4 : m ((c.tc : Thread nD τ).loc main_arg4) = a4) (h5 : m ((c.tc : Thread nD τ).loc main_arg5) = a5)
    (h6 : m ((c.tc : Thread nD τ).loc main_arg6) = a6) (hb : (a0 (ix1 t)).toNat < 32) :
    (result m hO c : FVec Ideal S73728x1024 .f32) (ix2 ⟨t.val * 256 + r.val, by omega⟩ j)
      = if (BitVec.ofNat 32 t.val).slt (a1 (ix1 (0 : Fin 1))) = true then
          Row.out (fun k => a2 (ix2 ⟨t.val * 256 + r.val, by omega⟩ k)) (fun k l => a3 (ix3 ⟨_, hb⟩ k l)) (fun l => a4 (ix3 ⟨_, hb⟩ (0 : Fin 1) l))
            (fun k l => a5 (ix3 ⟨_, hb⟩ k l)) (fun l => a6 (ix3 ⟨_, hb⟩ (0 : Fin 1) l)) j
        else 0 := by
  subst h0 h1 h2 h3 h4 h5 h6
  obtain rfl : c = 0 := Subsingleton.elim _ _
  have hbe : ∀ h, be m t.val h = (m (((0 : Dev nD).tc : Thread nD τ).loc main_arg0) : IVec S288 32) (ix1 t) := fun h => by
    rw [ix1_eq_valueIdx]; rfl
  have hnu : nu m = (m (((0 : Dev nD).tc : Thread nD τ).loc main_arg1) : IVec S1 32) (ix1 (0 : Fin 1)) := by
    rw [ix1_eq_valueIdx]; rfl
  rw [result_eq, placed_eq m hO 0 _ ⟨t.val, lt_of_lt_of_eq t.isLt N_0.symm⟩ (ix2 r j) rfl rfl]
  unfold out used
  rw [← hnu]
  show (if (BitVec.ofNat 32 t.val).slt (nu m) = true then _ else _ : Vec Ideal S256x1024 .f32) (ix2 r j) = _
  by_cases hu : (BitVec.ofNat 32 t.val).slt (nu m) = true
  · rw [if_pos hu, if_pos hu, pay4_apply]
    simp only [ix2_eq_valueIdx, ix3_eq_valueIdx]
    have hp : (⟨(be m t.val (lt288 ⟨t.val, lt_of_lt_of_eq t.isLt N_0.symm⟩)).toNat, be_lt m hO ⟨t.val, lt_of_lt_of_eq t.isLt N_0.symm⟩⟩ : Fin 32) = ⟨_, hb⟩ :=
      Fin.ext (congrArg BitVec.toNat (hbe _))
    have e0 := fun k => bx_apply m hO 0 ⟨t.val, lt_of_lt_of_eq t.isLt N_0.symm⟩ r k
    have e1 := fun k l => (bw1_apply m hO 0 ⟨t.val, lt_of_lt_of_eq t.isLt N_0.symm⟩ k l).trans
      (congrArg (fun p => (m (((0 : Dev nD).tc : Thread nD τ).loc main_arg3) : FVec Ideal S32x1024x2048 .f32) (ValueIdx.ix3 p k l)) hp)
    have e2 := fun l => (bb1_apply m hO 0 ⟨t.val, lt_of_lt_of_eq t.isLt N_0.symm⟩ l).trans
      (congrArg (fun p => (m (((0 : Dev nD).tc : Thread nD τ).loc main_arg4) : FVec Ideal S32x1x2048 .f32) (ValueIdx.ix3 p (0 : Fin 1) l)) hp)
    have e3 := fun k l => (bw2_apply m hO 0 ⟨t.val, lt_of_lt_of_eq t.isLt N_0.symm⟩ k l).trans
      (congrArg (fun p => (m (((0 : Dev nD).tc : Thread nD τ).loc main_arg5) : FVec Ideal S32x1024x1024 .f32) (ValueIdx.ix3 p k l)) hp)
    have e4 := fun l => (bb2_apply m hO 0 ⟨t.val, lt_of_lt_of_eq t.isLt N_0.symm⟩ l).trans
      (congrArg (fun p => (m (((0 : Dev nD).tc : Thread nD τ).loc main_arg6) : FVec Ideal S32x1x1024 .f32) (ValueIdx.ix3 p (0 : Fin 1) l)) hp)
    exact congr_row (funext e0) (funext fun k => funext (e1 k)) (funext e2) (funext fun k => funext (e3 k)) (funext e4) j
  · rw [if_neg hu, if_neg hu]
    exact Ideal.ofBits_zero_f32

end Cert.KernelIdeal.Own

end
-- ==== Proof.RefRows.lean ====
/- The reference's result, named piece by piece: the blocks' pages of the weights, the hidden layer, the activation, the rows. -/
module

public import proofs.«01_k».proof.Proof.Gen.ReferenceIdeal.Run
public import proofs.«01_k».proof.Proof.ExpertRow

@[expose] public section

set_option maxRecDepth 16384

noncomputable section

namespace Cert.ReferenceIdeal.Own

open Idealize.ShloMosaic Idealize.ShloMosaic.TcCoe
open Cert.ReferenceIdeal.Gen Cert.ReferenceIdeal.Value

/-- The page numbers, one to a block: the block's expert, a negative number counted from the end. -/
def pages (a0 : IVec S288 32) : IVec S288x1 32 :=
  broadcastInDim S288x1 ![0] bcast_S288_S288x1_0 (select (cmpi .slt a0 (broadcastInDim S288 ![] bcast_S_S288 (constantI S_ 32 0#32))) (addi a0 (broadcastInDim S288 ![] bcast_S_S288 (constantI S_ 32 32#32))) a0)

/-- The hidden layer of every block, both halves. -/
def hidden (P : IVec S288x1 32) (x : FVec Ideal S73728x1024 .f32) (w1 : FVec Ideal S32x1024x2048 .f32) (b1 : FVec Ideal S32x1x2048 .f32) : FVec Ideal S288x256x2048 .f32 :=
  addf (Host.dotGeneral dot_S288x256x1024_S288x1024x2048_S288x256x2048_2_1_1_2_0_0 none (shapeCast S288x256x1024 x shapeCasts_S73728x1024_S288x256x1024) (Host.gather gather_S32x1024x2048_S288x1_S288x1024x2048_12_0_n_n_0_1_110242048 w1 P))
    (broadcastInDim S288x256x2048 ![0, 1, 2] bcast_S288x1x2048_S288x256x2048_0_1_2 (Host.gather gather_S32x1x2048_S288x1_S288x1x2048_12_0_n_n_0_1_112048 b1 P))

/-- The gate half, bounded above. -/
def gate (h : FVec Ideal S288x256x2048 .f32) : FVec Ideal S288x256x1024 .f32 :=
  minimumf (extractStridedSlice S288x256x1024 ![0, 0, 0] h slices_S288x256x2048_S288x256x1024_0_0_0) (broadcastInDim S288x256x1024 ![] bcast_S_S288x256x1024 (constant S_ .f32 0x40E00000#32))

/-- The activation. -/
def act (h : FVec Ideal S288x256x2048 .f32) : FVec Ideal S288x256x1024 .f32 :=
  mulf (mulf (gate h) (Host.divf (broadcastInDim S288x256x1024 ![] bcast_S_S288x256x1024 (constant S_ .f32 0x3F800000#32)) (addf (broadcastInDim S288x256x1024 ![] bcast_S_S288x256x1024 (constant S_ .f32 0x3F800000#32)) (Host.exp (Host.negf (mulf (broadcastInDim S288x256x1024 ![] bcast_S_S288x256x1024 (constant S_ .f32 0x3FD9DB23#32)) (gate h)))))))
    (addf (minimumf (broadcastInDim S288x256x1024 ![] bcast_S_S288x256x1024 (id (constant S_ .f32 0x40E00000#32))) (maximumf (broadcastInDim S288x256x1024 ![] bcast_S_S288x256x1024 (id (constant S_ .f32 0xC0E00000#32))) (extractStridedSlice S288x256x1024 ![0, 0, 1024] h slices_S288x256x2048_S288x256x1024_0_0_1024))) (broadcastInDim S288x256x1024 ![] bcast_S_S288x256x1024 (constant S_ .f32 0x3F800000#32)))

/-- The second product with its bias. -/
def outer (P : IVec S288x1 32) (a : FVec Ideal S288x256x1024 .f32) (w2 : FVec Ideal S32x1024x1024 .f32) (b2 : FVec Ideal S32x1x1024 .f32) : FVec Ideal S288x256x1024 .f32 :=
  addf (Host.dotGeneral dot_S288x256x1024_S288x1024x1024_S288x256x1024_2_1_1_2_0_0 none a (Host.gather gather_S32x1024x1024_S288x1_S288x1024x1024_12_0_n_n_0_1_110241024 w2 P))
    (broadcastInDim S288x256x1024 ![0, 1, 2] bcast_S288x1x1024_S288x256x1024_0_1_2 (Host.gather gather_S32x1x1024_S288x1_S288x1x1024_12_0_n_n_0_1_111024 b2 P))

/-- The rows, a block not in use all zeros. -/
def rows (a1 : IVec S1 32) (y : FVec Ideal S288x256x1024 .f32) : FVec Ideal S73728x1024 .f32 :=
  shapeCast S73728x1024 (select (broadcastInDim S288x256x1024 ![0, 1, 2] bcast_S288x1x1_S288x256x1024_0_1_2 (broadcastInDim S288x1x1 ![0] bcast_S288_S288x1x1_0 (cmpi .slt (iotaInDim S288 32 0) (broadcastInDim S288 ![] bcast_S_S288 (shapeCast S_ a1 shapeCasts_S1_S_)))))
    y (broadcastInDim S288x256x1024 ![] bcast_S_S288x256x1024 (id (constant S_ .f32 0x00000000#32)))) shapeCasts_S288x256x1024_S73728x1024

/-- The reference's result in these terms. -/
theorem res_eq (m : (ℓ : Loc nD τ sig) → Buf (Elt Ideal) ℓ) (c : Dev nD) :
    res_main_v58 m c = rows (m ((c.tc : Thread nD τ).loc main_arg1)) (outer (pages (m ((c.tc : Thread nD τ).loc main_arg0)))
      (act (hidden (pages (m ((c.tc : Thread nD τ).loc main_arg0))) (m ((c.tc : Thread nD τ).loc main_arg2)) (m ((c.tc : Thread nD τ).loc main_arg3)) (m ((c.tc : Thread nD τ).loc main_arg4))))
      (m ((c.tc : Thread nD τ).loc main_arg5)) (m ((c.tc : Thread nD τ).loc main_arg6))) := rfl

/-! ## Read at an index -/

/-- A gather of whole pages: where page `b` is named, its element is page `b`'s element. -/
theorem page_apply {α : Type} {N A B n : ℕ} (d : GatherDims ⟨3, ![N, A, B]⟩ ⟨2, ![n, 1]⟩ ⟨3, ![n, A, B]⟩) (hoff : d.offsetDims = [1, 2])
    (hcoll : d.collapsedSliceDims = [0]) (hob : d.operandBatchingDims = []) (hsim : d.startIndexMap = [0]) (hivd : d.indexVectorDim = 1)
    (x : (⟨3, ![N, A, B]⟩ : Shape).Idx → α) (idx : IVec ⟨2, ![n, 1]⟩ 32) (t : Fin n) (y : Fin A) (z : Fin B) (b : Fin N)
    (hb : (idx (ix2 t (0 : Fin 1))).toInt = b.val) : Host.gather d x idx (ix3 t y z) = x (ix3 b y z) := by
  obtain ⟨off, coll, ob, sb, sim, ivd, sz, wf⟩ := d
  dsimp only at hoff hcoll hob hsim hivd
  subst hoff hcoll hob hsim hivd
  have hsz : sz 0 = 1 := GatherDims.slice_collapsed (⟨_, _, _, sb, _, _, sz, wf⟩ : GatherDims _ _ _) 0 (List.mem_singleton.2 rfl)
  have key (q : (⟨2, ![n, 1]⟩ : Shape).Idx) (hq : q = ix2 t (0 : Fin 1)) : min (idx q).toInt.toNat (N - sz 0) = b.val := by
    rw [hq, hb, hsz]
    have := b.isLt
    omega
  unfold Host.gather
  refine congrArg x (funext fun a => Fin.ext ?_)
  match a with
  | ⟨0, _⟩ =>
    refine Eq.trans (show _ = min (idx (GatherDims.siIdx (⟨[1, 2], [0], [], sb, [0], 1, sz, wf⟩ : GatherDims ⟨3, ![N, A, B]⟩ ⟨2, ![n, 1]⟩ ⟨3, ![n, A, B]⟩) (ix3 t y z) ⟨0, Nat.one_pos⟩)).toInt.toNat (N - sz 0) from rfl) (key _ ?_)
    funext e; match e with | ⟨0, _⟩ => rfl | ⟨1, _⟩ => rfl
  | ⟨1, _⟩ => show 0 + 0 + y.val = y.val; omega
  | ⟨2, _⟩ => show 0 + 0 + z.val = z.val; omega

/-- A block's page number, its expert being below 32. -/
theorem pages_apply (a0 : IVec S288 32) (t : Fin 288) (h : (a0 (ix1 t)).toNat < 32) : (pages a0 (ix2 t (0 : Fin 1))).toInt = (⟨(a0 (ix1 t)).toNat, h⟩ : Fin 32).val := by
  have e : pages a0 (ix2 t (0 : Fin 1)) = Scalar.select (IntOp.cmpi .slt (a0 (ix1 t)) 0#32) (a0 (ix1 t) + 32#32) (a0 (ix1 t)) := by
    pointwise [pages]
    try rfl
  rw [e]
  generalize a0 (ix1 t) = w at h
  have hs : w.slt 0#32 = false := by
    simp only [BitVec.slt, decide_eq_false_iff_not, BitVec.toInt, BitVec.toNat_ofNat]; omega
  simp only [IntOp.cmpi, hs]
  show w.toInt = _
  simp only [BitVec.toInt]; omega

section
variable (P : IVec S288x1 32) (t : Fin 288) (b : Fin 32) (hb : (P (ix2 t (0 : Fin 1))).toInt = b.val)
include hb

/-- The hidden layer at a row of block `t`, whose expert is `b`. -/
theorem hidden_apply (x : FVec Ideal S73728x1024 .f32) (w1 : FVec Ideal S32x1024x2048 .f32) (b1 : FVec Ideal S32x1x2048 .f32) (r : Fin 256) (l : Fin 2048) :
    hidden P x w1 b1 (ix3 t r l) = Row.hid (fun k => x (ix2 ⟨t.val * 256 + r.val, by omega⟩ k)) (fun k l => w1 (ix3 b k l)) (fun l => b1 (ix3 b (0 : Fin 1) l)) l := by
  have e1 : ∀ k l, Host.gather gather_S32x1024x2048_S288x1_S288x1024x2048_12_0_n_n_0_1_110242048 w1 P (ix3 t k l) = w1 (ix3 b k l) :=
    fun k l => page_apply _ rfl rfl rfl rfl rfl w1 P t k l b hb
  have e2 : Host.gather gather_S32x1x2048_S288x1_S288x1x2048_12_0_n_n_0_1_112048 b1 P (ix3 t (0 : Fin 1) l) = b1 (ix3 b (0 : Fin 1) l) :=
    page_apply _ rfl rfl rfl rfl rfl b1 P t 0 l b hb
  unfold Row.hid
  pointwise [hidden]
  simp only [e1, e2]

/-- The second layer. -/
theorem outer_apply (a : FVec Ideal S288x256x1024 .f32) (w2 : FVec Ideal S32x1024x1024 .f32) (b2 : FVec Ideal S32x1x1024 .f32) (r : Fin 256) (j : Fin 1024) :
    outer P a w2 b2 (ix3 t r j) = ∑ l : Fin 1024, a (ix3 t r l) * w2 (ix3 b l j) + b2 (ix3 b (0 : Fin 1) j) := by
  have e1 : ∀ k l, Host.gather gather_S32x1024x1024_S288x1_S288x1024x1024_12_0_n_n_0_1_110241024 w2 P (ix3 t k l) = w2 (ix3 b k l) :=
    fun k l => page_apply _ rfl rfl rfl rfl rfl w2 P t k l b hb
  have e2 : Host.gather gather_S32x1x1024_S288x1_S288x1x1024_12_0_n_n_0_1_111024 b2 P (ix3 t (0 : Fin 1) j) = b2 (ix3 b (0 : Fin 1) j) :=
    page_apply _ rfl rfl rfl rfl rfl b2 P t 0 j b hb
  pointwise [outer]
  simp only [e1, e2]
end

/-- The activation at an entry. -/
theorem act_apply (h : FVec Ideal S288x256x2048 .f32) (t : Fin 288) (r : Fin 256) (l : Fin 1024) :
    act h (ix3 t r l) = Row.swiglu (h (ix3 t r ⟨l.val, by omega⟩)) (h (ix3 t r ⟨1024 + l.val, by omega⟩)) := by
  unfold Row.swiglu
  pointwise [act, gate]
  rfl

/-- The rows at an entry. -/
theorem rows_apply (a1 : IVec S1 32) (y : FVec Ideal S288x256x1024 .f32) (t : Fin 288) (r : Fin 256) (j : Fin 1024) :
    rows a1 y (ix2 ⟨t.val * 256 + r.val, by omega⟩ j) = if (BitVec.ofNat 32 t.val).slt (a1 (ix1 (0 : Fin 1))) = true then y (ix3 t r j) else 0 := by
  have h1 : (t.val * 256 + r.val) / 256 = t.val := by omega
  have h2 : (t.val * 256 + r.val) % 256 = r.val := by omega
  pointwise [rows]
  have hz : (id (constant (F := Ideal) S_ FTy.f32 0#32) ix0 : EReal) = 0 := Ideal.ofBits_zero_f32
  rw [hz]
  simp only [IntOp.cmpi]
  cases (BitVec.ofNat 32 t.val).slt (a1 (ix1 (0 : Fin 1))) <;> rfl

/-- The reference's result at row `r` of block `t`, the block's expert being below 32. -/
theorem res_apply (m : (ℓ : Loc nD τ sig) → Buf (Elt Ideal) ℓ) (c : Dev nD) (t : Fin 288) (r : Fin 256) (j : Fin 1024)
    (a0 : IVec S288 32) (a1 : IVec S1 32) (a2 : FVec Ideal S73728x1024 .f32) (a3 : FVec Ideal S32x1024x2048 .f32)
    (a4 : FVec Ideal S32x1x2048 .f32) (a5 : FVec Ideal S32x1024x1024 .f32) (a6 : FVec Ideal S32x1x1024 .f32)
    (h0 : m ((c.tc : Thread nD τ).loc main_arg0) = a0) (h1 : m ((c.tc : Thread nD τ).loc main_arg1) = a1)
    (h2 : m ((c.tc : Thread nD τ).loc main_arg2) = a2) (h3 : m ((c.tc : Thread nD τ).loc main_arg3) = a3)
    (h4 : m ((c.tc : Thread nD τ).loc main_arg4) = a4) (h5 : m ((c.tc : Thread nD τ).loc main_arg5) = a5)
    (h6 : m ((c.tc : Thread nD τ).loc main_arg6) = a6) (hb : (a0 (ix1 t)).toNat < 32) :
    (res_main_v58 m c : FVec Ideal S73728x1024 .f32) (ix2 ⟨t.val * 256 + r.val, by omega⟩ j)
      = if (BitVec.ofNat 32 t.val).slt (a1 (ix1 (0 : Fin 1))) = true then
          Row.out (fun k => a2 (ix2 ⟨t.val * 256 + r.val, by omega⟩ k)) (fun k l => a3 (ix3 ⟨_, hb⟩ k l)) (fun l => a4 (ix3 ⟨_, hb⟩ (0 : Fin 1) l))
            (fun k l => a5 (ix3 ⟨_, hb⟩ k l)) (fun l => a6 (ix3 ⟨_, hb⟩ (0 : Fin 1) l)) j
        else 0 := by
  subst h0 h1 h2 h3 h4 h5 h6
  have hp := pages_apply _ t hb
  rw [res_eq, rows_apply, outer_apply _ t _ hp]
  simp only [act_apply, hidden_apply _ t _ hp]
  rfl

end Cert.ReferenceIdeal.Own

end
-- ==== Proof.Projection.lean ====
/- The input projection of one token, over the extended reals: the normalised and modulated row, one projected column, and the rotation of a head. -/
module

public import Idealize.ShloMosaic.Lib.Pointwise

@[expose] public section

noncomputable section

namespace Cert.Proj

open Idealize.ShloMosaic Idealize.ShloMosaic.TcCoe

/-- The row `x`, normalised by its mean square, weighted by `g`, scaled by `1 + s` and shifted by `b`. -/
def hid (x g s b : Fin 1024 → EReal) (k : Fin 1024) : EReal :=
  x k * Ideal.rsqrt (Ideal.div (∑ i, x i * x i) (Ideal.ofBits FTy.f32 0x44800000#32) + Ideal.ofBits FTy.f32 0x358637BD#32) * g k * (1 + s k) + b k

/-- One projected column. -/
def col (h w : Fin 1024 → EReal) : EReal := ∑ k, h k * w k

/-- The rotation of one head of 64 columns: the first eight and the next eight are rotated against each other. -/
def rope (p : Fin 64 → EReal) (c s : Fin 8 → EReal) (l : Fin 64) : EReal :=
  if h : l.val < 8 then p l * c ⟨l.val, h⟩ - p ⟨l.val + 8, by omega⟩ * s ⟨l.val, h⟩
  else if h' : l.val < 16 then p l * c ⟨l.val - 8, by omega⟩ + p ⟨l.val - 8, by omega⟩ * s ⟨l.val - 8, by omega⟩
  else p l

theorem rope_congr {p p' : Fin 64 → EReal} {c c' s s' : Fin 8 → EReal} {l l' : Fin 64} (h0 : p = p') (h1 : c = c') (h2 : s = s') (h3 : l = l') :
    rope p c s l = rope p' c' s' l' := by rw [h0, h1, h2, h3]

/-- One table entry of the rotation's first weight, lane by lane over two heads. -/
def cosW (c : Fin 8 → EReal) (l : Fin 128) : EReal :=
  if h : l.val % 64 < 8 then c ⟨l.val % 64, h⟩ else if h' : l.val % 64 < 16 then c ⟨l.val % 64 - 8, by omega⟩ else 1

/-- One table entry of the rotation's second weight. -/
def sinW (s : Fin 8 → EReal) (l : Fin 128) : EReal :=
  if h : l.val % 64 < 8 then -s ⟨l.val % 64, h⟩ else if h' : l.val % 64 < 16 then s ⟨l.val % 64 - 8, by omega⟩ else 0

/-- Two heads side by side in 128 lanes: a lane by its weight and its partner, eight lanes above or below, by the other weight. -/
theorem rope_lanes (p : Fin 128 → EReal) (c s : Fin 8 → EReal) (l : Fin 128) :
    p l * cosW c l + (if l.val % 64 < 8 then p ⟨(l.val + 128 - 120) % 128, by omega⟩ else p ⟨(l.val + 128 - 8) % 128, by omega⟩) * sinW s l
      = rope (fun i => p ⟨l.val / 64 * 64 + i.val, by omega⟩) c s ⟨l.val % 64, by omega⟩ := by
  have e0 : (⟨l.val / 64 * 64 + l.val % 64, by omega⟩ : Fin 128) = l := Fin.ext (by show l.val / 64 * 64 + l.val % 64 = l.val; omega)
  unfold rope cosW sinW
  by_cases h : l.val % 64 < 8
  · have e : (⟨(l.val + 128 - 120) % 128, by omega⟩ : Fin 128) = ⟨l.val / 64 * 64 + (l.val % 64 + 8), by omega⟩ :=
      Fin.ext (by show (l.val + 128 - 120) % 128 = l.val / 64 * 64 + (l.val % 64 + 8); omega)
    simp only [dif_pos h, if_pos h, e, e0, mul_neg, sub_eq_add_neg]
  · by_cases h' : l.val % 64 < 16
    · have e : (⟨(l.val + 128 - 8) % 128, by omega⟩ : Fin 128) = ⟨l.val / 64 * 64 + (l.val % 64 - 8), by omega⟩ :=
        Fin.ext (by show (l.val + 128 - 8) % 128 = l.val / 64 * 64 + (l.val % 64 - 8); omega)
      simp only [dif_neg h, if_neg h, dif_pos h', e, e0]
    · simp only [dif_neg h, dif_neg h', mul_one, mul_zero, add_zero, e0]

theorem rope_zero (c s : Fin 8 → EReal) (l : Fin 64) : rope (fun _ => 0) c s l = 0 := by
  unfold rope
  by_cases h : l.val < 8
  · simp only [dif_pos h, zero_mul, sub_zero]
  · by_cases h' : l.val < 16
    · simp only [dif_neg h, dif_pos h', zero_mul, add_zero]
    · simp only [dif_neg h, dif_neg h']

theorem col_zero (h : Fin 1024 → EReal) : col h (fun _ => 0) = 0 := by
  unfold col
  simp only [mul_zero, Finset.sum_const_zero]

/-- The batch of a token. -/
def bat (t : Fin 16384) : Fin 4 := ⟨t.val / 4096, by omega⟩
/-- Its place in the batch. -/
def pos (t : Fin 16384) : Fin 4096 := ⟨t.val % 4096, by omega⟩

/-- The projected entry `j` of token `t`. -/
def entry (x : (⟨3, ![4, 4096, 1024]⟩ : Shape).Idx → EReal) (g : (⟨1, ![1024]⟩ : Shape).Idx → EReal) (sc sh : (⟨2, ![4, 1024]⟩ : Shape).Idx → EReal)
    (w : (⟨2, ![1024, 3396]⟩ : Shape).Idx → EReal) (t : Fin 16384) (j : Fin 3396) : EReal :=
  col (hid (fun i => x (ix3 (bat t) (pos t) i)) (fun i => g (ix1 i)) (fun i => sc (ix2 (bat t) i)) (fun i => sh (ix2 (bat t) i))) (fun k => w (ix2 k j))

end Cert.Proj

end
-- ==== Proof.InprojRValue.lean ====
/- The row projection's kernel, each result read at an index. -/
module

public import proofs.«01_k».proof.Proof.Gen.InprojRIdeal.Value
public import proofs.«01_k».proof.Proof.Projection
public import Idealize.ShloMosaic.Lib.Pipeline.ValueKit.Point
public import Idealize.ShloMosaic.Lib.Pointwise

@[expose] public section

set_option maxRecDepth 16384

noncomputable section

namespace Cert.InprojRIdeal.Own

open Idealize.ShloMosaic Idealize.ShloMosaic.TcCoe Idealize.ShloMosaic.Tactic
open Cert.InprojRIdeal.Gen

/-! ## The body -/

/-- The first eight lanes of each head. -/
theorem mask_apply (r : Fin 512) (l : Fin 128) :
    k0_pay9 (Scalar.select (Scalar.cmpi .eq 64#32 0#32) 1#32 64#32) k0_pay7 k0_pay8 (ix2 r l) = if l.val % 64 < 8 then 1#1 else 0#1 := by
  pointwise [k0_pay9, k0_pay7, k0_pay8]
  revert l
  decide +kernel

theorem hid_apply (x : Vec Ideal S512x1024 .f32) (g : Vec Ideal S1x1024 .f32) (s b : Vec Ideal S1x1x1024 .f32) (r : Fin 512) (k : Fin 1024) :
    k0_pay4 x g s b (ix2 r k) = Proj.hid (fun i => x (ix2 r i)) (fun i => g (ix2 (0 : Fin 1) i)) (fun i => s (ix3 (0 : Fin 1) (0 : Fin 1) i)) (fun i => b (ix3 (0 : Fin 1) (0 : Fin 1) i)) k := by
  unfold Proj.hid
  pointwise [k0_pay4]

theorem pick {a b : EReal} (P : Prop) [Decidable P] (q : BitVec 1) (h : q = if P then 1#1 else 0#1) : Scalar.select q a b = if P then a else b := by
  subst h
  by_cases hp : P
  · rw [if_pos hp, if_pos hp]; rfl
  · rw [if_neg hp, if_neg hp]; rfl

/-- The rotation of two heads in the lanes of a block. -/
theorem rope_apply (h : FVec Ideal S512x1024 .bf16) (c s : FVec Ideal S512x128 .f32) (w : Vec Ideal S1024x128 .bf16) (cc ss : Fin 8 → EReal) (r : Fin 512) (l : Fin 128)
    (hc : ∀ l, c (ix2 r l) = Proj.cosW cc l) (hs : ∀ l, s (ix2 r l) = Proj.sinW ss l) :
    k0_pay14 h c s (k0_pay9 (Scalar.select (Scalar.cmpi .eq 64#32 0#32) 1#32 64#32) k0_pay7 k0_pay8) w (ix2 r l)
      = Proj.rope (fun i => Proj.col (fun k => h (ix2 r k)) (fun k => w (ix2 k ⟨l.val / 64 * 64 + i.val, by omega⟩))) cc ss ⟨l.val % 64, by omega⟩ := by
  refine Eq.trans ?_ (Proj.rope_lanes (fun i => Proj.col (fun k => h (ix2 r k)) (fun k => w (ix2 k i))) cc ss l)
  rw [← hc, ← hs, ← pick (l.val % 64 < 8) _ (mask_apply r l)]
  unfold Proj.col
  pointwise [k0_pay14]

section
variable (x0 : Vec Ideal S512x1024 .f32) (x1 : Vec Ideal S1x1024 .f32) (x2 x3 : Vec Ideal S1x1x1024 .f32) (x4 : Vec Ideal S1024x2176 .bf16) (x5 x6 : Vec Ideal S512x128 .f32)

/-- The hidden row of a block. -/
def hidB (r : Fin 512) : Fin 1024 → EReal :=
  Proj.hid (fun i => x0 (ix2 r i)) (fun i => x1 (ix2 (0 : Fin 1) i)) (fun i => x2 (ix3 (0 : Fin 1) (0 : Fin 1) i)) (fun i => x3 (ix3 (0 : Fin 1) (0 : Fin 1) i))

theorem pay17_apply (r : Fin 512) (k : Fin 1024) : k0_pay17 x0 x1 x2 x3 x4 x5 x6 (ix2 r k) = hidB x0 x1 x2 x3 r k := by
  unfold k0_pay17 hidB
  rw [hid_apply]
  pointwise

theorem ld_col {n : ℕ} (o : ℕ) (inb : ∀ a, (![0, o] : Fin 2 → ℕ) a + (⟨2, ![1024, n]⟩ : Shape).size a ≤ S1024x2176.size a) (k : Fin 1024) (j : Fin n) (q : Fin 2176) (hq : q.val = o + j.val) :
    (View.ld x4 (Rect.unit (s := S1024x2176) ![0, o] (⟨2, ![1024, n]⟩ : Shape).size inb) : Vec Ideal ⟨2, ![1024, n]⟩ .bf16) (ix2 k j) = x4 (ix2 k q) := by
  refine congrArg x4 (funext fun a => Fin.ext ?_)
  match a with
  | ⟨0, _⟩ => show 0 + 1 * k.val = k.val; omega
  | ⟨1, _⟩ => show o + 1 * j.val = q.val; omega

theorem ropeB (w : Vec Ideal S1024x128 .bf16) (cc ss : Fin 8 → EReal) (r : Fin 512) (l : Fin 128)
    (hc : ∀ l, x5 (ix2 r l) = Proj.cosW cc l) (hs : ∀ l, x6 (ix2 r l) = Proj.sinW ss l) :
    k0_pay14 (k0_pay17 x0 x1 x2 x3 x4 x5 x6) (k0_pay18 x0 x1 x2 x3 x4 x5 x6) (k0_pay19 x0 x1 x2 x3 x4 x5 x6) (k0_pay22 x0 x1 x2 x3 x4 x5 x6) w (ix2 r l)
      = Proj.rope (fun i => Proj.col (hidB x0 x1 x2 x3 r) (fun k => w (ix2 k ⟨l.val / 64 * 64 + i.val, by omega⟩))) cc ss ⟨l.val % 64, by omega⟩ := by
  refine (rope_apply _ _ _ w cc ss r l ?_ ?_).trans ?_
  · intro l
    rw [← hc]
    pointwise [k0_pay18, k0_pay5]
  · intro l
    rw [← hs]
    pointwise [k0_pay19, k0_pay6]
  · refine Proj.rope_congr (funext fun i => ?_) rfl rfl rfl
    exact congrArg (fun h => Proj.col h _) (funext fun k => pay17_apply x0 x1 x2 x3 x4 x5 x6 r k)

theorem out7_apply (cc ss : Fin 8 → EReal) (r : Fin 512) (j : Fin 512)
    (hc : ∀ l, x5 (ix2 r l) = Proj.cosW cc l) (hs : ∀ l, x6 (ix2 r l) = Proj.sinW ss l) :
    out0_7 x0 x1 x2 x3 x4 x5 x6 (ix2 r j) = Proj.rope (fun i => Proj.col (hidB x0 x1 x2 x3 r) (fun k => x4 (ix2 k ⟨j.val / 64 * 64 + i.val, by omega⟩))) cc ss ⟨j.val % 64, by omega⟩ := by
  canon_tiles y h
  · obtain ⟨y0, y1, rfl⟩ : ∃ (y0 : Fin 512) (y1 : Fin 128), y = ix2 y0 y1 := ⟨y 0, y 1, eq_ix2 y⟩
    obtain rfl : r = y0 := Fin.ext h0
    have h1' : j.val = 384 + y1.val := h1
    refine Eq.trans (show _ = k0_pay14 (k0_pay17 x0 x1 x2 x3 x4 x5 x6) (k0_pay18 x0 x1 x2 x3 x4 x5 x6) (k0_pay19 x0 x1 x2 x3 x4 x5 x6) (k0_pay22 x0 x1 x2 x3 x4 x5 x6) (View.ld x4 r0_10) (ix2 r y1) from rfl)
      ((ropeB x0 x1 x2 x3 x4 x5 x6 (View.ld x4 r0_10) cc ss r y1 hc hs).trans (Proj.rope_congr (funext fun i => congrArg (Proj.col _) (funext fun k => ?_)) rfl rfl (Fin.ext ?_)))
    · exact ld_col x4 384 _ k _ _ (by show j.val / 64 * 64 + i.val = 384 + (y1.val / 64 * 64 + i.val); omega)
    · show y1.val % 64 = j.val % 64
      omega
  · obtain ⟨y0, y1, rfl⟩ : ∃ (y0 : Fin 512) (y1 : Fin 128), y = ix2 y0 y1 := ⟨y 0, y 1, eq_ix2 y⟩
    obtain rfl : r = y0 := Fin.ext h0
    have h1' : j.val = 256 + y1.val := h1
    refine Eq.trans (show _ = k0_pay14 (k0_pay17 x0 x1 x2 x3 x4 x5 x6) (k0_pay18 x0 x1 x2 x3 x4 x5 x6) (k0_pay19 x0 x1 x2 x3 x4 x5 x6) (k0_pay22 x0 x1 x2 x3 x4 x5 x6) (View.ld x4 r0_8) (ix2 r y1) from rfl)
      ((ropeB x0 x1 x2 x3 x4 x5 x6 (View.ld x4 r0_8) cc ss r y1 hc hs).trans (Proj.rope_congr (funext fun i => congrArg (Proj.col _) (funext fun k => ?_)) rfl rfl (Fin.ext ?_)))
    · exact ld_col x4 256 _ k _ _ (by show j.val / 64 * 64 + i.val = 256 + (y1.val / 64 * 64 + i.val); omega)
    · show y1.val % 64 = j.val % 64
      omega
  · obtain ⟨y0, y1, rfl⟩ : ∃ (y0 : Fin 512) (y1 : Fin 128), y = ix2 y0 y1 := ⟨y 0, y 1, eq_ix2 y⟩
    obtain rfl : r = y0 := Fin.ext h0
    have h1' : j.val = 128 + y1.val := h1
    refine Eq.trans (show _ = k0_pay14 (k0_pay17 x0 x1 x2 x3 x4 x5 x6) (k0_pay18 x0 x1 x2 x3 x4 x5 x6) (k0_pay19 x0 x1 x2 x3 x4 x5 x6) (k0_pay22 x0 x1 x2 x3 x4 x5 x6) (View.ld x4 r0_6) (ix2 r y1) from rfl)
      ((ropeB x0 x1 x2 x3 x4 x5 x6 (View.ld x4 r0_6) cc ss r y1 hc hs).trans (Proj.rope_congr (funext fun i => congrArg (Proj.col _) (funext fun k => ?_)) rfl rfl (Fin.ext ?_)))
    · exact ld_col x4 128 _ k _ _ (by show j.val / 64 * 64 + i.val = 128 + (y1.val / 64 * 64 + i.val); omega)
    · show y1.val % 64 = j.val % 64
      omega
  · obtain ⟨y0, y1, rfl⟩ : ∃ (y0 : Fin 512) (y1 : Fin 128), y = ix2 y0 y1 := ⟨y 0, y 1, eq_ix2 y⟩
    obtain rfl : r = y0 := Fin.ext h0
    have h1' : j.val = y1.val := h1
    refine Eq.trans (show _ = k0_pay14 (k0_pay17 x0 x1 x2 x3 x4 x5 x6) (k0_pay18 x0 x1 x2 x3 x4 x5 x6) (k0_pay19 x0 x1 x2 x3 x4 x5 x6) (k0_pay22 x0 x1 x2 x3 x4 x5 x6) (View.ld x4 r0_4) (ix2 r y1) from rfl)
      ((ropeB x0 x1 x2 x3 x4 x5 x6 (View.ld x4 r0_4) cc ss r y1 hc hs).trans (Proj.rope_congr (funext fun i => congrArg (Proj.col _) (funext fun k => ?_)) rfl rfl (Fin.ext ?_)))
    · exact ld_col x4 0 _ k _ _ (by show j.val / 64 * 64 + i.val = 0 + (y1.val / 64 * 64 + i.val); omega)
    · show y1.val % 64 = j.val % 64
      omega

theorem out8_apply (cc ss : Fin 8 → EReal) (r : Fin 512) (j : Fin 128)
    (hc : ∀ l, x5 (ix2 r l) = Proj.cosW cc l) (hs : ∀ l, x6 (ix2 r l) = Proj.sinW ss l) :
    out0_8 x0 x1 x2 x3 x4 x5 x6 (ix2 r j) = Proj.rope (fun i => Proj.col (hidB x0 x1 x2 x3 r) (fun k => x4 (ix2 k ⟨512 + (j.val / 64 * 64 + i.val), by omega⟩))) cc ss ⟨j.val % 64, by omega⟩ := by
  canon_tiles y h
  obtain ⟨y0, y1, rfl⟩ : ∃ (y0 : Fin 512) (y1 : Fin 128), y = ix2 y0 y1 := ⟨y 0, y 1, eq_ix2 y⟩
  obtain rfl : r = y0 := Fin.ext h0
  obtain rfl : j = y1 := Fin.ext h1
  refine Eq.trans (show _ = k0_pay14 (k0_pay17 x0 x1 x2 x3 x4 x5 x6) (k0_pay18 x0 x1 x2 x3 x4 x5 x6) (k0_pay19 x0 x1 x2 x3 x4 x5 x6) (k0_pay22 x0 x1 x2 x3 x4 x5 x6) (View.ld x4 r0_12) (ix2 r j) from rfl)
    ((ropeB x0 x1 x2 x3 x4 x5 x6 (View.ld x4 r0_12) cc ss r j hc hs).trans (Proj.rope_congr (funext fun i => congrArg (Proj.col _) (funext fun k => ?_)) rfl rfl rfl))
  exact ld_col x4 512 _ k _ _ rfl

theorem out9_apply (r : Fin 512) (j : Fin 256) :
    out0_9 x0 x1 x2 x3 x4 x5 x6 (ix2 r j) = Proj.col (hidB x0 x1 x2 x3 r) (fun k => x4 (ix2 k ⟨640 + j.val, by omega⟩)) := by
  canon_tiles y h
  obtain ⟨y0, y1, rfl⟩ : ∃ (y0 : Fin 512) (y1 : Fin 256), y = ix2 y0 y1 := ⟨y 0, y 1, eq_ix2 y⟩
  obtain rfl : r = y0 := Fin.ext h0
  obtain rfl : j = y1 := Fin.ext h1
  unfold Proj.col
  pointwise [k0_pay16]
  exact Finset.sum_congr rfl fun k _ => by rw [pay17_apply]

theorem out10_apply (r : Fin 512) (j : Fin 256) :
    out0_10 x0 x1 x2 x3 x4 x5 x6 (ix2 r j) = Proj.col (hidB x0 x1 x2 x3 r) (fun k => x4 (ix2 k ⟨896 + j.val, by omega⟩)) := by
  canon_tiles y h
  obtain ⟨y0, y1, rfl⟩ : ∃ (y0 : Fin 512) (y1 : Fin 256), y = ix2 y0 y1 := ⟨y 0, y 1, eq_ix2 y⟩
  obtain rfl : r = y0 := Fin.ext h0
  obtain rfl : j = y1 := Fin.ext h1
  unfold Proj.col
  pointwise [k0_pay1]
  exact Finset.sum_congr rfl fun k _ => by rw [pay17_apply]

theorem out11_apply (r : Fin 512) (j : Fin 512) :
    out0_11 x0 x1 x2 x3 x4 x5 x6 (ix2 r j) = Proj.col (hidB x0 x1 x2 x3 r) (fun k => x4 (ix2 k ⟨1152 + j.val, by omega⟩)) := by
  canon_tiles y h
  obtain ⟨y0, y1, rfl⟩ : ∃ (y0 : Fin 512) (y1 : Fin 512), y = ix2 y0 y1 := ⟨y 0, y 1, eq_ix2 y⟩
  obtain rfl : r = y0 := Fin.ext h0
  obtain rfl : j = y1 := Fin.ext h1
  unfold Proj.col
  pointwise [k0_pay2]
  exact Finset.sum_congr rfl fun k _ => by rw [pay17_apply]

theorem out12_apply (r : Fin 512) (j : Fin 512) :
    out0_12 x0 x1 x2 x3 x4 x5 x6 (ix2 r j) = Proj.col (hidB x0 x1 x2 x3 r) (fun k => x4 (ix2 k ⟨1664 + j.val, by omega⟩)) := by
  canon_tiles y h
  obtain ⟨y0, y1, rfl⟩ : ∃ (y0 : Fin 512) (y1 : Fin 512), y = ix2 y0 y1 := ⟨y 0, y 1, eq_ix2 y⟩
  obtain rfl : r = y0 := Fin.ext h0
  obtain rfl : j = y1 := Fin.ext h1
  unfold Proj.col
  pointwise [k0_pay3]
  exact Finset.sum_congr rfl fun k _ => by rw [pay17_apply]

end

end Cert.InprojRIdeal.Own

end
-- ==== Proof.InprojRRun.lean ====
/- The row projection's results, entry by entry, in the launch's arguments. -/
module

public import proofs.«01_k».proof.Proof.InprojRValue

@[expose] public section

set_option maxRecDepth 16384

noncomputable section

namespace Cert.InprojRIdeal.Own

open Idealize.ShloMosaic Idealize.ShloMosaic.TcCoe Idealize.ShloMosaic.Tactic
open Cert.InprojRIdeal.Gen Cert.InprojRIdeal.Value

/-! ## What the host lays out -/

/-- The row projection's weights. -/
def wr (w : FVec Ideal S1024x3396 .f32) : FVec Ideal S1024x2176 .bf16 :=
  truncf .bf16 (concatenate S1024x2176 1 [⟨S1024x512, extractStridedSlice S1024x512 ![0, 512] w slices_S1024x3396_S1024x512_0_512⟩, ⟨S1024x64, extractStridedSlice S1024x64 ![0, 1792] w slices_S1024x3396_S1024x64_0_1792⟩,
    ⟨S1024x64, broadcastInDim S1024x64 ![] bcast_S_S1024x64 (constant S_ .f32 0x00000000#32)⟩, ⟨S1024x256, extractStridedSlice S1024x256 ![0, 1860] w slices_S1024x3396_S1024x256_0_1860⟩,
    ⟨S1024x256, extractStridedSlice S1024x256 ![0, 2116] w slices_S1024x3396_S1024x256_0_2116⟩, ⟨S1024x512, extractStridedSlice S1024x512 ![0, 2372] w slices_S1024x3396_S1024x512_0_2372⟩,
    ⟨S1024x512, extractStridedSlice S1024x512 ![0, 2884] w slices_S1024x3396_S1024x512_0_2884⟩] concatenates_S1024x512_S1024x64_S1024x64_S1024x256_S1024x256_S1024x512_S1024x512_S1024x2176_d1) bitsLt_bf16_f32

/-- The table of cosines, twice. -/
def ctab (a : FVec Ideal S8x16384 .f32) : FVec Ideal S16384x64 .f32 :=
  concatenate S16384x64 1 [⟨S16384x8, transpose S16384x8 [1, 0] a transposes_S8x16384_S16384x8_1_0⟩, ⟨S16384x8, transpose S16384x8 [1, 0] a transposes_S8x16384_S16384x8_1_0⟩,
    ⟨S16384x48, broadcastInDim S16384x48 ![] bcast_S_S16384x48 (constant S_ .f32 0x3F800000#32)⟩] concatenates_S16384x8_S16384x8_S16384x48_S16384x64_d1

/-- The table of sines, twice, the first eight negated. -/
def stab (a : FVec Ideal S8x16384 .f32) : FVec Ideal S16384x64 .f32 :=
  concatenate S16384x64 1 [⟨S16384x8, Host.negf (transpose S16384x8 [1, 0] a transposes_S8x16384_S16384x8_1_0)⟩, ⟨S16384x8, transpose S16384x8 [1, 0] a transposes_S8x16384_S16384x8_1_0⟩,
    ⟨S16384x48, mulf (broadcastInDim S16384x48 ![] bcast_S_S16384x48 (constant S_ .f32 0x00000000#32)) (broadcastInDim S16384x48 ![] bcast_S_S16384x48 (constant S_ .f32 0x3F800000#32))⟩] concatenates_S16384x8_S16384x8_S16384x48_S16384x64_d1

/-- A table beside itself. -/
def twice (a : FVec Ideal S16384x64 .f32) : FVec Ideal S16384x128 .f32 :=
  concatenate S16384x128 1 [⟨S16384x64, a⟩, ⟨S16384x64, a⟩] concatenates_S16384x64_S16384x64_S16384x128_d1

variable (m : (ℓ : Loc nD τ sig) → Buf (Elt Ideal) ℓ)
theorem v25 (c : Dev nD) : V m c main_v25 = wr (m ((c.tc : Thread nD τ).loc main_arg4)) := by
  unfold V
  after_results_simp <;> (try dsimp only [Matrix.cons_val]) <;> (try after_results_simp) <;> rfl
theorem v11 (c : Dev nD) : V m c main_v11 = twice (ctab (m ((c.tc : Thread nD τ).loc main_arg5))) := by
  unfold V
  after_results_simp <;> (try dsimp only [Matrix.cons_val]) <;> (try after_results_simp) <;> rfl
theorem v12 (c : Dev nD) : V m c main_v12 = twice (stab (m ((c.tc : Thread nD τ).loc main_arg6))) := by
  unfold V
  after_results_simp <;> (try dsimp only [Matrix.cons_val]) <;> (try after_results_simp) <;> rfl

theorem v0 (c : Dev nD) : V m c main_v0 = shapeCast S16384x1024 (m ((c.tc : Thread nD τ).loc main_arg0)) shapeCasts_S4x4096x1024_S16384x1024 := by
  unfold V
  after_results_simp <;> (try dsimp only [Matrix.cons_val]) <;> (try after_results_simp) <;> rfl
theorem v26 (c : Dev nD) : V m c main_v26 = broadcastInDim S1x1024 ![1] bcast_S1024_S1x1024_1 (m ((c.tc : Thread nD τ).loc main_arg1)) := by
  unfold V
  after_results_simp <;> (try dsimp only [Matrix.cons_val]) <;> (try after_results_simp) <;> rfl
theorem v27 (c : Dev nD) : V m c main_v27 = broadcastInDim S4x1x1024 ![0, 2] bcast_S4x1024_S4x1x1024_0_2 (m ((c.tc : Thread nD τ).loc main_arg2)) := by
  unfold V
  after_results_simp <;> (try dsimp only [Matrix.cons_val]) <;> (try after_results_simp) <;> rfl
theorem v28 (c : Dev nD) : V m c main_v28 = broadcastInDim S4x1x1024 ![0, 2] bcast_S4x1024_S4x1x1024_0_2 (m ((c.tc : Thread nD τ).loc main_arg3)) := by
  unfold V
  after_results_simp <;> (try dsimp only [Matrix.cons_val]) <;> (try after_results_simp) <;> rfl

theorem wr_keys (w : FVec Ideal S1024x3396 .f32) (k : Fin 1024) (j : Fin 2176) (q : Fin 3396) (h : j.val < 512) (hq : q.val = 512 + j.val) : wr w (ix2 k j) = w (ix2 k q) := by
  pointwise [wr]
  rw [dif_pos h]
  exact congrArg (fun q => w (ix2 k q)) (Fin.ext hq.symm)
theorem wr_ikey (w : FVec Ideal S1024x3396 .f32) (k : Fin 1024) (j : Fin 2176) (q : Fin 3396) (h0 : 512 ≤ j.val) (h : j.val < 576) (hq : q.val = 1280 + j.val) : wr w (ix2 k j) = w (ix2 k q) := by
  pointwise [wr]
  rw [dif_neg (by omega), dif_pos (by omega)]
  exact congrArg (fun q => w (ix2 k q)) (Fin.ext (by show 1792 + (j.val - 512) = q.val; omega))
theorem wr_zero (w : FVec Ideal S1024x3396 .f32) (k : Fin 1024) (j : Fin 2176) (h0 : 576 ≤ j.val) (h : j.val < 640) : wr w (ix2 k j) = 0 := by
  pointwise [wr]
  rw [dif_neg (by omega), dif_neg (by omega), dif_pos (by omega)]
theorem wr_rest (w : FVec Ideal S1024x3396 .f32) (k : Fin 1024) (j : Fin 2176) (q : Fin 3396) (h0 : 640 ≤ j.val) (hq : q.val = 1220 + j.val) : wr w (ix2 k j) = w (ix2 k q) := by
  have key (n : ℕ) (hn : n < 3396) (e : n = q.val) : w (ix2 k ⟨n, hn⟩) = w (ix2 k q) := congrArg (fun q => w (ix2 k q)) (Fin.ext e)
  have hj := j.isLt
  pointwise [wr]
  rw [dif_neg (by omega), dif_neg (by omega), dif_neg (by omega)]
  split_ifs <;> exact key _ _ (by omega)

theorem ctab_apply (a : FVec Ideal S8x16384 .f32) (t : Fin 16384) (l : Fin 128) : twice (ctab a) (ix2 t l) = Proj.cosW (fun i => a (ix2 i t)) l := by
  have hl := l.isLt
  have key (n n' : ℕ) (hn : n < 8) (hn' : n' < 8) (e : n = n') : a (ix2 ⟨n, hn⟩ t) = a (ix2 ⟨n', hn'⟩ t) := congrArg (fun q => a (ix2 q t)) (Fin.ext e)
  unfold Proj.cosW
  pointwise [twice, ctab]
  by_cases h0 : l.val < 64 <;> by_cases h1 : l.val % 64 < 8 <;> by_cases h2 : l.val % 64 < 16 <;> split_ifs <;> (try split_ifs) <;> first | rfl | (exact key _ _ _ _ (by omega)) | (exact absurd rfl ‹¬ _ = _›) | (exfalso; omega)

theorem stab_apply (a : FVec Ideal S8x16384 .f32) (t : Fin 16384) (l : Fin 128) : twice (stab a) (ix2 t l) = Proj.sinW (fun i => a (ix2 i t)) l := by
  have hl := l.isLt
  have key (n n' : ℕ) (hn : n < 8) (hn' : n' < 8) (e : n = n') : a (ix2 ⟨n, hn⟩ t) = a (ix2 ⟨n', hn'⟩ t) := congrArg (fun q => a (ix2 q t)) (Fin.ext e)
  unfold Proj.sinW
  pointwise [twice, stab]
  by_cases h0 : l.val < 64 <;> by_cases h1 : l.val % 64 < 8 <;> by_cases h2 : l.val % 64 < 16 <;> split_ifs <;> (try split_ifs) <;> first | rfl | (exact key _ _ _ _ (by omega)) | (exact absurd rfl ‹¬ _ = _›) | (exact congrArg Neg.neg (key _ _ _ _ (by omega))) | (exfalso; omega)

/-! ## The blocks -/

theorem ind_row0 : ∀ t : Fin cfg0.N, win0_0.index t = ![t.val, 0] := (by decide +kernel : ∀ t : Fin grid0.N, win0_0.index t = ![t.val, 0])
theorem ind_1 : ∀ t : Fin cfg0.N, win0_1.index t = ![0, 0] := (by decide +kernel : ∀ t : Fin grid0.N, win0_1.index t = ![0, 0])
theorem ind_2 : ∀ t : Fin cfg0.N, win0_2.index t = ![t.val / 8, 0, 0] := (by decide +kernel : ∀ t : Fin grid0.N, win0_2.index t = ![t.val / 8, 0, 0])
theorem ind_3 : ∀ t : Fin cfg0.N, win0_3.index t = ![t.val / 8, 0, 0] := (by decide +kernel : ∀ t : Fin grid0.N, win0_3.index t = ![t.val / 8, 0, 0])
theorem ind_4 : ∀ t : Fin cfg0.N, win0_4.index t = ![0, 0] := (by decide +kernel : ∀ t : Fin grid0.N, win0_4.index t = ![0, 0])
theorem ind_5 : ∀ t : Fin cfg0.N, win0_5.index t = ![t.val, 0] := (by decide +kernel : ∀ t : Fin grid0.N, win0_5.index t = ![t.val, 0])
theorem ind_6 : ∀ t : Fin cfg0.N, win0_6.index t = ![t.val, 0] := (by decide +kernel : ∀ t : Fin grid0.N, win0_6.index t = ![t.val, 0])

theorem N_eq : grid0.N = 32 := by decide +kernel

/-- The point at which token `t` is worked on. -/
def point (t : Fin 16384) : Fin cfg0.N := ⟨t.val / 512, lt_of_lt_of_eq (by omega) N_eq.symm⟩
/-- Its row in the point's block. -/
def row (t : Fin 16384) : Fin 512 := ⟨t.val % 512, by omega⟩

theorem at_point (t : Fin 16384) : (point t).val * 512 + (row t).val = t.val := by
  show t.val / 512 * 512 + t.val % 512 = t.val
  omega
theorem batch_point (t : Fin 16384) : (point t).val / 8 = (Proj.bat t).val := by
  show t.val / 512 / 8 = t.val / 4096
  omega

theorem flat_apply (x : FVec Ideal S4x4096x1024 .f32) (t : Fin 16384) (k : Fin 1024) :
    (shapeCast S16384x1024 x shapeCasts_S4x4096x1024_S16384x1024 : FVec Ideal S16384x1024 .f32) (ix2 t k) = x (ix3 (Proj.bat t) (Proj.pos t) k) := by
  pointwise
  rfl
theorem one_apply (x : FVec Ideal S1024 .f32) (k : Fin 1024) :
    (broadcastInDim S1x1024 ![1] bcast_S1024_S1x1024_1 x : FVec Ideal S1x1024 .f32) (ix2 (0 : Fin 1) k) = x (ix1 k) := by
  pointwise
theorem batch_apply (x : FVec Ideal S4x1024 .f32) (b : Fin 4) (k : Fin 1024) :
    (broadcastInDim S4x1x1024 ![0, 2] bcast_S4x1024_S4x1x1024_0_2 x : FVec Ideal S4x1x1024 .f32) (ix3 b (0 : Fin 1) k) = x (ix2 b k) := by
  pointwise

theorem b0 (c : Dev nD) (t : Fin 16384) (k : Fin 1024) :
    iblk m c 0 (point t) (ix2 (row t) k) = (m ((c.tc : Thread nD τ).loc main_arg0) : FVec Ideal S4x4096x1024 .f32) (ix3 (Proj.bat t) (Proj.pos t) k) := by
  have e := ind_row0 (point t)
  have p := at_point t
  have h : iblk m c 0 (point t) (ix2 (row t) k) = (V m c main_v0 : FVec Ideal S16384x1024 .f32) (ix2 t k) := by
    blk_ext [iblk, e]
  exact h.trans ((congrFun (v0 m c) _).trans (flat_apply _ t k))
theorem b1 (c : Dev nD) (t : Fin 16384) (k : Fin 1024) :
    iblk m c 1 (point t) (ix2 (0 : Fin 1) k) = (m ((c.tc : Thread nD τ).loc main_arg1) : FVec Ideal S1024 .f32) (ix1 k) := by
  have e := ind_1 (point t)
  have h : iblk m c 1 (point t) (ix2 (0 : Fin 1) k) = (V m c main_v26 : FVec Ideal S1x1024 .f32) (ix2 (0 : Fin 1) k) := by
    blk_ext [iblk, e]
  exact h.trans ((congrFun (v26 m c) _).trans (one_apply _ k))
theorem b2 (c : Dev nD) (t : Fin 16384) (k : Fin 1024) :
    iblk m c 2 (point t) (ix3 (0 : Fin 1) (0 : Fin 1) k) = (m ((c.tc : Thread nD τ).loc main_arg2) : FVec Ideal S4x1024 .f32) (ix2 (Proj.bat t) k) := by
  have e := ind_2 (point t)
  have p := batch_point t
  have h : iblk m c 2 (point t) (ix3 (0 : Fin 1) (0 : Fin 1) k) = (V m c main_v27 : FVec Ideal S4x1x1024 .f32) (ix3 (Proj.bat t) (0 : Fin 1) k) := by
    blk_ext [iblk, e]
  exact h.trans ((congrFun (v27 m c) _).trans (batch_apply _ _ k))
theorem b3 (c : Dev nD) (t : Fin 16384) (k : Fin 1024) :
    iblk m c 3 (point t) (ix3 (0 : Fin 1) (0 : Fin 1) k) = (m ((c.tc : Thread nD τ).loc main_arg3) : FVec Ideal S4x1024 .f32) (ix2 (Proj.bat t) k) := by
  have e := ind_3 (point t)
  have p := batch_point t
  have h : iblk m c 3 (point t) (ix3 (0 : Fin 1) (0 : Fin 1) k) = (V m c main_v28 : FVec Ideal S4x1x1024 .f32) (ix3 (Proj.bat t) (0 : Fin 1) k) := by
    blk_ext [iblk, e]
  exact h.trans ((congrFun (v28 m c) _).trans (batch_apply _ _ k))
theorem b4 (c : Dev nD) (t : Fin 16384) (k : Fin 1024) (j : Fin 2176) :
    iblk m c 4 (point t) (ix2 k j) = wr (m ((c.tc : Thread nD τ).loc main_arg4)) (ix2 k j) := by
  have e := ind_4 (point t)
  have h : iblk m c 4 (point t) (ix2 k j) = (V m c main_v25 : FVec Ideal S1024x2176 .bf16) (ix2 k j) := by
    blk_ext [iblk, e]
  exact h.trans (congrFun (v25 m c) _)
theorem b5 (c : Dev nD) (t : Fin 16384) (l : Fin 128) :
    iblk m c 5 (point t) (ix2 (row t) l) = Proj.cosW (fun i => (m ((c.tc : Thread nD τ).loc main_arg5) : FVec Ideal S8x16384 .f32) (ix2 i t)) l := by
  have e := ind_5 (point t)
  have p := at_point t
  have h : iblk m c 5 (point t) (ix2 (row t) l) = (V m c main_v11 : FVec Ideal S16384x128 .f32) (ix2 t l) := by
    blk_ext [iblk, e]
  exact h.trans ((congrFun (v11 m c) _).trans (ctab_apply _ t l))
theorem b6 (c : Dev nD) (t : Fin 16384) (l : Fin 128) :
    iblk m c 6 (point t) (ix2 (row t) l) = Proj.sinW (fun i => (m ((c.tc : Thread nD τ).loc main_arg6) : FVec Ideal S8x16384 .f32) (ix2 i t)) l := by
  have e := ind_6 (point t)
  have p := at_point t
  have h : iblk m c 6 (point t) (ix2 (row t) l) = (V m c main_v12 : FVec Ideal S16384x128 .f32) (ix2 t l) := by
    blk_ext [iblk, e]
  exact h.trans ((congrFun (v12 m c) _).trans (stab_apply _ t l))

end Cert.InprojRIdeal.Own

end
-- ==== Proof.InprojRFinal.lean ====
/- The row projection's results after the run, entry by entry. -/
module

public import proofs.«01_k».proof.Proof.InprojRRun

@[expose] public section

set_option maxRecDepth 16384

noncomputable section

namespace Cert.InprojRIdeal.Own

open Idealize.ShloMosaic Idealize.ShloMosaic.TcCoe Idealize.ShloMosaic.Tactic
open Cert.InprojRIdeal.Gen Cert.InprojRIdeal.Value

variable (m : (ℓ : Loc nD τ sig) → Buf (Elt Ideal) ℓ)

/-- Entry `j` of token `t`, in the launch's arguments. -/
abbrev ent (c : Dev nD) (t : Fin 16384) (j : Fin 3396) : EReal :=
  Proj.entry (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) t j
/-- The rotation's cosines at token `t`. -/
abbrev cosT (c : Dev nD) (t : Fin 16384) (i : Fin 8) : EReal := (m ((c.tc : Thread nD τ).loc main_arg5) : FVec Ideal S8x16384 .f32) (ix2 i t)
/-- The rotation's sines at token `t`. -/
abbrev sinT (c : Dev nD) (t : Fin 16384) (i : Fin 8) : EReal := (m ((c.tc : Thread nD τ).loc main_arg6) : FVec Ideal S8x16384 .f32) (ix2 i t)

theorem ind_7 : ∀ t : Fin cfg0.N, win0_7.index t = ![t.val, 0] := (by decide +kernel : ∀ t : Fin grid0.N, win0_7.index t = ![t.val, 0])
theorem ind_8 : ∀ t : Fin cfg0.N, win0_8.index t = ![t.val, 0] := (by decide +kernel : ∀ t : Fin grid0.N, win0_8.index t = ![t.val, 0])
theorem ind_9 : ∀ t : Fin cfg0.N, win0_9.index t = ![t.val, 0] := (by decide +kernel : ∀ t : Fin grid0.N, win0_9.index t = ![t.val, 0])
theorem ind_10 : ∀ t : Fin cfg0.N, win0_10.index t = ![t.val, 0] := (by decide +kernel : ∀ t : Fin grid0.N, win0_10.index t = ![t.val, 0])
theorem ind_11 : ∀ t : Fin cfg0.N, win0_11.index t = ![t.val, 0] := (by decide +kernel : ∀ t : Fin grid0.N, win0_11.index t = ![t.val, 0])
theorem ind_12 : ∀ t : Fin cfg0.N, win0_12.index t = ![t.val, 0] := (by decide +kernel : ∀ t : Fin grid0.N, win0_12.index t = ![t.val, 0])
theorem fl_7 : ∀ t : Fin cfg0.N, (cfg0.win 7).flush t = true := (by decide +kernel : ∀ t : Fin grid0.N, win0_7.flush t = true)
theorem fl_8 : ∀ t : Fin cfg0.N, (cfg0.win 8).flush t = true := (by decide +kernel : ∀ t : Fin grid0.N, win0_8.flush t = true)
theorem fl_9 : ∀ t : Fin cfg0.N, (cfg0.win 9).flush t = true := (by decide +kernel : ∀ t : Fin grid0.N, win0_9.flush t = true)
theorem fl_10 : ∀ t : Fin cfg0.N, (cfg0.win 10).flush t = true := (by decide +kernel : ∀ t : Fin grid0.N, win0_10.flush t = true)
theorem fl_11 : ∀ t : Fin cfg0.N, (cfg0.win 11).flush t = true := (by decide +kernel : ∀ t : Fin grid0.N, win0_11.flush t = true)
theorem fl_12 : ∀ t : Fin cfg0.N, (cfg0.win 12).flush t = true := (by decide +kernel : ∀ t : Fin grid0.N, win0_12.flush t = true)

theorem final_7 (c : Dev nD) (t : Fin 16384) (j : Fin 512) :
    ((dats m 0 c).arrAt 7 cfg0.N : FVec Ideal S16384x512 .f32) (ix2 t j) = out0_7 (iblk m c 0 (point t)) (iblk m c 1 (point t)) (iblk m c 2 (point t)) (iblk m c 3 (point t)) (iblk m c 4 (point t)) (iblk m c 5 (point t)) (iblk m c 6 (point t)) (ix2 (row t) j) := by
  have b := (blocks7 m c (point t) (fl_7 (point t))).trans (flushed7 m c (point t))
  have e := ind_7 (point t)
  have p := at_point t
  have q := congrFun b (ix2 (row t) j)
  refine Eq.trans ?_ q
  blk_ext [e]

theorem final_8 (c : Dev nD) (t : Fin 16384) (j : Fin 128) :
    ((dats m 0 c).arrAt 8 cfg0.N : FVec Ideal S16384x128 .f32) (ix2 t j) = out0_8 (iblk m c 0 (point t)) (iblk m c 1 (point t)) (iblk m c 2 (point t)) (iblk m c 3 (point t)) (iblk m c 4 (point t)) (iblk m c 5 (point t)) (iblk m c 6 (point t)) (ix2 (row t) j) := by
  have b := (blocks8 m c (point t) (fl_8 (point t))).trans (flushed8 m c (point t))
  have e := ind_8 (point t)
  have p := at_point t
  have q := congrFun b (ix2 (row t) j)
  refine Eq.trans ?_ q
  blk_ext [e]

theorem final_9 (c : Dev nD) (t : Fin 16384) (j : Fin 256) :
    ((dats m 0 c).arrAt 9 cfg0.N : FVec Ideal S16384x256 .f32) (ix2 t j) = out0_9 (iblk m c 0 (point t)) (iblk m c 1 (point t)) (iblk m c 2 (point t)) (iblk m c 3 (point t)) (iblk m c 4 (point t)) (iblk m c 5 (point t)) (iblk m c 6 (point t)) (ix2 (row t) j) := by
  have b := (blocks9 m c (point t) (fl_9 (point t))).trans (flushed9 m c (point t))
  have e := ind_9 (point t)
  have p := at_point t
  have q := congrFun b (ix2 (row t) j)
  refine Eq.trans ?_ q
  blk_ext [e]

theorem final_10 (c : Dev nD) (t : Fin 16384) (j : Fin 256) :
    ((dats m 0 c).arrAt 10 cfg0.N : FVec Ideal S16384x256 .f32) (ix2 t j) = out0_10 (iblk m c 0 (point t)) (iblk m c 1 (point t)) (iblk m c 2 (point t)) (iblk m c 3 (point t)) (iblk m c 4 (point t)) (iblk m c 5 (point t)) (iblk m c 6 (point t)) (ix2 (row t) j) := by
  have b := (blocks10 m c (point t) (fl_10 (point t))).trans (flushed10 m c (point t))
  have e := ind_10 (point t)
  have p := at_point t
  have q := congrFun b (ix2 (row t) j)
  refine Eq.trans ?_ q
  blk_ext [e]

theorem final_11 (c : Dev nD) (t : Fin 16384) (j : Fin 512) :
    ((dats m 0 c).arrAt 11 cfg0.N : FVec Ideal S16384x512 .f32) (ix2 t j) = out0_11 (iblk m c 0 (point t)) (iblk m c 1 (point t)) (iblk m c 2 (point t)) (iblk m c 3 (point t)) (iblk m c 4 (point t)) (iblk m c 5 (point t)) (iblk m c 6 (point t)) (ix2 (row t) j) := by
  have b := (blocks11 m c (point t) (fl_11 (point t))).trans (flushed11 m c (point t))
  have e := ind_11 (point t)
  have p := at_point t
  have q := congrFun b (ix2 (row t) j)
  refine Eq.trans ?_ q
  blk_ext [e]

theorem final_12 (c : Dev nD) (t : Fin 16384) (j : Fin 512) :
    ((dats m 0 c).arrAt 12 cfg0.N : FVec Ideal S16384x512 .f32) (ix2 t j) = out0_12 (iblk m c 0 (point t)) (iblk m c 1 (point t)) (iblk m c 2 (point t)) (iblk m c 3 (point t)) (iblk m c 4 (point t)) (iblk m c 5 (point t)) (iblk m c 6 (point t)) (ix2 (row t) j) := by
  have b := (blocks12 m c (point t) (fl_12 (point t))).trans (flushed12 m c (point t))
  have e := ind_12 (point t)
  have p := at_point t
  have q := congrFun b (ix2 (row t) j)
  refine Eq.trans ?_ q
  blk_ext [e]

/-- The block's normalised row is the token's. -/
theorem hid_block (c : Dev nD) (t : Fin 16384) :
    hidB (iblk m c 0 (point t)) (iblk m c 1 (point t)) (iblk m c 2 (point t)) (iblk m c 3 (point t)) (row t)
      = Proj.hid (fun i => (m ((c.tc : Thread nD τ).loc main_arg0) : FVec Ideal S4x4096x1024 .f32) (ix3 (Proj.bat t) (Proj.pos t) i))
          (fun i => (m ((c.tc : Thread nD τ).loc main_arg1) : FVec Ideal S1024 .f32) (ix1 i))
          (fun i => (m ((c.tc : Thread nD τ).loc main_arg2) : FVec Ideal S4x1024 .f32) (ix2 (Proj.bat t) i))
          (fun i => (m ((c.tc : Thread nD τ).loc main_arg3) : FVec Ideal S4x1024 .f32) (ix2 (Proj.bat t) i)) := by
  unfold hidB
  rw [funext (fun k => b0 m c t k), funext (fun k => b1 m c t k), funext (fun k => b2 m c t k), funext (fun k => b3 m c t k)]

/-- A column of the block's projection is the token's entry. -/
theorem col_block (c : Dev nD) (t : Fin 16384) (j : Fin 2176) (q : Fin 3396)
    (h : ∀ k, wr (m ((c.tc : Thread nD τ).loc main_arg4)) (ix2 k j) = (m ((c.tc : Thread nD τ).loc main_arg4) : FVec Ideal S1024x3396 .f32) (ix2 k q)) :
    Proj.col (hidB (iblk m c 0 (point t)) (iblk m c 1 (point t)) (iblk m c 2 (point t)) (iblk m c 3 (point t)) (row t)) (fun k => iblk m c 4 (point t) (ix2 k j)) = ent m c t q :=
  congrArg₂ Proj.col (hid_block m c t) (funext fun k => (b4 m c t k j).trans (h k))

theorem col_block_zero (c : Dev nD) (t : Fin 16384) (j : Fin 2176)
    (h : ∀ k, wr (m ((c.tc : Thread nD τ).loc main_arg4)) (ix2 k j) = 0) :
    Proj.col (hidB (iblk m c 0 (point t)) (iblk m c 1 (point t)) (iblk m c 2 (point t)) (iblk m c 3 (point t)) (row t)) (fun k => iblk m c 4 (point t) (ix2 k j)) = 0 :=
  (congrArg (Proj.col _) (funext fun k => (b4 m c t k j).trans (h k))).trans (Proj.col_zero _)

theorem keys_final (c : Dev nD) (t : Fin 16384) (j : Fin 512) :
    ((dats m 0 c).arrAt 7 cfg0.N : FVec Ideal S16384x512 .f32) (ix2 t j)
      = Proj.rope (fun l => ent m c t ⟨512 + (j.val / 64 * 64 + l.val), by omega⟩) (cosT m c t) (sinT m c t) ⟨j.val % 64, by omega⟩ := by
  refine (final_7 m c t j).trans ((out7_apply _ _ _ _ _ _ _ (cosT m c t) (sinT m c t) (row t) j (b5 m c t) (b6 m c t)).trans ?_)
  exact Proj.rope_congr (funext fun l => col_block m c t _ _ fun k => wr_keys _ k _ _ (by show j.val / 64 * 64 + l.val < 512; omega) rfl) rfl rfl rfl

theorem ikey_final (c : Dev nD) (t : Fin 16384) (j : Fin 128) :
    ((dats m 0 c).arrAt 8 cfg0.N : FVec Ideal S16384x128 .f32) (ix2 t j)
      = if h : j.val < 64 then Proj.rope (fun l => ent m c t ⟨1792 + l.val, by omega⟩) (cosT m c t) (sinT m c t) ⟨j.val, h⟩ else 0 := by
  refine (final_8 m c t j).trans ((out8_apply _ _ _ _ _ _ _ (cosT m c t) (sinT m c t) (row t) j (b5 m c t) (b6 m c t)).trans ?_)
  by_cases h : j.val < 64
  · rw [dif_pos h]
    exact Proj.rope_congr (funext fun l => col_block m c t _ _ fun k => wr_ikey _ k _ _ (by show 512 ≤ 512 + (j.val / 64 * 64 + l.val); omega)
      (by show 512 + (j.val / 64 * 64 + l.val) < 576; omega) (by show 1792 + l.val = 1280 + (512 + (j.val / 64 * 64 + l.val)); omega)) rfl rfl (Fin.ext (by show j.val % 64 = j.val; omega))
  · rw [dif_neg h]
    refine (Proj.rope_congr (funext fun l => col_block_zero m c t _ fun k => wr_zero _ k _ (by show 576 ≤ 512 + (j.val / 64 * 64 + l.val); omega)
      (by show 512 + (j.val / 64 * 64 + l.val) < 640; omega)) rfl rfl rfl).trans (Proj.rope_zero _ _ _)

theorem qb_final (c : Dev nD) (t : Fin 16384) (j : Fin 256) :
    ((dats m 0 c).arrAt 9 cfg0.N : FVec Ideal S16384x256 .f32) (ix2 t j) = ent m c t ⟨1860 + j.val, by omega⟩ := by
  refine (final_9 m c t j).trans ((out9_apply _ _ _ _ _ _ _ (row t) j).trans ?_)
  exact col_block m c t _ _ fun k => wr_rest _ k _ _ (by show 640 ≤ 640 + j.val; omega) (by show 1860 + j.val = 1220 + (640 + j.val); omega)

theorem fb_final (c : Dev nD) (t : Fin 16384) (j : Fin 256) :
    ((dats m 0 c).arrAt 10 cfg0.N : FVec Ideal S16384x256 .f32) (ix2 t j) = ent m c t ⟨2116 + j.val, by omega⟩ := by
  refine (final_10 m c t j).trans ((out10_apply _ _ _ _ _ _ _ (row t) j).trans ?_)
  exact col_block m c t _ _ fun k => wr_rest _ k _ _ (by show 640 ≤ 896 + j.val; omega) (by show 2116 + j.val = 1220 + (896 + j.val); omega)

theorem ib_final (c : Dev nD) (t : Fin 16384) (j : Fin 512) :
    ((dats m 0 c).arrAt 11 cfg0.N : FVec Ideal S16384x512 .f32) (ix2 t j) = ent m c t ⟨2372 + j.val, by omega⟩ := by
  refine (final_11 m c t j).trans ((out11_apply _ _ _ _ _ _ _ (row t) j).trans ?_)
  exact col_block m c t _ _ fun k => wr_rest _ k _ _ (by show 640 ≤ 1152 + j.val; omega) (by show 2372 + j.val = 1220 + (1152 + j.val); omega)

theorem gb_final (c : Dev nD) (t : Fin 16384) (j : Fin 512) :
    ((dats m 0 c).arrAt 12 cfg0.N : FVec Ideal S16384x512 .f32) (ix2 t j) = ent m c t ⟨2884 + j.val, by omega⟩ := by
  refine (final_12 m c t j).trans ((out12_apply _ _ _ _ _ _ _ (row t) j).trans ?_)
  exact col_block m c t _ _ fun k => wr_rest _ k _ _ (by show 640 ≤ 1664 + j.val; omega) (by show 2884 + j.val = 1220 + (1664 + j.val); omega)

end Cert.InprojRIdeal.Own

end
-- ==== Proof.InprojRRef.lean ====
/- The results of the row projection's reference, read at an index. -/
module

public import proofs.«01_k».proof.Proof.Gen.InprojRRefIdeal.Run
public import proofs.«01_k».proof.Proof.Projection
public import Idealize.ShloMosaic.Lib.Pointwise

@[expose] public section

set_option maxRecDepth 16384

noncomputable section

namespace Cert.InprojRRefIdeal.Own

open Idealize.ShloMosaic Idealize.ShloMosaic.TcCoe
open Cert.InprojRRefIdeal.Gen Cert.InprojRRefIdeal.Value

/-- The normalised, modulated input. -/
def normed (x : FVec Ideal S4x4096x1024 .f32) (g : FVec Ideal S1024 .f32) (sc sh : FVec Ideal S4x1024 .f32) : FVec Ideal S4x4096x1024 .f32 :=
  addf (mulf (mulf (mulf x (broadcastInDim S4x4096x1024 ![0, 1, 2] bcast_S4x4096x1_S4x4096x1024_0_1_2 (Host.rsqrt (addf (Host.divf (broadcastInDim S4x4096x1 ![0, 1] bcast_S4x4096_S4x4096x1_0_1 (Host.reduceAdd (mulf x x) (constant S_ .f32 0x00000000#32) reducesTo_S4x4096x1024_S4x4096_d2 h_S_)) (broadcastInDim S4x4096x1 ![] bcast_S_S4x4096x1 (constant S_ .f32 0x44800000#32))) (broadcastInDim S4x4096x1 ![] bcast_S_S4x4096x1 (constant S_ .f32 0x358637BD#32)))))) (broadcastInDim S4x4096x1024 ![0, 1, 2] bcast_S1x1x1024_S4x4096x1024_0_1_2 (broadcastInDim S1x1x1024 ![2] bcast_S1024_S1x1x1024_2 g))) (broadcastInDim S4x4096x1024 ![0, 1, 2] bcast_S4x1x1024_S4x4096x1024_0_1_2 (addf (broadcastInDim S4x1x1024 ![] bcast_S_S4x1x1024 (constant S_ .f32 0x3F800000#32)) (broadcastInDim S4x1x1024 ![0, 2] bcast_S4x1024_S4x1x1024_0_2 sc)))) (broadcastInDim S4x4096x1024 ![0, 1, 2] bcast_S4x1x1024_S4x4096x1024_0_1_2 (broadcastInDim S4x1x1024 ![0, 2] bcast_S4x1024_S4x1x1024_0_2 sh))

/-- The projection. -/
def proj (h : FVec Ideal S4x4096x1024 .f32) (w : FVec Ideal S1024x3396 .f32) : FVec Ideal S4x4096x3396 .f32 :=
  Host.dotGeneral dot_S4x4096x1024_S1024x3396_S4x4096x3396_2_0_01_1_n_n none h w

/-- A table of eight angles to a token, by position. -/
def table (a : FVec Ideal S8x16384 .f32) : FVec Ideal S4x4096x1x8 .f32 :=
  shapeCast _ (transpose S16384x8 [1, 0] a transposes_S8x16384_S16384x8_1_0) shapeCasts_S16384x8_S4x4096x1x8

/-- The rotation of eight heads. -/
def rot8 (y : FVec Ideal S4x4096x8x64 .f32) (c s : FVec Ideal S4x4096x1x8 .f32) : FVec Ideal S4x4096x8x64 .f32 :=
  concatenate S4x4096x8x64 3 [⟨S4x4096x8x8, (subf (mulf (extractStridedSlice S4x4096x8x8 ![0, 0, 0, 0] y slices_S4x4096x8x64_S4x4096x8x8_0_0_0_0) (broadcastInDim S4x4096x8x8 ![0, 1, 2, 3] bcast_S4x4096x1x8_S4x4096x8x8_0_1_2_3 c)) (mulf (extractStridedSlice S4x4096x8x8 ![0, 0, 0, 8] y slices_S4x4096x8x64_S4x4096x8x8_0_0_0_8) (broadcastInDim S4x4096x8x8 ![0, 1, 2, 3] bcast_S4x4096x1x8_S4x4096x8x8_0_1_2_3 s)))⟩, ⟨S4x4096x8x8, (addf (mulf (extractStridedSlice S4x4096x8x8 ![0, 0, 0, 8] y slices_S4x4096x8x64_S4x4096x8x8_0_0_0_8) (broadcastInDim S4x4096x8x8 ![0, 1, 2, 3] bcast_S4x4096x1x8_S4x4096x8x8_0_1_2_3 c)) (mulf (extractStridedSlice S4x4096x8x8 ![0, 0, 0, 0] y slices_S4x4096x8x64_S4x4096x8x8_0_0_0_0) (broadcastInDim S4x4096x8x8 ![0, 1, 2, 3] bcast_S4x4096x1x8_S4x4096x8x8_0_1_2_3 s)))⟩, ⟨S4x4096x8x48, (extractStridedSlice S4x4096x8x48 ![0, 0, 0, 16] y slices_S4x4096x8x64_S4x4096x8x48_0_0_0_16)⟩] concatenates_S4x4096x8x8_S4x4096x8x8_S4x4096x8x48_S4x4096x8x64_d3

/-- The rotation of one head. -/
def rot1 (y : FVec Ideal S4x4096x1x64 .f32) (c s : FVec Ideal S4x4096x1x8 .f32) : FVec Ideal S4x4096x1x64 .f32 :=
  concatenate S4x4096x1x64 3 [⟨S4x4096x1x8, (subf (mulf (extractStridedSlice S4x4096x1x8 ![0, 0, 0, 0] y slices_S4x4096x1x64_S4x4096x1x8_0_0_0_0) c) (mulf (extractStridedSlice S4x4096x1x8 ![0, 0, 0, 8] y slices_S4x4096x1x64_S4x4096x1x8_0_0_0_8) s))⟩, ⟨S4x4096x1x8, (addf (mulf (extractStridedSlice S4x4096x1x8 ![0, 0, 0, 8] y slices_S4x4096x1x64_S4x4096x1x8_0_0_0_8) c) (mulf (extractStridedSlice S4x4096x1x8 ![0, 0, 0, 0] y slices_S4x4096x1x64_S4x4096x1x8_0_0_0_0) s))⟩, ⟨S4x4096x1x48, (extractStridedSlice S4x4096x1x48 ![0, 0, 0, 16] y slices_S4x4096x1x64_S4x4096x1x48_0_0_0_16)⟩] concatenates_S4x4096x1x8_S4x4096x1x8_S4x4096x1x48_S4x4096x1x64_d3

/-- The rotated keys. -/
def keys (p : FVec Ideal S4x4096x3396 .f32) (a5 a6 : FVec Ideal S8x16384 .f32) : FVec Ideal S16384x512 .bf16 :=
  truncf .bf16 (shapeCast S16384x512 (rot8 (shapeCast S4x4096x8x64 (extractStridedSlice S4x4096x512 ![0, 0, 512] p slices_S4x4096x3396_S4x4096x512_0_0_512) shapeCasts_S4x4096x512_S4x4096x8x64) (table a5) (table a6)) shapeCasts_S4x4096x8x64_S16384x512) bitsLt_bf16_f32

/-- The rotated indexer key beside zeros. -/
def ikey (p : FVec Ideal S4x4096x3396 .f32) (a5 a6 : FVec Ideal S8x16384 .f32) : FVec Ideal S16384x128 .f32 :=
  concatenate S16384x128 1 [⟨S16384x64, shapeCast S16384x64 (rot1 (shapeCast S4x4096x1x64 (extractStridedSlice S4x4096x64 ![0, 0, 1792] p slices_S4x4096x3396_S4x4096x64_0_0_1792) shapeCasts_S4x4096x64_S4x4096x1x64) (table a5) (table a6)) shapeCasts_S4x4096x1x64_S16384x64⟩, ⟨S16384x64, (broadcastInDim S16384x64 ![] bcast_S_S16384x64 (constant S_ .f32 0x00000000#32))⟩] concatenates_S16384x64_S16384x64_S16384x128_d1

/-- The projection of the arguments. -/
def projM (m : (ℓ : Loc nD τ sig) → Buf (Elt Ideal) ℓ) (c : Dev nD) : FVec Ideal S4x4096x3396 .f32 :=
  proj (normed (m ((c.tc : Thread nD τ).loc main_arg0)) (m ((c.tc : Thread nD τ).loc main_arg1)) (m ((c.tc : Thread nD τ).loc main_arg2)) (m ((c.tc : Thread nD τ).loc main_arg3))) (m ((c.tc : Thread nD τ).loc main_arg4))

theorem keys_eq (m : (ℓ : Loc nD τ sig) → Buf (Elt Ideal) ℓ) (c : Dev nD) :
    res_main_v63 m c = keys (projM m c) (m ((c.tc : Thread nD τ).loc main_arg5)) (m ((c.tc : Thread nD τ).loc main_arg6)) := rfl

theorem ikey_eq (m : (ℓ : Loc nD τ sig) → Buf (Elt Ideal) ℓ) (c : Dev nD) :
    res_main_v66 m c = ikey (projM m c) (m ((c.tc : Thread nD τ).loc main_arg5)) (m ((c.tc : Thread nD τ).loc main_arg6)) := rfl

/-! ## Read at an index -/

theorem normed_apply (x : FVec Ideal S4x4096x1024 .f32) (g : FVec Ideal S1024 .f32) (sc sh : FVec Ideal S4x1024 .f32) (b : Fin 4) (s : Fin 4096) (k : Fin 1024) :
    normed x g sc sh (ix3 b s k) = Proj.hid (fun i => x (ix3 b s i)) (fun i => g (ix1 i)) (fun i => sc (ix2 b i)) (fun i => sh (ix2 b i)) k := by
  unfold Proj.hid
  pointwise [normed]

theorem proj_apply (x : FVec Ideal S4x4096x1024 .f32) (g : FVec Ideal S1024 .f32) (sc sh : FVec Ideal S4x1024 .f32) (w : FVec Ideal S1024x3396 .f32) (t : Fin 16384) (j : Fin 3396) :
    proj (normed x g sc sh) w (ix3 (Proj.bat t) (Proj.pos t) j) = Proj.entry x g sc sh w t j := by
  unfold Proj.entry Proj.col
  pointwise [proj]
  exact Finset.sum_congr rfl fun k _ => by rw [normed_apply]

theorem table_apply (a : FVec Ideal S8x16384 .f32) (t : Fin 16384) (i : Fin 8) : table a (ix4 (Proj.bat t) (Proj.pos t) (0 : Fin 1) i) = a (ix2 i t) := by
  pointwise [table]
  exact congrArg (fun q => a (ix2 i q)) (Fin.ext (by show t.val / 4096 * 4096 + t.val % 4096 = t.val; omega))

theorem rot8_apply (y : FVec Ideal S4x4096x8x64 .f32) (c s : FVec Ideal S4x4096x1x8 .f32) (b : Fin 4) (p : Fin 4096) (h : Fin 8) (l : Fin 64) :
    rot8 y c s (ix4 b p h l) = Proj.rope (fun l => y (ix4 b p h l)) (fun i => c (ix4 b p (0 : Fin 1) i)) (fun i => s (ix4 b p (0 : Fin 1) i)) l := by
  unfold Proj.rope
  pointwise [rot8]
  by_cases h0 : l.val < 8
  · have e : (⟨8 + l.val, by omega⟩ : Fin 64) = ⟨l.val + 8, by omega⟩ := Fin.ext (Nat.add_comm _ _)
    simp only [dif_pos h0, e]
  · by_cases h1 : l.val < 16
    · have h2 : l.val - 8 < 8 := by omega
      have e : (⟨8 + (l.val - 8), by omega⟩ : Fin 64) = l := Fin.ext (by show 8 + (l.val - 8) = l.val; omega)
      simp only [dif_neg h0, dif_pos h1, dif_pos h2, e]
    · have h2 : ¬ l.val - 8 < 8 := by omega
      have e : (⟨16 + (l.val - 8 - 8), by omega⟩ : Fin 64) = l := Fin.ext (by show 16 + (l.val - 8 - 8) = l.val; omega)
      simp only [dif_neg h0, dif_neg h1, dif_neg h2, e]

theorem rot1_apply (y : FVec Ideal S4x4096x1x64 .f32) (c s : FVec Ideal S4x4096x1x8 .f32) (b : Fin 4) (p : Fin 4096) (l : Fin 64) :
    rot1 y c s (ix4 b p (0 : Fin 1) l) = Proj.rope (fun l => y (ix4 b p (0 : Fin 1) l)) (fun i => c (ix4 b p (0 : Fin 1) i)) (fun i => s (ix4 b p (0 : Fin 1) i)) l := by
  unfold Proj.rope
  pointwise [rot1]
  by_cases h0 : l.val < 8
  · have e : (⟨8 + l.val, by omega⟩ : Fin 64) = ⟨l.val + 8, by omega⟩ := Fin.ext (Nat.add_comm _ _)
    simp only [dif_pos h0, e]
  · by_cases h1 : l.val < 16
    · have h2 : l.val - 8 < 8 := by omega
      have e : (⟨8 + (l.val - 8), by omega⟩ : Fin 64) = l := Fin.ext (by show 8 + (l.val - 8) = l.val; omega)
      simp only [dif_neg h0, dif_pos h1, dif_pos h2, e]
    · have h2 : ¬ l.val - 8 < 8 := by omega
      have e : (⟨16 + (l.val - 8 - 8), by omega⟩ : Fin 64) = l := Fin.ext (by show 16 + (l.val - 8 - 8) = l.val; omega)
      simp only [dif_neg h0, dif_neg h1, dif_neg h2, e]

theorem keys_apply (p : FVec Ideal S4x4096x3396 .f32) (a5 a6 : FVec Ideal S8x16384 .f32) (t : Fin 16384) (j : Fin 512) :
    keys p a5 a6 (ix2 t j) = Proj.rope (fun l => p (ix3 (Proj.bat t) (Proj.pos t) ⟨512 + (j.val / 64 * 64 + l.val), by omega⟩)) (fun i => a5 (ix2 i t)) (fun i => a6 (ix2 i t)) ⟨j.val % 64, by omega⟩ := by
  pointwise [keys]
  refine (rot8_apply _ _ _ (Proj.bat t) (Proj.pos t) _ _).trans (Proj.rope_congr (funext fun l => ?_) (funext fun i => table_apply a5 t i) (funext fun i => table_apply a6 t i) rfl)
  pointwise

theorem ikey_apply (p : FVec Ideal S4x4096x3396 .f32) (a5 a6 : FVec Ideal S8x16384 .f32) (t : Fin 16384) (j : Fin 128) :
    ikey p a5 a6 (ix2 t j) = if h : j.val < 64 then Proj.rope (fun l => p (ix3 (Proj.bat t) (Proj.pos t) ⟨1792 + l.val, by omega⟩)) (fun i => a5 (ix2 i t)) (fun i => a6 (ix2 i t)) ⟨j.val, h⟩ else 0 := by
  pointwise [ikey]
  by_cases h : j.val < 64
  · rw [dif_pos h, dif_pos h]
    refine (rot1_apply _ _ _ (Proj.bat t) (Proj.pos t) _).trans (Proj.rope_congr (funext fun l => ?_) (funext fun i => table_apply a5 t i) (funext fun i => table_apply a6 t i) rfl)
    pointwise
  · rw [dif_neg h, dif_neg h]

theorem qb_apply (p : FVec Ideal S4x4096x3396 .f32) (t : Fin 16384) (j : Fin 256) :
    (shapeCast S16384x256 (extractStridedSlice S4x4096x256 ![0, 0, 1860] p slices_S4x4096x3396_S4x4096x256_0_0_1860) shapeCasts_S4x4096x256_S16384x256 : FVec Ideal S16384x256 .f32) (ix2 t j)
      = p (ix3 (Proj.bat t) (Proj.pos t) ⟨1860 + j.val, by omega⟩) := by
  pointwise
  rfl

theorem fb_apply (p : FVec Ideal S4x4096x3396 .f32) (t : Fin 16384) (j : Fin 256) :
    (shapeCast S16384x256 (extractStridedSlice S4x4096x256 ![0, 0, 2116] p slices_S4x4096x3396_S4x4096x256_0_0_2116) shapeCasts_S4x4096x256_S16384x256 : FVec Ideal S16384x256 .f32) (ix2 t j)
      = p (ix3 (Proj.bat t) (Proj.pos t) ⟨2116 + j.val, by omega⟩) := by
  pointwise
  rfl

theorem ib_apply (p : FVec Ideal S4x4096x3396 .f32) (t : Fin 16384) (j : Fin 512) :
    (shapeCast S16384x512 (extractStridedSlice S4x4096x512 ![0, 0, 2372] p slices_S4x4096x3396_S4x4096x512_0_0_2372) shapeCasts_S4x4096x512_S16384x512 : FVec Ideal S16384x512 .f32) (ix2 t j)
      = p (ix3 (Proj.bat t) (Proj.pos t) ⟨2372 + j.val, by omega⟩) := by
  pointwise
  rfl

theorem gb_apply (p : FVec Ideal S4x4096x3396 .f32) (t : Fin 16384) (j : Fin 512) :
    (shapeCast S16384x512 (extractStridedSlice S4x4096x512 ![0, 0, 2884] p slices_S4x4096x3396_S4x4096x512_0_0_2884) shapeCasts_S4x4096x512_S16384x512 : FVec Ideal S16384x512 .f32) (ix2 t j)
      = p (ix3 (Proj.bat t) (Proj.pos t) ⟨2884 + j.val, by omega⟩) := by
  pointwise
  rfl

end Cert.InprojRRefIdeal.Own

end
-- ==== Proof.InprojRClaim.lean ====
/- The row projection's claims: the two programs run to their ends, and the kernel's results are the reference's over the extended reals. -/
module

public import proofs.«01_k».proof.Defs
public import proofs.«01_k».proof.Proof.Gen.InprojR
public import proofs.«01_k».proof.Proof.Gen.InprojR.Frame
public import proofs.«01_k».proof.Proof.Gen.InprojRIdeal
public import proofs.«01_k».proof.Proof.Gen.InprojRIdeal.Frame
public import proofs.«01_k».proof.Proof.Gen.InprojRRefIdeal
public import proofs.«01_k».proof.Proof.InprojRFinal
public import proofs.«01_k».proof.Proof.InprojRRef
public import Idealize.ShloMosaic.Adequacy
public import Idealize.ShloMosaic.Init

@[expose] public section

noncomputable section

namespace Cert.Proof.InprojR

open Idealize.ShloMosaic Idealize.ShloMosaic.TcCoe Idealize.SL.Sem

theorem kernel_frame : Cert.quiescent_InprojR := fun m ρ _ => Cert.InprojR.Gen.frame m ρ

theorem ideal_frame : Cert.quiescent_InprojRIdeal := fun m ρ _ => Cert.InprojRIdeal.Gen.frame m ρ

/-- The reference runs to its end; it has no semaphores. -/
theorem reference_frame : Cert.quiescent_InprojRRefIdeal := fun m ρ _ =>
  (θ_run Cert.InprojRRefIdeal.defs _ _).mono (fun r h' => ⟨fun c => (h' c).2.2.2.2.2.2, sem_eq_zero_of_no_sems (by decide) r.2⟩) (Cert.InprojRRefIdeal.Value.run (F := Ideal) m ρ)

/-- The reference's projection at a token is the kernel's entry. -/
theorem entry_eq (m : (ℓ : Loc Cert.InprojRIdeal.nD Cert.InprojRIdeal.τ Cert.InprojRIdeal.sig) → Buf (Elt Ideal) ℓ)
    (m' : (ℓ : Loc Cert.InprojRRefIdeal.nD Cert.InprojRRefIdeal.τ Cert.InprojRRefIdeal.sig) → Buf (Elt Ideal) ℓ) (c : Dev Cert.InprojRIdeal.nD)
    (h0 : m' ((c.tc : Thread Cert.InprojRRefIdeal.nD Cert.InprojRRefIdeal.τ).loc Cert.InprojRRefIdeal.main_arg0) = m ((c.tc : Thread Cert.InprojRIdeal.nD Cert.InprojRIdeal.τ).loc Cert.InprojRIdeal.main_arg0))
    (h1 : m' ((c.tc : Thread Cert.InprojRRefIdeal.nD Cert.InprojRRefIdeal.τ).loc Cert.InprojRRefIdeal.main_arg1) = m ((c.tc : Thread Cert.InprojRIdeal.nD Cert.InprojRIdeal.τ).loc Cert.InprojRIdeal.main_arg1))
    (h2 : m' ((c.tc : Thread Cert.InprojRRefIdeal.nD Cert.InprojRRefIdeal.τ).loc Cert.InprojRRefIdeal.main_arg2) = m ((c.tc : Thread Cert.InprojRIdeal.nD Cert.InprojRIdeal.τ).loc Cert.InprojRIdeal.main_arg2))
    (h3 : m' ((c.tc : Thread Cert.InprojRRefIdeal.nD Cert.InprojRRefIdeal.τ).loc Cert.InprojRRefIdeal.main_arg3) = m ((c.tc : Thread Cert.InprojRIdeal.nD Cert.InprojRIdeal.τ).loc Cert.InprojRIdeal.main_arg3))
    (h4 : m' ((c.tc : Thread Cert.InprojRRefIdeal.nD Cert.InprojRRefIdeal.τ).loc Cert.InprojRRefIdeal.main_arg4) = m ((c.tc : Thread Cert.InprojRIdeal.nD Cert.InprojRIdeal.τ).loc Cert.InprojRIdeal.main_arg4))
    (h5 : m' ((c.tc : Thread Cert.InprojRRefIdeal.nD Cert.InprojRRefIdeal.τ).loc Cert.InprojRRefIdeal.main_arg5) = m ((c.tc : Thread Cert.InprojRIdeal.nD Cert.InprojRIdeal.τ).loc Cert.InprojRIdeal.main_arg5))
    (h6 : m' ((c.tc : Thread Cert.InprojRRefIdeal.nD Cert.InprojRRefIdeal.τ).loc Cert.InprojRRefIdeal.main_arg6) = m ((c.tc : Thread Cert.InprojRIdeal.nD Cert.InprojRIdeal.τ).loc Cert.InprojRIdeal.main_arg6))
    (t : Fin 16384) (j : Fin 3396) :
    Cert.InprojRRefIdeal.Own.projM m' c (ix3 (Proj.bat t) (Proj.pos t) j) = Cert.InprojRIdeal.Own.ent m c t j := by
  unfold Cert.InprojRRefIdeal.Own.projM
  rw [h0, h1, h2, h3, h4]
  exact Cert.InprojRRefIdeal.Own.proj_apply _ _ _ _ _ t j

theorem keys_values (m : (ℓ : Loc Cert.InprojRIdeal.nD Cert.InprojRIdeal.τ Cert.InprojRIdeal.sig) → Buf (Elt Ideal) ℓ)
    (m' : (ℓ : Loc Cert.InprojRRefIdeal.nD Cert.InprojRRefIdeal.τ Cert.InprojRRefIdeal.sig) → Buf (Elt Ideal) ℓ) (c : Dev Cert.InprojRIdeal.nD)
    (h0 : m' ((c.tc : Thread Cert.InprojRRefIdeal.nD Cert.InprojRRefIdeal.τ).loc Cert.InprojRRefIdeal.main_arg0) = m ((c.tc : Thread Cert.InprojRIdeal.nD Cert.InprojRIdeal.τ).loc Cert.InprojRIdeal.main_arg0))
    (h1 : m' ((c.tc : Thread Cert.InprojRRefIdeal.nD Cert.InprojRRefIdeal.τ).loc Cert.InprojRRefIdeal.main_arg1) = m ((c.tc : Thread Cert.InprojRIdeal.nD Cert.InprojRIdeal.τ).loc Cert.InprojRIdeal.main_arg1))
    (h2 : m' ((c.tc : Thread Cert.InprojRRefIdeal.nD Cert.InprojRRefIdeal.τ).loc Cert.InprojRRefIdeal.main_arg2) = m ((c.tc : Thread Cert.InprojRIdeal.nD Cert.InprojRIdeal.τ).loc Cert.InprojRIdeal.main_arg2))
    (h3 : m' ((c.tc : Thread Cert.InprojRRefIdeal.nD Cert.InprojRRefIdeal.τ).loc Cert.InprojRRefIdeal.main_arg3) = m ((c.tc : Thread Cert.InprojRIdeal.nD Cert.InprojRIdeal.τ).loc Cert.InprojRIdeal.main_arg3))
    (h4 : m' ((c.tc : Thread Cert.InprojRRefIdeal.nD Cert.InprojRRefIdeal.τ).loc Cert.InprojRRefIdeal.main_arg4) = m ((c.tc : Thread Cert.InprojRIdeal.nD Cert.InprojRIdeal.τ).loc Cert.InprojRIdeal.main_arg4))
    (h5 : m' ((c.tc : Thread Cert.InprojRRefIdeal.nD Cert.InprojRRefIdeal.τ).loc Cert.InprojRRefIdeal.main_arg5) = m ((c.tc : Thread Cert.InprojRIdeal.nD Cert.InprojRIdeal.τ).loc Cert.InprojRIdeal.main_arg5))
    (h6 : m' ((c.tc : Thread Cert.InprojRRefIdeal.nD Cert.InprojRRefIdeal.τ).loc Cert.InprojRRefIdeal.main_arg6) = m ((c.tc : Thread Cert.InprojRIdeal.nD Cert.InprojRIdeal.τ).loc Cert.InprojRIdeal.main_arg6)) :
    Cert.InprojRRefIdeal.Value.res_main_v63 m' c = (Cert.InprojRIdeal.Gen.dats m 0 c).arrAt 7 Cert.InprojRIdeal.cfg0.N := by
  refine funext fun i => ?_
  obtain ⟨t, j, rfl⟩ : ∃ (t : Fin 16384) (j : Fin 512), i = ix2 t j := ⟨i 0, i 1, eq_ix2 i⟩
  refine (congrFun (Cert.InprojRRefIdeal.Own.keys_eq m' c) _).trans ?_
  rw [h5, h6]
  refine (Cert.InprojRRefIdeal.Own.keys_apply _ _ _ t j).trans (Eq.trans ?_ (Cert.InprojRIdeal.Own.keys_final m c t j).symm)
  exact Proj.rope_congr (funext fun l => entry_eq m m' c h0 h1 h2 h3 h4 h5 h6 t _) rfl rfl rfl

theorem ikey_values (m : (ℓ : Loc Cert.InprojRIdeal.nD Cert.InprojRIdeal.τ Cert.InprojRIdeal.sig) → Buf (Elt Ideal) ℓ)
    (m' : (ℓ : Loc Cert.InprojRRefIdeal.nD Cert.InprojRRefIdeal.τ Cert.InprojRRefIdeal.sig) → Buf (Elt Ideal) ℓ) (c : Dev Cert.InprojRIdeal.nD)
    (h0 : m' ((c.tc : Thread Cert.InprojRRefIdeal.nD Cert.InprojRRefIdeal.τ).loc Cert.InprojRRefIdeal.main_arg0) = m ((c.tc : Thread Cert.InprojRIdeal.nD Cert.InprojRIdeal.τ).loc Cert.InprojRIdeal.main_arg0))
    (h1 : m' ((c.tc : Thread Cert.InprojRRefIdeal.nD Cert.InprojRRefIdeal.τ).loc Cert.InprojRRefIdeal.main_arg1) = m ((c.tc : Thread Cert.InprojRIdeal.nD Cert.InprojRIdeal.τ).loc Cert.InprojRIdeal.main_arg1))
    (h2 : m' ((c.tc : Thread Cert.InprojRRefIdeal.nD Cert.InprojRRefIdeal.τ).loc Cert.InprojRRefIdeal.main_arg2) = m ((c.tc : Thread Cert.InprojRIdeal.nD Cert.InprojRIdeal.τ).loc Cert.InprojRIdeal.main_arg2))
    (h3 : m' ((c.tc : Thread Cert.InprojRRefIdeal.nD Cert.InprojRRefIdeal.τ).loc Cert.InprojRRefIdeal.main_arg3) = m ((c.tc : Thread Cert.InprojRIdeal.nD Cert.InprojRIdeal.τ).loc Cert.InprojRIdeal.main_arg3))
    (h4 : m' ((c.tc : Thread Cert.InprojRRefIdeal.nD Cert.InprojRRefIdeal.τ).loc Cert.InprojRRefIdeal.main_arg4) = m ((c.tc : Thread Cert.InprojRIdeal.nD Cert.InprojRIdeal.τ).loc Cert.InprojRIdeal.main_arg4))
    (h5 : m' ((c.tc : Thread Cert.InprojRRefIdeal.nD Cert.InprojRRefIdeal.τ).loc Cert.InprojRRefIdeal.main_arg5) = m ((c.tc : Thread Cert.InprojRIdeal.nD Cert.InprojRIdeal.τ).loc Cert.InprojRIdeal.main_arg5))
    (h6 : m' ((c.tc : Thread Cert.InprojRRefIdeal.nD Cert.InprojRRefIdeal.τ).loc Cert.InprojRRefIdeal.main_arg6) = m ((c.tc : Thread Cert.InprojRIdeal.nD Cert.InprojRIdeal.τ).loc Cert.InprojRIdeal.main_arg6)) :
    Cert.InprojRRefIdeal.Value.res_main_v66 m' c = (Cert.InprojRIdeal.Gen.dats m 0 c).arrAt 8 Cert.InprojRIdeal.cfg0.N := by
  refine funext fun i => ?_
  obtain ⟨t, j, rfl⟩ : ∃ (t : Fin 16384) (j : Fin 128), i = ix2 t j := ⟨i 0, i 1, eq_ix2 i⟩
  refine (congrFun (Cert.InprojRRefIdeal.Own.ikey_eq m' c) _).trans ?_
  rw [h5, h6]
  refine (Cert.InprojRRefIdeal.Own.ikey_apply _ _ _ t j).trans (Eq.trans ?_ (Cert.InprojRIdeal.Own.ikey_final m c t j).symm)
  by_cases h : j.val < 64
  · rw [dif_pos h, dif_pos h]
    exact Proj.rope_congr (funext fun l => entry_eq m m' c h0 h1 h2 h3 h4 h5 h6 t _) rfl rfl rfl
  · rw [dif_neg h, dif_neg h]

theorem qb_values (m : (ℓ : Loc Cert.InprojRIdeal.nD Cert.InprojRIdeal.τ Cert.InprojRIdeal.sig) → Buf (Elt Ideal) ℓ)
    (m' : (ℓ : Loc Cert.InprojRRefIdeal.nD Cert.InprojRRefIdeal.τ Cert.InprojRRefIdeal.sig) → Buf (Elt Ideal) ℓ) (c : Dev Cert.InprojRIdeal.nD)
    (h0 : m' ((c.tc : Thread Cert.InprojRRefIdeal.nD Cert.InprojRRefIdeal.τ).loc Cert.InprojRRefIdeal.main_arg0) = m ((c.tc : Thread Cert.InprojRIdeal.nD Cert.InprojRIdeal.τ).loc Cert.InprojRIdeal.main_arg0))
    (h1 : m' ((c.tc : Thread Cert.InprojRRefIdeal.nD Cert.InprojRRefIdeal.τ).loc Cert.InprojRRefIdeal.main_arg1) = m ((c.tc : Thread Cert.InprojRIdeal.nD Cert.InprojRIdeal.τ).loc Cert.InprojRIdeal.main_arg1))
    (h2 : m' ((c.tc : Thread Cert.InprojRRefIdeal.nD Cert.InprojRRefIdeal.τ).loc Cert.InprojRRefIdeal.main_arg2) = m ((c.tc : Thread Cert.InprojRIdeal.nD Cert.InprojRIdeal.τ).loc Cert.InprojRIdeal.main_arg2))
    (h3 : m' ((c.tc : Thread Cert.InprojRRefIdeal.nD Cert.InprojRRefIdeal.τ).loc Cert.InprojRRefIdeal.main_arg3) = m ((c.tc : Thread Cert.InprojRIdeal.nD Cert.InprojRIdeal.τ).loc Cert.InprojRIdeal.main_arg3))
    (h4 : m' ((c.tc : Thread Cert.InprojRRefIdeal.nD Cert.InprojRRefIdeal.τ).loc Cert.InprojRRefIdeal.main_arg4) = m ((c.tc : Thread Cert.InprojRIdeal.nD Cert.InprojRIdeal.τ).loc Cert.InprojRIdeal.main_arg4))
    (h5 : m' ((c.tc : Thread Cert.InprojRRefIdeal.nD Cert.InprojRRefIdeal.τ).loc Cert.InprojRRefIdeal.main_arg5) = m ((c.tc : Thread Cert.InprojRIdeal.nD Cert.InprojRIdeal.τ).loc Cert.InprojRIdeal.main_arg5))
    (h6 : m' ((c.tc : Thread Cert.InprojRRefIdeal.nD Cert.InprojRRefIdeal.τ).loc Cert.InprojRRefIdeal.main_arg6) = m ((c.tc : Thread Cert.InprojRIdeal.nD Cert.InprojRIdeal.τ).loc Cert.InprojRIdeal.main_arg6)) :
    (shapeCast Cert.InprojRRefIdeal.S16384x256 (extractStridedSlice Cert.InprojRRefIdeal.S4x4096x256 ![0, 0, 1860] (Cert.InprojRRefIdeal.Own.projM m' c) Cert.InprojRRefIdeal.Gen.slices_S4x4096x3396_S4x4096x256_0_0_1860) Cert.InprojRRefIdeal.Gen.shapeCasts_S4x4096x256_S16384x256 : FVec Ideal Cert.InprojRRefIdeal.S16384x256 .f32)
      = (Cert.InprojRIdeal.Gen.dats m 0 c).arrAt 9 Cert.InprojRIdeal.cfg0.N := by
  refine funext fun i => ?_
  obtain ⟨t, j, rfl⟩ : ∃ (t : Fin 16384) (j : Fin 256), i = ix2 t j := ⟨i 0, i 1, eq_ix2 i⟩
  exact (Cert.InprojRRefIdeal.Own.qb_apply _ t j).trans ((entry_eq m m' c h0 h1 h2 h3 h4 h5 h6 t _).trans (Cert.InprojRIdeal.Own.qb_final m c t j).symm)

theorem fb_values (m : (ℓ : Loc Cert.InprojRIdeal.nD Cert.InprojRIdeal.τ Cert.InprojRIdeal.sig) → Buf (Elt Ideal) ℓ)
    (m' : (ℓ : Loc Cert.InprojRRefIdeal.nD Cert.InprojRRefIdeal.τ Cert.InprojRRefIdeal.sig) → Buf (Elt Ideal) ℓ) (c : Dev Cert.InprojRIdeal.nD)
    (h0 : m' ((c.tc : Thread Cert.InprojRRefIdeal.nD Cert.InprojRRefIdeal.τ).loc Cert.InprojRRefIdeal.main_arg0) = m ((c.tc : Thread Cert.InprojRIdeal.nD Cert.InprojRIdeal.τ).loc Cert.InprojRIdeal.main_arg0))
    (h1 : m' ((c.tc : Thread Cert.InprojRRefIdeal.nD Cert.InprojRRefIdeal.τ).loc Cert.InprojRRefIdeal.main_arg1) = m ((c.tc : Thread Cert.InprojRIdeal.nD Cert.InprojRIdeal.τ).loc Cert.InprojRIdeal.main_arg1))
    (h2 : m' ((c.tc : Thread Cert.InprojRRefIdeal.nD Cert.InprojRRefIdeal.τ).loc Cert.InprojRRefIdeal.main_arg2) = m ((c.tc : Thread Cert.InprojRIdeal.nD Cert.InprojRIdeal.τ).loc Cert.InprojRIdeal.main_arg2))
    (h3 : m' ((c.tc : Thread Cert.InprojRRefIdeal.nD Cert.InprojRRefIdeal.τ).loc Cert.InprojRRefIdeal.main_arg3) = m ((c.tc : Thread Cert.InprojRIdeal.nD Cert.InprojRIdeal.τ).loc Cert.InprojRIdeal.main_arg3))
    (h4 : m' ((c.tc : Thread Cert.InprojRRefIdeal.nD Cert.InprojRRefIdeal.τ).loc Cert.InprojRRefIdeal.main_arg4) = m ((c.tc : Thread Cert.InprojRIdeal.nD Cert.InprojRIdeal.τ).loc Cert.InprojRIdeal.main_arg4))
    (h5 : m' ((c.tc : Thread Cert.InprojRRefIdeal.nD Cert.InprojRRefIdeal.τ).loc Cert.InprojRRefIdeal.main_arg5) = m ((c.tc : Thread Cert.InprojRIdeal.nD Cert.InprojRIdeal.τ).loc Cert.InprojRIdeal.main_arg5))
    (h6 : m' ((c.tc : Thread Cert.InprojRRefIdeal.nD Cert.InprojRRefIdeal.τ).loc Cert.InprojRRefIdeal.main_arg6) = m ((c.tc : Thread Cert.InprojRIdeal.nD Cert.InprojRIdeal.τ).loc Cert.InprojRIdeal.main_arg6)) :
    (shapeCast Cert.InprojRRefIdeal.S16384x256 (extractStridedSlice Cert.InprojRRefIdeal.S4x4096x256 ![0, 0, 2116] (Cert.InprojRRefIdeal.Own.projM m' c) Cert.InprojRRefIdeal.Gen.slices_S4x4096x3396_S4x4096x256_0_0_2116) Cert.InprojRRefIdeal.Gen.shapeCasts_S4x4096x256_S16384x256 : FVec Ideal Cert.InprojRRefIdeal.S16384x256 .f32)
      = (Cert.InprojRIdeal.Gen.dats m 0 c).arrAt 10 Cert.InprojRIdeal.cfg0.N := by
  refine funext fun i => ?_
  obtain ⟨t, j, rfl⟩ : ∃ (t : Fin 16384) (j : Fin 256), i = ix2 t j := ⟨i 0, i 1, eq_ix2 i⟩
  exact (Cert.InprojRRefIdeal.Own.fb_apply _ t j).trans ((entry_eq m m' c h0 h1 h2 h3 h4 h5 h6 t _).trans (Cert.InprojRIdeal.Own.fb_final m c t j).symm)

theorem ib_values (m : (ℓ : Loc Cert.InprojRIdeal.nD Cert.InprojRIdeal.τ Cert.InprojRIdeal.sig) → Buf (Elt Ideal) ℓ)
    (m' : (ℓ : Loc Cert.InprojRRefIdeal.nD Cert.InprojRRefIdeal.τ Cert.InprojRRefIdeal.sig) → Buf (Elt Ideal) ℓ) (c : Dev Cert.InprojRIdeal.nD)
    (h0 : m' ((c.tc : Thread Cert.InprojRRefIdeal.nD Cert.InprojRRefIdeal.τ).loc Cert.InprojRRefIdeal.main_arg0) = m ((c.tc : Thread Cert.InprojRIdeal.nD Cert.InprojRIdeal.τ).loc Cert.InprojRIdeal.main_arg0))
    (h1 : m' ((c.tc : Thread Cert.InprojRRefIdeal.nD Cert.InprojRRefIdeal.τ).loc Cert.InprojRRefIdeal.main_arg1) = m ((c.tc : Thread Cert.InprojRIdeal.nD Cert.InprojRIdeal.τ).loc Cert.InprojRIdeal.main_arg1))
    (h2 : m' ((c.tc : Thread Cert.InprojRRefIdeal.nD Cert.InprojRRefIdeal.τ).loc Cert.InprojRRefIdeal.main_arg2) = m ((c.tc : Thread Cert.InprojRIdeal.nD Cert.InprojRIdeal.τ).loc Cert.InprojRIdeal.main_arg2))
    (h3 : m' ((c.tc : Thread Cert.InprojRRefIdeal.nD Cert.InprojRRefIdeal.τ).loc Cert.InprojRRefIdeal.main_arg3) = m ((c.tc : Thread Cert.InprojRIdeal.nD Cert.InprojRIdeal.τ).loc Cert.InprojRIdeal.main_arg3))
    (h4 : m' ((c.tc : Thread Cert.InprojRRefIdeal.nD Cert.InprojRRefIdeal.τ).loc Cert.InprojRRefIdeal.main_arg4) = m ((c.tc : Thread Cert.InprojRIdeal.nD Cert.InprojRIdeal.τ).loc Cert.InprojRIdeal.main_arg4))
    (h5 : m' ((c.tc : Thread Cert.InprojRRefIdeal.nD Cert.InprojRRefIdeal.τ).loc Cert.InprojRRefIdeal.main_arg5) = m ((c.tc : Thread Cert.InprojRIdeal.nD Cert.InprojRIdeal.τ).loc Cert.InprojRIdeal.main_arg5))
    (h6 : m' ((c.tc : Thread Cert.InprojRRefIdeal.nD Cert.InprojRRefIdeal.τ).loc Cert.InprojRRefIdeal.main_arg6) = m ((c.tc : Thread Cert.InprojRIdeal.nD Cert.InprojRIdeal.τ).loc Cert.InprojRIdeal.main_arg6)) :
    (shapeCast Cert.InprojRRefIdeal.S16384x512 (extractStridedSlice Cert.InprojRRefIdeal.S4x4096x512 ![0, 0, 2372] (Cert.InprojRRefIdeal.Own.projM m' c) Cert.InprojRRefIdeal.Gen.slices_S4x4096x3396_S4x4096x512_0_0_2372) Cert.InprojRRefIdeal.Gen.shapeCasts_S4x4096x512_S16384x512 : FVec Ideal Cert.InprojRRefIdeal.S16384x512 .f32)
      = (Cert.InprojRIdeal.Gen.dats m 0 c).arrAt 11 Cert.InprojRIdeal.cfg0.N := by
  refine funext fun i => ?_
  obtain ⟨t, j, rfl⟩ : ∃ (t : Fin 16384) (j : Fin 512), i = ix2 t j := ⟨i 0, i 1, eq_ix2 i⟩
  exact (Cert.InprojRRefIdeal.Own.ib_apply _ t j).trans ((entry_eq m m' c h0 h1 h2 h3 h4 h5 h6 t _).trans (Cert.InprojRIdeal.Own.ib_final m c t j).symm)

theorem gb_values (m : (ℓ : Loc Cert.InprojRIdeal.nD Cert.InprojRIdeal.τ Cert.InprojRIdeal.sig) → Buf (Elt Ideal) ℓ)
    (m' : (ℓ : Loc Cert.InprojRRefIdeal.nD Cert.InprojRRefIdeal.τ Cert.InprojRRefIdeal.sig) → Buf (Elt Ideal) ℓ) (c : Dev Cert.InprojRIdeal.nD)
    (h0 : m' ((c.tc : Thread Cert.InprojRRefIdeal.nD Cert.InprojRRefIdeal.τ).loc Cert.InprojRRefIdeal.main_arg0) = m ((c.tc : Thread Cert.InprojRIdeal.nD Cert.InprojRIdeal.τ).loc Cert.InprojRIdeal.main_arg0))
    (h1 : m' ((c.tc : Thread Cert.InprojRRefIdeal.nD Cert.InprojRRefIdeal.τ).loc Cert.InprojRRefIdeal.main_arg1) = m ((c.tc : Thread Cert.InprojRIdeal.nD Cert.InprojRIdeal.τ).loc Cert.InprojRIdeal.main_arg1))
    (h2 : m' ((c.tc : Thread Cert.InprojRRefIdeal.nD Cert.InprojRRefIdeal.τ).loc Cert.InprojRRefIdeal.main_arg2) = m ((c.tc : Thread Cert.InprojRIdeal.nD Cert.InprojRIdeal.τ).loc Cert.InprojRIdeal.main_arg2))
    (h3 : m' ((c.tc : Thread Cert.InprojRRefIdeal.nD Cert.InprojRRefIdeal.τ).loc Cert.InprojRRefIdeal.main_arg3) = m ((c.tc : Thread Cert.InprojRIdeal.nD Cert.InprojRIdeal.τ).loc Cert.InprojRIdeal.main_arg3))
    (h4 : m' ((c.tc : Thread Cert.InprojRRefIdeal.nD Cert.InprojRRefIdeal.τ).loc Cert.InprojRRefIdeal.main_arg4) = m ((c.tc : Thread Cert.InprojRIdeal.nD Cert.InprojRIdeal.τ).loc Cert.InprojRIdeal.main_arg4))
    (h5 : m' ((c.tc : Thread Cert.InprojRRefIdeal.nD Cert.InprojRRefIdeal.τ).loc Cert.InprojRRefIdeal.main_arg5) = m ((c.tc : Thread Cert.InprojRIdeal.nD Cert.InprojRIdeal.τ).loc Cert.InprojRIdeal.main_arg5))
    (h6 : m' ((c.tc : Thread Cert.InprojRRefIdeal.nD Cert.InprojRRefIdeal.τ).loc Cert.InprojRRefIdeal.main_arg6) = m ((c.tc : Thread Cert.InprojRIdeal.nD Cert.InprojRIdeal.τ).loc Cert.InprojRIdeal.main_arg6)) :
    (shapeCast Cert.InprojRRefIdeal.S16384x512 (extractStridedSlice Cert.InprojRRefIdeal.S4x4096x512 ![0, 0, 2884] (Cert.InprojRRefIdeal.Own.projM m' c) Cert.InprojRRefIdeal.Gen.slices_S4x4096x3396_S4x4096x512_0_0_2884) Cert.InprojRRefIdeal.Gen.shapeCasts_S4x4096x512_S16384x512 : FVec Ideal Cert.InprojRRefIdeal.S16384x512 .f32)
      = (Cert.InprojRIdeal.Gen.dats m 0 c).arrAt 12 Cert.InprojRIdeal.cfg0.N := by
  refine funext fun i => ?_
  obtain ⟨t, j, rfl⟩ : ∃ (t : Fin 16384) (j : Fin 512), i = ix2 t j := ⟨i 0, i 1, eq_ix2 i⟩
  exact (Cert.InprojRRefIdeal.Own.gb_apply _ t j).trans ((entry_eq m m' c h0 h1 h2 h3 h4 h5 h6 t _).trans (Cert.InprojRIdeal.Own.gb_final m c t j).symm)

/-- From memories that agree on the arguments the two programs end with equal results. -/
theorem equal_results : Cert.algebraic_InprojRIdeal_InprojRRefIdeal := fun m ρ m' ρ' _ ha =>
  ⟨fun c => (Cert.InprojRIdeal.Gen.dats m 0 c).arrAt 7 Cert.InprojRIdeal.cfg0.N, fun c => (Cert.InprojRIdeal.Gen.dats m 0 c).arrAt 8 Cert.InprojRIdeal.cfg0.N, fun c => (Cert.InprojRIdeal.Gen.dats m 0 c).arrAt 9 Cert.InprojRIdeal.cfg0.N, fun c => (Cert.InprojRIdeal.Gen.dats m 0 c).arrAt 10 Cert.InprojRIdeal.cfg0.N, fun c => (Cert.InprojRIdeal.Gen.dats m 0 c).arrAt 11 Cert.InprojRIdeal.cfg0.N, fun c => (Cert.InprojRIdeal.Gen.dats m 0 c).arrAt 12 Cert.InprojRIdeal.cfg0.N,
    Cert.InprojRIdeal.Value.run_blocks (F := Ideal) m ρ,
    (θ_run Cert.InprojRRefIdeal.defs _ _).mono (fun _ h' c => ⟨(h' c).1.trans (keys_values m m' c (ha c).1 (ha c).2.1 (ha c).2.2.1 (ha c).2.2.2.1 (ha c).2.2.2.2.1 (ha c).2.2.2.2.2.1 (ha c).2.2.2.2.2.2), (h' c).2.1.trans (ikey_values m m' c (ha c).1 (ha c).2.1 (ha c).2.2.1 (ha c).2.2.2.1 (ha c).2.2.2.2.1 (ha c).2.2.2.2.2.1 (ha c).2.2.2.2.2.2), (h' c).2.2.1.trans (qb_values m m' c (ha c).1 (ha c).2.1 (ha c).2.2.1 (ha c).2.2.2.1 (ha c).2.2.2.2.1 (ha c).2.2.2.2.2.1 (ha c).2.2.2.2.2.2), (h' c).2.2.2.1.trans (fb_values m m' c (ha c).1 (ha c).2.1 (ha c).2.2.1 (ha c).2.2.2.1 (ha c).2.2.2.2.1 (ha c).2.2.2.2.2.1 (ha c).2.2.2.2.2.2), (h' c).2.2.2.2.1.trans (ib_values m m' c (ha c).1 (ha c).2.1 (ha c).2.2.1 (ha c).2.2.2.1 (ha c).2.2.2.2.1 (ha c).2.2.2.2.2.1 (ha c).2.2.2.2.2.2), (h' c).2.2.2.2.2.1.trans (gb_values m m' c (ha c).1 (ha c).2.1 (ha c).2.2.1 (ha c).2.2.2.1 (ha c).2.2.2.2.1 (ha c).2.2.2.2.2.1 (ha c).2.2.2.2.2.2), (h' c).2.2.2.2.2.2⟩)
      (Cert.InprojRRefIdeal.Value.run (F := Ideal) m' ρ')⟩

end Cert.Proof.InprojR

end
-- ==== Proof.InprojTValue.lean ====
/- The column projection's kernel, each result read at an index. -/
module

public import proofs.«01_k».proof.Proof.Gen.InprojTIdeal.Value
public import proofs.«01_k».proof.Proof.Projection
public import Idealize.ShloMosaic.Lib.Pipeline.ValueKit.Point
public import Idealize.ShloMosaic.Lib.Pointwise

@[expose] public section

set_option maxRecDepth 16384

noncomputable section

namespace Cert.InprojTIdeal.Own

open Idealize.ShloMosaic Idealize.ShloMosaic.TcCoe Idealize.ShloMosaic.Tactic
open Cert.InprojTIdeal.Gen

/-- An eighth, the scale of a head of 64. -/
abbrev eighth : EReal := Ideal.ofBits FTy.f32 0x3E000000#32
/-- A half, the scale of the head weights. -/
abbrev half : EReal := Ideal.ofBits FTy.f32 0x3F000000#32

theorem hid_apply (x : Vec Ideal S1024x512 .f32) (g : Vec Ideal S1024x1 .f32) (s b : Vec Ideal S1x1024x1 .f32) (r : Fin 512) (k : Fin 1024) :
    k0_pay3 x g s b (ix2 k r) = Proj.hid (fun i => x (ix2 i r)) (fun i => g (ix2 i (0 : Fin 1))) (fun i => s (ix3 (0 : Fin 1) i (0 : Fin 1))) (fun i => b (ix3 (0 : Fin 1) i (0 : Fin 1))) k := by
  unfold Proj.hid
  pointwise [k0_pay3]

/-- One head of a block, rotated and scaled. -/
def head (z : FVec Ideal S64x512 .f32) (c s : FVec Ideal S8x512 .f32) : FVec Ideal S64x512 .f32 :=
  mulf (concatenate S64x512 0 [⟨S8x512, subf (mulf (extractStridedSlice S8x512 ![0, 0] z slices_S64x512_o0_0_S8x512) c) (mulf (extractStridedSlice S8x512 ![8, 0] z slices_S64x512_o8_0_S8x512) s)⟩,
    ⟨S8x512, addf (mulf (extractStridedSlice S8x512 ![8, 0] z slices_S64x512_o8_0_S8x512) c) (mulf (extractStridedSlice S8x512 ![0, 0] z slices_S64x512_o0_0_S8x512) s)⟩,
    ⟨S48x512, extractStridedSlice S48x512 ![16, 0] z slices_S64x512_o16_0_S48x512⟩] concatenates_S8x512_S8x512_S48x512_S64x512_d0) (broadcast S64x512 (Scalar.ofBits .f32 0x3E000000#32))

theorem head_apply (z : FVec Ideal S64x512 .f32) (c s : FVec Ideal S8x512 .f32) (l : Fin 64) (r : Fin 512) :
    head z c s (ix2 l r) = Proj.rope (fun l => z (ix2 l r)) (fun i => c (ix2 i r)) (fun i => s (ix2 i r)) l * eighth := by
  unfold Proj.rope
  pointwise [head]
  by_cases h0 : l.val < 8
  · have e : (⟨8 + l.val, by omega⟩ : Fin 64) = ⟨l.val + 8, by omega⟩ := Fin.ext (Nat.add_comm _ _)
    simp only [dif_pos h0, e]
  · by_cases h1 : l.val < 16
    · have h2 : l.val - 8 < 8 := by omega
      have e : (⟨8 + (l.val - 8), by omega⟩ : Fin 64) = l := Fin.ext (by show 8 + (l.val - 8) = l.val; omega)
      simp only [dif_neg h0, dif_pos h1, dif_pos h2, e]
    · have h2 : ¬ l.val - 8 < 8 := by omega
      have e : (⟨16 + (l.val - 8 - 8), by omega⟩ : Fin 64) = l := Fin.ext (by show 16 + (l.val - 8 - 8) = l.val; omega)
      simp only [dif_neg h0, dif_neg h1, dif_neg h2, e]

section
variable (x0 : Vec Ideal S1024x512 .f32) (x1 : Vec Ideal S1024x1 .f32) (x2 x3 : Vec Ideal S1x1024x1 .f32) (x4 : Vec Ideal S1288x1024 .bf16) (x5 x6 : Vec Ideal S8x512 .f32)

/-- The hidden row of a token of the block. -/
def hidB (r : Fin 512) : Fin 1024 → EReal :=
  Proj.hid (fun i => x0 (ix2 i r)) (fun i => x1 (ix2 i (0 : Fin 1))) (fun i => x2 (ix3 (0 : Fin 1) i (0 : Fin 1))) (fun i => x3 (ix3 (0 : Fin 1) i (0 : Fin 1)))

theorem pay40_apply (r : Fin 512) (k : Fin 1024) : k0_pay40 x0 x1 x2 x3 x4 x5 x6 (ix2 k r) = hidB x0 x1 x2 x3 r k := by
  unfold k0_pay40 hidB
  rw [hid_apply]
  pointwise

/-- Row `j` of the block's weights against a token. -/
def colB (r : Fin 512) (j : Fin 1288) : EReal := Proj.col (hidB x0 x1 x2 x3 r) (fun k => x4 (ix2 j k))

theorem pay41_apply (j r : Fin 512) : k0_pay41 x0 x1 x2 x3 x4 x5 x6 (ix2 j r) = colB x0 x1 x2 x3 x4 r ⟨j.val, by omega⟩ := by
  refine Eq.trans (show _ = k0_pay23 (k0_pay40 x0 x1 x2 x3 x4 x5 x6) (View.ld x4 r0_4) (ix2 j r) from rfl) ?_
  unfold colB Proj.col
  pointwise [k0_pay23]
  exact Finset.sum_congr rfl fun k _ => by rw [pay40_apply, mul_comm]

theorem pay42_apply (j : Fin 256) (r : Fin 512) : k0_pay42 x0 x1 x2 x3 x4 x5 x6 (ix2 j r) = colB x0 x1 x2 x3 x4 r ⟨1024 + j.val, by omega⟩ := by
  unfold k0_pay42 colB Proj.col
  pointwise [k0_pay26]
  exact Finset.sum_congr rfl fun k _ => by rw [pay40_apply, mul_comm]

theorem val_apply (j r : Fin 512) : k0_pay23 (k0_pay40 x0 x1 x2 x3 x4 x5 x6) (View.ld x4 r0_13) (ix2 j r) = colB x0 x1 x2 x3 x4 r ⟨512 + j.val, by omega⟩ := by
  unfold colB Proj.col
  pointwise [k0_pay23]
  exact Finset.sum_congr rfl fun k _ => by rw [pay40_apply, mul_comm]

/-- A head of the block whose rows are the weights' rows from `o` on. -/
theorem headB (z : FVec Ideal S64x512 .f32) (o : ℕ) (ho : o ≤ 1216) (l : Fin 64) (r : Fin 512) (hz : ∀ l : Fin 64, z (ix2 l r) = colB x0 x1 x2 x3 x4 r ⟨o + l.val, by omega⟩) :
    head z (View.ld x5 r0_3) (View.ld x6 r0_3) (ix2 l r) = Proj.rope (fun i => colB x0 x1 x2 x3 x4 r ⟨o + i.val, by omega⟩) (fun i => x5 (ix2 i r)) (fun i => x6 (ix2 i r)) l * eighth := by
  rw [head_apply]
  refine congrArg (· * eighth) (Proj.rope_congr (funext hz) (funext fun i => ?_) (funext fun i => ?_) rfl)
  · pointwise
  · pointwise

theorem out7_apply (j r : Fin 512) :
    out0_7 x0 x1 x2 x3 x4 x5 x6 (ix2 j r)
      = Proj.rope (fun i => colB x0 x1 x2 x3 x4 r ⟨j.val / 64 * 64 + i.val, by omega⟩) (fun i => x5 (ix2 i r)) (fun i => x6 (ix2 i r)) ⟨j.val % 64, by omega⟩ * eighth := by
  canon_tiles y h
  · obtain ⟨y0, y1, rfl⟩ : ∃ (y0 : Fin 64) (y1 : Fin 512), y = ix2 y0 y1 := ⟨y 0, y 1, eq_ix2 y⟩
    obtain rfl : r = y1 := Fin.ext h1
    have h0' : j.val = 448 + y0.val := h0
    refine Eq.trans (show _ = head (extractStridedSlice S64x512 ![448, 0] (k0_pay41 x0 x1 x2 x3 x4 x5 x6) slices_S512x512_o448_0_S64x512) (View.ld x5 r0_3) (View.ld x6 r0_3) (ix2 y0 r) from rfl)
      ((headB x0 x1 x2 x3 x4 x5 x6 _ 448 (by omega) y0 r (fun l => ?_)).trans (congrArg (· * eighth) (Proj.rope_congr (funext fun i => congrArg (colB x0 x1 x2 x3 x4 r) (Fin.ext ?_)) rfl rfl (Fin.ext ?_))))
    · refine Eq.trans (show _ = k0_pay41 x0 x1 x2 x3 x4 x5 x6 (ix2 ⟨448 + l.val, by omega⟩ r) from by pointwise) ((pay41_apply x0 x1 x2 x3 x4 x5 x6 _ r).trans (congrArg (colB x0 x1 x2 x3 x4 r) (Fin.ext ?_)))
      show (448 + l.val) = 448 + l.val
      omega
    · show 448 + i.val = (j.val / 64 * 64 + i.val)
      omega
    · show y0.val = j.val % 64
      omega
  · obtain ⟨y0, y1, rfl⟩ : ∃ (y0 : Fin 64) (y1 : Fin 512), y = ix2 y0 y1 := ⟨y 0, y 1, eq_ix2 y⟩
    obtain rfl : r = y1 := Fin.ext h1
    have h0' : j.val = 384 + y0.val := h0
    refine Eq.trans (show _ = head (extractStridedSlice S64x512 ![384, 0] (k0_pay41 x0 x1 x2 x3 x4 x5 x6) slices_S512x512_o384_0_S64x512) (View.ld x5 r0_3) (View.ld x6 r0_3) (ix2 y0 r) from rfl)
      ((headB x0 x1 x2 x3 x4 x5 x6 _ 384 (by omega) y0 r (fun l => ?_)).trans (congrArg (· * eighth) (Proj.rope_congr (funext fun i => congrArg (colB x0 x1 x2 x3 x4 r) (Fin.ext ?_)) rfl rfl (Fin.ext ?_))))
    · refine Eq.trans (show _ = k0_pay41 x0 x1 x2 x3 x4 x5 x6 (ix2 ⟨384 + l.val, by omega⟩ r) from by pointwise) ((pay41_apply x0 x1 x2 x3 x4 x5 x6 _ r).trans (congrArg (colB x0 x1 x2 x3 x4 r) (Fin.ext ?_)))
      show (384 + l.val) = 384 + l.val
      omega
    · show 384 + i.val = (j.val / 64 * 64 + i.val)
      omega
    · show y0.val = j.val % 64
      omega
  · obtain ⟨y0, y1, rfl⟩ : ∃ (y0 : Fin 64) (y1 : Fin 512), y = ix2 y0 y1 := ⟨y 0, y 1, eq_ix2 y⟩
    obtain rfl : r = y1 := Fin.ext h1
    have h0' : j.val = 320 + y0.val := h0
    refine Eq.trans (show _ = head (extractStridedSlice S64x512 ![320, 0] (k0_pay41 x0 x1 x2 x3 x4 x5 x6) slices_S512x512_o320_0_S64x512) (View.ld x5 r0_3) (View.ld x6 r0_3) (ix2 y0 r) from rfl)
      ((headB x0 x1 x2 x3 x4 x5 x6 _ 320 (by omega) y0 r (fun l => ?_)).trans (congrArg (· * eighth) (Proj.rope_congr (funext fun i => congrArg (colB x0 x1 x2 x3 x4 r) (Fin.ext ?_)) rfl rfl (Fin.ext ?_))))
    · refine Eq.trans (show _ = k0_pay41 x0 x1 x2 x3 x4 x5 x6 (ix2 ⟨320 + l.val, by omega⟩ r) from by pointwise) ((pay41_apply x0 x1 x2 x3 x4 x5 x6 _ r).trans (congrArg (colB x0 x1 x2 x3 x4 r) (Fin.ext ?_)))
      show (320 + l.val) = 320 + l.val
      omega
    · show 320 + i.val = (j.val / 64 * 64 + i.val)
      omega
    · show y0.val = j.val % 64
      omega
  · obtain ⟨y0, y1, rfl⟩ : ∃ (y0 : Fin 64) (y1 : Fin 512), y = ix2 y0 y1 := ⟨y 0, y 1, eq_ix2 y⟩
    obtain rfl : r = y1 := Fin.ext h1
    have h0' : j.val = 256 + y0.val := h0
    refine Eq.trans (show _ = head (extractStridedSlice S64x512 ![256, 0] (k0_pay41 x0 x1 x2 x3 x4 x5 x6) slices_S512x512_o256_0_S64x512) (View.ld x5 r0_3) (View.ld x6 r0_3) (ix2 y0 r) from rfl)
      ((headB x0 x1 x2 x3 x4 x5 x6 _ 256 (by omega) y0 r (fun l => ?_)).trans (congrArg (· * eighth) (Proj.rope_congr (funext fun i => congrArg (colB x0 x1 x2 x3 x4 r) (Fin.ext ?_)) rfl rfl (Fin.ext ?_))))
    · refine Eq.trans (show _ = k0_pay41 x0 x1 x2 x3 x4 x5 x6 (ix2 ⟨256 + l.val, by omega⟩ r) from by pointwise) ((pay41_apply x0 x1 x2 x3 x4 x5 x6 _ r).trans (congrArg (colB x0 x1 x2 x3 x4 r) (Fin.ext ?_)))
      show (256 + l.val) = 256 + l.val
      omega
    · show 256 + i.val = (j.val / 64 * 64 + i.val)
      omega
    · show y0.val = j.val % 64
      omega
  · obtain ⟨y0, y1, rfl⟩ : ∃ (y0 : Fin 64) (y1 : Fin 512), y = ix2 y0 y1 := ⟨y 0, y 1, eq_ix2 y⟩
    obtain rfl : r = y1 := Fin.ext h1
    have h0' : j.val = 192 + y0.val := h0
    refine Eq.trans (show _ = head (extractStridedSlice S64x512 ![192, 0] (k0_pay41 x0 x1 x2 x3 x4 x5 x6) slices_S512x512_o192_0_S64x512) (View.ld x5 r0_3) (View.ld x6 r0_3) (ix2 y0 r) from rfl)
      ((headB x0 x1 x2 x3 x4 x5 x6 _ 192 (by omega) y0 r (fun l => ?_)).trans (congrArg (· * eighth) (Proj.rope_congr (funext fun i => congrArg (colB x0 x1 x2 x3 x4 r) (Fin.ext ?_)) rfl rfl (Fin.ext ?_))))
    · refine Eq.trans (show _ = k0_pay41 x0 x1 x2 x3 x4 x5 x6 (ix2 ⟨192 + l.val, by omega⟩ r) from by pointwise) ((pay41_apply x0 x1 x2 x3 x4 x5 x6 _ r).trans (congrArg (colB x0 x1 x2 x3 x4 r) (Fin.ext ?_)))
      show (192 + l.val) = 192 + l.val
      omega
    · show 192 + i.val = (j.val / 64 * 64 + i.val)
      omega
    · show y0.val = j.val % 64
      omega
  · obtain ⟨y0, y1, rfl⟩ : ∃ (y0 : Fin 64) (y1 : Fin 512), y = ix2 y0 y1 := ⟨y 0, y 1, eq_ix2 y⟩
    obtain rfl : r = y1 := Fin.ext h1
    have h0' : j.val = 128 + y0.val := h0
    refine Eq.trans (show _ = head (extractStridedSlice S64x512 ![128, 0] (k0_pay41 x0 x1 x2 x3 x4 x5 x6) slices_S512x512_o128_0_S64x512) (View.ld x5 r0_3) (View.ld x6 r0_3) (ix2 y0 r) from rfl)
      ((headB x0 x1 x2 x3 x4 x5 x6 _ 128 (by omega) y0 r (fun l => ?_)).trans (congrArg (· * eighth) (Proj.rope_congr (funext fun i => congrArg (colB x0 x1 x2 x3 x4 r) (Fin.ext ?_)) rfl rfl (Fin.ext ?_))))
    · refine Eq.trans (show _ = k0_pay41 x0 x1 x2 x3 x4 x5 x6 (ix2 ⟨128 + l.val, by omega⟩ r) from by pointwise) ((pay41_apply x0 x1 x2 x3 x4 x5 x6 _ r).trans (congrArg (colB x0 x1 x2 x3 x4 r) (Fin.ext ?_)))
      show (128 + l.val) = 128 + l.val
      omega
    · show 128 + i.val = (j.val / 64 * 64 + i.val)
      omega
    · show y0.val = j.val % 64
      omega
  · obtain ⟨y0, y1, rfl⟩ : ∃ (y0 : Fin 64) (y1 : Fin 512), y = ix2 y0 y1 := ⟨y 0, y 1, eq_ix2 y⟩
    obtain rfl : r = y1 := Fin.ext h1
    have h0' : j.val = 64 + y0.val := h0
    refine Eq.trans (show _ = head (extractStridedSlice S64x512 ![64, 0] (k0_pay41 x0 x1 x2 x3 x4 x5 x6) slices_S512x512_o64_0_S64x512) (View.ld x5 r0_3) (View.ld x6 r0_3) (ix2 y0 r) from rfl)
      ((headB x0 x1 x2 x3 x4 x5 x6 _ 64 (by omega) y0 r (fun l => ?_)).trans (congrArg (· * eighth) (Proj.rope_congr (funext fun i => congrArg (colB x0 x1 x2 x3 x4 r) (Fin.ext ?_)) rfl rfl (Fin.ext ?_))))
    · refine Eq.trans (show _ = k0_pay41 x0 x1 x2 x3 x4 x5 x6 (ix2 ⟨64 + l.val, by omega⟩ r) from by pointwise) ((pay41_apply x0 x1 x2 x3 x4 x5 x6 _ r).trans (congrArg (colB x0 x1 x2 x3 x4 r) (Fin.ext ?_)))
      show (64 + l.val) = 64 + l.val
      omega
    · show 64 + i.val = (j.val / 64 * 64 + i.val)
      omega
    · show y0.val = j.val % 64
      omega
  · obtain ⟨y0, y1, rfl⟩ : ∃ (y0 : Fin 64) (y1 : Fin 512), y = ix2 y0 y1 := ⟨y 0, y 1, eq_ix2 y⟩
    obtain rfl : r = y1 := Fin.ext h1
    have h0' : j.val = y0.val := h0
    refine Eq.trans (show _ = head (extractStridedSlice S64x512 ![0, 0] (k0_pay41 x0 x1 x2 x3 x4 x5 x6) slices_S512x512_o0_0_S64x512) (View.ld x5 r0_3) (View.ld x6 r0_3) (ix2 y0 r) from rfl)
      ((headB x0 x1 x2 x3 x4 x5 x6 _ 0 (by omega) y0 r (fun l => ?_)).trans (congrArg (· * eighth) (Proj.rope_congr (funext fun i => congrArg (colB x0 x1 x2 x3 x4 r) (Fin.ext ?_)) rfl rfl (Fin.ext ?_))))
    · refine Eq.trans (show _ = k0_pay41 x0 x1 x2 x3 x4 x5 x6 (ix2 ⟨0 + l.val, by omega⟩ r) from by pointwise) ((pay41_apply x0 x1 x2 x3 x4 x5 x6 _ r).trans (congrArg (colB x0 x1 x2 x3 x4 r) (Fin.ext ?_)))
      show (0 + l.val) = 0 + l.val
      omega
    · show 0 + i.val = (j.val / 64 * 64 + i.val)
      omega
    · show y0.val = j.val % 64
      omega

theorem out9_apply (j : Fin 256) (r : Fin 512) :
    out0_9 x0 x1 x2 x3 x4 x5 x6 (ix2 j r)
      = Proj.rope (fun i => colB x0 x1 x2 x3 x4 r ⟨1024 + (j.val / 64 * 64 + i.val), by omega⟩) (fun i => x5 (ix2 i r)) (fun i => x6 (ix2 i r)) ⟨j.val % 64, by omega⟩ * eighth := by
  canon_tiles y h
  · obtain ⟨y0, y1, rfl⟩ : ∃ (y0 : Fin 64) (y1 : Fin 512), y = ix2 y0 y1 := ⟨y 0, y 1, eq_ix2 y⟩
    obtain rfl : r = y1 := Fin.ext h1
    have h0' : j.val = 192 + y0.val := h0
    refine Eq.trans (show _ = head (extractStridedSlice S64x512 ![192, 0] (k0_pay42 x0 x1 x2 x3 x4 x5 x6) slices_S256x512_o192_0_S64x512) (View.ld x5 r0_3) (View.ld x6 r0_3) (ix2 y0 r) from rfl)
      ((headB x0 x1 x2 x3 x4 x5 x6 _ 1216 (by omega) y0 r (fun l => ?_)).trans (congrArg (· * eighth) (Proj.rope_congr (funext fun i => congrArg (colB x0 x1 x2 x3 x4 r) (Fin.ext ?_)) rfl rfl (Fin.ext ?_))))
    · refine Eq.trans (show _ = k0_pay42 x0 x1 x2 x3 x4 x5 x6 (ix2 ⟨192 + l.val, by omega⟩ r) from by pointwise) ((pay42_apply x0 x1 x2 x3 x4 x5 x6 _ r).trans (congrArg (colB x0 x1 x2 x3 x4 r) (Fin.ext ?_)))
      show 1024 + (192 + l.val) = 1216 + l.val
      omega
    · show 1216 + i.val = 1024 + (j.val / 64 * 64 + i.val)
      omega
    · show y0.val = j.val % 64
      omega
  · obtain ⟨y0, y1, rfl⟩ : ∃ (y0 : Fin 64) (y1 : Fin 512), y = ix2 y0 y1 := ⟨y 0, y 1, eq_ix2 y⟩
    obtain rfl : r = y1 := Fin.ext h1
    have h0' : j.val = 128 + y0.val := h0
    refine Eq.trans (show _ = head (extractStridedSlice S64x512 ![128, 0] (k0_pay42 x0 x1 x2 x3 x4 x5 x6) slices_S256x512_o128_0_S64x512) (View.ld x5 r0_3) (View.ld x6 r0_3) (ix2 y0 r) from rfl)
      ((headB x0 x1 x2 x3 x4 x5 x6 _ 1152 (by omega) y0 r (fun l => ?_)).trans (congrArg (· * eighth) (Proj.rope_congr (funext fun i => congrArg (colB x0 x1 x2 x3 x4 r) (Fin.ext ?_)) rfl rfl (Fin.ext ?_))))
    · refine Eq.trans (show _ = k0_pay42 x0 x1 x2 x3 x4 x5 x6 (ix2 ⟨128 + l.val, by omega⟩ r) from by pointwise) ((pay42_apply x0 x1 x2 x3 x4 x5 x6 _ r).trans (congrArg (colB x0 x1 x2 x3 x4 r) (Fin.ext ?_)))
      show 1024 + (128 + l.val) = 1152 + l.val
      omega
    · show 1152 + i.val = 1024 + (j.val / 64 * 64 + i.val)
      omega
    · show y0.val = j.val % 64
      omega
  · obtain ⟨y0, y1, rfl⟩ : ∃ (y0 : Fin 64) (y1 : Fin 512), y = ix2 y0 y1 := ⟨y 0, y 1, eq_ix2 y⟩
    obtain rfl : r = y1 := Fin.ext h1
    have h0' : j.val = 64 + y0.val := h0
    refine Eq.trans (show _ = head (extractStridedSlice S64x512 ![64, 0] (k0_pay42 x0 x1 x2 x3 x4 x5 x6) slices_S256x512_o64_0_S64x512) (View.ld x5 r0_3) (View.ld x6 r0_3) (ix2 y0 r) from rfl)
      ((headB x0 x1 x2 x3 x4 x5 x6 _ 1088 (by omega) y0 r (fun l => ?_)).trans (congrArg (· * eighth) (Proj.rope_congr (funext fun i => congrArg (colB x0 x1 x2 x3 x4 r) (Fin.ext ?_)) rfl rfl (Fin.ext ?_))))
    · refine Eq.trans (show _ = k0_pay42 x0 x1 x2 x3 x4 x5 x6 (ix2 ⟨64 + l.val, by omega⟩ r) from by pointwise) ((pay42_apply x0 x1 x2 x3 x4 x5 x6 _ r).trans (congrArg (colB x0 x1 x2 x3 x4 r) (Fin.ext ?_)))
      show 1024 + (64 + l.val) = 1088 + l.val
      omega
    · show 1088 + i.val = 1024 + (j.val / 64 * 64 + i.val)
      omega
    · show y0.val = j.val % 64
      omega
  · obtain ⟨y0, y1, rfl⟩ : ∃ (y0 : Fin 64) (y1 : Fin 512), y = ix2 y0 y1 := ⟨y 0, y 1, eq_ix2 y⟩
    obtain rfl : r = y1 := Fin.ext h1
    have h0' : j.val = y0.val := h0
    refine Eq.trans (show _ = head (extractStridedSlice S64x512 ![0, 0] (k0_pay42 x0 x1 x2 x3 x4 x5 x6) slices_S256x512_o0_0_S64x512) (View.ld x5 r0_3) (View.ld x6 r0_3) (ix2 y0 r) from rfl)
      ((headB x0 x1 x2 x3 x4 x5 x6 _ 1024 (by omega) y0 r (fun l => ?_)).trans (congrArg (· * eighth) (Proj.rope_congr (funext fun i => congrArg (colB x0 x1 x2 x3 x4 r) (Fin.ext ?_)) rfl rfl (Fin.ext ?_))))
    · refine Eq.trans (show _ = k0_pay42 x0 x1 x2 x3 x4 x5 x6 (ix2 ⟨0 + l.val, by omega⟩ r) from by pointwise) ((pay42_apply x0 x1 x2 x3 x4 x5 x6 _ r).trans (congrArg (colB x0 x1 x2 x3 x4 r) (Fin.ext ?_)))
      show 1024 + (0 + l.val) = 1024 + l.val
      omega
    · show 1024 + i.val = 1024 + (j.val / 64 * 64 + i.val)
      omega
    · show y0.val = j.val % 64
      omega

theorem out8_apply (b : Fin 2) (j : Fin 512) (q : Fin 256) :
    out0_8 x0 x1 x2 x3 x4 x5 x6 (ix3 b j q) = colB x0 x1 x2 x3 x4 ⟨b.val * 256 + q.val, by omega⟩ ⟨512 + j.val, by omega⟩ := by
  canon_tiles y h
  · obtain ⟨y0, y1, y2, rfl⟩ : ∃ (y0 : Fin 1) (y1 : Fin 512) (y2 : Fin 256), y = ix3 y0 y1 y2 := ⟨y 0, y 1, y 2, eq_ix3 y⟩
    obtain rfl : j = y1 := Fin.ext h1
    obtain rfl : q = y2 := Fin.ext h2
    have h0' : b.val = 1 + y0.val := h0
    refine Eq.trans (show _ = k0_pay23 (k0_pay40 x0 x1 x2 x3 x4 x5 x6) (View.ld x4 r0_13) (ix2 j ⟨256 + q.val, by omega⟩) from by pointwise [k0_pay25]) ((val_apply x0 x1 x2 x3 x4 x5 x6 j _).trans (congrArg (fun r => colB x0 x1 x2 x3 x4 r _) (Fin.ext ?_)))
    show 256 + q.val = b.val * 256 + q.val
    omega
  · obtain ⟨y0, y1, y2, rfl⟩ : ∃ (y0 : Fin 1) (y1 : Fin 512) (y2 : Fin 256), y = ix3 y0 y1 y2 := ⟨y 0, y 1, y 2, eq_ix3 y⟩
    obtain rfl : j = y1 := Fin.ext h1
    obtain rfl : q = y2 := Fin.ext h2
    have h0' : b.val = y0.val := h0
    refine Eq.trans (show _ = k0_pay23 (k0_pay40 x0 x1 x2 x3 x4 x5 x6) (View.ld x4 r0_13) (ix2 j ⟨q.val, by omega⟩) from by pointwise [k0_pay24]) ((val_apply x0 x1 x2 x3 x4 x5 x6 j _).trans (congrArg (fun r => colB x0 x1 x2 x3 x4 r _) (Fin.ext ?_)))
    show q.val = b.val * 256 + q.val
    omega

theorem out10_apply (j : Fin 8) (r : Fin 512) :
    out0_10 x0 x1 x2 x3 x4 x5 x6 (ix2 j r) = colB x0 x1 x2 x3 x4 r ⟨1280 + j.val, by omega⟩ * half := by
  canon_tiles y h
  obtain ⟨y0, y1, rfl⟩ : ∃ (y0 : Fin 8) (y1 : Fin 512), y = ix2 y0 y1 := ⟨y 0, y 1, eq_ix2 y⟩
  obtain rfl : j = y0 := Fin.ext h0
  obtain rfl : r = y1 := Fin.ext h1
  unfold colB Proj.col
  pointwise [k0_pay2]
  exact congrArg (· * half) (Finset.sum_congr rfl fun k _ => by rw [pay40_apply, mul_comm])

end

end Cert.InprojTIdeal.Own

end
-- ==== Proof.InprojTFinal.lean ====
/- The column projection's results after the run, entry by entry, in the launch's arguments. -/
module

public import proofs.«01_k».proof.Proof.InprojTValue

@[expose] public section

set_option maxRecDepth 16384

noncomputable section

namespace Cert.InprojTIdeal.Own

open Idealize.ShloMosaic Idealize.ShloMosaic.TcCoe Idealize.ShloMosaic.Tactic
open Cert.InprojTIdeal.Gen Cert.InprojTIdeal.Value

/-! ## What the host lays out -/

/-- The column projection's weights, a row a column of the projection. -/
def wt (w : FVec Ideal S1024x3396 .f32) : FVec Ideal S1288x1024 .bf16 :=
  truncf .bf16 (transpose S1288x1024 [1, 0] (concatenate S1024x1288 1 [⟨S1024x512, extractStridedSlice S1024x512 ![0, 0] w slices_S1024x3396_S1024x512_0_0⟩, ⟨S1024x512, extractStridedSlice S1024x512 ![0, 1024] w slices_S1024x3396_S1024x512_0_1024⟩,
    ⟨S1024x256, extractStridedSlice S1024x256 ![0, 1536] w slices_S1024x3396_S1024x256_0_1536⟩, ⟨S1024x4, extractStridedSlice S1024x4 ![0, 1856] w slices_S1024x3396_S1024x4_0_1856⟩,
    ⟨S1024x4, broadcastInDim S1024x4 ![] bcast_S_S1024x4 (constant S_ .f32 0x00000000#32)⟩] concatenates_S1024x512_S1024x512_S1024x256_S1024x4_S1024x4_S1024x1288_d1) transposes_S1024x1288_S1288x1024_1_0) bitsLt_bf16_f32

variable (m : (ℓ : Loc nD τ sig) → Buf (Elt Ideal) ℓ)

theorem v14_eq (c : Dev nD) : V m c main_v14 = wt (m ((c.tc : Thread nD τ).loc main_arg4)) := by
  unfold V
  after_results_simp <;> (try dsimp only [Matrix.cons_val]) <;> (try after_results_simp) <;> rfl
theorem v15_eq (c : Dev nD) : V m c main_v15 = transpose S1024x16384 [1, 0] (shapeCast S16384x1024 (m ((c.tc : Thread nD τ).loc main_arg0)) shapeCasts_S4x4096x1024_S16384x1024) transposes_S16384x1024_S1024x16384_1_0 := by
  unfold V
  after_results_simp <;> (try dsimp only [Matrix.cons_val]) <;> (try after_results_simp) <;> rfl
theorem v16_eq (c : Dev nD) : V m c main_v16 = broadcastInDim S1024x1 ![0] bcast_S1024_S1024x1_0 (m ((c.tc : Thread nD τ).loc main_arg1)) := by
  unfold V
  after_results_simp <;> (try dsimp only [Matrix.cons_val]) <;> (try after_results_simp) <;> rfl
theorem v17_eq (c : Dev nD) : V m c main_v17 = broadcastInDim S4x1024x1 ![0, 1] bcast_S4x1024_S4x1024x1_0_1 (m ((c.tc : Thread nD τ).loc main_arg2)) := by
  unfold V
  after_results_simp <;> (try dsimp only [Matrix.cons_val]) <;> (try after_results_simp) <;> rfl
theorem v18_eq (c : Dev nD) : V m c main_v18 = broadcastInDim S4x1024x1 ![0, 1] bcast_S4x1024_S4x1024x1_0_1 (m ((c.tc : Thread nD τ).loc main_arg3)) := by
  unfold V
  after_results_simp <;> (try dsimp only [Matrix.cons_val]) <;> (try after_results_simp) <;> rfl
theorem V_arg5_eq (c : Dev nD) : V m c main_arg5 = m ((c.tc : Thread nD τ).loc main_arg5) := by
  unfold V
  after_results_simp <;> (try dsimp only [Matrix.cons_val]) <;> (try after_results_simp) <;> rfl
theorem V_arg6_eq (c : Dev nD) : V m c main_arg6 = m ((c.tc : Thread nD τ).loc main_arg6) := by
  unfold V
  after_results_simp <;> (try dsimp only [Matrix.cons_val]) <;> (try after_results_simp) <;> rfl

theorem wt_query (w : FVec Ideal S1024x3396 .f32) (k : Fin 1024) (j : Fin 1288) (q : Fin 3396) (h : j.val < 512) (hq : q.val = j.val) : wt w (ix2 j k) = w (ix2 k q) := by
  pointwise [wt]
  rw [dif_pos h]
  exact congrArg (fun q => w (ix2 k q)) (Fin.ext hq.symm)
theorem wt_rest (w : FVec Ideal S1024x3396 .f32) (k : Fin 1024) (j : Fin 1288) (q : Fin 3396) (h0 : 512 ≤ j.val) (h : j.val < 1280) (hq : q.val = 512 + j.val) : wt w (ix2 j k) = w (ix2 k q) := by
  have key (n : ℕ) (hn : n < 3396) (e : n = q.val) : w (ix2 k ⟨n, hn⟩) = w (ix2 k q) := congrArg (fun q => w (ix2 k q)) (Fin.ext e)
  have hj := j.isLt
  pointwise [wt]
  rw [dif_neg (by omega)]
  split_ifs <;> first | (exact key _ _ (by omega)) | (exfalso; omega)
theorem wt_weight (w : FVec Ideal S1024x3396 .f32) (k : Fin 1024) (j : Fin 1288) (q : Fin 3396) (h0 : 1280 ≤ j.val) (h : j.val < 1284) (hq : q.val = 576 + j.val) : wt w (ix2 j k) = w (ix2 k q) := by
  have key (n : ℕ) (hn : n < 3396) (e : n = q.val) : w (ix2 k ⟨n, hn⟩) = w (ix2 k q) := congrArg (fun q => w (ix2 k q)) (Fin.ext e)
  pointwise [wt]
  rw [dif_neg (by omega), dif_neg (by omega), dif_neg (by omega), dif_pos (by omega)]
  exact key _ _ (by omega)
theorem wt_zero (w : FVec Ideal S1024x3396 .f32) (k : Fin 1024) (j : Fin 1288) (h0 : 1284 ≤ j.val) : wt w (ix2 j k) = 0 := by
  pointwise [wt]
  rw [dif_neg (by omega), dif_neg (by omega), dif_neg (by omega), dif_neg (by omega)]

/-! ## The blocks -/

theorem ind_0 : ∀ t : Fin cfg0.N, win0_0.index t = ![0, t.val] := (by decide +kernel : ∀ t : Fin grid0.N, win0_0.index t = ![0, t.val])
theorem ind_1 : ∀ t : Fin cfg0.N, win0_1.index t = ![0, 0] := (by decide +kernel : ∀ t : Fin grid0.N, win0_1.index t = ![0, 0])
theorem ind_2 : ∀ t : Fin cfg0.N, win0_2.index t = ![t.val / 8, 0, 0] := (by decide +kernel : ∀ t : Fin grid0.N, win0_2.index t = ![t.val / 8, 0, 0])
theorem ind_3 : ∀ t : Fin cfg0.N, win0_3.index t = ![t.val / 8, 0, 0] := (by decide +kernel : ∀ t : Fin grid0.N, win0_3.index t = ![t.val / 8, 0, 0])
theorem ind_4 : ∀ t : Fin cfg0.N, win0_4.index t = ![0, 0] := (by decide +kernel : ∀ t : Fin grid0.N, win0_4.index t = ![0, 0])
theorem ind_5 : ∀ t : Fin cfg0.N, win0_5.index t = ![0, t.val] := (by decide +kernel : ∀ t : Fin grid0.N, win0_5.index t = ![0, t.val])
theorem ind_6 : ∀ t : Fin cfg0.N, win0_6.index t = ![0, t.val] := (by decide +kernel : ∀ t : Fin grid0.N, win0_6.index t = ![0, t.val])
theorem ind_7 : ∀ t : Fin cfg0.N, win0_7.index t = ![0, t.val] := (by decide +kernel : ∀ t : Fin grid0.N, win0_7.index t = ![0, t.val])
theorem ind_8 : ∀ t : Fin cfg0.N, win0_8.index t = ![t.val, 0, 0] := (by decide +kernel : ∀ t : Fin grid0.N, win0_8.index t = ![t.val, 0, 0])
theorem ind_9 : ∀ t : Fin cfg0.N, win0_9.index t = ![0, t.val] := (by decide +kernel : ∀ t : Fin grid0.N, win0_9.index t = ![0, t.val])
theorem ind_10 : ∀ t : Fin cfg0.N, win0_10.index t = ![0, t.val] := (by decide +kernel : ∀ t : Fin grid0.N, win0_10.index t = ![0, t.val])
theorem fl_7 : ∀ t : Fin cfg0.N, (cfg0.win 7).flush t = true := (by decide +kernel : ∀ t : Fin grid0.N, win0_7.flush t = true)
theorem fl_8 : ∀ t : Fin cfg0.N, (cfg0.win 8).flush t = true := (by decide +kernel : ∀ t : Fin grid0.N, win0_8.flush t = true)
theorem fl_9 : ∀ t : Fin cfg0.N, (cfg0.win 9).flush t = true := (by decide +kernel : ∀ t : Fin grid0.N, win0_9.flush t = true)
theorem fl_10 : ∀ t : Fin cfg0.N, (cfg0.win 10).flush t = true := (by decide +kernel : ∀ t : Fin grid0.N, win0_10.flush t = true)

theorem N_eq : grid0.N = 32 := by decide +kernel

/-- The point at which token `t` is worked on. -/
def point (t : Fin 16384) : Fin cfg0.N := ⟨t.val / 512, lt_of_lt_of_eq (by omega) N_eq.symm⟩
/-- Its column in the point's block. -/
def row (t : Fin 16384) : Fin 512 := ⟨t.val % 512, by omega⟩

theorem at_point (t : Fin 16384) : (point t).val * 512 + (row t).val = t.val := by
  show t.val / 512 * 512 + t.val % 512 = t.val
  omega
theorem batch_point (t : Fin 16384) : (point t).val / 8 = (Proj.bat t).val := by
  show t.val / 512 / 8 = t.val / 4096
  omega

theorem flat_apply (x : FVec Ideal S4x4096x1024 .f32) (t : Fin 16384) (k : Fin 1024) :
    (transpose S1024x16384 [1, 0] (shapeCast S16384x1024 x shapeCasts_S4x4096x1024_S16384x1024 : FVec Ideal S16384x1024 .f32) transposes_S16384x1024_S1024x16384_1_0 : FVec Ideal S1024x16384 .f32) (ix2 k t) = x (ix3 (Proj.bat t) (Proj.pos t) k) := by
  pointwise
  rfl
theorem one_apply (x : FVec Ideal S1024 .f32) (k : Fin 1024) :
    (broadcastInDim S1024x1 ![0] bcast_S1024_S1024x1_0 x : FVec Ideal S1024x1 .f32) (ix2 k (0 : Fin 1)) = x (ix1 k) := by
  pointwise
theorem batch_apply (x : FVec Ideal S4x1024 .f32) (b : Fin 4) (k : Fin 1024) :
    (broadcastInDim S4x1024x1 ![0, 1] bcast_S4x1024_S4x1024x1_0_1 x : FVec Ideal S4x1024x1 .f32) (ix3 b k (0 : Fin 1)) = x (ix2 b k) := by
  pointwise

theorem b0 (c : Dev nD) (t : Fin 16384) (k : Fin 1024) :
    iblk m c 0 (point t) (ix2 k (row t)) = (m ((c.tc : Thread nD τ).loc main_arg0) : FVec Ideal S4x4096x1024 .f32) (ix3 (Proj.bat t) (Proj.pos t) k) := by
  have e := ind_0 (point t)
  have p := at_point t
  have h : iblk m c 0 (point t) (ix2 k (row t)) = (V m c main_v15 : FVec Ideal S1024x16384 .f32) (ix2 k t) := by
    blk_ext [iblk, e]
  exact h.trans ((congrFun (v15_eq m c) _).trans (flat_apply _ t k))
theorem b1 (c : Dev nD) (t : Fin 16384) (k : Fin 1024) :
    iblk m c 1 (point t) (ix2 k (0 : Fin 1)) = (m ((c.tc : Thread nD τ).loc main_arg1) : FVec Ideal S1024 .f32) (ix1 k) := by
  have e := ind_1 (point t)
  have h : iblk m c 1 (point t) (ix2 k (0 : Fin 1)) = (V m c main_v16 : FVec Ideal S1024x1 .f32) (ix2 k (0 : Fin 1)) := by
    blk_ext [iblk, e]
  exact h.trans ((congrFun (v16_eq m c) _).trans (one_apply _ k))
theorem b2 (c : Dev nD) (t : Fin 16384) (k : Fin 1024) :
    iblk m c 2 (point t) (ix3 (0 : Fin 1) k (0 : Fin 1)) = (m ((c.tc : Thread nD τ).loc main_arg2) : FVec Ideal S4x1024 .f32) (ix2 (Proj.bat t) k) := by
  have e := ind_2 (point t)
  have p := batch_point t
  have h : iblk m c 2 (point t) (ix3 (0 : Fin 1) k (0 : Fin 1)) = (V m c main_v17 : FVec Ideal S4x1024x1 .f32) (ix3 (Proj.bat t) k (0 : Fin 1)) := by
    blk_ext [iblk, e]
  exact h.trans ((congrFun (v17_eq m c) _).trans (batch_apply _ _ k))
theorem b3 (c : Dev nD) (t : Fin 16384) (k : Fin 1024) :
    iblk m c 3 (point t) (ix3 (0 : Fin 1) k (0 : Fin 1)) = (m ((c.tc : Thread nD τ).loc main_arg3) : FVec Ideal S4x1024 .f32) (ix2 (Proj.bat t) k) := by
  have e := ind_3 (point t)
  have p := batch_point t
  have h : iblk m c 3 (point t) (ix3 (0 : Fin 1) k (0 : Fin 1)) = (V m c main_v18 : FVec Ideal S4x1024x1 .f32) (ix3 (Proj.bat t) k (0 : Fin 1)) := by
    blk_ext [iblk, e]
  exact h.trans ((congrFun (v18_eq m c) _).trans (batch_apply _ _ k))
theorem b4 (c : Dev nD) (t : Fin 16384) (j : Fin 1288) (k : Fin 1024) :
    iblk m c 4 (point t) (ix2 j k) = wt (m ((c.tc : Thread nD τ).loc main_arg4)) (ix2 j k) := by
  have e := ind_4 (point t)
  have h : iblk m c 4 (point t) (ix2 j k) = (V m c main_v14 : FVec Ideal S1288x1024 .bf16) (ix2 j k) := by
    blk_ext [iblk, e]
  exact h.trans (congrFun (v14_eq m c) _)
theorem b5 (c : Dev nD) (t : Fin 16384) (i : Fin 8) :
    iblk m c 5 (point t) (ix2 i (row t)) = (m ((c.tc : Thread nD τ).loc main_arg5) : FVec Ideal S8x16384 .f32) (ix2 i t) := by
  have e := ind_5 (point t)
  have p := at_point t
  have h : iblk m c 5 (point t) (ix2 i (row t)) = (V m c main_arg5 : FVec Ideal S8x16384 .f32) (ix2 i t) := by
    blk_ext [iblk, e]
  exact h.trans (congrFun (V_arg5_eq m c) _)
theorem b6 (c : Dev nD) (t : Fin 16384) (i : Fin 8) :
    iblk m c 6 (point t) (ix2 i (row t)) = (m ((c.tc : Thread nD τ).loc main_arg6) : FVec Ideal S8x16384 .f32) (ix2 i t) := by
  have e := ind_6 (point t)
  have p := at_point t
  have h : iblk m c 6 (point t) (ix2 i (row t)) = (V m c main_arg6 : FVec Ideal S8x16384 .f32) (ix2 i t) := by
    blk_ext [iblk, e]
  exact h.trans (congrFun (V_arg6_eq m c) _)

/-! ## The results -/

/-- Entry `j` of token `t`, in the launch's arguments. -/
abbrev ent (c : Dev nD) (t : Fin 16384) (j : Fin 3396) : EReal :=
  Proj.entry (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) t j
/-- The rotation's cosines at token `t`. -/
abbrev cosT (c : Dev nD) (t : Fin 16384) (i : Fin 8) : EReal := (m ((c.tc : Thread nD τ).loc main_arg5) : FVec Ideal S8x16384 .f32) (ix2 i t)
/-- The rotation's sines at token `t`. -/
abbrev sinT (c : Dev nD) (t : Fin 16384) (i : Fin 8) : EReal := (m ((c.tc : Thread nD τ).loc main_arg6) : FVec Ideal S8x16384 .f32) (ix2 i t)

theorem final_7 (c : Dev nD) (t : Fin 16384) (j : Fin 512) :
    ((dats m 0 c).arrAt 7 cfg0.N : FVec Ideal S512x16384 .bf16) (ix2 j t) = out0_7 (iblk m c 0 (point t)) (iblk m c 1 (point t)) (iblk m c 2 (point t)) (iblk m c 3 (point t)) (iblk m c 4 (point t)) (iblk m c 5 (point t)) (iblk m c 6 (point t)) (ix2 j (row t)) := by
  have b := (blocks7 m c (point t) (fl_7 (point t))).trans (flushed7 m c (point t))
  have e := ind_7 (point t)
  have p := at_point t
  have q := congrFun b (ix2 j (row t))
  refine Eq.trans ?_ q
  blk_ext [e]

theorem final_9 (c : Dev nD) (t : Fin 16384) (j : Fin 256) :
    ((dats m 0 c).arrAt 9 cfg0.N : FVec Ideal S256x16384 .f32) (ix2 j t) = out0_9 (iblk m c 0 (point t)) (iblk m c 1 (point t)) (iblk m c 2 (point t)) (iblk m c 3 (point t)) (iblk m c 4 (point t)) (iblk m c 5 (point t)) (iblk m c 6 (point t)) (ix2 j (row t)) := by
  have b := (blocks9 m c (point t) (fl_9 (point t))).trans (flushed9 m c (point t))
  have e := ind_9 (point t)
  have p := at_point t
  have q := congrFun b (ix2 j (row t))
  refine Eq.trans ?_ q
  blk_ext [e]

theorem final_10 (c : Dev nD) (t : Fin 16384) (j : Fin 8) :
    ((dats m 0 c).arrAt 10 cfg0.N : FVec Ideal S8x16384 .f32) (ix2 j t) = out0_10 (iblk m c 0 (point t)) (iblk m c 1 (point t)) (iblk m c 2 (point t)) (iblk m c 3 (point t)) (iblk m c 4 (point t)) (iblk m c 5 (point t)) (iblk m c 6 (point t)) (ix2 j (row t)) := by
  have b := (blocks10 m c (point t) (fl_10 (point t))).trans (flushed10 m c (point t))
  have e := ind_10 (point t)
  have p := at_point t
  have q := congrFun b (ix2 j (row t))
  refine Eq.trans ?_ q
  blk_ext [e]

theorem final_8 (c : Dev nD) (t : Fin 16384) (b : Fin 64) (j : Fin 512) (q : Fin 256) (ht : t.val = b.val * 256 + q.val) :
    ((dats m 0 c).arrAt 8 cfg0.N : FVec Ideal S64x512x256 .bf16) (ix3 b j q) = out0_8 (iblk m c 0 (point t)) (iblk m c 1 (point t)) (iblk m c 2 (point t)) (iblk m c 3 (point t)) (iblk m c 4 (point t)) (iblk m c 5 (point t)) (iblk m c 6 (point t)) (ix3 (⟨b.val % 2, by omega⟩ : Fin 2) j q) := by
  have h := (blocks8 m c (point t) (fl_8 (point t))).trans (flushed8 m c (point t))
  have e := ind_8 (point t)
  have p : (point t).val * 2 + b.val % 2 = b.val := by
    show t.val / 512 * 2 + b.val % 2 = b.val
    omega
  have q := congrFun h (ix3 (⟨b.val % 2, by omega⟩ : Fin 2) j q)
  refine Eq.trans ?_ q
  blk_ext [e]

/-- The block's normalised column is the token's row. -/
theorem hid_block (c : Dev nD) (t : Fin 16384) :
    hidB (iblk m c 0 (point t)) (iblk m c 1 (point t)) (iblk m c 2 (point t)) (iblk m c 3 (point t)) (row t)
      = Proj.hid (fun i => (m ((c.tc : Thread nD τ).loc main_arg0) : FVec Ideal S4x4096x1024 .f32) (ix3 (Proj.bat t) (Proj.pos t) i))
          (fun i => (m ((c.tc : Thread nD τ).loc main_arg1) : FVec Ideal S1024 .f32) (ix1 i))
          (fun i => (m ((c.tc : Thread nD τ).loc main_arg2) : FVec Ideal S4x1024 .f32) (ix2 (Proj.bat t) i))
          (fun i => (m ((c.tc : Thread nD τ).loc main_arg3) : FVec Ideal S4x1024 .f32) (ix2 (Proj.bat t) i)) := by
  unfold hidB
  rw [funext (fun k => b0 m c t k), funext (fun k => b1 m c t k), funext (fun k => b2 m c t k), funext (fun k => b3 m c t k)]

/-- A row of the block's projection is the token's entry. -/
theorem col_block (c : Dev nD) (t : Fin 16384) (j : Fin 1288) (q : Fin 3396)
    (h : ∀ k, wt (m ((c.tc : Thread nD τ).loc main_arg4)) (ix2 j k) = (m ((c.tc : Thread nD τ).loc main_arg4) : FVec Ideal S1024x3396 .f32) (ix2 k q)) :
    colB (iblk m c 0 (point t)) (iblk m c 1 (point t)) (iblk m c 2 (point t)) (iblk m c 3 (point t)) (iblk m c 4 (point t)) (row t) j = ent m c t q :=
  congrArg₂ Proj.col (hid_block m c t) (funext fun k => (b4 m c t j k).trans (h k))

theorem col_block_zero (c : Dev nD) (t : Fin 16384) (j : Fin 1288) (h : ∀ k, wt (m ((c.tc : Thread nD τ).loc main_arg4)) (ix2 j k) = 0) :
    colB (iblk m c 0 (point t)) (iblk m c 1 (point t)) (iblk m c 2 (point t)) (iblk m c 3 (point t)) (iblk m c 4 (point t)) (row t) j = 0 :=
  (congrArg (Proj.col _) (funext fun k => (b4 m c t j k).trans (h k))).trans (Proj.col_zero _)

theorem queries_final (c : Dev nD) (j : Fin 512) (t : Fin 16384) :
    ((dats m 0 c).arrAt 7 cfg0.N : FVec Ideal S512x16384 .bf16) (ix2 j t)
      = Proj.rope (fun l => ent m c t ⟨j.val / 64 * 64 + l.val, by omega⟩) (cosT m c t) (sinT m c t) ⟨j.val % 64, by omega⟩ * eighth := by
  refine (final_7 m c t j).trans ((out7_apply _ _ _ _ _ _ _ j (row t)).trans ?_)
  exact congrArg (· * eighth) (Proj.rope_congr (funext fun l => col_block m c t _ _ fun k => wt_query _ k _ _ (by show j.val / 64 * 64 + l.val < 512; omega) rfl) (funext fun i => b5 m c t i) (funext fun i => b6 m c t i) rfl)

theorem vals_final (c : Dev nD) (t : Fin 16384) (b : Fin 64) (j : Fin 512) (q : Fin 256) (ht : t.val = b.val * 256 + q.val) :
    ((dats m 0 c).arrAt 8 cfg0.N : FVec Ideal S64x512x256 .bf16) (ix3 b j q) = ent m c t ⟨1024 + j.val, by omega⟩ := by
  refine (final_8 m c t b j q ht).trans ((out8_apply _ _ _ _ _ _ _ _ j q).trans ?_)
  have e : (⟨b.val % 2 * 256 + q.val, by omega⟩ : Fin 512) = row t := Fin.ext (by show b.val % 2 * 256 + q.val = t.val % 512; omega)
  refine (congrArg (fun r => colB (iblk m c 0 (point t)) (iblk m c 1 (point t)) (iblk m c 2 (point t)) (iblk m c 3 (point t)) (iblk m c 4 (point t)) r _) e).trans ?_
  exact col_block m c t _ _ fun k => wt_rest _ k _ _ (by show 512 ≤ 512 + j.val; omega) (by show 512 + j.val < 1280; omega) (by show 1024 + j.val = 512 + (512 + j.val); omega)

theorem iqueries_final (c : Dev nD) (j : Fin 256) (t : Fin 16384) :
    ((dats m 0 c).arrAt 9 cfg0.N : FVec Ideal S256x16384 .f32) (ix2 j t)
      = Proj.rope (fun l => ent m c t ⟨1536 + (j.val / 64 * 64 + l.val), by omega⟩) (cosT m c t) (sinT m c t) ⟨j.val % 64, by omega⟩ * eighth := by
  refine (final_9 m c t j).trans ((out9_apply _ _ _ _ _ _ _ j (row t)).trans ?_)
  exact congrArg (· * eighth) (Proj.rope_congr (funext fun l => col_block m c t _ _ fun k => wt_rest _ k _ _ (by show 512 ≤ 1024 + (j.val / 64 * 64 + l.val); omega)
    (by show 1024 + (j.val / 64 * 64 + l.val) < 1280; omega) (by show 1536 + (j.val / 64 * 64 + l.val) = 512 + (1024 + (j.val / 64 * 64 + l.val)); omega)) (funext fun i => b5 m c t i) (funext fun i => b6 m c t i) rfl)

theorem weights_final (c : Dev nD) (j : Fin 8) (t : Fin 16384) :
    ((dats m 0 c).arrAt 10 cfg0.N : FVec Ideal S8x16384 .f32) (ix2 j t) = if h : j.val < 4 then ent m c t ⟨1856 + j.val, by omega⟩ * half else 0 := by
  refine (final_10 m c t j).trans ((out10_apply _ _ _ _ _ _ _ j (row t)).trans ?_)
  by_cases h : j.val < 4
  · rw [dif_pos h]
    exact congrArg (· * half) (col_block m c t _ _ fun k => wt_weight _ k _ _ (by show 1280 ≤ 1280 + j.val; omega) (by show 1280 + j.val < 1284; omega) (by show 1856 + j.val = 576 + (1280 + j.val); omega))
  · rw [dif_neg h]
    exact (congrArg (· * half) (col_block_zero m c t _ fun k => wt_zero _ k _ (by show 1284 ≤ 1280 + j.val; omega))).trans (zero_mul _)

end Cert.InprojTIdeal.Own

end
-- ==== Proof.InprojTRef.lean ====
/- The results of the column projection's reference, read at an index. -/
module

public import proofs.«01_k».proof.Proof.Gen.InprojTRefIdeal.Run
public import proofs.«01_k».proof.Proof.Projection
public import Idealize.ShloMosaic.Lib.Pointwise

@[expose] public section

set_option maxRecDepth 16384

noncomputable section

namespace Cert.InprojTRefIdeal.Own

open Idealize.ShloMosaic Idealize.ShloMosaic.TcCoe
open Cert.InprojTRefIdeal.Gen Cert.InprojTRefIdeal.Value

/-- The normalised, modulated input. -/
def normed (x : FVec Ideal S4x4096x1024 .f32) (g : FVec Ideal S1024 .f32) (sc sh : FVec Ideal S4x1024 .f32) : FVec Ideal S4x4096x1024 .f32 :=
  addf (mulf (mulf (mulf x (broadcastInDim S4x4096x1024 ![0, 1, 2] bcast_S4x4096x1_S4x4096x1024_0_1_2 (Host.rsqrt (addf (Host.divf (broadcastInDim S4x4096x1 ![0, 1] bcast_S4x4096_S4x4096x1_0_1 (Host.reduceAdd (mulf x x) (constant S_ .f32 0x00000000#32) reducesTo_S4x4096x1024_S4x4096_d2 h_S_)) (broadcastInDim S4x4096x1 ![] bcast_S_S4x4096x1 (constant S_ .f32 0x44800000#32))) (broadcastInDim S4x4096x1 ![] bcast_S_S4x4096x1 (constant S_ .f32 0x358637BD#32)))))) (broadcastInDim S4x4096x1024 ![0, 1, 2] bcast_S1x1x1024_S4x4096x1024_0_1_2 (broadcastInDim S1x1x1024 ![2] bcast_S1024_S1x1x1024_2 g))) (broadcastInDim S4x4096x1024 ![0, 1, 2] bcast_S4x1x1024_S4x4096x1024_0_1_2 (addf (broadcastInDim S4x1x1024 ![] bcast_S_S4x1x1024 (constant S_ .f32 0x3F800000#32)) (broadcastInDim S4x1x1024 ![0, 2] bcast_S4x1024_S4x1x1024_0_2 sc)))) (broadcastInDim S4x4096x1024 ![0, 1, 2] bcast_S4x1x1024_S4x4096x1024_0_1_2 (broadcastInDim S4x1x1024 ![0, 2] bcast_S4x1024_S4x1x1024_0_2 sh))

/-- The projection. -/
def proj (h : FVec Ideal S4x4096x1024 .f32) (w : FVec Ideal S1024x3396 .f32) : FVec Ideal S4x4096x3396 .f32 :=
  Host.dotGeneral dot_S4x4096x1024_S1024x3396_S4x4096x3396_2_0_01_1_n_n none h w

/-- A table of eight angles to a token, by position. -/
def table (a : FVec Ideal S8x16384 .f32) : FVec Ideal S4x4096x1x8 .f32 :=
  shapeCast _ (transpose S16384x8 [1, 0] a transposes_S8x16384_S16384x8_1_0) shapeCasts_S16384x8_S4x4096x1x8

/-- The rotation of eight heads. -/
def rot8 (y : FVec Ideal S4x4096x8x64 .f32) (c s : FVec Ideal S4x4096x1x8 .f32) : FVec Ideal S4x4096x8x64 .f32 :=
  concatenate S4x4096x8x64 3 [⟨S4x4096x8x8, (subf (mulf (extractStridedSlice S4x4096x8x8 ![0, 0, 0, 0] y slices_S4x4096x8x64_S4x4096x8x8_0_0_0_0) (broadcastInDim S4x4096x8x8 ![0, 1, 2, 3] bcast_S4x4096x1x8_S4x4096x8x8_0_1_2_3 c)) (mulf (extractStridedSlice S4x4096x8x8 ![0, 0, 0, 8] y slices_S4x4096x8x64_S4x4096x8x8_0_0_0_8) (broadcastInDim S4x4096x8x8 ![0, 1, 2, 3] bcast_S4x4096x1x8_S4x4096x8x8_0_1_2_3 s)))⟩, ⟨S4x4096x8x8, (addf (mulf (extractStridedSlice S4x4096x8x8 ![0, 0, 0, 8] y slices_S4x4096x8x64_S4x4096x8x8_0_0_0_8) (broadcastInDim S4x4096x8x8 ![0, 1, 2, 3] bcast_S4x4096x1x8_S4x4096x8x8_0_1_2_3 c)) (mulf (extractStridedSlice S4x4096x8x8 ![0, 0, 0, 0] y slices_S4x4096x8x64_S4x4096x8x8_0_0_0_0) (broadcastInDim S4x4096x8x8 ![0, 1, 2, 3] bcast_S4x4096x1x8_S4x4096x8x8_0_1_2_3 s)))⟩, ⟨S4x4096x8x48, (extractStridedSlice S4x4096x8x48 ![0, 0, 0, 16] y slices_S4x4096x8x64_S4x4096x8x48_0_0_0_16)⟩] concatenates_S4x4096x8x8_S4x4096x8x8_S4x4096x8x48_S4x4096x8x64_d3

/-- The rotation of four heads. -/
def rot4 (y : FVec Ideal S4x4096x4x64 .f32) (c s : FVec Ideal S4x4096x1x8 .f32) : FVec Ideal S4x4096x4x64 .f32 :=
  concatenate S4x4096x4x64 3 [⟨S4x4096x4x8, (subf (mulf (extractStridedSlice S4x4096x4x8 ![0, 0, 0, 0] y slices_S4x4096x4x64_S4x4096x4x8_0_0_0_0) (broadcastInDim S4x4096x4x8 ![0, 1, 2, 3] bcast_S4x4096x1x8_S4x4096x4x8_0_1_2_3 c)) (mulf (extractStridedSlice S4x4096x4x8 ![0, 0, 0, 8] y slices_S4x4096x4x64_S4x4096x4x8_0_0_0_8) (broadcastInDim S4x4096x4x8 ![0, 1, 2, 3] bcast_S4x4096x1x8_S4x4096x4x8_0_1_2_3 s)))⟩, ⟨S4x4096x4x8, (addf (mulf (extractStridedSlice S4x4096x4x8 ![0, 0, 0, 8] y slices_S4x4096x4x64_S4x4096x4x8_0_0_0_8) (broadcastInDim S4x4096x4x8 ![0, 1, 2, 3] bcast_S4x4096x1x8_S4x4096x4x8_0_1_2_3 c)) (mulf (extractStridedSlice S4x4096x4x8 ![0, 0, 0, 0] y slices_S4x4096x4x64_S4x4096x4x8_0_0_0_0) (broadcastInDim S4x4096x4x8 ![0, 1, 2, 3] bcast_S4x4096x1x8_S4x4096x4x8_0_1_2_3 s)))⟩, ⟨S4x4096x4x48, (extractStridedSlice S4x4096x4x48 ![0, 0, 0, 16] y slices_S4x4096x4x64_S4x4096x4x48_0_0_0_16)⟩] concatenates_S4x4096x4x8_S4x4096x4x8_S4x4096x4x48_S4x4096x4x64_d3

/-- The rotated queries, scaled, a column a token. -/
def queries (p : FVec Ideal S4x4096x3396 .f32) (a5 a6 : FVec Ideal S8x16384 .f32) : FVec Ideal S512x16384 .bf16 :=
  truncf .bf16 (transpose S512x16384 [1, 0] (shapeCast S16384x512 (mulf (rot8 (shapeCast S4x4096x8x64 (extractStridedSlice S4x4096x512 ![0, 0, 0] p slices_S4x4096x3396_S4x4096x512_0_0_0) shapeCasts_S4x4096x512_S4x4096x8x64) (table a5) (table a6)) (broadcastInDim S4x4096x8x64 ![] bcast_S_S4x4096x8x64 (constant S_ .f32 0x3E000000#32))) shapeCasts_S4x4096x8x64_S16384x512) transposes_S16384x512_S512x16384_1_0) bitsLt_bf16_f32

/-- The rotated indexer queries, scaled, a column a token. -/
def iqueries (p : FVec Ideal S4x4096x3396 .f32) (a5 a6 : FVec Ideal S8x16384 .f32) : FVec Ideal S256x16384 .f32 :=
  transpose S256x16384 [1, 0] (shapeCast S16384x256 (mulf (rot4 (shapeCast S4x4096x4x64 (extractStridedSlice S4x4096x256 ![0, 0, 1536] p slices_S4x4096x3396_S4x4096x256_0_0_1536) shapeCasts_S4x4096x256_S4x4096x4x64) (table a5) (table a6)) (broadcastInDim S4x4096x4x64 ![] bcast_S_S4x4096x4x64 (constant S_ .f32 0x3E000000#32))) shapeCasts_S4x4096x4x64_S16384x256) transposes_S16384x256_S256x16384_1_0

/-- The values, by blocks of 256 tokens. -/
def vals (p : FVec Ideal S4x4096x3396 .f32) : FVec Ideal S64x512x256 .bf16 :=
  truncf .bf16 (transpose S64x512x256 [0, 2, 1] (shapeCast S64x256x512 (extractStridedSlice S4x4096x512 ![0, 0, 1024] p slices_S4x4096x3396_S4x4096x512_0_0_1024) shapeCasts_S4x4096x512_S64x256x512) transposes_S64x256x512_S64x512x256_0_2_1) bitsLt_bf16_f32

/-- The head weights above zeros, a column a token. -/
def weights (p : FVec Ideal S4x4096x3396 .f32) : FVec Ideal S8x16384 .f32 :=
  transpose S8x16384 [1, 0] (concatenate S16384x8 1 [⟨S16384x4, shapeCast S16384x4 (mulf (extractStridedSlice S4x4096x4 ![0, 0, 1856] p slices_S4x4096x3396_S4x4096x4_0_0_1856) (broadcastInDim S4x4096x4 ![] bcast_S_S4x4096x4 (constant S_ .f32 0x3F000000#32))) shapeCasts_S4x4096x4_S16384x4⟩, ⟨S16384x4, broadcastInDim S16384x4 ![] bcast_S_S16384x4 (constant S_ .f32 0x00000000#32)⟩] concatenates_S16384x4_S16384x4_S16384x8_d1) transposes_S16384x8_S8x16384_1_0

/-- The projection of the arguments. -/
def projM (m : (ℓ : Loc nD τ sig) → Buf (Elt Ideal) ℓ) (c : Dev nD) : FVec Ideal S4x4096x3396 .f32 :=
  proj (normed (m ((c.tc : Thread nD τ).loc main_arg0)) (m ((c.tc : Thread nD τ).loc main_arg1)) (m ((c.tc : Thread nD τ).loc main_arg2)) (m ((c.tc : Thread nD τ).loc main_arg3))) (m ((c.tc : Thread nD τ).loc main_arg4))

theorem queries_eq (m : (ℓ : Loc nD τ sig) → Buf (Elt Ideal) ℓ) (c : Dev nD) :
    res_main_v74 m c = queries (projM m c) (m ((c.tc : Thread nD τ).loc main_arg5)) (m ((c.tc : Thread nD τ).loc main_arg6)) := rfl

theorem iqueries_eq (m : (ℓ : Loc nD τ sig) → Buf (Elt Ideal) ℓ) (c : Dev nD) :
    res_main_v79 m c = iqueries (projM m c) (m ((c.tc : Thread nD τ).loc main_arg5)) (m ((c.tc : Thread nD τ).loc main_arg6)) := rfl

/-! ## Read at an index -/

theorem normed_apply (x : FVec Ideal S4x4096x1024 .f32) (g : FVec Ideal S1024 .f32) (sc sh : FVec Ideal S4x1024 .f32) (b : Fin 4) (s : Fin 4096) (k : Fin 1024) :
    normed x g sc sh (ix3 b s k) = Proj.hid (fun i => x (ix3 b s i)) (fun i => g (ix1 i)) (fun i => sc (ix2 b i)) (fun i => sh (ix2 b i)) k := by
  unfold Proj.hid
  pointwise [normed]

theorem proj_apply (x : FVec Ideal S4x4096x1024 .f32) (g : FVec Ideal S1024 .f32) (sc sh : FVec Ideal S4x1024 .f32) (w : FVec Ideal S1024x3396 .f32) (t : Fin 16384) (j : Fin 3396) :
    proj (normed x g sc sh) w (ix3 (Proj.bat t) (Proj.pos t) j) = Proj.entry x g sc sh w t j := by
  unfold Proj.entry Proj.col
  pointwise [proj]
  exact Finset.sum_congr rfl fun k _ => by rw [normed_apply]

theorem table_apply (a : FVec Ideal S8x16384 .f32) (t : Fin 16384) (i : Fin 8) : table a (ix4 (Proj.bat t) (Proj.pos t) (0 : Fin 1) i) = a (ix2 i t) := by
  pointwise [table]
  exact congrArg (fun q => a (ix2 i q)) (Fin.ext (by show t.val / 4096 * 4096 + t.val % 4096 = t.val; omega))

theorem rot8_apply (y : FVec Ideal S4x4096x8x64 .f32) (c s : FVec Ideal S4x4096x1x8 .f32) (b : Fin 4) (p : Fin 4096) (h : Fin 8) (l : Fin 64) :
    rot8 y c s (ix4 b p h l) = Proj.rope (fun l => y (ix4 b p h l)) (fun i => c (ix4 b p (0 : Fin 1) i)) (fun i => s (ix4 b p (0 : Fin 1) i)) l := by
  unfold Proj.rope
  pointwise [rot8]
  by_cases h0 : l.val < 8
  · have e : (⟨8 + l.val, by omega⟩ : Fin 64) = ⟨l.val + 8, by omega⟩ := Fin.ext (Nat.add_comm _ _)
    simp only [dif_pos h0, e]
  · by_cases h1 : l.val < 16
    · have h2 : l.val - 8 < 8 := by omega
      have e : (⟨8 + (l.val - 8), by omega⟩ : Fin 64) = l := Fin.ext (by show 8 + (l.val - 8) = l.val; omega)
      simp only [dif_neg h0, dif_pos h1, dif_pos h2, e]
    · have h2 : ¬ l.val - 8 < 8 := by omega
      have e : (⟨16 + (l.val - 8 - 8), by omega⟩ : Fin 64) = l := Fin.ext (by show 16 + (l.val - 8 - 8) = l.val; omega)
      simp only [dif_neg h0, dif_neg h1, dif_neg h2, e]

theorem rot4_apply (y : FVec Ideal S4x4096x4x64 .f32) (c s : FVec Ideal S4x4096x1x8 .f32) (b : Fin 4) (p : Fin 4096) (h : Fin 4) (l : Fin 64) :
    rot4 y c s (ix4 b p h l) = Proj.rope (fun l => y (ix4 b p h l)) (fun i => c (ix4 b p (0 : Fin 1) i)) (fun i => s (ix4 b p (0 : Fin 1) i)) l := by
  unfold Proj.rope
  pointwise [rot4]
  by_cases h0 : l.val < 8
  · have e : (⟨8 + l.val, by omega⟩ : Fin 64) = ⟨l.val + 8, by omega⟩ := Fin.ext (Nat.add_comm _ _)
    simp only [dif_pos h0, e]
  · by_cases h1 : l.val < 16
    · have h2 : l.val - 8 < 8 := by omega
      have e : (⟨8 + (l.val - 8), by omega⟩ : Fin 64) = l := Fin.ext (by show 8 + (l.val - 8) = l.val; omega)
      simp only [dif_neg h0, dif_pos h1, dif_pos h2, e]
    · have h2 : ¬ l.val - 8 < 8 := by omega
      have e : (⟨16 + (l.val - 8 - 8), by omega⟩ : Fin 64) = l := Fin.ext (by show 16 + (l.val - 8 - 8) = l.val; omega)
      simp only [dif_neg h0, dif_neg h1, dif_neg h2, e]

/-- An eighth. -/
abbrev eighth : EReal := Ideal.ofBits FTy.f32 0x3E000000#32
/-- A half. -/
abbrev half : EReal := Ideal.ofBits FTy.f32 0x3F000000#32

theorem queries_apply (p : FVec Ideal S4x4096x3396 .f32) (a5 a6 : FVec Ideal S8x16384 .f32) (j : Fin 512) (t : Fin 16384) :
    queries p a5 a6 (ix2 j t) = Proj.rope (fun l => p (ix3 (Proj.bat t) (Proj.pos t) ⟨j.val / 64 * 64 + l.val, by omega⟩)) (fun i => a5 (ix2 i t)) (fun i => a6 (ix2 i t)) ⟨j.val % 64, by omega⟩ * eighth := by
  pointwise [queries]
  refine congrArg (· * eighth) ((rot8_apply _ _ _ (Proj.bat t) (Proj.pos t) _ _).trans (Proj.rope_congr (funext fun l => ?_) (funext fun i => table_apply a5 t i) (funext fun i => table_apply a6 t i) rfl))
  pointwise

theorem iqueries_apply (p : FVec Ideal S4x4096x3396 .f32) (a5 a6 : FVec Ideal S8x16384 .f32) (j : Fin 256) (t : Fin 16384) :
    iqueries p a5 a6 (ix2 j t) = Proj.rope (fun l => p (ix3 (Proj.bat t) (Proj.pos t) ⟨1536 + (j.val / 64 * 64 + l.val), by omega⟩)) (fun i => a5 (ix2 i t)) (fun i => a6 (ix2 i t)) ⟨j.val % 64, by omega⟩ * eighth := by
  pointwise [iqueries]
  refine congrArg (· * eighth) ((rot4_apply _ _ _ (Proj.bat t) (Proj.pos t) _ _).trans (Proj.rope_congr (funext fun l => ?_) (funext fun i => table_apply a5 t i) (funext fun i => table_apply a6 t i) rfl))
  pointwise

theorem vals_apply (p : FVec Ideal S4x4096x3396 .f32) (b : Fin 64) (j : Fin 512) (q : Fin 256) (t : Fin 16384) (ht : t.val = b.val * 256 + q.val) :
    vals p (ix3 b j q) = p (ix3 (Proj.bat t) (Proj.pos t) ⟨1024 + j.val, by omega⟩) := by
  pointwise [vals]
  exact congrArg₂ (fun u v => p (ix3 u v ⟨1024 + j.val, by omega⟩)) (Fin.ext (by show b.val / 16 = t.val / 4096; omega)) (Fin.ext (by show b.val % 16 * 256 + q.val = t.val % 4096; omega))

theorem weights_apply (p : FVec Ideal S4x4096x3396 .f32) (j : Fin 8) (t : Fin 16384) :
    weights p (ix2 j t) = if h : j.val < 4 then p (ix3 (Proj.bat t) (Proj.pos t) ⟨1856 + j.val, by omega⟩) * half else 0 := by
  pointwise [weights]
  rfl

end Cert.InprojTRefIdeal.Own

end
-- ==== Proof.InprojTClaim.lean ====
/- The column projection's claims: the two programs run to their ends, and the kernel's results are the reference's over the extended reals. -/
module

public import proofs.«01_k».proof.Defs
public import proofs.«01_k».proof.Proof.Gen.InprojT
public import proofs.«01_k».proof.Proof.Gen.InprojT.Frame
public import proofs.«01_k».proof.Proof.Gen.InprojTIdeal
public import proofs.«01_k».proof.Proof.Gen.InprojTIdeal.Frame
public import proofs.«01_k».proof.Proof.Gen.InprojTRefIdeal
public import proofs.«01_k».proof.Proof.InprojTFinal
public import proofs.«01_k».proof.Proof.InprojTRef
public import Idealize.ShloMosaic.Adequacy
public import Idealize.ShloMosaic.Init

@[expose] public section

noncomputable section

namespace Cert.Proof.InprojT

open Idealize.ShloMosaic Idealize.ShloMosaic.TcCoe Idealize.SL.Sem

theorem kernel_frame : Cert.quiescent_InprojT := fun m ρ _ => Cert.InprojT.Gen.frame m ρ

theorem ideal_frame : Cert.quiescent_InprojTIdeal := fun m ρ _ => Cert.InprojTIdeal.Gen.frame m ρ

/-- The reference runs to its end; it has no semaphores. -/
theorem reference_frame : Cert.quiescent_InprojTRefIdeal := fun m ρ _ =>
  (θ_run Cert.InprojTRefIdeal.defs _ _).mono (fun r h' => ⟨fun c => (h' c).2.2.2.2, sem_eq_zero_of_no_sems (by decide) r.2⟩) (Cert.InprojTRefIdeal.Value.run (F := Ideal) m ρ)

/-- The reference's projection at a token is the kernel's entry. -/
theorem entry_eq (m : (ℓ : Loc Cert.InprojTIdeal.nD Cert.InprojTIdeal.τ Cert.InprojTIdeal.sig) → Buf (Elt Ideal) ℓ)
    (m' : (ℓ : Loc Cert.InprojTRefIdeal.nD Cert.InprojTRefIdeal.τ Cert.InprojTRefIdeal.sig) → Buf (Elt Ideal) ℓ) (c : Dev Cert.InprojTIdeal.nD)
    (h0 : m' ((c.tc : Thread Cert.InprojTRefIdeal.nD Cert.InprojTRefIdeal.τ).loc Cert.InprojTRefIdeal.main_arg0) = m ((c.tc : Thread Cert.InprojTIdeal.nD Cert.InprojTIdeal.τ).loc Cert.InprojTIdeal.main_arg0))
    (h1 : m' ((c.tc : Thread Cert.InprojTRefIdeal.nD Cert.InprojTRefIdeal.τ).loc Cert.InprojTRefIdeal.main_arg1) = m ((c.tc : Thread Cert.InprojTIdeal.nD Cert.InprojTIdeal.τ).loc Cert.InprojTIdeal.main_arg1))
    (h2 : m' ((c.tc : Thread Cert.InprojTRefIdeal.nD Cert.InprojTRefIdeal.τ).loc Cert.InprojTRefIdeal.main_arg2) = m ((c.tc : Thread Cert.InprojTIdeal.nD Cert.InprojTIdeal.τ).loc Cert.InprojTIdeal.main_arg2))
    (h3 : m' ((c.tc : Thread Cert.InprojTRefIdeal.nD Cert.InprojTRefIdeal.τ).loc Cert.InprojTRefIdeal.main_arg3) = m ((c.tc : Thread Cert.InprojTIdeal.nD Cert.InprojTIdeal.τ).loc Cert.InprojTIdeal.main_arg3))
    (h4 : m' ((c.tc : Thread Cert.InprojTRefIdeal.nD Cert.InprojTRefIdeal.τ).loc Cert.InprojTRefIdeal.main_arg4) = m ((c.tc : Thread Cert.InprojTIdeal.nD Cert.InprojTIdeal.τ).loc Cert.InprojTIdeal.main_arg4))
    (h5 : m' ((c.tc : Thread Cert.InprojTRefIdeal.nD Cert.InprojTRefIdeal.τ).loc Cert.InprojTRefIdeal.main_arg5) = m ((c.tc : Thread Cert.InprojTIdeal.nD Cert.InprojTIdeal.τ).loc Cert.InprojTIdeal.main_arg5))
    (h6 : m' ((c.tc : Thread Cert.InprojTRefIdeal.nD Cert.InprojTRefIdeal.τ).loc Cert.InprojTRefIdeal.main_arg6) = m ((c.tc : Thread Cert.InprojTIdeal.nD Cert.InprojTIdeal.τ).loc Cert.InprojTIdeal.main_arg6))
    (t : Fin 16384) (j : Fin 3396) :
    Cert.InprojTRefIdeal.Own.projM m' c (ix3 (Proj.bat t) (Proj.pos t) j) = Cert.InprojTIdeal.Own.ent m c t j := by
  unfold Cert.InprojTRefIdeal.Own.projM
  rw [h0, h1, h2, h3, h4]
  exact Cert.InprojTRefIdeal.Own.proj_apply _ _ _ _ _ t j

theorem queries_values (m : (ℓ : Loc Cert.InprojTIdeal.nD Cert.InprojTIdeal.τ Cert.InprojTIdeal.sig) → Buf (Elt Ideal) ℓ)
    (m' : (ℓ : Loc Cert.InprojTRefIdeal.nD Cert.InprojTRefIdeal.τ Cert.InprojTRefIdeal.sig) → Buf (Elt Ideal) ℓ) (c : Dev Cert.InprojTIdeal.nD)
    (h0 : m' ((c.tc : Thread Cert.InprojTRefIdeal.nD Cert.InprojTRefIdeal.τ).loc Cert.InprojTRefIdeal.main_arg0) = m ((c.tc : Thread Cert.InprojTIdeal.nD Cert.InprojTIdeal.τ).loc Cert.InprojTIdeal.main_arg0))
    (h1 : m' ((c.tc : Thread Cert.InprojTRefIdeal.nD Cert.InprojTRefIdeal.τ).loc Cert.InprojTRefIdeal.main_arg1) = m ((c.tc : Thread Cert.InprojTIdeal.nD Cert.InprojTIdeal.τ).loc Cert.InprojTIdeal.main_arg1))
    (h2 : m' ((c.tc : Thread Cert.InprojTRefIdeal.nD Cert.InprojTRefIdeal.τ).loc Cert.InprojTRefIdeal.main_arg2) = m ((c.tc : Thread Cert.InprojTIdeal.nD Cert.InprojTIdeal.τ).loc Cert.InprojTIdeal.main_arg2))
    (h3 : m' ((c.tc : Thread Cert.InprojTRefIdeal.nD Cert.InprojTRefIdeal.τ).loc Cert.InprojTRefIdeal.main_arg3) = m ((c.tc : Thread Cert.InprojTIdeal.nD Cert.InprojTIdeal.τ).loc Cert.InprojTIdeal.main_arg3))
    (h4 : m' ((c.tc : Thread Cert.InprojTRefIdeal.nD Cert.InprojTRefIdeal.τ).loc Cert.InprojTRefIdeal.main_arg4) = m ((c.tc : Thread Cert.InprojTIdeal.nD Cert.InprojTIdeal.τ).loc Cert.InprojTIdeal.main_arg4))
    (h5 : m' ((c.tc : Thread Cert.InprojTRefIdeal.nD Cert.InprojTRefIdeal.τ).loc Cert.InprojTRefIdeal.main_arg5) = m ((c.tc : Thread Cert.InprojTIdeal.nD Cert.InprojTIdeal.τ).loc Cert.InprojTIdeal.main_arg5))
    (h6 : m' ((c.tc : Thread Cert.InprojTRefIdeal.nD Cert.InprojTRefIdeal.τ).loc Cert.InprojTRefIdeal.main_arg6) = m ((c.tc : Thread Cert.InprojTIdeal.nD Cert.InprojTIdeal.τ).loc Cert.InprojTIdeal.main_arg6)) :
    Cert.InprojTRefIdeal.Value.res_main_v74 m' c = (Cert.InprojTIdeal.Gen.dats m 0 c).arrAt 7 Cert.InprojTIdeal.cfg0.N := by
  refine funext fun i => ?_
  obtain ⟨j, t, rfl⟩ : ∃ (j : Fin 512) (t : Fin 16384), i = ix2 j t := ⟨i 0, i 1, eq_ix2 i⟩
  refine (congrFun (Cert.InprojTRefIdeal.Own.queries_eq m' c) _).trans ?_
  rw [h5, h6]
  refine (Cert.InprojTRefIdeal.Own.queries_apply _ _ _ j t).trans (Eq.trans ?_ (Cert.InprojTIdeal.Own.queries_final m c j t).symm)
  exact congrArg (· * Cert.InprojTIdeal.Own.eighth) (Proj.rope_congr (funext fun l => entry_eq m m' c h0 h1 h2 h3 h4 h5 h6 t _) rfl rfl rfl)

theorem iqueries_values (m : (ℓ : Loc Cert.InprojTIdeal.nD Cert.InprojTIdeal.τ Cert.InprojTIdeal.sig) → Buf (Elt Ideal) ℓ)
    (m' : (ℓ : Loc Cert.InprojTRefIdeal.nD Cert.InprojTRefIdeal.τ Cert.InprojTRefIdeal.sig) → Buf (Elt Ideal) ℓ) (c : Dev Cert.InprojTIdeal.nD)
    (h0 : m' ((c.tc : Thread Cert.InprojTRefIdeal.nD Cert.InprojTRefIdeal.τ).loc Cert.InprojTRefIdeal.main_arg0) = m ((c.tc : Thread Cert.InprojTIdeal.nD Cert.InprojTIdeal.τ).loc Cert.InprojTIdeal.main_arg0))
    (h1 : m' ((c.tc : Thread Cert.InprojTRefIdeal.nD Cert.InprojTRefIdeal.τ).loc Cert.InprojTRefIdeal.main_arg1) = m ((c.tc : Thread Cert.InprojTIdeal.nD Cert.InprojTIdeal.τ).loc Cert.InprojTIdeal.main_arg1))
    (h2 : m' ((c.tc : Thread Cert.InprojTRefIdeal.nD Cert.InprojTRefIdeal.τ).loc Cert.InprojTRefIdeal.main_arg2) = m ((c.tc : Thread Cert.InprojTIdeal.nD Cert.InprojTIdeal.τ).loc Cert.InprojTIdeal.main_arg2))
    (h3 : m' ((c.tc : Thread Cert.InprojTRefIdeal.nD Cert.InprojTRefIdeal.τ).loc Cert.InprojTRefIdeal.main_arg3) = m ((c.tc : Thread Cert.InprojTIdeal.nD Cert.InprojTIdeal.τ).loc Cert.InprojTIdeal.main_arg3))
    (h4 : m' ((c.tc : Thread Cert.InprojTRefIdeal.nD Cert.InprojTRefIdeal.τ).loc Cert.InprojTRefIdeal.main_arg4) = m ((c.tc : Thread Cert.InprojTIdeal.nD Cert.InprojTIdeal.τ).loc Cert.InprojTIdeal.main_arg4))
    (h5 : m' ((c.tc : Thread Cert.InprojTRefIdeal.nD Cert.InprojTRefIdeal.τ).loc Cert.InprojTRefIdeal.main_arg5) = m ((c.tc : Thread Cert.InprojTIdeal.nD Cert.InprojTIdeal.τ).loc Cert.InprojTIdeal.main_arg5))
    (h6 : m' ((c.tc : Thread Cert.InprojTRefIdeal.nD Cert.InprojTRefIdeal.τ).loc Cert.InprojTRefIdeal.main_arg6) = m ((c.tc : Thread Cert.InprojTIdeal.nD Cert.InprojTIdeal.τ).loc Cert.InprojTIdeal.main_arg6)) :
    Cert.InprojTRefIdeal.Value.res_main_v79 m' c = (Cert.InprojTIdeal.Gen.dats m 0 c).arrAt 9 Cert.InprojTIdeal.cfg0.N := by
  refine funext fun i => ?_
  obtain ⟨j, t, rfl⟩ : ∃ (j : Fin 256) (t : Fin 16384), i = ix2 j t := ⟨i 0, i 1, eq_ix2 i⟩
  refine (congrFun (Cert.InprojTRefIdeal.Own.iqueries_eq m' c) _).trans ?_
  rw [h5, h6]
  refine (Cert.InprojTRefIdeal.Own.iqueries_apply _ _ _ j t).trans (Eq.trans ?_ (Cert.InprojTIdeal.Own.iqueries_final m c j t).symm)
  exact congrArg (· * Cert.InprojTIdeal.Own.eighth) (Proj.rope_congr (funext fun l => entry_eq m m' c h0 h1 h2 h3 h4 h5 h6 t _) rfl rfl rfl)

theorem vals_values (m : (ℓ : Loc Cert.InprojTIdeal.nD Cert.InprojTIdeal.τ Cert.InprojTIdeal.sig) → Buf (Elt Ideal) ℓ)
    (m' : (ℓ : Loc Cert.InprojTRefIdeal.nD Cert.InprojTRefIdeal.τ Cert.InprojTRefIdeal.sig) → Buf (Elt Ideal) ℓ) (c : Dev Cert.InprojTIdeal.nD)
    (h0 : m' ((c.tc : Thread Cert.InprojTRefIdeal.nD Cert.InprojTRefIdeal.τ).loc Cert.InprojTRefIdeal.main_arg0) = m ((c.tc : Thread Cert.InprojTIdeal.nD Cert.InprojTIdeal.τ).loc Cert.InprojTIdeal.main_arg0))
    (h1 : m' ((c.tc : Thread Cert.InprojTRefIdeal.nD Cert.InprojTRefIdeal.τ).loc Cert.InprojTRefIdeal.main_arg1) = m ((c.tc : Thread Cert.InprojTIdeal.nD Cert.InprojTIdeal.τ).loc Cert.InprojTIdeal.main_arg1))
    (h2 : m' ((c.tc : Thread Cert.InprojTRefIdeal.nD Cert.InprojTRefIdeal.τ).loc Cert.InprojTRefIdeal.main_arg2) = m ((c.tc : Thread Cert.InprojTIdeal.nD Cert.InprojTIdeal.τ).loc Cert.InprojTIdeal.main_arg2))
    (h3 : m' ((c.tc : Thread Cert.InprojTRefIdeal.nD Cert.InprojTRefIdeal.τ).loc Cert.InprojTRefIdeal.main_arg3) = m ((c.tc : Thread Cert.InprojTIdeal.nD Cert.InprojTIdeal.τ).loc Cert.InprojTIdeal.main_arg3))
    (h4 : m' ((c.tc : Thread Cert.InprojTRefIdeal.nD Cert.InprojTRefIdeal.τ).loc Cert.InprojTRefIdeal.main_arg4) = m ((c.tc : Thread Cert.InprojTIdeal.nD Cert.InprojTIdeal.τ).loc Cert.InprojTIdeal.main_arg4))
    (h5 : m' ((c.tc : Thread Cert.InprojTRefIdeal.nD Cert.InprojTRefIdeal.τ).loc Cert.InprojTRefIdeal.main_arg5) = m ((c.tc : Thread Cert.InprojTIdeal.nD Cert.InprojTIdeal.τ).loc Cert.InprojTIdeal.main_arg5))
    (h6 : m' ((c.tc : Thread Cert.InprojTRefIdeal.nD Cert.InprojTRefIdeal.τ).loc Cert.InprojTRefIdeal.main_arg6) = m ((c.tc : Thread Cert.InprojTIdeal.nD Cert.InprojTIdeal.τ).loc Cert.InprojTIdeal.main_arg6)) :
    Cert.InprojTRefIdeal.Own.vals (Cert.InprojTRefIdeal.Own.projM m' c) = (Cert.InprojTIdeal.Gen.dats m 0 c).arrAt 8 Cert.InprojTIdeal.cfg0.N := by
  refine funext fun i => ?_
  obtain ⟨b, j, q, rfl⟩ : ∃ (b : Fin 64) (j : Fin 512) (q : Fin 256), i = ix3 b j q := ⟨i 0, i 1, i 2, eq_ix3 i⟩
  exact (Cert.InprojTRefIdeal.Own.vals_apply _ b j q ⟨b.val * 256 + q.val, by omega⟩ rfl).trans ((entry_eq m m' c h0 h1 h2 h3 h4 h5 h6 _ _).trans (Cert.InprojTIdeal.Own.vals_final m c ⟨b.val * 256 + q.val, by omega⟩ b j q rfl).symm)

theorem weights_values (m : (ℓ : Loc Cert.InprojTIdeal.nD Cert.InprojTIdeal.τ Cert.InprojTIdeal.sig) → Buf (Elt Ideal) ℓ)
    (m' : (ℓ : Loc Cert.InprojTRefIdeal.nD Cert.InprojTRefIdeal.τ Cert.InprojTRefIdeal.sig) → Buf (Elt Ideal) ℓ) (c : Dev Cert.InprojTIdeal.nD)
    (h0 : m' ((c.tc : Thread Cert.InprojTRefIdeal.nD Cert.InprojTRefIdeal.τ).loc Cert.InprojTRefIdeal.main_arg0) = m ((c.tc : Thread Cert.InprojTIdeal.nD Cert.InprojTIdeal.τ).loc Cert.InprojTIdeal.main_arg0))
    (h1 : m' ((c.tc : Thread Cert.InprojTRefIdeal.nD Cert.InprojTRefIdeal.τ).loc Cert.InprojTRefIdeal.main_arg1) = m ((c.tc : Thread Cert.InprojTIdeal.nD Cert.InprojTIdeal.τ).loc Cert.InprojTIdeal.main_arg1))
    (h2 : m' ((c.tc : Thread Cert.InprojTRefIdeal.nD Cert.InprojTRefIdeal.τ).loc Cert.InprojTRefIdeal.main_arg2) = m ((c.tc : Thread Cert.InprojTIdeal.nD Cert.InprojTIdeal.τ).loc Cert.InprojTIdeal.main_arg2))
    (h3 : m' ((c.tc : Thread Cert.InprojTRefIdeal.nD Cert.InprojTRefIdeal.τ).loc Cert.InprojTRefIdeal.main_arg3) = m ((c.tc : Thread Cert.InprojTIdeal.nD Cert.InprojTIdeal.τ).loc Cert.InprojTIdeal.main_arg3))
    (h4 : m' ((c.tc : Thread Cert.InprojTRefIdeal.nD Cert.InprojTRefIdeal.τ).loc Cert.InprojTRefIdeal.main_arg4) = m ((c.tc : Thread Cert.InprojTIdeal.nD Cert.InprojTIdeal.τ).loc Cert.InprojTIdeal.main_arg4))
    (h5 : m' ((c.tc : Thread Cert.InprojTRefIdeal.nD Cert.InprojTRefIdeal.τ).loc Cert.InprojTRefIdeal.main_arg5) = m ((c.tc : Thread Cert.InprojTIdeal.nD Cert.InprojTIdeal.τ).loc Cert.InprojTIdeal.main_arg5))
    (h6 : m' ((c.tc : Thread Cert.InprojTRefIdeal.nD Cert.InprojTRefIdeal.τ).loc Cert.InprojTRefIdeal.main_arg6) = m ((c.tc : Thread Cert.InprojTIdeal.nD Cert.InprojTIdeal.τ).loc Cert.InprojTIdeal.main_arg6)) :
    Cert.InprojTRefIdeal.Own.weights (Cert.InprojTRefIdeal.Own.projM m' c) = (Cert.InprojTIdeal.Gen.dats m 0 c).arrAt 10 Cert.InprojTIdeal.cfg0.N := by
  refine funext fun i => ?_
  obtain ⟨j, t, rfl⟩ : ∃ (j : Fin 8) (t : Fin 16384), i = ix2 j t := ⟨i 0, i 1, eq_ix2 i⟩
  refine (Cert.InprojTRefIdeal.Own.weights_apply _ j t).trans (Eq.trans ?_ (Cert.InprojTIdeal.Own.weights_final m c j t).symm)
  by_cases h : j.val < 4
  · rw [dif_pos h, dif_pos h]
    exact congrArg (· * Cert.InprojTIdeal.Own.half) (entry_eq m m' c h0 h1 h2 h3 h4 h5 h6 t _)
  · rw [dif_neg h, dif_neg h]

/-- From memories that agree on the arguments the two programs end with equal results. -/
theorem equal_results : Cert.algebraic_InprojTIdeal_InprojTRefIdeal := fun m ρ m' ρ' _ ha =>
  ⟨fun c => (Cert.InprojTIdeal.Gen.dats m 0 c).arrAt 7 Cert.InprojTIdeal.cfg0.N, fun c => (Cert.InprojTIdeal.Gen.dats m 0 c).arrAt 8 Cert.InprojTIdeal.cfg0.N, fun c => (Cert.InprojTIdeal.Gen.dats m 0 c).arrAt 9 Cert.InprojTIdeal.cfg0.N, fun c => (Cert.InprojTIdeal.Gen.dats m 0 c).arrAt 10 Cert.InprojTIdeal.cfg0.N,
    Cert.InprojTIdeal.Value.run_blocks (F := Ideal) m ρ,
    (θ_run Cert.InprojTRefIdeal.defs _ _).mono (fun _ h' c => ⟨(h' c).1.trans (queries_values m m' c (ha c).1 (ha c).2.1 (ha c).2.2.1 (ha c).2.2.2.1 (ha c).2.2.2.2.1 (ha c).2.2.2.2.2.1 (ha c).2.2.2.2.2.2), (h' c).2.1.trans (vals_values m m' c (ha c).1 (ha c).2.1 (ha c).2.2.1 (ha c).2.2.2.1 (ha c).2.2.2.2.1 (ha c).2.2.2.2.2.1 (ha c).2.2.2.2.2.2), (h' c).2.2.1.trans (iqueries_values m m' c (ha c).1 (ha c).2.1 (ha c).2.2.1 (ha c).2.2.2.1 (ha c).2.2.2.2.1 (ha c).2.2.2.2.2.1 (ha c).2.2.2.2.2.2), (h' c).2.2.2.1.trans (weights_values m m' c (ha c).1 (ha c).2.1 (ha c).2.2.1 (ha c).2.2.2.1 (ha c).2.2.2.2.1 (ha c).2.2.2.2.2.1 (ha c).2.2.2.2.2.2), (h' c).2.2.2.2⟩)
      (Cert.InprojTRefIdeal.Value.run (F := Ideal) m' ρ')⟩

end Cert.Proof.InprojT

end
-- ==== Proof.OutprojMath.lean ====
/- The output projection of one token, over the extended reals. -/
module

public import proofs.«01_k».proof.Proof.Projection

@[expose] public section

noncomputable section

namespace Cert.Outp

open Idealize.ShloMosaic Idealize.ShloMosaic.TcCoe

/-- One column of the projection of the two halves `a` and `b` of a row, the first by the first 512 weights, the second by the rest. -/
def mix (a b : Fin 512 → EReal) (w : Fin 1024 → EReal) : EReal :=
  ∑ k : Fin 512, a k * w ⟨k.val, by omega⟩ + ∑ k : Fin 512, b k * w ⟨512 + k.val, by omega⟩

/-- The residual stream: the row `x` and, by the factors `s`, the projection. -/
def resid (a b : Fin 512 → EReal) (w : Fin 1024 → Fin 1024 → EReal) (x s : Fin 1024 → EReal) (d : Fin 1024) : EReal :=
  x d + s d * mix a b (fun k => w k d)

theorem resid_congr {a a' b b' : Fin 512 → EReal} {w w' : Fin 1024 → Fin 1024 → EReal} {x x' s s' : Fin 1024 → EReal}
    (h0 : a = a') (h1 : b = b') (h2 : w = w') (h3 : x = x') (h4 : s = s') : resid a b w x s = resid a' b' w' x' s' := by
  rw [h0, h1, h2, h3, h4]

theorem hid_congr {x x' g g' s s' b b' : Fin 1024 → EReal} (h0 : x = x') (h1 : g = g') (h2 : s = s') (h3 : b = b') :
    Proj.hid x g s b = Proj.hid x' g' s' b' := by
  rw [h0, h1, h2, h3]

/-- The sum over the whole row is the two halves' sums. -/
theorem sum_halves (a b : Fin 512 → EReal) (w : Fin 1024 → EReal) :
    ∑ k : Fin 1024, (if h : k.val < 512 then a ⟨k.val, h⟩ else b ⟨k.val - 512, by omega⟩) * w k = mix a b w := by
  unfold mix
  refine (Fin.sum_univ_add (a := 512) (b := 512) fun k : Fin 1024 => (if h : k.val < 512 then a ⟨k.val, h⟩ else b ⟨k.val - 512, by omega⟩) * w k).trans ?_
  refine congrArg₂ (· + ·) (Finset.sum_congr rfl fun k _ => ?_) (Finset.sum_congr rfl fun k _ => ?_)
  · have hk := k.isLt
    rw [dif_pos (show (Fin.castAdd 512 k).val < 512 from hk)]
    rfl
  · rw [dif_neg (show ¬(Fin.natAdd 512 k).val < 512 from by show ¬(512 + k.val < 512); omega)]
    refine congrArg₂ (· * ·) (congrArg b (Fin.ext ?_)) rfl
    show 512 + k.val - 512 = k.val
    omega

end Cert.Outp

end
-- ==== Proof.OutprojValue.lean ====
/- The output projection's kernel: the first two results of one grid point, read at an index. -/
module

public import proofs.«01_k».proof.Proof.Gen.OutprojIdeal.Value
public import proofs.«01_k».proof.Proof.OutprojMath
public import Idealize.ShloMosaic.Lib.Pipeline.ValueKit.Point
public import Idealize.ShloMosaic.Lib.Pointwise
public import Idealize.ShloMosaic.Lib.VecWindow

@[expose] public section

set_option maxRecDepth 16384

noncomputable section

namespace Cert.OutprojIdeal.Own

open Idealize.ShloMosaic Idealize.ShloMosaic.TcCoe Idealize.ShloMosaic.Tactic
open Cert.OutprojIdeal.Gen

/-- The first 512 rows of the weights, -/
def upper (w : Vec Ideal S1024x1024 .bf16) : Vec Ideal S512x1024 .bf16 := fun i => w (ix2 (⟨(i 0).val, lt_of_lt_of_le (i 0).isLt (by decide)⟩ : Fin 1024) (i 1))
/-- and the rest. -/
def lower (w : Vec Ideal S1024x1024 .bf16) : Vec Ideal S512x1024 .bf16 := fun i => w (ix2 (⟨512 + (i 0).val, Nat.add_lt_add_left (i 0).isLt 512⟩ : Fin 1024) (i 1))

theorem x1_apply (a b : Vec Ideal S512x512 .f32) (w : Vec Ideal S1024x1024 .bf16) (x : Vec Ideal S512x1024 .f32) (s : Vec Ideal S1x1x1024 .f32) (r : Fin 512) (d : Fin 1024) :
    k0_pay2 a (upper w) b (lower w) x s (ix2 r d) = Outp.resid (fun k => a (ix2 r k)) (fun k => b (ix2 r k)) (fun k d => w (ix2 k d)) (fun i => x (ix2 r i)) (fun i => s (ix3 (0 : Fin 1) (0 : Fin 1) i)) d := by
  unfold Outp.resid Outp.mix
  pointwise [k0_pay2]
  rfl

theorem h2_apply (a b : Vec Ideal S512x512 .f32) (w w' : Vec Ideal S512x1024 .bf16) (x : Vec Ideal S512x1024 .f32) (s : Vec Ideal S1x1x1024 .f32) (g : Vec Ideal S1x1024 .f32) (sc sh : Vec Ideal S1x1x1024 .f32) (r : Fin 512) (d : Fin 1024) :
    k0_pay5 (k0_pay3 a w b w' x s) (k0_pay4 g) sc sh (ix2 r d) = Proj.hid (fun i => k0_pay2 a w b w' x s (ix2 r i)) (fun i => g (ix2 (0 : Fin 1) i)) (fun i => sc (ix3 (0 : Fin 1) (0 : Fin 1) i)) (fun i => sh (ix3 (0 : Fin 1) (0 : Fin 1) i)) d := by
  unfold Proj.hid
  pointwise [k0_pay5, k0_pay3, k0_pay4]

/-! ## What a point leaves -/

theorem hz : (![0, 0] : Fin 2 → Nat) = fun _ => 0 := funext fun a => by fin_cases a <;> rfl
theorem hz3 : (![0, 0, 0] : Fin 3 → Nat) = fun _ => 0 := funext fun a => by fin_cases a <;> rfl

theorem ld_upper (w : Vec Ideal S1024x1024 .bf16) : View.ld w (Rect.unit (s := S1024x1024) ![0, 0] S512x1024.size inb_S1024x1024_S512x1024_0_0) = upper w := by
  funext i
  refine congrArg w (funext fun a => Fin.ext ?_)
  match a with
  | ⟨0, _⟩ => show 0 + 1 * (i 0).val = (i 0).val; omega
  | ⟨1, _⟩ => show 0 + 1 * (i 1).val = (i 1).val; omega
theorem ld_lower (w : Vec Ideal S1024x1024 .bf16) : View.ld w (Rect.unit (s := S1024x1024) ![512, 0] S512x1024.size inb_S1024x1024_S512x1024_512_0) = lower w := by
  funext i
  refine congrArg w (funext fun a => Fin.ext ?_)
  match a with
  | ⟨0, _⟩ => show 512 + 1 * (i 0).val = 512 + (i 0).val; omega
  | ⟨1, _⟩ => show 0 + 1 * (i 1).val = (i 1).val; omega

theorem left_A_11 (c : Dev nD) (i : grid0.Coords) (arg1 : Memref sig .tc .vmem S512x512 .f32) (harg1 : arg1.IsWhole) (arg2 : Memref sig .tc .vmem S512x512 .f32) (harg2 : arg2.IsWhole) (arg3 : Memref sig .tc .vmem S512x1024 .f32) (harg3 : arg3.IsWhole) (arg4 : Memref sig .tc .vmem S1x1x1024 .f32) (harg4 : arg4.IsWhole) (arg5 : Memref sig .tc .vmem S1024x1024 .bf16) (harg5 : arg5.IsWhole) (arg6 : Memref sig .tc .vmem S1x1024 .f32) (harg6 : arg6.IsWhole) (arg7 : Memref sig .tc .vmem S1x1x1024 .f32) (harg7 : arg7.IsWhole) (arg8 : Memref sig .tc .vmem S1x1x1024 .f32) (harg8 : arg8.IsWhole) (arg9 : Memref sig .tc .vmem S1024x128 .f32) (harg9 : arg9.IsWhole) (arg10 : Memref sig .tc .vmem S1x128 .f32) (harg10 : arg10.IsWhole) (arg11 : Memref sig .tc .vmem S512x512 .bf16) (harg11 : arg11.IsWhole) (arg12 : Memref sig .tc .vmem S512x1024 .f32) (harg12 : arg12.IsWhole) (arg13 : Memref sig .tc .vmem S512x1024 .f32) (harg13 : arg13.IsWhole) (arg14 : Memref sig .tc .vmem S512x128 .i32) (harg14 : arg14.IsWhole) (arg15 : Memref sig .tc .vmem S512x128 .f32) (harg15 : arg15.IsWhole) (arg16 : Memref sig .tc .vmem S512x128 .i32) (harg16 : arg16.IsWhole) (arg17 : Memref sig .tc .vmem S1x128 .i32) (harg17 : arg17.IsWhole) (arg18 : Memref sig .tc .vmem S1x128 .f32) (harg18 : arg18.IsWhole) (hc0 : cond0_0 i)
    (x0 : Vec Ideal S512x512 .f32) (x1 : Vec Ideal S512x512 .f32) (x2 : Vec Ideal S512x1024 .f32) (x3 : Vec Ideal S1x1x1024 .f32) (x4 : Vec Ideal S1024x1024 .bf16) (x5 : Vec Ideal S1x1024 .f32) (x6 : Vec Ideal S1x1x1024 .f32) (x7 : Vec Ideal S1x1x1024 .f32) (x8 : Vec Ideal S1024x128 .f32) (x9 : Vec Ideal S1x128 .f32) (x10 : Vec Ideal S512x512 .bf16) :
    out0_A_11 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 x0 x1 x2 x3 x4 x5 x6 x7 x8 x9 x10 = k0_pay2 x0 (upper x4) x1 (lower x4) x2 x3 := by
  unfold out0_A_11
  rw [View.read_writes_junk_eq_canon]
  unfold kernelRun0_A
  dsimp only
  sl_unfold_words
  rw [View.canon_unit_zero hz]
  simp only [View.readAt_eq_ld, Memref.IsWhole.read_unread, View.ld_unit_zero (S := S512x512) hz, View.ld_unit_zero (S := S512x1024) hz, View.ld_unit_zero (S := S1x1024) hz, View.ld_unit_zero (S := S1x1x1024) hz3]
  rw [← ld_upper, ← ld_lower]

theorem left_A_12 (c : Dev nD) (i : grid0.Coords) (arg1 : Memref sig .tc .vmem S512x512 .f32) (harg1 : arg1.IsWhole) (arg2 : Memref sig .tc .vmem S512x512 .f32) (harg2 : arg2.IsWhole) (arg3 : Memref sig .tc .vmem S512x1024 .f32) (harg3 : arg3.IsWhole) (arg4 : Memref sig .tc .vmem S1x1x1024 .f32) (harg4 : arg4.IsWhole) (arg5 : Memref sig .tc .vmem S1024x1024 .bf16) (harg5 : arg5.IsWhole) (arg6 : Memref sig .tc .vmem S1x1024 .f32) (harg6 : arg6.IsWhole) (arg7 : Memref sig .tc .vmem S1x1x1024 .f32) (harg7 : arg7.IsWhole) (arg8 : Memref sig .tc .vmem S1x1x1024 .f32) (harg8 : arg8.IsWhole) (arg9 : Memref sig .tc .vmem S1024x128 .f32) (harg9 : arg9.IsWhole) (arg10 : Memref sig .tc .vmem S1x128 .f32) (harg10 : arg10.IsWhole) (arg11 : Memref sig .tc .vmem S512x512 .bf16) (harg11 : arg11.IsWhole) (arg12 : Memref sig .tc .vmem S512x1024 .f32) (harg12 : arg12.IsWhole) (arg13 : Memref sig .tc .vmem S512x1024 .f32) (harg13 : arg13.IsWhole) (arg14 : Memref sig .tc .vmem S512x128 .i32) (harg14 : arg14.IsWhole) (arg15 : Memref sig .tc .vmem S512x128 .f32) (harg15 : arg15.IsWhole) (arg16 : Memref sig .tc .vmem S512x128 .i32) (harg16 : arg16.IsWhole) (arg17 : Memref sig .tc .vmem S1x128 .i32) (harg17 : arg17.IsWhole) (arg18 : Memref sig .tc .vmem S1x128 .f32) (harg18 : arg18.IsWhole) (hc0 : cond0_0 i)
    (x0 : Vec Ideal S512x512 .f32) (x1 : Vec Ideal S512x512 .f32) (x2 : Vec Ideal S512x1024 .f32) (x3 : Vec Ideal S1x1x1024 .f32) (x4 : Vec Ideal S1024x1024 .bf16) (x5 : Vec Ideal S1x1024 .f32) (x6 : Vec Ideal S1x1x1024 .f32) (x7 : Vec Ideal S1x1x1024 .f32) (x8 : Vec Ideal S1024x128 .f32) (x9 : Vec Ideal S1x128 .f32) (x10 : Vec Ideal S512x512 .bf16) :
    out0_A_12 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 x0 x1 x2 x3 x4 x5 x6 x7 x8 x9 x10 = k0_pay5 (k0_pay3 x0 (upper x4) x1 (lower x4) x2 x3) (k0_pay4 x5) x6 x7 := by
  unfold out0_A_12
  rw [View.read_writes_junk_eq_canon]
  unfold kernelRun0_A
  dsimp only
  sl_unfold_words
  rw [View.canon_unit_zero hz]
  simp only [View.readAt_eq_ld, Memref.IsWhole.read_unread, View.ld_unit_zero (S := S512x512) hz, View.ld_unit_zero (S := S512x1024) hz, View.ld_unit_zero (S := S1x1024) hz, View.ld_unit_zero (S := S1x1x1024) hz3]
  rw [← ld_upper, ← ld_lower]

theorem left_B_11 (c : Dev nD) (i : grid0.Coords) (arg1 : Memref sig .tc .vmem S512x512 .f32) (harg1 : arg1.IsWhole) (arg2 : Memref sig .tc .vmem S512x512 .f32) (harg2 : arg2.IsWhole) (arg3 : Memref sig .tc .vmem S512x1024 .f32) (harg3 : arg3.IsWhole) (arg4 : Memref sig .tc .vmem S1x1x1024 .f32) (harg4 : arg4.IsWhole) (arg5 : Memref sig .tc .vmem S1024x1024 .bf16) (harg5 : arg5.IsWhole) (arg6 : Memref sig .tc .vmem S1x1024 .f32) (harg6 : arg6.IsWhole) (arg7 : Memref sig .tc .vmem S1x1x1024 .f32) (harg7 : arg7.IsWhole) (arg8 : Memref sig .tc .vmem S1x1x1024 .f32) (harg8 : arg8.IsWhole) (arg9 : Memref sig .tc .vmem S1024x128 .f32) (harg9 : arg9.IsWhole) (arg10 : Memref sig .tc .vmem S1x128 .f32) (harg10 : arg10.IsWhole) (arg11 : Memref sig .tc .vmem S512x512 .bf16) (harg11 : arg11.IsWhole) (arg12 : Memref sig .tc .vmem S512x1024 .f32) (harg12 : arg12.IsWhole) (arg13 : Memref sig .tc .vmem S512x1024 .f32) (harg13 : arg13.IsWhole) (arg14 : Memref sig .tc .vmem S512x128 .i32) (harg14 : arg14.IsWhole) (arg15 : Memref sig .tc .vmem S512x128 .f32) (harg15 : arg15.IsWhole) (arg16 : Memref sig .tc .vmem S512x128 .i32) (harg16 : arg16.IsWhole) (arg17 : Memref sig .tc .vmem S1x128 .i32) (harg17 : arg17.IsWhole) (arg18 : Memref sig .tc .vmem S1x128 .f32) (harg18 : arg18.IsWhole) (hc0 : ¬cond0_0 i)
    (x0 : Vec Ideal S512x512 .f32) (x1 : Vec Ideal S512x512 .f32) (x2 : Vec Ideal S512x1024 .f32) (x3 : Vec Ideal S1x1x1024 .f32) (x4 : Vec Ideal S1024x1024 .bf16) (x5 : Vec Ideal S1x1024 .f32) (x6 : Vec Ideal S1x1x1024 .f32) (x7 : Vec Ideal S1x1x1024 .f32) (x8 : Vec Ideal S1024x128 .f32) (x9 : Vec Ideal S1x128 .f32) (x10 : Vec Ideal S512x512 .bf16) (xs0 : Vec Ideal S1x128 .f32) :
    out0_B_11 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 x0 x1 x2 x3 x4 x5 x6 x7 x8 x9 x10 xs0 = k0_pay2 x0 (upper x4) x1 (lower x4) x2 x3 := by
  unfold out0_B_11
  rw [View.read_writes_junk_eq_canon]
  unfold kernelRun0_B
  dsimp only
  sl_unfold_words
  rw [View.canon_unit_zero hz]
  simp only [View.readAt_eq_ld, Memref.IsWhole.read_unread, View.ld_unit_zero (S := S512x512) hz, View.ld_unit_zero (S := S512x1024) hz, View.ld_unit_zero (S := S1x1024) hz, View.ld_unit_zero (S := S1x1x1024) hz3]
  rw [← ld_upper, ← ld_lower]

theorem left_B_12 (c : Dev nD) (i : grid0.Coords) (arg1 : Memref sig .tc .vmem S512x512 .f32) (harg1 : arg1.IsWhole) (arg2 : Memref sig .tc .vmem S512x512 .f32) (harg2 : arg2.IsWhole) (arg3 : Memref sig .tc .vmem S512x1024 .f32) (harg3 : arg3.IsWhole) (arg4 : Memref sig .tc .vmem S1x1x1024 .f32) (harg4 : arg4.IsWhole) (arg5 : Memref sig .tc .vmem S1024x1024 .bf16) (harg5 : arg5.IsWhole) (arg6 : Memref sig .tc .vmem S1x1024 .f32) (harg6 : arg6.IsWhole) (arg7 : Memref sig .tc .vmem S1x1x1024 .f32) (harg7 : arg7.IsWhole) (arg8 : Memref sig .tc .vmem S1x1x1024 .f32) (harg8 : arg8.IsWhole) (arg9 : Memref sig .tc .vmem S1024x128 .f32) (harg9 : arg9.IsWhole) (arg10 : Memref sig .tc .vmem S1x128 .f32) (harg10 : arg10.IsWhole) (arg11 : Memref sig .tc .vmem S512x512 .bf16) (harg11 : arg11.IsWhole) (arg12 : Memref sig .tc .vmem S512x1024 .f32) (harg12 : arg12.IsWhole) (arg13 : Memref sig .tc .vmem S512x1024 .f32) (harg13 : arg13.IsWhole) (arg14 : Memref sig .tc .vmem S512x128 .i32) (harg14 : arg14.IsWhole) (arg15 : Memref sig .tc .vmem S512x128 .f32) (harg15 : arg15.IsWhole) (arg16 : Memref sig .tc .vmem S512x128 .i32) (harg16 : arg16.IsWhole) (arg17 : Memref sig .tc .vmem S1x128 .i32) (harg17 : arg17.IsWhole) (arg18 : Memref sig .tc .vmem S1x128 .f32) (harg18 : arg18.IsWhole) (hc0 : ¬cond0_0 i)
    (x0 : Vec Ideal S512x512 .f32) (x1 : Vec Ideal S512x512 .f32) (x2 : Vec Ideal S512x1024 .f32) (x3 : Vec Ideal S1x1x1024 .f32) (x4 : Vec Ideal S1024x1024 .bf16) (x5 : Vec Ideal S1x1024 .f32) (x6 : Vec Ideal S1x1x1024 .f32) (x7 : Vec Ideal S1x1x1024 .f32) (x8 : Vec Ideal S1024x128 .f32) (x9 : Vec Ideal S1x128 .f32) (x10 : Vec Ideal S512x512 .bf16) (xs0 : Vec Ideal S1x128 .f32) :
    out0_B_12 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 x0 x1 x2 x3 x4 x5 x6 x7 x8 x9 x10 xs0 = k0_pay5 (k0_pay3 x0 (upper x4) x1 (lower x4) x2 x3) (k0_pay4 x5) x6 x7 := by
  unfold out0_B_12
  rw [View.read_writes_junk_eq_canon]
  unfold kernelRun0_B
  dsimp only
  sl_unfold_words
  rw [View.canon_unit_zero hz]
  simp only [View.readAt_eq_ld, Memref.IsWhole.read_unread, View.ld_unit_zero (S := S512x512) hz, View.ld_unit_zero (S := S512x1024) hz, View.ld_unit_zero (S := S1x1024) hz, View.ld_unit_zero (S := S1x1x1024) hz3]
  rw [← ld_upper, ← ld_lower]

end Cert.OutprojIdeal.Own

end
-- ==== Proof.OutprojRun.lean ====
/- The output projection's first two results after the run, entry by entry, in the launch's arguments. -/
module

public import proofs.«01_k».proof.Proof.OutprojValue

@[expose] public section

set_option maxRecDepth 16384

noncomputable section

namespace Cert.OutprojIdeal.Own

open Idealize.ShloMosaic Idealize.ShloMosaic.TcCoe Idealize.ShloMosaic.Tactic
open Cert.OutprojIdeal.Gen Cert.OutprojIdeal.Value

variable (m : (ℓ : Loc nD τ sig) → Buf (Elt Ideal) ℓ)

/-! ## What the host lays out -/

theorem v5 (c : Dev nD) : V m c main_v5 = broadcastInDim S4x1x1024 ![0, 2] bcast_S4x1024_S4x1x1024_0_2 (m ((c.tc : Thread nD τ).loc main_arg3)) := by
  unfold V
  simp only [hostOps0, hostOps0_1, hostOps0_2, List.flatten_cons, List.flatten_nil, List.append_nil, List.cons_append, List.nil_append]
  after_results_simp <;> (try dsimp only [Matrix.cons_val]) <;> (try after_results_simp) <;> rfl
theorem v6 (c : Dev nD) : V m c main_v6 = truncf (s := S1024x1024) (F := Ideal) .bf16 (m ((c.tc : Thread nD τ).loc main_arg4)) bitsLt_bf16_f32 := by
  unfold V
  simp only [hostOps0, hostOps0_1, hostOps0_2, List.flatten_cons, List.flatten_nil, List.append_nil, List.cons_append, List.nil_append]
  after_results_simp <;> (try dsimp only [Matrix.cons_val]) <;> (try after_results_simp) <;> rfl
theorem v7 (c : Dev nD) : V m c main_v7 = broadcastInDim S1x1024 ![1] bcast_S1024_S1x1024_1 (m ((c.tc : Thread nD τ).loc main_arg5)) := by
  unfold V
  simp only [hostOps0, hostOps0_1, hostOps0_2, List.flatten_cons, List.flatten_nil, List.append_nil, List.cons_append, List.nil_append]
  after_results_simp <;> (try dsimp only [Matrix.cons_val]) <;> (try after_results_simp) <;> rfl
theorem v8 (c : Dev nD) : V m c main_v8 = broadcastInDim S4x1x1024 ![0, 2] bcast_S4x1024_S4x1x1024_0_2 (m ((c.tc : Thread nD τ).loc main_arg6)) := by
  unfold V
  simp only [hostOps0, hostOps0_1, hostOps0_2, List.flatten_cons, List.flatten_nil, List.append_nil, List.cons_append, List.nil_append]
  after_results_simp <;> (try dsimp only [Matrix.cons_val]) <;> (try after_results_simp) <;> rfl
theorem v9 (c : Dev nD) : V m c main_v9 = broadcastInDim S4x1x1024 ![0, 2] bcast_S4x1024_S4x1x1024_0_2 (m ((c.tc : Thread nD τ).loc main_arg7)) := by
  unfold V
  simp only [hostOps0, hostOps0_1, hostOps0_2, List.flatten_cons, List.flatten_nil, List.append_nil, List.cons_append, List.nil_append]
  after_results_simp <;> (try dsimp only [Matrix.cons_val]) <;> (try after_results_simp) <;> rfl

theorem one_apply (x : FVec Ideal S1024 .f32) (k : Fin 1024) :
    (broadcastInDim S1x1024 ![1] bcast_S1024_S1x1024_1 x : FVec Ideal S1x1024 .f32) (ix2 (0 : Fin 1) k) = x (ix1 k) := by
  pointwise
theorem batch_apply (x : FVec Ideal S4x1024 .f32) (b : Fin 4) (k : Fin 1024) :
    (broadcastInDim S4x1x1024 ![0, 2] bcast_S4x1024_S4x1x1024_0_2 x : FVec Ideal S4x1x1024 .f32) (ix3 b (0 : Fin 1) k) = x (ix2 b k) := by
  pointwise
theorem weights_apply (x : FVec Ideal S1024x1024 .f32) (k d : Fin 1024) :
    (truncf .bf16 x bitsLt_bf16_f32 : FVec Ideal S1024x1024 .bf16) (ix2 k d) = x (ix2 k d) := by
  pointwise

/-! ## The blocks -/

theorem ind_0 : ∀ t : Fin cfg0.N, win0_0.index t = ![t.val, 0] := (by decide +kernel : ∀ t : Fin grid0.N, win0_0.index t = ![t.val, 0])
theorem ind_1 : ∀ t : Fin cfg0.N, win0_1.index t = ![t.val, 0] := (by decide +kernel : ∀ t : Fin grid0.N, win0_1.index t = ![t.val, 0])
theorem ind_2 : ∀ t : Fin cfg0.N, win0_2.index t = ![t.val, 0] := (by decide +kernel : ∀ t : Fin grid0.N, win0_2.index t = ![t.val, 0])
theorem ind_3 : ∀ t : Fin cfg0.N, win0_3.index t = ![t.val / 8, 0, 0] := (by decide +kernel : ∀ t : Fin grid0.N, win0_3.index t = ![t.val / 8, 0, 0])
theorem ind_4 : ∀ t : Fin cfg0.N, win0_4.index t = ![0, 0] := (by decide +kernel : ∀ t : Fin grid0.N, win0_4.index t = ![0, 0])
theorem ind_5 : ∀ t : Fin cfg0.N, win0_5.index t = ![0, 0] := (by decide +kernel : ∀ t : Fin grid0.N, win0_5.index t = ![0, 0])
theorem ind_6 : ∀ t : Fin cfg0.N, win0_6.index t = ![t.val / 8, 0, 0] := (by decide +kernel : ∀ t : Fin grid0.N, win0_6.index t = ![t.val / 8, 0, 0])
theorem ind_7 : ∀ t : Fin cfg0.N, win0_7.index t = ![t.val / 8, 0, 0] := (by decide +kernel : ∀ t : Fin grid0.N, win0_7.index t = ![t.val / 8, 0, 0])
theorem ind_11 : ∀ t : Fin cfg0.N, win0_11.index t = ![t.val, 0] := (by decide +kernel : ∀ t : Fin grid0.N, win0_11.index t = ![t.val, 0])
theorem ind_12 : ∀ t : Fin cfg0.N, win0_12.index t = ![t.val, 0] := (by decide +kernel : ∀ t : Fin grid0.N, win0_12.index t = ![t.val, 0])
theorem fl_11 : ∀ t : Fin cfg0.N, (cfg0.win 11).flush t = true := (by decide +kernel : ∀ t : Fin grid0.N, win0_11.flush t = true)
theorem fl_12 : ∀ t : Fin cfg0.N, (cfg0.win 12).flush t = true := (by decide +kernel : ∀ t : Fin grid0.N, win0_12.flush t = true)

theorem N_eq : grid0.N = 32 := by decide +kernel

/-- The point at which token `t` is worked on. -/
def point (t : Fin 16384) : Fin cfg0.N := ⟨t.val / 512, lt_of_lt_of_eq (by omega) N_eq.symm⟩
/-- Its row in the point's block. -/
def row (t : Fin 16384) : Fin 512 := ⟨t.val % 512, by omega⟩

theorem at_point (t : Fin 16384) : (point t).val * 512 + (row t).val = t.val := by
  show t.val / 512 * 512 + t.val % 512 = t.val
  omega
theorem batch_point (t : Fin 16384) : (point t).val / 8 = (Proj.bat t).val := by
  show t.val / 512 / 8 = t.val / 4096
  omega

theorem b0 (c : Dev nD) (t : Fin 16384) (k : Fin 512) :
    iblk m c 0 (point t) (ix2 (row t) k) = (m ((c.tc : Thread nD τ).loc main_arg0) : FVec Ideal S16384x512 .f32) (ix2 t k) := by
  have e := ind_0 (point t)
  have p := at_point t
  have h : iblk m c 0 (point t) (ix2 (row t) k) = (V m c main_arg0 : FVec Ideal S16384x512 .f32) (ix2 t k) := by
    blk_ext [iblk, e]
  exact h.trans (congrFun (V_main_arg0 m c) _)
theorem b1 (c : Dev nD) (t : Fin 16384) (k : Fin 512) :
    iblk m c 1 (point t) (ix2 (row t) k) = (m ((c.tc : Thread nD τ).loc main_arg1) : FVec Ideal S16384x512 .f32) (ix2 t k) := by
  have e := ind_1 (point t)
  have p := at_point t
  have h : iblk m c 1 (point t) (ix2 (row t) k) = (V m c main_arg1 : FVec Ideal S16384x512 .f32) (ix2 t k) := by
    blk_ext [iblk, e]
  exact h.trans (congrFun (V_main_arg1 m c) _)
theorem b2 (c : Dev nD) (t : Fin 16384) (k : Fin 1024) :
    iblk m c 2 (point t) (ix2 (row t) k) = (m ((c.tc : Thread nD τ).loc main_arg2) : FVec Ideal S16384x1024 .f32) (ix2 t k) := by
  have e := ind_2 (point t)
  have p := at_point t
  have h : iblk m c 2 (point t) (ix2 (row t) k) = (V m c main_arg2 : FVec Ideal S16384x1024 .f32) (ix2 t k) := by
    blk_ext [iblk, e]
  exact h.trans (congrFun (V_main_arg2 m c) _)
theorem b3 (c : Dev nD) (t : Fin 16384) (k : Fin 1024) :
    iblk m c 3 (point t) (ix3 (0 : Fin 1) (0 : Fin 1) k) = (m ((c.tc : Thread nD τ).loc main_arg3) : FVec Ideal S4x1024 .f32) (ix2 (Proj.bat t) k) := by
  have e := ind_3 (point t)
  have p := batch_point t
  have h : iblk m c 3 (point t) (ix3 (0 : Fin 1) (0 : Fin 1) k) = (V m c main_v5 : FVec Ideal S4x1x1024 .f32) (ix3 (Proj.bat t) (0 : Fin 1) k) := by
    blk_ext [iblk, e]
  exact h.trans ((congrFun (v5 m c) _).trans (batch_apply _ _ k))
theorem b4 (c : Dev nD) (t : Fin 16384) (k d : Fin 1024) :
    iblk m c 4 (point t) (ix2 k d) = (m ((c.tc : Thread nD τ).loc main_arg4) : FVec Ideal S1024x1024 .f32) (ix2 k d) := by
  have e := ind_4 (point t)
  have h : iblk m c 4 (point t) (ix2 k d) = (V m c main_v6 : FVec Ideal S1024x1024 .bf16) (ix2 k d) := by
    blk_ext [iblk, e]
  exact h.trans ((congrFun (v6 m c) _).trans (weights_apply _ k d))
theorem b5 (c : Dev nD) (t : Fin 16384) (k : Fin 1024) :
    iblk m c 5 (point t) (ix2 (0 : Fin 1) k) = (m ((c.tc : Thread nD τ).loc main_arg5) : FVec Ideal S1024 .f32) (ix1 k) := by
  have e := ind_5 (point t)
  have h : iblk m c 5 (point t) (ix2 (0 : Fin 1) k) = (V m c main_v7 : FVec Ideal S1x1024 .f32) (ix2 (0 : Fin 1) k) := by
    blk_ext [iblk, e]
  exact h.trans ((congrFun (v7 m c) _).trans (one_apply _ k))
theorem b6 (c : Dev nD) (t : Fin 16384) (k : Fin 1024) :
    iblk m c 6 (point t) (ix3 (0 : Fin 1) (0 : Fin 1) k) = (m ((c.tc : Thread nD τ).loc main_arg6) : FVec Ideal S4x1024 .f32) (ix2 (Proj.bat t) k) := by
  have e := ind_6 (point t)
  have p := batch_point t
  have h : iblk m c 6 (point t) (ix3 (0 : Fin 1) (0 : Fin 1) k) = (V m c main_v8 : FVec Ideal S4x1x1024 .f32) (ix3 (Proj.bat t) (0 : Fin 1) k) := by
    blk_ext [iblk, e]
  exact h.trans ((congrFun (v8 m c) _).trans (batch_apply _ _ k))
theorem b7 (c : Dev nD) (t : Fin 16384) (k : Fin 1024) :
    iblk m c 7 (point t) (ix3 (0 : Fin 1) (0 : Fin 1) k) = (m ((c.tc : Thread nD τ).loc main_arg7) : FVec Ideal S4x1024 .f32) (ix2 (Proj.bat t) k) := by
  have e := ind_7 (point t)
  have p := batch_point t
  have h : iblk m c 7 (point t) (ix3 (0 : Fin 1) (0 : Fin 1) k) = (V m c main_v9 : FVec Ideal S4x1x1024 .f32) (ix3 (Proj.bat t) (0 : Fin 1) k) := by
    blk_ext [iblk, e]
  exact h.trans ((congrFun (v9 m c) _).trans (batch_apply _ _ k))

/-! ## The results -/

/-- What point `t` leaves for the residual stream, -/
abbrev left11 (c : Dev nD) (t : Fin cfg0.N) : Vec Ideal S512x1024 .f32 :=
  k0_pay2 (iblk m c 0 t) (upper (iblk m c 4 t)) (iblk m c 1 t) (lower (iblk m c 4 t)) (iblk m c 2 t) (iblk m c 3 t)
/-- and for its normalised rows. -/
abbrev left12 (c : Dev nD) (t : Fin cfg0.N) : Vec Ideal S512x1024 .f32 :=
  k0_pay5 (k0_pay3 (iblk m c 0 t) (upper (iblk m c 4 t)) (iblk m c 1 t) (lower (iblk m c 4 t)) (iblk m c 2 t) (iblk m c 3 t)) (k0_pay4 (iblk m c 5 t)) (iblk m c 6 t) (iblk m c 7 t)

theorem flush_11 (c : Dev nD) (t : Fin cfg0.N) : (dats m 0 c).flushed 11 t = (cfg0.win 11).cut (grid0.coords t) (left11 m c t) := by
  by_cases h : t.val % 32 = 0
  · rw [flushed11_A m c t h, left_A_11]
  · rw [flushed11_B m c t h, left_B_11]
theorem flush_12 (c : Dev nD) (t : Fin cfg0.N) : (dats m 0 c).flushed 12 t = (cfg0.win 12).cut (grid0.coords t) (left12 m c t) := by
  by_cases h : t.val % 32 = 0
  · rw [flushed12_A m c t h, left_A_12]
  · rw [flushed12_B m c t h, left_B_12]

/-- The residual stream of token `t`, in the launch's arguments. -/
abbrev res (c : Dev nD) (t : Fin 16384) : Fin 1024 → EReal :=
  Outp.resid (fun k => (m ((c.tc : Thread nD τ).loc main_arg0) : FVec Ideal S16384x512 .f32) (ix2 t k)) (fun k => (m ((c.tc : Thread nD τ).loc main_arg1) : FVec Ideal S16384x512 .f32) (ix2 t k))
    (fun k d => (m ((c.tc : Thread nD τ).loc main_arg4) : FVec Ideal S1024x1024 .f32) (ix2 k d)) (fun i => (m ((c.tc : Thread nD τ).loc main_arg2) : FVec Ideal S16384x1024 .f32) (ix2 t i))
    (fun i => (m ((c.tc : Thread nD τ).loc main_arg3) : FVec Ideal S4x1024 .f32) (ix2 (Proj.bat t) i))

theorem res_left (c : Dev nD) (t : Fin 16384) (d : Fin 1024) : left11 m c (point t) (ix2 (row t) d) = res m c t d := by
  refine (x1_apply _ _ _ _ _ (row t) d).trans (congrFun (Outp.resid_congr ?_ ?_ ?_ ?_ ?_) d)
  · exact funext fun k => b0 m c t k
  · exact funext fun k => b1 m c t k
  · exact funext fun k => funext fun d => b4 m c t k d
  · exact funext fun k => b2 m c t k
  · exact funext fun k => b3 m c t k

theorem final_11 (c : Dev nD) (t : Fin 16384) (d : Fin 1024) :
    ((dats m 0 c).arrAt 11 cfg0.N : FVec Ideal S16384x1024 .f32) (ix2 t d) = res m c t d := by
  have b := (blocks11 m c (point t) (fl_11 (point t))).trans (flush_11 m c (point t))
  have e := ind_11 (point t)
  have p := at_point t
  have q := congrFun b (ix2 (row t) d)
  refine Eq.trans ?_ (q.trans (res_left m c t d))
  blk_ext [e]

theorem final_12 (c : Dev nD) (t : Fin 16384) (d : Fin 1024) :
    ((dats m 0 c).arrAt 12 cfg0.N : FVec Ideal S16384x1024 .f32) (ix2 t d) = Proj.hid (res m c t) (fun i => (m ((c.tc : Thread nD τ).loc main_arg5) : FVec Ideal S1024 .f32) (ix1 i))
      (fun i => (m ((c.tc : Thread nD τ).loc main_arg6) : FVec Ideal S4x1024 .f32) (ix2 (Proj.bat t) i)) (fun i => (m ((c.tc : Thread nD τ).loc main_arg7) : FVec Ideal S4x1024 .f32) (ix2 (Proj.bat t) i)) d := by
  have b := (blocks12 m c (point t) (fl_12 (point t))).trans (flush_12 m c (point t))
  have e := ind_12 (point t)
  have p := at_point t
  have q := congrFun b (ix2 (row t) d)
  refine Eq.trans ?_ (q.trans ?_)
  · blk_ext [e]
  refine (h2_apply _ _ _ _ _ _ _ _ _ (row t) d).trans (congrFun (Outp.hid_congr ?_ ?_ ?_ ?_) d)
  · exact funext fun i => res_left m c t i
  · exact funext fun k => b5 m c t k
  · exact funext fun k => b6 m c t k
  · exact funext fun k => b7 m c t k

end Cert.OutprojIdeal.Own

end
-- ==== Proof.OutprojRef.lean ====
/- The output projection's reference, its two results read at an index. -/
module

public import proofs.«01_k».proof.Proof.Gen.OutprojRefIdeal.Run
public import proofs.«01_k».proof.Proof.OutprojMath
public import Idealize.ShloMosaic.Lib.Pointwise

@[expose] public section

set_option maxRecDepth 16384

noncomputable section

namespace Cert.OutprojRefIdeal.Own

open Cert.OutprojRefIdeal Cert.OutprojRefIdeal.Gen Idealize.ShloMosaic Idealize.ShloMosaic.TcCoe Idealize.SL.Sem Idealize.ShloMosaic.StableHlo
open Cert.OutprojRefIdeal.Gen Cert.OutprojRefIdeal.Value

/-- The two halves side by side, batch by batch. -/
def both (a b : FVec Ideal S16384x512 .f32) : FVec Ideal S4x4096x1024 .f32 :=
  shapeCast _ (concatenate S16384x1024 1 [⟨S16384x512, a⟩, ⟨S16384x512, b⟩] concatenates_S16384x512_S16384x512_S16384x1024_d1) shapeCasts_S16384x1024_S4x4096x1024

/-- The residual stream with the projection added. -/
def added (a b : FVec Ideal S16384x512 .f32) (w : FVec Ideal S1024x1024 .f32) (x : FVec Ideal S16384x1024 .f32) (s : FVec Ideal S4x1024 .f32) : FVec Ideal S4x4096x1024 .f32 :=
  addf (shapeCast _ x shapeCasts_S16384x1024_S4x4096x1024) (mulf (broadcastInDim S4x4096x1024 ![0, 1, 2] bcast_S4x1x1024_S4x4096x1024_0_1_2 (broadcastInDim S4x1x1024 ![0, 2] bcast_S4x1024_S4x1x1024_0_2 s)) (Host.dotGeneral dot_S4x4096x1024_S1024x1024_S4x4096x1024_2_0_01_1_n_n none (both a b) w))

/-- The stream normalised, scaled and shifted. -/
def normed (r : FVec Ideal S4x4096x1024 .f32) (g : FVec Ideal S1024 .f32) (sc sh : FVec Ideal S4x1024 .f32) : FVec Ideal S4x4096x1024 .f32 :=
  addf (mulf (mulf (mulf r (broadcastInDim S4x4096x1024 ![0, 1, 2] bcast_S4x4096x1_S4x4096x1024_0_1_2 (Host.rsqrt (addf (Host.divf (broadcastInDim S4x4096x1 ![0, 1] bcast_S4x4096_S4x4096x1_0_1 (Host.reduceAdd (mulf r r) (constant S_ .f32 0x00000000#32) reducesTo_S4x4096x1024_S4x4096_d2 h_S_)) (broadcastInDim S4x4096x1 ![] bcast_S_S4x4096x1 (constant S_ .f32 0x44800000#32))) (broadcastInDim S4x4096x1 ![] bcast_S_S4x4096x1 (constant S_ .f32 0x358637BD#32)))))) (broadcastInDim S4x4096x1024 ![0, 1, 2] bcast_S1x1x1024_S4x4096x1024_0_1_2 (broadcastInDim S1x1x1024 ![2] bcast_S1024_S1x1x1024_2 g))) (broadcastInDim S4x4096x1024 ![0, 1, 2] bcast_S4x1x1024_S4x4096x1024_0_1_2 (addf (broadcastInDim S4x1x1024 ![] bcast_S_S4x1x1024 (constant S_ .f32 0x3F800000#32)) (broadcastInDim S4x1x1024 ![0, 2] bcast_S4x1024_S4x1x1024_0_2 sc)))) (broadcastInDim S4x4096x1024 ![0, 1, 2] bcast_S4x1x1024_S4x4096x1024_0_1_2 (broadcastInDim S4x1x1024 ![0, 2] bcast_S4x1024_S4x1x1024_0_2 sh))

/-- A result, one row to a token. -/
def flat (r : FVec Ideal S4x4096x1024 .f32) : FVec Ideal S16384x1024 .f32 := shapeCast S16384x1024 r shapeCasts_S4x4096x1024_S16384x1024

/-- The reference's run, with its results in these terms. -/
theorem run_total (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v29) = flat (added (m ((c.tc : Thread nD τ).loc main_arg0)) (m ((c.tc : Thread nD τ).loc main_arg1)) (m ((c.tc : Thread nD τ).loc main_arg4)) (m ((c.tc : Thread nD τ).loc main_arg2)) (m ((c.tc : Thread nD τ).loc main_arg3)))
      ∧ r.2.mem ((c.tc : Thread nD τ).loc main_v30) = flat (normed (added (m ((c.tc : Thread nD τ).loc main_arg0)) (m ((c.tc : Thread nD τ).loc main_arg1)) (m ((c.tc : Thread nD τ).loc main_arg4)) (m ((c.tc : Thread nD τ).loc main_arg2)) (m ((c.tc : Thread nD τ).loc main_arg3))) (m ((c.tc : Thread nD τ).loc main_arg5)) (m ((c.tc : Thread nD τ).loc main_arg6)) (m ((c.tc : Thread nD τ).loc main_arg7)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9) :=
  Cert.OutprojRefIdeal.Value.run (F := Ideal) m ρ

/-! ## Read at an index -/

theorem both_apply (a b : FVec Ideal S16384x512 .f32) (t : Fin 16384) (k : Fin 1024) :
    both a b (ix3 (Proj.bat t) (Proj.pos t) k) = if h : k.val < 512 then a (ix2 t ⟨k.val, h⟩) else b (ix2 t ⟨k.val - 512, by omega⟩) := by
  have e : (⟨(Proj.bat t).val * 4096 + (Proj.pos t).val, by have := (Proj.bat t).isLt; have := (Proj.pos t).isLt; omega⟩ : Fin 16384) = t :=
    Fin.ext (by show t.val / 4096 * 4096 + t.val % 4096 = t.val; omega)
  pointwise [both]
  simp only [e]

theorem added_apply (a b : FVec Ideal S16384x512 .f32) (w : FVec Ideal S1024x1024 .f32) (x : FVec Ideal S16384x1024 .f32) (s : FVec Ideal S4x1024 .f32) (t : Fin 16384) (d : Fin 1024) :
    added a b w x s (ix3 (Proj.bat t) (Proj.pos t) d) = Outp.resid (fun k => a (ix2 t k)) (fun k => b (ix2 t k)) (fun k d => w (ix2 k d)) (fun i => x (ix2 t i)) (fun i => s (ix2 (Proj.bat t) i)) d := by
  have e : (⟨(Proj.bat t).val * 4096 + (Proj.pos t).val, by have := (Proj.bat t).isLt; have := (Proj.pos t).isLt; omega⟩ : Fin 16384) = t :=
    Fin.ext (by show t.val / 4096 * 4096 + t.val % 4096 = t.val; omega)
  unfold Outp.resid
  pointwise [added]
  simp only [e, both_apply]
  exact congrArg (fun z => x (ix2 t d) + s (ix2 (Proj.bat t) d) * z) (Outp.sum_halves (fun k => a (ix2 t k)) (fun k => b (ix2 t k)) (fun k => w (ix2 k d)))

theorem normed_apply (r : FVec Ideal S4x4096x1024 .f32) (g : FVec Ideal S1024 .f32) (sc sh : FVec Ideal S4x1024 .f32) (t : Fin 16384) (d : Fin 1024) :
    normed r g sc sh (ix3 (Proj.bat t) (Proj.pos t) d) = Proj.hid (fun i => r (ix3 (Proj.bat t) (Proj.pos t) i)) (fun i => g (ix1 i)) (fun i => sc (ix2 (Proj.bat t) i)) (fun i => sh (ix2 (Proj.bat t) i)) d := by
  unfold Proj.hid
  pointwise [normed]

theorem flat_apply (r : FVec Ideal S4x4096x1024 .f32) (t : Fin 16384) (d : Fin 1024) : flat r (ix2 t d) = r (ix3 (Proj.bat t) (Proj.pos t) d) := by
  pointwise [flat]
  rfl

end Cert.OutprojRefIdeal.Own

end
-- ==== Proof.OutprojClaim.lean ====
/- The output projection: each program comes to rest, and the kernel's stream and normalised stream are the reference's. -/
module

public import proofs.«01_k».proof.Defs
public import proofs.«01_k».proof.Proof.OutprojRun
public import proofs.«01_k».proof.Proof.OutprojRef
public import proofs.«01_k».proof.Proof.Gen.Outproj.Frame
public import proofs.«01_k».proof.Proof.Gen.OutprojIdeal.Frame

@[expose] public section

noncomputable section

namespace Cert.Proof.Outproj

open Idealize.ShloMosaic Idealize.ShloMosaic.TcCoe Idealize.SL.Sem

/-- The projection's kernel comes to rest. -/
theorem kernel_frame : Cert.quiescent_Outproj := fun m ρ _ => Cert.Outproj.Gen.frame m ρ

/-- So does its idealization. -/
theorem ideal_frame : Cert.quiescent_OutprojIdeal := fun m ρ _ => Cert.OutprojIdeal.Gen.frame m ρ

/-- The reference runs to its end; it has no semaphores. -/
theorem reference_frame : Cert.quiescent_OutprojRefIdeal := fun m ρ _ =>
  (θ_run Cert.OutprojRefIdeal.defs _ _).mono (fun r h' => ⟨fun c => (h' c).2.2, sem_eq_zero_of_no_sems (by decide) r.2⟩) (Cert.OutprojRefIdeal.Value.run (F := Ideal) m ρ)

/-- A token's stream: the reference's and the kernel's. -/
theorem stream_eq
    (m : (ℓ : Loc Cert.OutprojIdeal.nD Cert.OutprojIdeal.τ Cert.OutprojIdeal.sig) → Buf (Elt Ideal) ℓ)
    (m' : (ℓ : Loc Cert.OutprojRefIdeal.nD Cert.OutprojRefIdeal.τ Cert.OutprojRefIdeal.sig) → Buf (Elt Ideal) ℓ) (c : Dev Cert.OutprojIdeal.nD)
    (h0 : m' ((c.tc : Thread Cert.OutprojRefIdeal.nD Cert.OutprojRefIdeal.τ).loc Cert.OutprojRefIdeal.main_arg0) = m ((c.tc : Thread Cert.OutprojIdeal.nD Cert.OutprojIdeal.τ).loc Cert.OutprojIdeal.main_arg0))
    (h1 : m' ((c.tc : Thread Cert.OutprojRefIdeal.nD Cert.OutprojRefIdeal.τ).loc Cert.OutprojRefIdeal.main_arg1) = m ((c.tc : Thread Cert.OutprojIdeal.nD Cert.OutprojIdeal.τ).loc Cert.OutprojIdeal.main_arg1))
    (h2 : m' ((c.tc : Thread Cert.OutprojRefIdeal.nD Cert.OutprojRefIdeal.τ).loc Cert.OutprojRefIdeal.main_arg2) = m ((c.tc : Thread Cert.OutprojIdeal.nD Cert.OutprojIdeal.τ).loc Cert.OutprojIdeal.main_arg2))
    (h3 : m' ((c.tc : Thread Cert.OutprojRefIdeal.nD Cert.OutprojRefIdeal.τ).loc Cert.OutprojRefIdeal.main_arg3) = m ((c.tc : Thread Cert.OutprojIdeal.nD Cert.OutprojIdeal.τ).loc Cert.OutprojIdeal.main_arg3))
    (h4 : m' ((c.tc : Thread Cert.OutprojRefIdeal.nD Cert.OutprojRefIdeal.τ).loc Cert.OutprojRefIdeal.main_arg4) = m ((c.tc : Thread Cert.OutprojIdeal.nD Cert.OutprojIdeal.τ).loc Cert.OutprojIdeal.main_arg4)) (t : Fin 16384) :
    (fun i => (Cert.OutprojRefIdeal.Own.added (m' ((c.tc : Thread Cert.OutprojRefIdeal.nD Cert.OutprojRefIdeal.τ).loc Cert.OutprojRefIdeal.main_arg0)) (m' ((c.tc : Thread Cert.OutprojRefIdeal.nD Cert.OutprojRefIdeal.τ).loc Cert.OutprojRefIdeal.main_arg1)) (m' ((c.tc : Thread Cert.OutprojRefIdeal.nD Cert.OutprojRefIdeal.τ).loc Cert.OutprojRefIdeal.main_arg4)) (m' ((c.tc : Thread Cert.OutprojRefIdeal.nD Cert.OutprojRefIdeal.τ).loc Cert.OutprojRefIdeal.main_arg2)) (m' ((c.tc : Thread Cert.OutprojRefIdeal.nD Cert.OutprojRefIdeal.τ).loc Cert.OutprojRefIdeal.main_arg3))) (ix3 (Proj.bat t) (Proj.pos t) i)) = Cert.OutprojIdeal.Own.res m c t := by
  funext i
  rw [Cert.OutprojRefIdeal.Own.added_apply, h0, h1, h2, h3, h4]

theorem x1_values
    (m : (ℓ : Loc Cert.OutprojIdeal.nD Cert.OutprojIdeal.τ Cert.OutprojIdeal.sig) → Buf (Elt Ideal) ℓ)
    (m' : (ℓ : Loc Cert.OutprojRefIdeal.nD Cert.OutprojRefIdeal.τ Cert.OutprojRefIdeal.sig) → Buf (Elt Ideal) ℓ) (c : Dev Cert.OutprojIdeal.nD)
    (h0 : m' ((c.tc : Thread Cert.OutprojRefIdeal.nD Cert.OutprojRefIdeal.τ).loc Cert.OutprojRefIdeal.main_arg0) = m ((c.tc : Thread Cert.OutprojIdeal.nD Cert.OutprojIdeal.τ).loc Cert.OutprojIdeal.main_arg0))
    (h1 : m' ((c.tc : Thread Cert.OutprojRefIdeal.nD Cert.OutprojRefIdeal.τ).loc Cert.OutprojRefIdeal.main_arg1) = m ((c.tc : Thread Cert.OutprojIdeal.nD Cert.OutprojIdeal.τ).loc Cert.OutprojIdeal.main_arg1))
    (h2 : m' ((c.tc : Thread Cert.OutprojRefIdeal.nD Cert.OutprojRefIdeal.τ).loc Cert.OutprojRefIdeal.main_arg2) = m ((c.tc : Thread Cert.OutprojIdeal.nD Cert.OutprojIdeal.τ).loc Cert.OutprojIdeal.main_arg2))
    (h3 : m' ((c.tc : Thread Cert.OutprojRefIdeal.nD Cert.OutprojRefIdeal.τ).loc Cert.OutprojRefIdeal.main_arg3) = m ((c.tc : Thread Cert.OutprojIdeal.nD Cert.OutprojIdeal.τ).loc Cert.OutprojIdeal.main_arg3))
    (h4 : m' ((c.tc : Thread Cert.OutprojRefIdeal.nD Cert.OutprojRefIdeal.τ).loc Cert.OutprojRefIdeal.main_arg4) = m ((c.tc : Thread Cert.OutprojIdeal.nD Cert.OutprojIdeal.τ).loc Cert.OutprojIdeal.main_arg4)) :
    Cert.OutprojRefIdeal.Own.flat (Cert.OutprojRefIdeal.Own.added (m' ((c.tc : Thread Cert.OutprojRefIdeal.nD Cert.OutprojRefIdeal.τ).loc Cert.OutprojRefIdeal.main_arg0)) (m' ((c.tc : Thread Cert.OutprojRefIdeal.nD Cert.OutprojRefIdeal.τ).loc Cert.OutprojRefIdeal.main_arg1)) (m' ((c.tc : Thread Cert.OutprojRefIdeal.nD Cert.OutprojRefIdeal.τ).loc Cert.OutprojRefIdeal.main_arg4)) (m' ((c.tc : Thread Cert.OutprojRefIdeal.nD Cert.OutprojRefIdeal.τ).loc Cert.OutprojRefIdeal.main_arg2)) (m' ((c.tc : Thread Cert.OutprojRefIdeal.nD Cert.OutprojRefIdeal.τ).loc Cert.OutprojRefIdeal.main_arg3))) = (Cert.OutprojIdeal.Gen.dats m 0 c).arrAt 11 Cert.OutprojIdeal.cfg0.N := by
  refine funext fun i => ?_
  obtain ⟨t, j, rfl⟩ : ∃ (t : Fin 16384) (j : Fin 1024), i = ix2 t j := ⟨i 0, i 1, eq_ix2 i⟩
  exact (Cert.OutprojRefIdeal.Own.flat_apply _ t j).trans ((congrFun (stream_eq m m' c h0 h1 h2 h3 h4 t) j).trans (Cert.OutprojIdeal.Own.final_11 m c t j).symm)

theorem h2_values
    (m : (ℓ : Loc Cert.OutprojIdeal.nD Cert.OutprojIdeal.τ Cert.OutprojIdeal.sig) → Buf (Elt Ideal) ℓ)
    (m' : (ℓ : Loc Cert.OutprojRefIdeal.nD Cert.OutprojRefIdeal.τ Cert.OutprojRefIdeal.sig) → Buf (Elt Ideal) ℓ) (c : Dev Cert.OutprojIdeal.nD)
    (h0 : m' ((c.tc : Thread Cert.OutprojRefIdeal.nD Cert.OutprojRefIdeal.τ).loc Cert.OutprojRefIdeal.main_arg0) = m ((c.tc : Thread Cert.OutprojIdeal.nD Cert.OutprojIdeal.τ).loc Cert.OutprojIdeal.main_arg0))
    (h1 : m' ((c.tc : Thread Cert.OutprojRefIdeal.nD Cert.OutprojRefIdeal.τ).loc Cert.OutprojRefIdeal.main_arg1) = m ((c.tc : Thread Cert.OutprojIdeal.nD Cert.OutprojIdeal.τ).loc Cert.OutprojIdeal.main_arg1))
    (h2 : m' ((c.tc : Thread Cert.OutprojRefIdeal.nD Cert.OutprojRefIdeal.τ).loc Cert.OutprojRefIdeal.main_arg2) = m ((c.tc : Thread Cert.OutprojIdeal.nD Cert.OutprojIdeal.τ).loc Cert.OutprojIdeal.main_arg2))
    (h3 : m' ((c.tc : Thread Cert.OutprojRefIdeal.nD Cert.OutprojRefIdeal.τ).loc Cert.OutprojRefIdeal.main_arg3) = m ((c.tc : Thread Cert.OutprojIdeal.nD Cert.OutprojIdeal.τ).loc Cert.OutprojIdeal.main_arg3))
    (h4 : m' ((c.tc : Thread Cert.OutprojRefIdeal.nD Cert.OutprojRefIdeal.τ).loc Cert.OutprojRefIdeal.main_arg4) = m ((c.tc : Thread Cert.OutprojIdeal.nD Cert.OutprojIdeal.τ).loc Cert.OutprojIdeal.main_arg4))
    (h5 : m' ((c.tc : Thread Cert.OutprojRefIdeal.nD Cert.OutprojRefIdeal.τ).loc Cert.OutprojRefIdeal.main_arg5) = m ((c.tc : Thread Cert.OutprojIdeal.nD Cert.OutprojIdeal.τ).loc Cert.OutprojIdeal.main_arg5))
    (h6 : m' ((c.tc : Thread Cert.OutprojRefIdeal.nD Cert.OutprojRefIdeal.τ).loc Cert.OutprojRefIdeal.main_arg6) = m ((c.tc : Thread Cert.OutprojIdeal.nD Cert.OutprojIdeal.τ).loc Cert.OutprojIdeal.main_arg6))
    (h7 : m' ((c.tc : Thread Cert.OutprojRefIdeal.nD Cert.OutprojRefIdeal.τ).loc Cert.OutprojRefIdeal.main_arg7) = m ((c.tc : Thread Cert.OutprojIdeal.nD Cert.OutprojIdeal.τ).loc Cert.OutprojIdeal.main_arg7)) :
    Cert.OutprojRefIdeal.Own.flat (Cert.OutprojRefIdeal.Own.normed (Cert.OutprojRefIdeal.Own.added (m' ((c.tc : Thread Cert.OutprojRefIdeal.nD Cert.OutprojRefIdeal.τ).loc Cert.OutprojRefIdeal.main_arg0)) (m' ((c.tc : Thread Cert.OutprojRefIdeal.nD Cert.OutprojRefIdeal.τ).loc Cert.OutprojRefIdeal.main_arg1)) (m' ((c.tc : Thread Cert.OutprojRefIdeal.nD Cert.OutprojRefIdeal.τ).loc Cert.OutprojRefIdeal.main_arg4)) (m' ((c.tc : Thread Cert.OutprojRefIdeal.nD Cert.OutprojRefIdeal.τ).loc Cert.OutprojRefIdeal.main_arg2)) (m' ((c.tc : Thread Cert.OutprojRefIdeal.nD Cert.OutprojRefIdeal.τ).loc Cert.OutprojRefIdeal.main_arg3))) (m' ((c.tc : Thread Cert.OutprojRefIdeal.nD Cert.OutprojRefIdeal.τ).loc Cert.OutprojRefIdeal.main_arg5)) (m' ((c.tc : Thread Cert.OutprojRefIdeal.nD Cert.OutprojRefIdeal.τ).loc Cert.OutprojRefIdeal.main_arg6)) (m' ((c.tc : Thread Cert.OutprojRefIdeal.nD Cert.OutprojRefIdeal.τ).loc Cert.OutprojRefIdeal.main_arg7))) = (Cert.OutprojIdeal.Gen.dats m 0 c).arrAt 12 Cert.OutprojIdeal.cfg0.N := by
  refine funext fun i => ?_
  obtain ⟨t, j, rfl⟩ : ∃ (t : Fin 16384) (j : Fin 1024), i = ix2 t j := ⟨i 0, i 1, eq_ix2 i⟩
  refine (Cert.OutprojRefIdeal.Own.flat_apply _ t j).trans ((Cert.OutprojRefIdeal.Own.normed_apply _ _ _ _ t j).trans (Eq.trans ?_ (Cert.OutprojIdeal.Own.final_12 m c t j).symm))
  rw [stream_eq m m' c h0 h1 h2 h3 h4 t, h5, h6, h7]

/-- From memories that agree on the arguments the two programs end with equal results. -/
theorem equal_results : Cert.algebraic_OutprojIdeal_OutprojRefIdeal := fun m ρ m' ρ' _ ha =>
  ⟨fun c => (Cert.OutprojIdeal.Gen.dats m 0 c).arrAt 11 Cert.OutprojIdeal.cfg0.N, fun c => (Cert.OutprojIdeal.Gen.dats m 0 c).arrAt 12 Cert.OutprojIdeal.cfg0.N,
    (θ_run Cert.OutprojIdeal.defs _ _).mono (fun _ h' c => ⟨(h' c).1, (h' c).2.1, (h' c).2.2.2.2.2.2⟩) (Cert.OutprojIdeal.Value.run_blocks (F := Ideal) m ρ),
    (θ_run Cert.OutprojRefIdeal.defs _ _).mono (fun _ h' c => ⟨(h' c).1.trans (x1_values m m' c (ha c).1 (ha c).2.1 (ha c).2.2.1 (ha c).2.2.2.1 (ha c).2.2.2.2.1), (h' c).2.1.trans (h2_values m m' c (ha c).1 (ha c).2.1 (ha c).2.2.1 (ha c).2.2.2.1 (ha c).2.2.2.2.1 (ha c).2.2.2.2.2.1 (ha c).2.2.2.2.2.2.1 (ha c).2.2.2.2.2.2.2.1), (h' c).2.2⟩)
      (Cert.OutprojRefIdeal.Own.run_total m' ρ')⟩

end Cert.Proof.Outproj

end
-- ==== Proof.AdalnMath.lean ====
/- An entry of the modulation. -/
module

public import Idealize.ShloMosaic.Lib.Pointwise

@[expose] public section

noncomputable section

namespace Cert.Modul

open Idealize.ShloMosaic

/-- An entry of the modulation: the swish of a row against a column of the weights, and the bias. -/
def entry (c w : Fin 1024 → EReal) (b : EReal) : EReal := (∑ k, c k * Ideal.div 1 (1 + Ideal.exp (0 - c k)) * w k) + b

theorem entry_congr {c c' w w' : Fin 1024 → EReal} {b b' : EReal} (hc : c = c') (hw : w = w') (hb : b = b') : entry c w b = entry c' w' b' := by
  rw [hc, hw, hb]

/-- A row of the padded input: the input's, or zeros. -/
def padded (c : Fin 4 → Fin 1024 → EReal) (i : Fin 8) (k : Fin 1024) : EReal := if h : i.val < 4 then c ⟨i.val, h⟩ k else 0

end Cert.Modul

end
-- ==== Proof.AdalnRun.lean ====
/- The modulation's result after the run, entry by entry, in the launch's arguments. -/
module

public import proofs.«01_k».proof.Proof.Gen.AdalnIdeal.Value
public import proofs.«01_k».proof.Proof.Gen.AdalnIdeal.Frame
public import proofs.«01_k».proof.Proof.AdalnMath
public import Idealize.ShloMosaic.Lib.Routing.OpsSet
public import Idealize.ShloMosaic.Lib.Pipeline.ValueKit.Point
public import Idealize.ShloMosaic.Lib.VecWindow
public import Idealize.ShloMosaic.Lib.Pointwise

@[expose] public section

set_option maxRecDepth 16384

noncomputable section

namespace Cert.AdalnIdeal.Own

open Idealize.ShloMosaic Idealize.ShloMosaic.TcCoe Idealize.ShloMosaic.Tactic
open Cert.AdalnIdeal Cert.AdalnIdeal.Gen Cert.AdalnIdeal.Value

variable (m : (ℓ : Loc nD τ sig) → Buf (Elt Ideal) ℓ)

theorem pay_apply (c : Vec Ideal S8x1024 .f32) (w : Vec Ideal S1024x1024 .f32) (b : Vec Ideal S1x1024 .f32) (i : Fin 8) (j : Fin 1024) :
    k0_pay1 c w b (ix2 i j) = Modul.entry (fun k => c (ix2 i k)) (fun k => w (ix2 k j)) (b (ix2 (0 : Fin 1) j)) := by
  unfold Modul.entry
  pointwise [k0_pay1]

theorem hz : (![0, 0] : Fin 2 → ℕ) = fun _ => 0 := funext fun a => match a with | ⟨0, _⟩ => rfl | ⟨1, _⟩ => rfl

theorem out_eq (c : Vec Ideal S8x1024 .f32) (w : Vec Ideal S1024x1024 .f32) (b : Vec Ideal S1x1024 .f32) :
    out0_3 c w b = k0_pay1 c w b := by
  unfold out0_3
  rw [View.canon_unit_zero hz]
  simp only [View.ld_unit_zero (S := S8x1024) hz, View.ld_unit_zero (S := S1024x1024) hz, View.ld_unit_zero (S := S1x1024) hz]

/-! ## What the host lays out -/

theorem v3 (c : Dev nD) : V m c main_v3 = broadcastInDim S1x6144 ![1] bcast_S6144_S1x6144_1 (m ((c.tc : Thread nD τ).loc main_arg2)) := by
  unfold V
  simp only [hostOps0, List.flatten_cons, List.flatten_nil, List.append_nil, List.cons_append, List.nil_append]
  after_results_simp <;> (try dsimp only [Matrix.cons_val]) <;> (try after_results_simp) <;> rfl
theorem v2 (c : Dev nD) : V m c main_v2 = Host.scatter scatter_S8x1024_S1_S4x1024_01_n_0_0 (fun _ b => b) (broadcastInDim S8x1024 ![] bcast_S_S8x1024 (constant (F := Ideal) S_ .f32 0x00000000#32)) (broadcastInDim S1 ![] bcast_S_S1 (constantI S_ 32 0#32)) (m ((c.tc : Thread nD τ).loc main_arg0)) := by
  unfold V
  simp only [hostOps0, List.flatten_cons, List.flatten_nil, List.append_nil, List.cons_append, List.nil_append]
  after_results_simp <;> (try dsimp only [Matrix.cons_val]) <;> (try after_results_simp) <;> rfl

theorem one_apply (x : FVec Ideal S6144 .f32) (k : Fin 6144) :
    (broadcastInDim S1x6144 ![1] bcast_S6144_S1x6144_1 x : FVec Ideal S1x6144 .f32) (ix2 (0 : Fin 1) k) = x (ix1 k) := by
  pointwise

abbrev dims : ScatterDims S8x1024 S1 S4x1024 := scatter_S8x1024_S1_S4x1024_01_n_0_0

/-- A row of the input lands at the row of the same number. -/
theorem lands (idx : IVec S1 32) (hidx : ∀ i, (idx i).toInt = 0) (a : Fin 4) (b : Fin 1024) (i : Fin 8) (k : Fin 1024) :
    dims.resultIdx? (ix2 a b) idx = some (ix2 i k) ↔ a.val = i.val ∧ b = k := by
  have w0 : dims.window (ix2 a b) 0 = a.val := rfl
  have w1 : dims.window (ix2 a b) 1 = b.val := rfl
  have s0 : dims.start (ix2 a b) idx 0 = 0 := by
    unfold ScatterDims.start
    rw [dif_pos (show (0 : Fin 2) ∈ dims.scatterDimsToOperandDims from List.mem_singleton.2 rfl)]
    exact hidx _
  have s1 : dims.start (ix2 a b) idx 1 = 0 := by
    unfold ScatterDims.start
    rw [dif_neg (show ¬(1 : Fin 2) ∈ dims.scatterDimsToOperandDims from fun h => absurd (List.mem_singleton.1 h) (by decide : (1 : Fin 2) ≠ 0))]
  refine (Idealize.ShloMosaic.Routing.resultIdx?_ix2 dims (ix2 a b) idx i k).trans ?_
  rw [Fin.ext_iff, s0, s1, w0, w1]
  omega

theorem rows_apply (x0 : FVec Ideal S8x1024 .f32) (idx : IVec S1 32) (hidx : ∀ i, (idx i).toInt = 0) (c : FVec Ideal S4x1024 .f32) (i : Fin 8) (k : Fin 1024) :
    Host.scatter dims (fun _ b => b) x0 idx c (ix2 i k) = if h : i.val < 4 then c (ix2 ⟨i.val, h⟩ k) else x0 (ix2 i k) := by
  by_cases h : i.val < 4
  · rw [dif_pos h]
    refine Idealize.ShloMosaic.Routing.scatter_set_hit dims x0 idx c _ _ (fun j hj => ?_) (ix2 ⟨i.val, h⟩ k) ((lands idx hidx _ _ _ _).2 ⟨rfl, rfl⟩)
    obtain ⟨a, b, rfl⟩ : ∃ (a : Fin 4) (b : Fin 1024), j = ix2 a b := ⟨j 0, j 1, eq_ix2 j⟩
    obtain ⟨p, q⟩ := (lands idx hidx a b i k).1 hj
    subst q
    exact congrArg (fun z => c (ix2 z b)) (Fin.ext p)
  · rw [dif_neg h]
    refine Idealize.ShloMosaic.Routing.scatter_set_miss dims x0 idx c _ (fun j hj => ?_)
    obtain ⟨a, b, rfl⟩ : ∃ (a : Fin 4) (b : Fin 1024), j = ix2 a b := ⟨j 0, j 1, eq_ix2 j⟩
    have p := ((lands idx hidx a b i k).1 hj).1
    exact h (p ▸ a.isLt)

/-! ## The blocks -/

theorem ind_0 : ∀ t : Fin cfg0.N, win0_0.index t = ![0, 0] := (by decide +kernel : ∀ t : Fin grid0.N, win0_0.index t = ![0, 0])
theorem ind_1 : ∀ t : Fin cfg0.N, win0_1.index t = ![0, t.val] := (by decide +kernel : ∀ t : Fin grid0.N, win0_1.index t = ![0, t.val])
theorem ind_2 : ∀ t : Fin cfg0.N, win0_2.index t = ![0, t.val] := (by decide +kernel : ∀ t : Fin grid0.N, win0_2.index t = ![0, t.val])
theorem ind_3 : ∀ t : Fin cfg0.N, win0_3.index t = ![0, t.val] := (by decide +kernel : ∀ t : Fin grid0.N, win0_3.index t = ![0, t.val])
theorem fl_3 : ∀ t : Fin cfg0.N, (cfg0.win 3).flush t = true := (by decide +kernel : ∀ t : Fin grid0.N, win0_3.flush t = true)
theorem N_eq : grid0.N = 6 := by decide +kernel

/-- The point at which column `j` is worked on. -/
def point (j : Fin 6144) : Fin cfg0.N := ⟨j.val / 1024, lt_of_lt_of_eq (by omega) N_eq.symm⟩
/-- Its column in the point's block. -/
def col (j : Fin 6144) : Fin 1024 := ⟨j.val % 1024, by omega⟩

theorem at_point (j : Fin 6144) : (point j).val * 1024 + (col j).val = j.val := by
  show j.val / 1024 * 1024 + j.val % 1024 = j.val
  omega

theorem b0 (c : Dev nD) (t : Fin cfg0.N) (i : Fin 8) (k : Fin 1024) :
    iblk m c 0 t (ix2 i k) = Modul.padded (fun i k => (m ((c.tc : Thread nD τ).loc main_arg0) : FVec Ideal S4x1024 .f32) (ix2 i k)) i k := by
  have e := ind_0 t
  have h : iblk m c 0 t (ix2 i k) = (V m c main_v2 : FVec Ideal S8x1024 .f32) (ix2 i k) := by
    blk_ext [iblk, e]
  refine h.trans ((congrFun (v2 m c) _).trans ((rows_apply _ _ (fun _ => rfl) _ i k).trans ?_))
  unfold Modul.padded
  by_cases hi : i.val < 4
  · rw [dif_pos hi, dif_pos hi]
  · rw [dif_neg hi, dif_neg hi]
    pointwise
theorem b1 (c : Dev nD) (j : Fin 6144) (k : Fin 1024) :
    iblk m c 1 (point j) (ix2 k (col j)) = (m ((c.tc : Thread nD τ).loc main_arg1) : FVec Ideal S1024x6144 .f32) (ix2 k j) := by
  have e := ind_1 (point j)
  have p := at_point j
  have h : iblk m c 1 (point j) (ix2 k (col j)) = (V m c main_arg1 : FVec Ideal S1024x6144 .f32) (ix2 k j) := by
    blk_ext [iblk, e]
  exact h.trans (congrFun (V_main_arg1 m c) _)
theorem b2 (c : Dev nD) (j : Fin 6144) :
    iblk m c 2 (point j) (ix2 (0 : Fin 1) (col j)) = (m ((c.tc : Thread nD τ).loc main_arg2) : FVec Ideal S6144 .f32) (ix1 j) := by
  have e := ind_2 (point j)
  have p := at_point j
  have h : iblk m c 2 (point j) (ix2 (0 : Fin 1) (col j)) = (V m c main_v3 : FVec Ideal S1x6144 .f32) (ix2 (0 : Fin 1) j) := by
    blk_ext [iblk, e]
  exact h.trans ((congrFun (v3 m c) _).trans (one_apply _ j))

/-- An entry of the result. -/
theorem final (c : Dev nD) (i : Fin 8) (j : Fin 6144) :
    ((dats m 0 c).arrAt 3 cfg0.N : FVec Ideal S8x6144 .f32) (ix2 i j) =
      Modul.entry (Modul.padded (fun i k => (m ((c.tc : Thread nD τ).loc main_arg0) : FVec Ideal S4x1024 .f32) (ix2 i k)) i)
        (fun k => (m ((c.tc : Thread nD τ).loc main_arg1) : FVec Ideal S1024x6144 .f32) (ix2 k j)) ((m ((c.tc : Thread nD τ).loc main_arg2) : FVec Ideal S6144 .f32) (ix1 j)) := by
  have b := (blocks3 m c (point j) (fl_3 (point j))).trans ((flushed3 m c (point j)).trans (congrArg _ (out_eq _ _ _)))
  have e := ind_3 (point j)
  have p := at_point j
  have q := congrFun b (ix2 i (col j))
  refine Eq.trans ?_ (q.trans ((pay_apply _ _ _ i (col j)).trans (Modul.entry_congr ?_ ?_ (b2 m c j))))
  · blk_ext [e]
  · exact funext fun k => b0 m c (point j) i k
  · exact funext fun k => b1 m c j k

end Cert.AdalnIdeal.Own

end
-- ==== Proof.AdalnRef.lean ====
/- The modulation's reference, its result read at an index. -/
module

public import proofs.«01_k».proof.Proof.Gen.AdalnRefIdeal.Run
public import proofs.«01_k».proof.Proof.AdalnMath
public import Idealize.ShloMosaic.Lib.Pointwise

@[expose] public section

set_option maxRecDepth 16384

noncomputable section

namespace Cert.AdalnRefIdeal.Own

open Cert.AdalnRefIdeal Cert.AdalnRefIdeal.Gen Idealize.ShloMosaic Idealize.ShloMosaic.TcCoe Idealize.SL.Sem Idealize.ShloMosaic.StableHlo
open Cert.AdalnRefIdeal.Gen Cert.AdalnRefIdeal.Value

/-- The input with four rows of zeros below it. -/
def rows (c : FVec Ideal S4x1024 .f32) : FVec Ideal S8x1024 .f32 :=
  concatenate S8x1024 0 [⟨S4x1024, c⟩, ⟨S4x1024, (broadcastInDim S4x1024 ![] bcast_S_S4x1024 (constant S_ .f32 0x00000000#32))⟩] concatenates_S4x1024_S4x1024_S8x1024_d0

/-- The modulation. -/
def modulation (c : FVec Ideal S4x1024 .f32) (w : FVec Ideal S1024x6144 .f32) (b : FVec Ideal S6144 .f32) : FVec Ideal S8x6144 .f32 :=
  addf (Host.dotGeneral dot_S8x1024_S1024x6144_S8x6144_1_0_0_1_n_n none (mulf (rows c) (Host.divf (broadcastInDim S8x1024 ![] bcast_S_S8x1024 (constant S_ .f32 0x3F800000#32)) (addf (broadcastInDim S8x1024 ![] bcast_S_S8x1024 (constant S_ .f32 0x3F800000#32)) (Host.exp (Host.negf (rows c)))))) w) (broadcastInDim S8x6144 ![0, 1] bcast_S1x6144_S8x6144_0_1 (broadcastInDim S1x6144 ![1] bcast_S6144_S1x6144_1 b))

/-- The reference's run, with its result in these terms. -/
theorem run_total (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v6) = modulation (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  Cert.AdalnRefIdeal.Value.run (F := Ideal) m ρ

theorem rows_apply (c : FVec Ideal S4x1024 .f32) (i : Fin 8) (k : Fin 1024) : rows c (ix2 i k) = Modul.padded (fun i k => c (ix2 i k)) i k := by
  unfold Modul.padded
  pointwise [rows]

theorem modulation_apply (c : FVec Ideal S4x1024 .f32) (w : FVec Ideal S1024x6144 .f32) (b : FVec Ideal S6144 .f32) (i : Fin 8) (j : Fin 6144) :
    modulation c w b (ix2 i j) = Modul.entry (Modul.padded (fun i k => c (ix2 i k)) i) (fun k => w (ix2 k j)) (b (ix1 j)) := by
  unfold Modul.entry
  pointwise [modulation]
  simp only [rows_apply, zero_sub]

end Cert.AdalnRefIdeal.Own

end
-- ==== Proof.AdalnClaim.lean ====
/- The modulation: each program comes to rest, and the kernel's result is the reference's. -/
module

public import proofs.«01_k».proof.Defs
public import proofs.«01_k».proof.Proof.AdalnRun
public import proofs.«01_k».proof.Proof.AdalnRef
public import proofs.«01_k».proof.Proof.Gen.Adaln.Frame
public import proofs.«01_k».proof.Proof.Gen.AdalnIdeal.Frame

@[expose] public section

noncomputable section

namespace Cert.Proof.Adaln

open Idealize.ShloMosaic Idealize.ShloMosaic.TcCoe Idealize.SL.Sem

/-- The modulation's kernel comes to rest. -/
theorem kernel_frame : Cert.quiescent_Adaln := fun m ρ _ => Cert.Adaln.Gen.frame m ρ

/-- So does its idealization. -/
theorem ideal_frame : Cert.quiescent_AdalnIdeal := fun m ρ _ => Cert.AdalnIdeal.Gen.frame m ρ

/-- The reference runs to its end; it has no semaphores. -/
theorem reference_frame : Cert.quiescent_AdalnRefIdeal := fun m ρ _ =>
  (θ_run Cert.AdalnRefIdeal.defs _ _).mono (fun r h' => ⟨fun c => (h' c).2, sem_eq_zero_of_no_sems (by decide) r.2⟩) (Cert.AdalnRefIdeal.Value.run (F := Ideal) m ρ)

theorem values
    (m : (ℓ : Loc Cert.AdalnIdeal.nD Cert.AdalnIdeal.τ Cert.AdalnIdeal.sig) → Buf (Elt Ideal) ℓ)
    (m' : (ℓ : Loc Cert.AdalnRefIdeal.nD Cert.AdalnRefIdeal.τ Cert.AdalnRefIdeal.sig) → Buf (Elt Ideal) ℓ) (c : Dev Cert.AdalnIdeal.nD)
    (h0 : m' ((c.tc : Thread Cert.AdalnRefIdeal.nD Cert.AdalnRefIdeal.τ).loc Cert.AdalnRefIdeal.main_arg0) = m ((c.tc : Thread Cert.AdalnIdeal.nD Cert.AdalnIdeal.τ).loc Cert.AdalnIdeal.main_arg0))
    (h1 : m' ((c.tc : Thread Cert.AdalnRefIdeal.nD Cert.AdalnRefIdeal.τ).loc Cert.AdalnRefIdeal.main_arg1) = m ((c.tc : Thread Cert.AdalnIdeal.nD Cert.AdalnIdeal.τ).loc Cert.AdalnIdeal.main_arg1))
    (h2 : m' ((c.tc : Thread Cert.AdalnRefIdeal.nD Cert.AdalnRefIdeal.τ).loc Cert.AdalnRefIdeal.main_arg2) = m ((c.tc : Thread Cert.AdalnIdeal.nD Cert.AdalnIdeal.τ).loc Cert.AdalnIdeal.main_arg2)) :
    Cert.AdalnRefIdeal.Own.modulation (m' ((c.tc : Thread Cert.AdalnRefIdeal.nD Cert.AdalnRefIdeal.τ).loc Cert.AdalnRefIdeal.main_arg0)) (m' ((c.tc : Thread Cert.AdalnRefIdeal.nD Cert.AdalnRefIdeal.τ).loc Cert.AdalnRefIdeal.main_arg1)) (m' ((c.tc : Thread Cert.AdalnRefIdeal.nD Cert.AdalnRefIdeal.τ).loc Cert.AdalnRefIdeal.main_arg2)) = (Cert.AdalnIdeal.Gen.dats m 0 c).arrAt 3 Cert.AdalnIdeal.cfg0.N := by
  refine funext fun i => ?_
  obtain ⟨r, j, rfl⟩ : ∃ (r : Fin 8) (j : Fin 6144), i = ix2 r j := ⟨i 0, i 1, eq_ix2 i⟩
  refine (Cert.AdalnRefIdeal.Own.modulation_apply _ _ _ r j).trans (Eq.trans ?_ (Cert.AdalnIdeal.Own.final m c r j).symm)
  rw [h0, h1, h2]

/-- From memories that agree on the arguments the two programs end with equal results. -/
theorem equal_results : Cert.algebraic_AdalnIdeal_AdalnRefIdeal := fun m ρ m' ρ' _ ha =>
  ⟨fun c => (Cert.AdalnIdeal.Gen.dats m 0 c).arrAt 3 Cert.AdalnIdeal.cfg0.N,
    Cert.AdalnIdeal.Value.run_blocks (F := Ideal) m ρ,
    (θ_run Cert.AdalnRefIdeal.defs _ _).mono (fun _ h' c => ⟨(h' c).1.trans (values m m' c (ha c).1 (ha c).2.1 (ha c).2.2), (h' c).2⟩)
      (Cert.AdalnRefIdeal.Own.run_total m' ρ')⟩

end Cert.Proof.Adaln

end
-- ==== Proof.TrigRun.lean ====
/- The rotation's tables after the run, entry by entry, in the launch's argument. -/
module

public import proofs.«01_k».proof.Proof.Gen.TrigIdeal.Value
public import proofs.«01_k».proof.Proof.Gen.TrigIdeal.Frame
public import proofs.«01_k».proof.Proof.Projection
public import Idealize.ShloMosaic.Lib.Pipeline.ValueKit.Point
public import Idealize.ShloMosaic.Lib.VecWindow
public import Idealize.ShloMosaic.Lib.Pointwise

@[expose] public section

set_option maxRecDepth 16384

noncomputable section

namespace Cert.TrigIdeal.Own

open Idealize.ShloMosaic Idealize.ShloMosaic.TcCoe Idealize.ShloMosaic.Tactic
open Cert.TrigIdeal Cert.TrigIdeal.Gen Cert.TrigIdeal.Value

variable (m : (ℓ : Loc nD τ sig) → Buf (Elt Ideal) ℓ)

theorem cos_apply (p : Vec Ideal S1x2048 .f32) (f : Vec Ideal S8x1 .f32) (i : Fin 8) (j : Fin 2048) :
    k0_pay2 p f (ix2 i j) = Ideal.cos (p (ix2 (0 : Fin 1) j) * f (ix2 i (0 : Fin 1))) := by
  pointwise [k0_pay2, k0_pay1]

theorem sin_apply (p : Vec Ideal S1x2048 .f32) (f : Vec Ideal S8x1 .f32) (i : Fin 8) (j : Fin 2048) :
    k0_pay3 p f (ix2 i j) = Ideal.sin (p (ix2 (0 : Fin 1) j) * f (ix2 i (0 : Fin 1))) := by
  pointwise [k0_pay3, k0_pay1]

theorem hz : (![0, 0] : Fin 2 → ℕ) = fun _ => 0 := funext fun a => match a with | ⟨0, _⟩ => rfl | ⟨1, _⟩ => rfl

theorem out2_eq (p : Vec Ideal S1x2048 .f32) (f : Vec Ideal S8x1 .f32) : out0_2 p f = k0_pay2 p f := by
  unfold out0_2
  rw [View.canon_unit_zero hz]
  simp only [View.ld_unit_zero (S := S1x2048) hz, View.ld_unit_zero (S := S8x1) hz]

theorem out3_eq (p : Vec Ideal S1x2048 .f32) (f : Vec Ideal S8x1 .f32) : out0_3 p f = k0_pay3 p f := by
  unfold out0_3
  rw [View.canon_unit_zero hz]
  simp only [View.ld_unit_zero (S := S1x2048) hz, View.ld_unit_zero (S := S8x1) hz]

/-! ## What the host lays out -/

/-- The eight frequencies. -/
def freqs : FVec Ideal S8 .f32 :=
  Host.powf (broadcastInDim S8 ![] bcast_S_S8 (constant S_ .f32 0x48F42400#32)) (Host.negf (Host.divf (addf (broadcastInDim S8 ![] bcast_S_S8 (constant S_ .f32 0x00000000#32)) (mulf (broadcastInDim S8 ![] bcast_S_S8 (constant S_ .f32 0x40000000#32)) (sitofp .f32 (iotaInDim S8 32 0)))) (broadcastInDim S8 ![] bcast_S_S8 (constant S_ .f32 0x41800000#32))))

theorem v11 (c : Dev nD) : V m c main_v11 = sitofp (F := Ideal) .f32 (shapeCast S1x16384 (m ((c.tc : Thread nD τ).loc main_arg0)) shapeCasts_S4x4096_S1x16384) := by
  unfold V
  simp only [hostOps0, List.flatten_cons, List.flatten_nil, List.append_nil, List.cons_append, List.nil_append]
  after_results_simp <;> (try dsimp only [Matrix.cons_val]) <;> (try after_results_simp) <;> rfl

theorem v12 (c : Dev nD) : V m c main_v12 = broadcastInDim S8x1 ![0] bcast_S8_S8x1_0 freqs := by
  unfold freqs
  unfold V
  simp only [hostOps0, List.flatten_cons, List.flatten_nil, List.append_nil, List.cons_append, List.nil_append]
  after_results_simp <;> (try dsimp only [Matrix.cons_val]) <;> (try after_results_simp) <;> rfl

theorem freqs_apply (x : FVec Ideal S8 .f32) (i : Fin 8) : (broadcastInDim S8x1 ![0] bcast_S8_S8x1_0 x : FVec Ideal S8x1 .f32) (ix2 i (0 : Fin 1)) = x (ix1 i) := by
  pointwise

/-- A token's position, as a number. -/
abbrev place (p : IVec S4x4096 32) (t : Fin 16384) : EReal := (sitofp .f32 p : FVec Ideal S4x4096 .f32) (ix2 (Proj.bat t) (Proj.pos t))

theorem places_apply (p : IVec S4x4096 32) (t : Fin 16384) :
    (sitofp .f32 (shapeCast S1x16384 p shapeCasts_S4x4096_S1x16384) : FVec Ideal S1x16384 .f32) (ix2 (0 : Fin 1) t) = place p t := by
  pointwise
  rfl

/-! ## The blocks -/

theorem ind_0 : ∀ t : Fin cfg0.N, win0_0.index t = ![0, t.val] := (by decide +kernel : ∀ t : Fin grid0.N, win0_0.index t = ![0, t.val])
theorem ind_1 : ∀ t : Fin cfg0.N, win0_1.index t = ![0, 0] := (by decide +kernel : ∀ t : Fin grid0.N, win0_1.index t = ![0, 0])
theorem ind_2 : ∀ t : Fin cfg0.N, win0_2.index t = ![0, t.val] := (by decide +kernel : ∀ t : Fin grid0.N, win0_2.index t = ![0, t.val])
theorem ind_3 : ∀ t : Fin cfg0.N, win0_3.index t = ![0, t.val] := (by decide +kernel : ∀ t : Fin grid0.N, win0_3.index t = ![0, t.val])
theorem fl_2 : ∀ t : Fin cfg0.N, (cfg0.win 2).flush t = true := (by decide +kernel : ∀ t : Fin grid0.N, win0_2.flush t = true)
theorem fl_3 : ∀ t : Fin cfg0.N, (cfg0.win 3).flush t = true := (by decide +kernel : ∀ t : Fin grid0.N, win0_3.flush t = true)
theorem N_eq : grid0.N = 8 := by decide +kernel

/-- The point at which token `t` is worked on. -/
def point (t : Fin 16384) : Fin cfg0.N := ⟨t.val / 2048, lt_of_lt_of_eq (by omega) N_eq.symm⟩
/-- Its column in the point's block. -/
def col (t : Fin 16384) : Fin 2048 := ⟨t.val % 2048, by omega⟩

theorem at_point (t : Fin 16384) : (point t).val * 2048 + (col t).val = t.val := by
  show t.val / 2048 * 2048 + t.val % 2048 = t.val
  omega

theorem b0 (c : Dev nD) (t : Fin 16384) :
    iblk m c 0 (point t) (ix2 (0 : Fin 1) (col t)) = place (m ((c.tc : Thread nD τ).loc main_arg0)) t := by
  have e := ind_0 (point t)
  have p := at_point t
  have h : iblk m c 0 (point t) (ix2 (0 : Fin 1) (col t)) = (V m c main_v11 : FVec Ideal S1x16384 .f32) (ix2 (0 : Fin 1) t) := by
    blk_ext [iblk, e]
  exact h.trans ((congrFun (v11 m c) _).trans (places_apply _ t))
theorem b1 (c : Dev nD) (t : Fin cfg0.N) (i : Fin 8) :
    iblk m c 1 t (ix2 i (0 : Fin 1)) = freqs (ix1 i) := by
  have e := ind_1 t
  have h : iblk m c 1 t (ix2 i (0 : Fin 1)) = (V m c main_v12 : FVec Ideal S8x1 .f32) (ix2 i (0 : Fin 1)) := by
    blk_ext [iblk, e]
  exact h.trans ((congrFun (v12 m c) _).trans (freqs_apply _ i))

theorem final_2 (c : Dev nD) (i : Fin 8) (t : Fin 16384) :
    ((dats m 0 c).arrAt 2 cfg0.N : FVec Ideal S8x16384 .f32) (ix2 i t) = Ideal.cos (place (m ((c.tc : Thread nD τ).loc main_arg0)) t * freqs (ix1 i)) := by
  have b := (blocks2 m c (point t) (fl_2 (point t))).trans ((flushed2 m c (point t)).trans (congrArg _ (out2_eq _ _)))
  have e := ind_2 (point t)
  have p := at_point t
  have q := congrFun b (ix2 i (col t))
  refine Eq.trans ?_ (q.trans ((cos_apply _ _ i (col t)).trans ?_))
  · blk_ext [e]
  · rw [b0, b1]

theorem final_3 (c : Dev nD) (i : Fin 8) (t : Fin 16384) :
    ((dats m 0 c).arrAt 3 cfg0.N : FVec Ideal S8x16384 .f32) (ix2 i t) = Ideal.sin (place (m ((c.tc : Thread nD τ).loc main_arg0)) t * freqs (ix1 i)) := by
  have b := (blocks3 m c (point t) (fl_3 (point t))).trans ((flushed3 m c (point t)).trans (congrArg _ (out3_eq _ _)))
  have e := ind_3 (point t)
  have p := at_point t
  have q := congrFun b (ix2 i (col t))
  refine Eq.trans ?_ (q.trans ((sin_apply _ _ i (col t)).trans ?_))
  · blk_ext [e]
  · rw [b0, b1]

end Cert.TrigIdeal.Own

end
-- ==== Proof.TrigRef.lean ====
/- The tables' reference, its results read at an index. -/
module

public import proofs.«01_k».proof.Proof.Gen.TrigRefIdeal.Run
public import proofs.«01_k».proof.Proof.Projection
public import Idealize.ShloMosaic.Lib.Pointwise

@[expose] public section

set_option maxRecDepth 16384

noncomputable section

namespace Cert.TrigRefIdeal.Own

open Cert.TrigRefIdeal Cert.TrigRefIdeal.Gen Idealize.ShloMosaic Idealize.ShloMosaic.TcCoe Idealize.SL.Sem Idealize.ShloMosaic.StableHlo
open Cert.TrigRefIdeal.Gen Cert.TrigRefIdeal.Value

/-- The eight frequencies. -/
def freqs : FVec Ideal S8 .f32 :=
  Host.powf (broadcastInDim S8 ![] bcast_S_S8 (constant S_ .f32 0x48F42400#32)) (Host.negf (Host.divf (addf (broadcastInDim S8 ![] bcast_S_S8 (constant S_ .f32 0x00000000#32)) (mulf (broadcastInDim S8 ![] bcast_S_S8 (constant S_ .f32 0x40000000#32)) (sitofp .f32 (iotaInDim S8 32 0)))) (broadcastInDim S8 ![] bcast_S_S8 (constant S_ .f32 0x41800000#32))))

/-- The cosines of the tokens' angles, -/
def cosines (p : IVec S4x4096 32) : FVec Ideal S8x16384 .f32 :=
  transpose S8x16384 [1, 0] (shapeCast _ (Host.cos (mulf (broadcastInDim S4x4096x8 ![0, 1, 2] bcast_S4x4096x1_S4x4096x8_0_1_2 (broadcastInDim S4x4096x1 ![0, 1] bcast_S4x4096_S4x4096x1_0_1 (sitofp .f32 p))) (broadcastInDim S4x4096x8 ![0, 1, 2] bcast_S1x1x8_S4x4096x8_0_1_2 (broadcastInDim S1x1x8 ![2] bcast_S8_S1x1x8_2 freqs)))) shapeCasts_S4x4096x8_S16384x8) transposes_S16384x8_S8x16384_1_0

/-- and their sines. -/
def sines (p : IVec S4x4096 32) : FVec Ideal S8x16384 .f32 :=
  transpose S8x16384 [1, 0] (shapeCast _ (Host.sin (mulf (broadcastInDim S4x4096x8 ![0, 1, 2] bcast_S4x4096x1_S4x4096x8_0_1_2 (broadcastInDim S4x4096x1 ![0, 1] bcast_S4x4096_S4x4096x1_0_1 (sitofp .f32 p))) (broadcastInDim S4x4096x8 ![0, 1, 2] bcast_S1x1x8_S4x4096x8_0_1_2 (broadcastInDim S1x1x8 ![2] bcast_S8_S1x1x8_2 freqs)))) shapeCasts_S4x4096x8_S16384x8) transposes_S16384x8_S8x16384_1_0

/-- The reference's run, with its results in these terms. -/
theorem run_total (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v18) = cosines (m ((c.tc : Thread nD τ).loc main_arg0))
      ∧ r.2.mem ((c.tc : Thread nD τ).loc main_v21) = sines (m ((c.tc : Thread nD τ).loc main_arg0))
      ∧ r.2.mem ((c.tc : Thread nD τ).loc main_arg0) = m ((c.tc : Thread nD τ).loc main_arg0) :=
  Cert.TrigRefIdeal.Value.run (F := Ideal) m ρ

theorem cosines_apply (p : IVec S4x4096 32) (i : Fin 8) (t : Fin 16384) :
    cosines p (ix2 i t) = Ideal.cos ((sitofp .f32 p : FVec Ideal S4x4096 .f32) (ix2 (Proj.bat t) (Proj.pos t)) * freqs (ix1 i)) := by
  pointwise [cosines]
  rfl

theorem sines_apply (p : IVec S4x4096 32) (i : Fin 8) (t : Fin 16384) :
    sines p (ix2 i t) = Ideal.sin ((sitofp .f32 p : FVec Ideal S4x4096 .f32) (ix2 (Proj.bat t) (Proj.pos t)) * freqs (ix1 i)) := by
  pointwise [sines]
  rfl

end Cert.TrigRefIdeal.Own

end
-- ==== Proof.TrigClaim.lean ====
/- The rotation's tables: each program comes to rest, and the kernel's cosines and sines are the reference's. -/
module

public import proofs.«01_k».proof.Defs
public import proofs.«01_k».proof.Proof.TrigRun
public import proofs.«01_k».proof.Proof.TrigRef
public import proofs.«01_k».proof.Proof.Gen.Trig.Frame
public import proofs.«01_k».proof.Proof.Gen.TrigIdeal.Frame

@[expose] public section

noncomputable section

namespace Cert.Proof.Trig

open Idealize.ShloMosaic Idealize.ShloMosaic.TcCoe Idealize.SL.Sem

/-- The tables' kernel comes to rest. -/
theorem kernel_frame : Cert.quiescent_Trig := fun m ρ _ => Cert.Trig.Gen.frame m ρ

/-- So does its idealization. -/
theorem ideal_frame : Cert.quiescent_TrigIdeal := fun m ρ _ => Cert.TrigIdeal.Gen.frame m ρ

/-- The reference runs to its end; it has no semaphores. -/
theorem reference_frame : Cert.quiescent_TrigRefIdeal := fun m ρ _ =>
  (θ_run Cert.TrigRefIdeal.defs _ _).mono (fun r h' => ⟨fun c => (h' c).2.2, sem_eq_zero_of_no_sems (by decide) r.2⟩) (Cert.TrigRefIdeal.Value.run (F := Ideal) m ρ)

/-- Both compute the frequencies alike. -/
theorem freqs_eq : Cert.TrigRefIdeal.Own.freqs = Cert.TrigIdeal.Own.freqs := rfl

theorem cosines_values
    (m : (ℓ : Loc Cert.TrigIdeal.nD Cert.TrigIdeal.τ Cert.TrigIdeal.sig) → Buf (Elt Ideal) ℓ)
    (m' : (ℓ : Loc Cert.TrigRefIdeal.nD Cert.TrigRefIdeal.τ Cert.TrigRefIdeal.sig) → Buf (Elt Ideal) ℓ) (c : Dev Cert.TrigIdeal.nD)
    (h0 : m' ((c.tc : Thread Cert.TrigRefIdeal.nD Cert.TrigRefIdeal.τ).loc Cert.TrigRefIdeal.main_arg0) = m ((c.tc : Thread Cert.TrigIdeal.nD Cert.TrigIdeal.τ).loc Cert.TrigIdeal.main_arg0)) :
    Cert.TrigRefIdeal.Own.cosines (m' ((c.tc : Thread Cert.TrigRefIdeal.nD Cert.TrigRefIdeal.τ).loc Cert.TrigRefIdeal.main_arg0)) = (Cert.TrigIdeal.Gen.dats m 0 c).arrAt 2 Cert.TrigIdeal.cfg0.N := by
  refine funext fun i => ?_
  obtain ⟨r, t, rfl⟩ : ∃ (r : Fin 8) (t : Fin 16384), i = ix2 r t := ⟨i 0, i 1, eq_ix2 i⟩
  refine (Cert.TrigRefIdeal.Own.cosines_apply _ r t).trans (Eq.trans ?_ (Cert.TrigIdeal.Own.final_2 m c r t).symm)
  rw [h0, freqs_eq]

theorem sines_values
    (m : (ℓ : Loc Cert.TrigIdeal.nD Cert.TrigIdeal.τ Cert.TrigIdeal.sig) → Buf (Elt Ideal) ℓ)
    (m' : (ℓ : Loc Cert.TrigRefIdeal.nD Cert.TrigRefIdeal.τ Cert.TrigRefIdeal.sig) → Buf (Elt Ideal) ℓ) (c : Dev Cert.TrigIdeal.nD)
    (h0 : m' ((c.tc : Thread Cert.TrigRefIdeal.nD Cert.TrigRefIdeal.τ).loc Cert.TrigRefIdeal.main_arg0) = m ((c.tc : Thread Cert.TrigIdeal.nD Cert.TrigIdeal.τ).loc Cert.TrigIdeal.main_arg0)) :
    Cert.TrigRefIdeal.Own.sines (m' ((c.tc : Thread Cert.TrigRefIdeal.nD Cert.TrigRefIdeal.τ).loc Cert.TrigRefIdeal.main_arg0)) = (Cert.TrigIdeal.Gen.dats m 0 c).arrAt 3 Cert.TrigIdeal.cfg0.N := by
  refine funext fun i => ?_
  obtain ⟨r, t, rfl⟩ : ∃ (r : Fin 8) (t : Fin 16384), i = ix2 r t := ⟨i 0, i 1, eq_ix2 i⟩
  refine (Cert.TrigRefIdeal.Own.sines_apply _ r t).trans (Eq.trans ?_ (Cert.TrigIdeal.Own.final_3 m c r t).symm)
  rw [h0, freqs_eq]

/-- From memories that agree on the argument the two programs end with equal results. -/
theorem equal_results : Cert.algebraic_TrigIdeal_TrigRefIdeal := fun m ρ m' ρ' _ ha =>
  ⟨fun c => (Cert.TrigIdeal.Gen.dats m 0 c).arrAt 2 Cert.TrigIdeal.cfg0.N, fun c => (Cert.TrigIdeal.Gen.dats m 0 c).arrAt 3 Cert.TrigIdeal.cfg0.N,
    Cert.TrigIdeal.Value.run_blocks (F := Ideal) m ρ,
    (θ_run Cert.TrigRefIdeal.defs _ _).mono (fun _ h' c => ⟨(h' c).1.trans (cosines_values m m' c (ha c)), (h' c).2.1.trans (sines_values m m' c (ha c)), (h' c).2.2⟩)
      (Cert.TrigRefIdeal.Own.run_total m' ρ')⟩

end Cert.Proof.Trig

end
-- ==== Proof.lean ====
/- Everything claimed of the seven calls, put together: the experts here, the last step, the two halves of the input projection, the output projection, the modulation and the rotation's tables from their own modules. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.KernelIdeal
public import proofs.«01_k».proof.Proof.Gen.KernelIdeal.Skeleton
public import proofs.«01_k».proof.Proof.Gen.KernelIdeal.Launch
public import proofs.«01_k».proof.Proof.Gen.ReferenceIdeal
public import proofs.«01_k».proof.Proof.Gen.ReferenceIdeal.Run
public import proofs.«01_k».proof.Proof.Gen.Pre_in_range
public import proofs.«01_k».proof.Proof.Gen.InprojRRefIdeal
public import proofs.«01_k».proof.Proof.Gen.InprojRRefIdeal.Run
public import proofs.«01_k».proof.Proof.Gen.InprojTRefIdeal
public import proofs.«01_k».proof.Proof.Gen.InprojTRefIdeal.Run
public import proofs.«01_k».proof.Proof.Gen.InprojR
public import proofs.«01_k».proof.Proof.Gen.InprojR.Frame
public import proofs.«01_k».proof.Proof.Gen.InprojRIdeal
public import proofs.«01_k».proof.Proof.Gen.InprojRIdeal.Value
public import proofs.«01_k».proof.Proof.Gen.InprojRIdeal.Frame
public import proofs.«01_k».proof.Proof.Gen.InprojT
public import proofs.«01_k».proof.Proof.Gen.InprojT.Frame
public import proofs.«01_k».proof.Proof.Gen.InprojTIdeal
public import proofs.«01_k».proof.Proof.Gen.InprojTIdeal.Value
public import proofs.«01_k».proof.Proof.Gen.InprojTIdeal.Frame
public import proofs.«01_k».proof.Proof.Gen.Pre_rows_in_range
public import proofs.«01_k».proof.Proof.Gen.CombineRefIdeal
public import proofs.«01_k».proof.Proof.Gen.CombineRefIdeal.Run
public import proofs.«01_k».proof.Proof.Gen.Combine
public import proofs.«01_k».proof.Proof.Gen.Combine.Frame
public import proofs.«01_k».proof.Proof.Gen.CombineIdeal
public import proofs.«01_k».proof.Proof.Gen.CombineIdeal.Frame
public import proofs.«01_k».proof.Proof.Gen.Outproj
public import proofs.«01_k».proof.Proof.Gen.Outproj.Frame
public import proofs.«01_k».proof.Proof.Gen.Outproj.Skeleton
public import proofs.«01_k».proof.Proof.Gen.Outproj.Launch
public import proofs.«01_k».proof.Proof.Gen.OutprojIdeal
public import proofs.«01_k».proof.Proof.Gen.OutprojIdeal.Frame
public import proofs.«01_k».proof.Proof.Gen.OutprojIdeal.Value
public import proofs.«01_k».proof.Proof.Gen.OutprojIdeal.Skeleton
public import proofs.«01_k».proof.Proof.Gen.OutprojIdeal.Launch
public import proofs.«01_k».proof.Proof.Gen.OutprojRefIdeal
public import proofs.«01_k».proof.Proof.Gen.OutprojRefIdeal.Run
public import proofs.«01_k».proof.Proof.Gen.Adaln
public import proofs.«01_k».proof.Proof.Gen.Adaln.Frame
public import proofs.«01_k».proof.Proof.Gen.Adaln.Skeleton
public import proofs.«01_k».proof.Proof.Gen.Adaln.Launch
public import proofs.«01_k».proof.Proof.Gen.Trig
public import proofs.«01_k».proof.Proof.Gen.Trig.Frame
public import proofs.«01_k».proof.Proof.Gen.Trig.Skeleton
public import proofs.«01_k».proof.Proof.Gen.Trig.Launch
public import proofs.«01_k».proof.Proof.Gen.AdalnIdeal
public import proofs.«01_k».proof.Proof.Gen.AdalnIdeal.Frame
public import proofs.«01_k».proof.Proof.Gen.AdalnIdeal.Value
public import proofs.«01_k».proof.Proof.Gen.AdalnIdeal.Skeleton
public import proofs.«01_k».proof.Proof.Gen.AdalnIdeal.Launch
public import proofs.«01_k».proof.Proof.Gen.TrigIdeal
public import proofs.«01_k».proof.Proof.Gen.TrigIdeal.Frame
public import proofs.«01_k».proof.Proof.Gen.TrigIdeal.Value
public import proofs.«01_k».proof.Proof.Gen.TrigIdeal.Skeleton
public import proofs.«01_k».proof.Proof.Gen.TrigIdeal.Launch
public import proofs.«01_k».proof.Proof.Gen.AdalnRefIdeal
public import proofs.«01_k».proof.Proof.Gen.AdalnRefIdeal.Run
public import proofs.«01_k».proof.Proof.Gen.TrigRefIdeal
public import proofs.«01_k».proof.Proof.Gen.TrigRefIdeal.Run
public import proofs.«01_k».proof.Proof.CombineClaim
public import proofs.«01_k».proof.Proof.BitsExpertsFrame
public import proofs.«01_k».proof.Proof.BitsExpertsOk
public import proofs.«01_k».proof.Proof.ExpertsOk
public import proofs.«01_k».proof.Proof.ExpertsValue
public import proofs.«01_k».proof.Proof.RefRows
public import proofs.«01_k».proof.Proof.InprojRClaim
public import proofs.«01_k».proof.Proof.InprojTClaim
public import proofs.«01_k».proof.Proof.OutprojClaim
public import proofs.«01_k».proof.Proof.AdalnClaim
public import proofs.«01_k».proof.Proof.TrigClaim
public import Idealize.ShloMosaic.Adequacy
public import Idealize.ShloMosaic.Init

@[expose] public section

noncomputable section

namespace Cert.Proof

open Idealize.ShloMosaic Idealize.ShloMosaic.TcCoe Idealize.SL.Sem

/-- The kernel runs to its end from every memory in which the experts' numbers are below 32; the arguments and the counters are left as they were. -/
theorem kernel_frame : Cert.quiescent_Kernel := fun m ρ h =>
  (θ_run Cert.Kernel.defs _ _).mono (fun _ h' => ⟨fun c => (h'.1 c).2, h'.2⟩) (Cert.Kernel.Own.run_result (F := Bits) m ρ (Cert.Kernel.Own.ok_of_pre m h))

/-- The same of the kernel read over the extended reals. -/
theorem ideal_frame : Cert.quiescent_KernelIdeal := fun m ρ h =>
  (θ_run Cert.KernelIdeal.defs _ _).mono (fun _ h' => ⟨fun c => (h'.1 c).2, h'.2⟩) (Cert.KernelIdeal.Own.run_result (F := Ideal) m ρ (Cert.KernelIdeal.Own.ok_of_pre m h))

/-- The reference runs to its end; it has no semaphores. -/
theorem reference_frame : Cert.quiescent_ReferenceIdeal := fun m ρ h =>
  (θ_run Cert.ReferenceIdeal.defs _ _).mono (fun r h' => ⟨fun c => (h' c).2, sem_eq_zero_of_no_sems (by decide) r.2⟩) (Cert.ReferenceIdeal.Value.run (F := Ideal) m ρ)

/-- Every row number is `256 t + r`. -/
theorem row_split (i : (⟨2, ![73728, 1024]⟩ : Shape).Idx) : ∃ (t : Fin 288) (r : Fin 256) (j : Fin 1024), i = ix2 ⟨t.val * 256 + r.val, by omega⟩ j := by
  have h0 : (i (0 : Fin 2)).val < 73728 := (i (0 : Fin 2)).isLt
  refine ⟨⟨(i (0 : Fin 2)).val / 256, by omega⟩, ⟨(i (0 : Fin 2)).val % 256, by omega⟩, i (1 : Fin 2), ?_⟩
  refine (eq_ix2 i).trans ?_
  refine congrArg (fun a => ix2 a (i (1 : Fin 2))) (Fin.ext ?_)
  show (i (0 : Fin 2)).val = (i (0 : Fin 2)).val / 256 * 256 + (i (0 : Fin 2)).val % 256
  omega

/-- The kernel's result and the reference's are equal over the extended reals. -/
theorem values_eq (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ) (hP : Cert.Pre_KernelIdeal m)
    (c : Dev Cert.KernelIdeal.nD)
    (h0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
    (h1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1))
    (h2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2))
    (h3 : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3))
    (h4 : m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4))
    (h5 : m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5))
    (h6 : m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) :
    Cert.ReferenceIdeal.Value.res_main_v58 m' c = Cert.KernelIdeal.Own.result m (Cert.KernelIdeal.Own.ok_of_pre m hP) c := by
  refine funext fun i => ?_
  obtain ⟨t, r, j, rfl⟩ := row_split i
  have hb := Cert.KernelIdeal.Own.words_lt _ _ _ _ _ _ _ (hP c) (ix1 t)
  exact (Cert.ReferenceIdeal.Own.res_apply m' c t r j _ _ _ _ _ _ _ h0 h1 h2 h3 h4 h5 h6 hb).trans
    (Cert.KernelIdeal.Own.result_apply m (Cert.KernelIdeal.Own.ok_of_pre m hP) c t r j _ _ _ _ _ _ _ rfl rfl rfl rfl rfl rfl rfl hb).symm

/-- From memories that agree on the arguments the two programs end with equal results. -/
theorem equal_results : Cert.algebraic_KernelIdeal_ReferenceIdeal := fun m ρ m' ρ' hP ha =>
  ⟨fun c => Cert.KernelIdeal.Own.result m (Cert.KernelIdeal.Own.ok_of_pre m hP) c,
    (θ_run Cert.KernelIdeal.defs _ _).mono (fun _ h' => h'.1) (Cert.KernelIdeal.Own.run_result (F := Ideal) m ρ (Cert.KernelIdeal.Own.ok_of_pre m hP)),
    (θ_run Cert.ReferenceIdeal.defs _ _).mono (fun _ h' c => ⟨(h' c).1.trans (values_eq m m' hP c (ha c).1 (ha c).2.1 (ha c).2.2.1 (ha c).2.2.2.1 (ha c).2.2.2.2.1 (ha c).2.2.2.2.2.1 (ha c).2.2.2.2.2.2), (h' c).2⟩)
      (Cert.ReferenceIdeal.Value.run (F := Ideal) m' ρ')⟩

/-- Everything claimed. -/
theorem claim : Cert.Claim := ⟨Cert.Kernel.Gen.facts, Cert.KernelIdeal.Gen.facts, Cert.ReferenceIdeal.Gen.facts,
  Cert.Combine.Gen.facts, Cert.CombineIdeal.Gen.facts, Cert.CombineRefIdeal.Gen.facts,
  Cert.InprojR.Gen.facts, Cert.InprojRIdeal.Gen.facts, Cert.InprojRRefIdeal.Gen.facts,
  Cert.InprojT.Gen.facts, Cert.InprojTIdeal.Gen.facts, Cert.InprojTRefIdeal.Gen.facts,
  Cert.Outproj.Gen.facts, Cert.OutprojIdeal.Gen.facts, Cert.OutprojRefIdeal.Gen.facts,
  Cert.Adaln.Gen.facts, Cert.AdalnIdeal.Gen.facts, Cert.AdalnRefIdeal.Gen.facts,
  Cert.Trig.Gen.facts, Cert.TrigIdeal.Gen.facts, Cert.TrigRefIdeal.Gen.facts, Cert.Pre_in_range.Gen.facts, Cert.Pre_rows_in_range.Gen.facts,
  kernel_frame, ideal_frame, reference_frame, Combine.kernel_frame, Combine.ideal_frame, Combine.reference_frame,
  InprojR.kernel_frame, InprojR.ideal_frame, InprojR.reference_frame, InprojT.kernel_frame, InprojT.ideal_frame, InprojT.reference_frame,
  Outproj.kernel_frame, Outproj.ideal_frame, Outproj.reference_frame,
  Adaln.kernel_frame, Adaln.ideal_frame, Adaln.reference_frame, Trig.kernel_frame, Trig.ideal_frame, Trig.reference_frame,
  trivial, equal_results, trivial, Combine.equal_results, trivial, InprojR.equal_results, trivial, InprojT.equal_results,
  trivial, Outproj.equal_results, trivial, Adaln.equal_results, trivial, Trig.equal_results⟩

end Cert.Proof

end
